-- ==== Defs.lean ====
def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5)
      ∧ r.2.mem ((c.tc : Thread Cert.Kernel27.nD Cert.Kernel27.τ).loc Cert.Kernel27.main_arg6) = m ((c.tc : Thread Cert.Kernel27.nD Cert.Kernel27.τ).loc Cert.Kernel27.main_arg6)
      ∧ r.2.mem ((c.tc : Thread Cert.Kernel27.nD Cert.Kernel27.τ).loc Cert.Kernel27.main_arg7) = m ((c.tc : Thread Cert.Kernel27.nD Cert.Kernel27.τ).loc Cert.Kernel27.main_arg7)
      ∧ r.2.mem ((c.tc : Thread Cert.Kernel27.nD Cert.Kernel27.τ).loc Cert.Kernel27.main_arg8) = m ((c.tc : Thread Cert.Kernel27.nD Cert.Kernel27.τ).loc Cert.Kernel27.main_arg8)
      ∧ r.2.mem ((c.tc : Thread Cert.Kernel27.nD Cert.Kernel27.τ).loc Cert.Kernel27.main_arg9) = m ((c.tc : Thread Cert.Kernel27.nD Cert.Kernel27.τ).loc Cert.Kernel27.main_arg9)
      ∧ r.2.mem ((c.tc : Thread Cert.Kernel27.nD Cert.Kernel27.τ).loc Cert.Kernel27.main_arg10) = m ((c.tc : Thread Cert.Kernel27.nD Cert.Kernel27.τ).loc Cert.Kernel27.main_arg10)
      ∧ r.2.mem ((c.tc : Thread Cert.Kernel27.nD Cert.Kernel27.τ).loc Cert.Kernel27.main_arg11) = m ((c.tc : Thread Cert.Kernel27.nD Cert.Kernel27.τ).loc Cert.Kernel27.main_arg11))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
      ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
      ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7)
      ∧ r.2.mem ((c.tc : Thread Cert.Kernel27Ideal.nD Cert.Kernel27Ideal.τ).loc Cert.Kernel27Ideal.main_arg8) = m ((c.tc : Thread Cert.Kernel27Ideal.nD Cert.Kernel27Ideal.τ).loc Cert.Kernel27Ideal.main_arg8)
      ∧ r.2.mem ((c.tc : Thread Cert.Kernel27Ideal.nD Cert.Kernel27Ideal.τ).loc Cert.Kernel27Ideal.main_arg9) = m ((c.tc : Thread Cert.Kernel27Ideal.nD Cert.Kernel27Ideal.τ).loc Cert.Kernel27Ideal.main_arg9)
      ∧ r.2.mem ((c.tc : Thread Cert.Kernel27Ideal.nD Cert.Kernel27Ideal.τ).loc Cert.Kernel27Ideal.main_arg10) = m ((c.tc : Thread Cert.Kernel27Ideal.nD Cert.Kernel27Ideal.τ).loc Cert.Kernel27Ideal.main_arg10)
      ∧ r.2.mem ((c.tc : Thread Cert.Kernel27Ideal.nD Cert.Kernel27Ideal.τ).loc Cert.Kernel27Ideal.main_arg11) = m ((c.tc : Thread Cert.Kernel27Ideal.nD Cert.Kernel27Ideal.τ).loc Cert.Kernel27Ideal.main_arg11))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6)
      ∧ r.2.mem ((c.tc : Thread Cert.Reference27Ideal.nD Cert.Reference27Ideal.τ).loc Cert.Reference27Ideal.main_arg7) = m ((c.tc : Thread Cert.Reference27Ideal.nD Cert.Reference27Ideal.τ).loc Cert.Reference27Ideal.main_arg7)
      ∧ r.2.mem ((c.tc : Thread Cert.Reference27Ideal.nD Cert.Reference27Ideal.τ).loc Cert.Reference27Ideal.main_arg8) = m ((c.tc : Thread Cert.Reference27Ideal.nD Cert.Reference27Ideal.τ).loc Cert.Reference27Ideal.main_arg8)
      ∧ r.2.mem ((c.tc : Thread Cert.Reference27Ideal.nD Cert.Reference27Ideal.τ).loc Cert.Reference27Ideal.main_arg9) = m ((c.tc : Thread Cert.Reference27Ideal.nD Cert.Reference27Ideal.τ).loc Cert.Reference27Ideal.main_arg9)
      ∧ r.2.mem ((c.tc : Thread Cert.Reference27Ideal.nD Cert.Reference27Ideal.τ).loc Cert.Reference27Ideal.main_arg10) = m ((c.tc : Thread Cert.Reference27Ideal.nD Cert.Reference27Ideal.τ).loc Cert.Reference27Ideal.main_arg10)
      ∧ r.2.mem ((c.tc : Thread Cert.Reference27Ideal.nD Cert.Reference27Ideal.τ).loc Cert.Reference27Ideal.main_arg11) = m ((c.tc : Thread Cert.Reference27Ideal.nD Cert.Reference27Ideal.τ).loc Cert.Reference27Ideal.main_arg11))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5)
      ∧ r.2.mem ((c.tc : Thread Cert.Kernel28.nD Cert.Kernel28.τ).loc Cert.Kernel28.main_arg6) = m ((c.tc : Thread Cert.Kernel28.nD Cert.Kernel28.τ).loc Cert.Kernel28.main_arg6)
      ∧ r.2.mem ((c.tc : Thread Cert.Kernel28.nD Cert.Kernel28.τ).loc Cert.Kernel28.main_arg7) = m ((c.tc : Thread Cert.Kernel28.nD Cert.Kernel28.τ).loc Cert.Kernel28.main_arg7)
      ∧ r.2.mem ((c.tc : Thread Cert.Kernel28.nD Cert.Kernel28.τ).loc Cert.Kernel28.main_arg8) = m ((c.tc : Thread Cert.Kernel28.nD Cert.Kernel28.τ).loc Cert.Kernel28.main_arg8))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
      ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
      ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7)
      ∧ r.2.mem ((c.tc : Thread Cert.Kernel28Ideal.nD Cert.Kernel28Ideal.τ).loc Cert.Kernel28Ideal.main_arg8) = m ((c.tc : Thread Cert.Kernel28Ideal.nD Cert.Kernel28Ideal.τ).loc Cert.Kernel28Ideal.main_arg8))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5)
      ∧ r.2.mem ((c.tc : Thread Cert.Reference28Ideal.nD Cert.Reference28Ideal.τ).loc Cert.Reference28Ideal.main_arg6) = m ((c.tc : Thread Cert.Reference28Ideal.nD Cert.Reference28Ideal.τ).loc Cert.Reference28Ideal.main_arg6)
      ∧ r.2.mem ((c.tc : Thread Cert.Reference28Ideal.nD Cert.Reference28Ideal.τ).loc Cert.Reference28Ideal.main_arg7) = m ((c.tc : Thread Cert.Reference28Ideal.nD Cert.Reference28Ideal.τ).loc Cert.Reference28Ideal.main_arg7)
      ∧ r.2.mem ((c.tc : Thread Cert.Reference28Ideal.nD Cert.Reference28Ideal.τ).loc Cert.Reference28Ideal.main_arg8) = m ((c.tc : Thread Cert.Reference28Ideal.nD Cert.Reference28Ideal.τ).loc Cert.Reference28Ideal.main_arg8))
      ∧ r.2.sem = fun _ => 0)

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_v41) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)) (v2 : (c : Dev Cert.Kernel10Ideal.nD) → Buf (Elt Ideal) ((c.tc : Thread Cert.Kernel10Ideal.nD Cert.Kernel10Ideal.τ).loc Cert.Kernel10Ideal.main_v2_2)) (v3 : (c : Dev Cert.Kernel10Ideal.nD) → Buf (Elt Ideal) ((c.tc : Thread Cert.Kernel10Ideal.nD Cert.Kernel10Ideal.τ).loc Cert.Kernel10Ideal.main_v2_3)) (v4 : (c : Dev Cert.Kernel10Ideal.nD) → Buf (Elt Ideal) ((c.tc : Thread Cert.Kernel10Ideal.nD Cert.Kernel10Ideal.τ).loc Cert.Kernel10Ideal.main_v2_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_v2_2) = v2 c
          ∧ r.2.mem ((c.tc : Thread Cert.Kernel10Ideal.nD Cert.Kernel10Ideal.τ).loc Cert.Kernel10Ideal.main_v2_3) = v3 c
          ∧ r.2.mem ((c.tc : Thread Cert.Kernel10Ideal.nD Cert.Kernel10Ideal.τ).loc Cert.Kernel10Ideal.main_v2_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v15) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_v17) = v2 c
          ∧ r.2.mem ((c.tc : Thread Cert.Reference10Ideal.nD Cert.Reference10Ideal.τ).loc Cert.Reference10Ideal.main_v18) = v3 c
          ∧ r.2.mem ((c.tc : Thread Cert.Reference10Ideal.nD Cert.Reference10Ideal.τ).loc Cert.Reference10Ideal.main_v19) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)) (v4 : (c : Dev Cert.Kernel2Ideal.nD) → Buf (Elt Ideal) ((c.tc : Thread Cert.Kernel2Ideal.nD Cert.Kernel2Ideal.τ).loc Cert.Kernel2Ideal.main_v5_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_v5_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v79) = v1 c
          ∧ r.2.mem ((c.tc : Thread Cert.Reference2Ideal.nD Cert.Reference2Ideal.τ).loc Cert.Reference2Ideal.main_v82) = v2 c
          ∧ r.2.mem ((c.tc : Thread Cert.Reference2Ideal.nD Cert.Reference2Ideal.τ).loc Cert.Reference2Ideal.main_v83) = v3 c
          ∧ r.2.mem ((c.tc : Thread Cert.Reference2Ideal.nD Cert.Reference2Ideal.τ).loc Cert.Reference2Ideal.main_v84) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)) (v2 : (c : Dev Cert.Kernel13Ideal.nD) → Buf (Elt Ideal) ((c.tc : Thread Cert.Kernel13Ideal.nD Cert.Kernel13Ideal.τ).loc Cert.Kernel13Ideal.main_v4_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_v4_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v27) = v0 c
          ∧ r.2.mem ((c.tc : Thread Cert.Reference13Ideal.nD Cert.Reference13Ideal.τ).loc Cert.Reference13Ideal.main_v8) = v1 c
          ∧ r.2.mem ((c.tc : Thread Cert.Reference13Ideal.nD Cert.Reference13Ideal.τ).loc Cert.Reference13Ideal.main_v14) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v27) = v0 c
          ∧ r.2.mem ((c.tc : Thread Cert.Reference14Ideal.nD Cert.Reference14Ideal.τ).loc Cert.Reference14Ideal.main_v8) = v1 c
          ∧ r.2.mem ((c.tc : Thread Cert.Reference14Ideal.nD Cert.Reference14Ideal.τ).loc Cert.Reference14Ideal.main_v14) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v4_0)) (v1 : (c : Dev Cert.Kernel19Ideal.nD) → Buf (Elt Ideal) ((c.tc : Thread Cert.Kernel19Ideal.nD Cert.Kernel19Ideal.τ).loc Cert.Kernel19Ideal.main_v4_1)) (v2 : (c : Dev Cert.Kernel19Ideal.nD) → Buf (Elt Ideal) ((c.tc : Thread Cert.Kernel19Ideal.nD Cert.Kernel19Ideal.τ).loc Cert.Kernel19Ideal.main_v4_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = v0 c
          ∧ r.2.mem ((c.tc : Thread Cert.Kernel19Ideal.nD Cert.Kernel19Ideal.τ).loc Cert.Kernel19Ideal.main_v4_1) = v1 c
          ∧ r.2.mem ((c.tc : Thread Cert.Kernel19Ideal.nD Cert.Kernel19Ideal.τ).loc Cert.Kernel19Ideal.main_v4_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v27) = v0 c
          ∧ r.2.mem ((c.tc : Thread Cert.Reference19Ideal.nD Cert.Reference19Ideal.τ).loc Cert.Reference19Ideal.main_v8) = v1 c
          ∧ r.2.mem ((c.tc : Thread Cert.Reference19Ideal.nD Cert.Reference19Ideal.τ).loc Cert.Reference19Ideal.main_v14) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v4_0)) (v1 : (c : Dev Cert.Kernel20Ideal.nD) → Buf (Elt Ideal) ((c.tc : Thread Cert.Kernel20Ideal.nD Cert.Kernel20Ideal.τ).loc Cert.Kernel20Ideal.main_v4_1)) (v2 : (c : Dev Cert.Kernel20Ideal.nD) → Buf (Elt Ideal) ((c.tc : Thread Cert.Kernel20Ideal.nD Cert.Kernel20Ideal.τ).loc Cert.Kernel20Ideal.main_v4_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_0) = v0 c
          ∧ r.2.mem ((c.tc : Thread Cert.Kernel20Ideal.nD Cert.Kernel20Ideal.τ).loc Cert.Kernel20Ideal.main_v4_1) = v1 c
          ∧ r.2.mem ((c.tc : Thread Cert.Kernel20Ideal.nD Cert.Kernel20Ideal.τ).loc Cert.Kernel20Ideal.main_v4_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v27) = v0 c
          ∧ r.2.mem ((c.tc : Thread Cert.Reference20Ideal.nD Cert.Reference20Ideal.τ).loc Cert.Reference20Ideal.main_v8) = v1 c
          ∧ r.2.mem ((c.tc : Thread Cert.Reference20Ideal.nD Cert.Reference20Ideal.τ).loc Cert.Reference20Ideal.main_v14) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v4_0)) (v1 : (c : Dev Cert.Kernel21Ideal.nD) → Buf (Elt Ideal) ((c.tc : Thread Cert.Kernel21Ideal.nD Cert.Kernel21Ideal.τ).loc Cert.Kernel21Ideal.main_v4_1)) (v2 : (c : Dev Cert.Kernel21Ideal.nD) → Buf (Elt Ideal) ((c.tc : Thread Cert.Kernel21Ideal.nD Cert.Kernel21Ideal.τ).loc Cert.Kernel21Ideal.main_v4_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_0) = v0 c
          ∧ r.2.mem ((c.tc : Thread Cert.Kernel21Ideal.nD Cert.Kernel21Ideal.τ).loc Cert.Kernel21Ideal.main_v4_1) = v1 c
          ∧ r.2.mem ((c.tc : Thread Cert.Kernel21Ideal.nD Cert.Kernel21Ideal.τ).loc Cert.Kernel21Ideal.main_v4_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v27) = v0 c
          ∧ r.2.mem ((c.tc : Thread Cert.Reference21Ideal.nD Cert.Reference21Ideal.τ).loc Cert.Reference21Ideal.main_v8) = v1 c
          ∧ r.2.mem ((c.tc : Thread Cert.Reference21Ideal.nD Cert.Reference21Ideal.τ).loc Cert.Reference21Ideal.main_v14) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v4_0)) (v1 : (c : Dev Cert.Kernel22Ideal.nD) → Buf (Elt Ideal) ((c.tc : Thread Cert.Kernel22Ideal.nD Cert.Kernel22Ideal.τ).loc Cert.Kernel22Ideal.main_v4_1)) (v2 : (c : Dev Cert.Kernel22Ideal.nD) → Buf (Elt Ideal) ((c.tc : Thread Cert.Kernel22Ideal.nD Cert.Kernel22Ideal.τ).loc Cert.Kernel22Ideal.main_v4_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4_0) = v0 c
          ∧ r.2.mem ((c.tc : Thread Cert.Kernel22Ideal.nD Cert.Kernel22Ideal.τ).loc Cert.Kernel22Ideal.main_v4_1) = v1 c
          ∧ r.2.mem ((c.tc : Thread Cert.Kernel22Ideal.nD Cert.Kernel22Ideal.τ).loc Cert.Kernel22Ideal.main_v4_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v27) = v0 c
          ∧ r.2.mem ((c.tc : Thread Cert.Reference22Ideal.nD Cert.Reference22Ideal.τ).loc Cert.Reference22Ideal.main_v8) = v1 c
          ∧ r.2.mem ((c.tc : Thread Cert.Reference22Ideal.nD Cert.Reference22Ideal.τ).loc Cert.Reference22Ideal.main_v14) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v4_0)) (v1 : (c : Dev Cert.Kernel23Ideal.nD) → Buf (Elt Ideal) ((c.tc : Thread Cert.Kernel23Ideal.nD Cert.Kernel23Ideal.τ).loc Cert.Kernel23Ideal.main_v4_1)) (v2 : (c : Dev Cert.Kernel23Ideal.nD) → Buf (Elt Ideal) ((c.tc : Thread Cert.Kernel23Ideal.nD Cert.Kernel23Ideal.τ).loc Cert.Kernel23Ideal.main_v4_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4_0) = v0 c
          ∧ r.2.mem ((c.tc : Thread Cert.Kernel23Ideal.nD Cert.Kernel23Ideal.τ).loc Cert.Kernel23Ideal.main_v4_1) = v1 c
          ∧ r.2.mem ((c.tc : Thread Cert.Kernel23Ideal.nD Cert.Kernel23Ideal.τ).loc Cert.Kernel23Ideal.main_v4_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v27) = v0 c
          ∧ r.2.mem ((c.tc : Thread Cert.Reference23Ideal.nD Cert.Reference23Ideal.τ).loc Cert.Reference23Ideal.main_v8) = v1 c
          ∧ r.2.mem ((c.tc : Thread Cert.Reference23Ideal.nD Cert.Reference23Ideal.τ).loc Cert.Reference23Ideal.main_v14) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v9) = v0 c
          ∧ r.2.mem ((c.tc : Thread Cert.Reference24Ideal.nD Cert.Reference24Ideal.τ).loc Cert.Reference24Ideal.main_v15) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v150) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)) →
    ∃ (v0 : (c : Dev Cert.Kernel25Ideal.nD) → Buf (Elt Ideal) ((c.tc : Thread Cert.Kernel25Ideal.nD Cert.Kernel25Ideal.τ).loc Cert.Kernel25Ideal.main_v9)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v9) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v3) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v9) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)
      ∧ m' ((c.tc : Thread Cert.Reference27Ideal.nD Cert.Reference27Ideal.τ).loc Cert.Reference27Ideal.main_arg6) = m ((c.tc : Thread Cert.Kernel27Ideal.nD Cert.Kernel27Ideal.τ).loc Cert.Kernel27Ideal.main_arg6)
      ∧ m' ((c.tc : Thread Cert.Reference27Ideal.nD Cert.Reference27Ideal.τ).loc Cert.Reference27Ideal.main_arg7) = m ((c.tc : Thread Cert.Kernel27Ideal.nD Cert.Kernel27Ideal.τ).loc Cert.Kernel27Ideal.main_arg7)
      ∧ m' ((c.tc : Thread Cert.Reference27Ideal.nD Cert.Reference27Ideal.τ).loc Cert.Reference27Ideal.main_arg8) = m ((c.tc : Thread Cert.Kernel27Ideal.nD Cert.Kernel27Ideal.τ).loc Cert.Kernel27Ideal.main_arg8)
      ∧ m' ((c.tc : Thread Cert.Reference27Ideal.nD Cert.Reference27Ideal.τ).loc Cert.Reference27Ideal.main_arg9) = m ((c.tc : Thread Cert.Kernel27Ideal.nD Cert.Kernel27Ideal.τ).loc Cert.Kernel27Ideal.main_arg9)
      ∧ m' ((c.tc : Thread Cert.Reference27Ideal.nD Cert.Reference27Ideal.τ).loc Cert.Reference27Ideal.main_arg10) = m ((c.tc : Thread Cert.Kernel27Ideal.nD Cert.Kernel27Ideal.τ).loc Cert.Kernel27Ideal.main_arg10)
      ∧ m' ((c.tc : Thread Cert.Reference27Ideal.nD Cert.Reference27Ideal.τ).loc Cert.Reference27Ideal.main_arg11) = m ((c.tc : Thread Cert.Kernel27Ideal.nD Cert.Kernel27Ideal.τ).loc Cert.Kernel27Ideal.main_arg11)) →
    ∃ (v0 : (c : Dev Cert.Kernel27Ideal.nD) → Buf (Elt Ideal) ((c.tc : Thread Cert.Kernel27Ideal.nD Cert.Kernel27Ideal.τ).loc Cert.Kernel27Ideal.main_v3_0)) (v1 : (c : Dev Cert.Kernel27Ideal.nD) → Buf (Elt Ideal) ((c.tc : Thread Cert.Kernel27Ideal.nD Cert.Kernel27Ideal.τ).loc Cert.Kernel27Ideal.main_v3_1)) (v2 : (c : Dev Cert.Kernel27Ideal.nD) → Buf (Elt Ideal) ((c.tc : Thread Cert.Kernel27Ideal.nD Cert.Kernel27Ideal.τ).loc Cert.Kernel27Ideal.main_v3_2)) (v3 : (c : Dev Cert.Kernel27Ideal.nD) → Buf (Elt Ideal) ((c.tc : Thread Cert.Kernel27Ideal.nD Cert.Kernel27Ideal.τ).loc Cert.Kernel27Ideal.main_v3_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v3_0) = v0 c
          ∧ r.2.mem ((c.tc : Thread Cert.Kernel27Ideal.nD Cert.Kernel27Ideal.τ).loc Cert.Kernel27Ideal.main_v3_1) = v1 c
          ∧ r.2.mem ((c.tc : Thread Cert.Kernel27Ideal.nD Cert.Kernel27Ideal.τ).loc Cert.Kernel27Ideal.main_v3_2) = v2 c
          ∧ r.2.mem ((c.tc : Thread Cert.Kernel27Ideal.nD Cert.Kernel27Ideal.τ).loc Cert.Kernel27Ideal.main_v3_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
          ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
          ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7)
          ∧ r.2.mem ((c.tc : Thread Cert.Kernel27Ideal.nD Cert.Kernel27Ideal.τ).loc Cert.Kernel27Ideal.main_arg8) = m ((c.tc : Thread Cert.Kernel27Ideal.nD Cert.Kernel27Ideal.τ).loc Cert.Kernel27Ideal.main_arg8)
          ∧ r.2.mem ((c.tc : Thread Cert.Kernel27Ideal.nD Cert.Kernel27Ideal.τ).loc Cert.Kernel27Ideal.main_arg9) = m ((c.tc : Thread Cert.Kernel27Ideal.nD Cert.Kernel27Ideal.τ).loc Cert.Kernel27Ideal.main_arg9)
          ∧ r.2.mem ((c.tc : Thread Cert.Kernel27Ideal.nD Cert.Kernel27Ideal.τ).loc Cert.Kernel27Ideal.main_arg10) = m ((c.tc : Thread Cert.Kernel27Ideal.nD Cert.Kernel27Ideal.τ).loc Cert.Kernel27Ideal.main_arg10)
          ∧ r.2.mem ((c.tc : Thread Cert.Kernel27Ideal.nD Cert.Kernel27Ideal.τ).loc Cert.Kernel27Ideal.main_arg11) = m ((c.tc : Thread Cert.Kernel27Ideal.nD Cert.Kernel27Ideal.τ).loc Cert.Kernel27Ideal.main_arg11))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v9) = v0 c
          ∧ r.2.mem ((c.tc : Thread Cert.Reference27Ideal.nD Cert.Reference27Ideal.τ).loc Cert.Reference27Ideal.main_v19) = v1 c
          ∧ r.2.mem ((c.tc : Thread Cert.Reference27Ideal.nD Cert.Reference27Ideal.τ).loc Cert.Reference27Ideal.main_v29) = v2 c
          ∧ r.2.mem ((c.tc : Thread Cert.Reference27Ideal.nD Cert.Reference27Ideal.τ).loc Cert.Reference27Ideal.main_v39) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5)
          ∧ r.2.mem ((c.tc : Thread Cert.Reference27Ideal.nD Cert.Reference27Ideal.τ).loc Cert.Reference27Ideal.main_arg6) = m' ((c.tc : Thread Cert.Reference27Ideal.nD Cert.Reference27Ideal.τ).loc Cert.Reference27Ideal.main_arg6)
          ∧ r.2.mem ((c.tc : Thread Cert.Reference27Ideal.nD Cert.Reference27Ideal.τ).loc Cert.Reference27Ideal.main_arg7) = m' ((c.tc : Thread Cert.Reference27Ideal.nD Cert.Reference27Ideal.τ).loc Cert.Reference27Ideal.main_arg7)
          ∧ r.2.mem ((c.tc : Thread Cert.Reference27Ideal.nD Cert.Reference27Ideal.τ).loc Cert.Reference27Ideal.main_arg8) = m' ((c.tc : Thread Cert.Reference27Ideal.nD Cert.Reference27Ideal.τ).loc Cert.Reference27Ideal.main_arg8)
          ∧ r.2.mem ((c.tc : Thread Cert.Reference27Ideal.nD Cert.Reference27Ideal.τ).loc Cert.Reference27Ideal.main_arg9) = m' ((c.tc : Thread Cert.Reference27Ideal.nD Cert.Reference27Ideal.τ).loc Cert.Reference27Ideal.main_arg9)
          ∧ r.2.mem ((c.tc : Thread Cert.Reference27Ideal.nD Cert.Reference27Ideal.τ).loc Cert.Reference27Ideal.main_arg10) = m' ((c.tc : Thread Cert.Reference27Ideal.nD Cert.Reference27Ideal.τ).loc Cert.Reference27Ideal.main_arg10)
          ∧ r.2.mem ((c.tc : Thread Cert.Reference27Ideal.nD Cert.Reference27Ideal.τ).loc Cert.Reference27Ideal.main_arg11) = m' ((c.tc : Thread Cert.Reference27Ideal.nD Cert.Reference27Ideal.τ).loc Cert.Reference27Ideal.main_arg11))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)
      ∧ m' ((c.tc : Thread Cert.Reference28Ideal.nD Cert.Reference28Ideal.τ).loc Cert.Reference28Ideal.main_arg6) = m ((c.tc : Thread Cert.Kernel28Ideal.nD Cert.Kernel28Ideal.τ).loc Cert.Kernel28Ideal.main_arg6)
      ∧ m' ((c.tc : Thread Cert.Reference28Ideal.nD Cert.Reference28Ideal.τ).loc Cert.Reference28Ideal.main_arg7) = m ((c.tc : Thread Cert.Kernel28Ideal.nD Cert.Kernel28Ideal.τ).loc Cert.Kernel28Ideal.main_arg7)
      ∧ m' ((c.tc : Thread Cert.Reference28Ideal.nD Cert.Reference28Ideal.τ).loc Cert.Reference28Ideal.main_arg8) = m ((c.tc : Thread Cert.Kernel28Ideal.nD Cert.Kernel28Ideal.τ).loc Cert.Kernel28Ideal.main_arg8)) →
    ∃ (v0 : (c : Dev Cert.Kernel28Ideal.nD) → Buf (Elt Ideal) ((c.tc : Thread Cert.Kernel28Ideal.nD Cert.Kernel28Ideal.τ).loc Cert.Kernel28Ideal.main_v3_0)) (v1 : (c : Dev Cert.Kernel28Ideal.nD) → Buf (Elt Ideal) ((c.tc : Thread Cert.Kernel28Ideal.nD Cert.Kernel28Ideal.τ).loc Cert.Kernel28Ideal.main_v3_1)) (v2 : (c : Dev Cert.Kernel28Ideal.nD) → Buf (Elt Ideal) ((c.tc : Thread Cert.Kernel28Ideal.nD Cert.Kernel28Ideal.τ).loc Cert.Kernel28Ideal.main_v3_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v3_0) = v0 c
          ∧ r.2.mem ((c.tc : Thread Cert.Kernel28Ideal.nD Cert.Kernel28Ideal.τ).loc Cert.Kernel28Ideal.main_v3_1) = v1 c
          ∧ r.2.mem ((c.tc : Thread Cert.Kernel28Ideal.nD Cert.Kernel28Ideal.τ).loc Cert.Kernel28Ideal.main_v3_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
          ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
          ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7)
          ∧ r.2.mem ((c.tc : Thread Cert.Kernel28Ideal.nD Cert.Kernel28Ideal.τ).loc Cert.Kernel28Ideal.main_arg8) = m ((c.tc : Thread Cert.Kernel28Ideal.nD Cert.Kernel28Ideal.τ).loc Cert.Kernel28Ideal.main_arg8))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v9) = v0 c
          ∧ r.2.mem ((c.tc : Thread Cert.Reference28Ideal.nD Cert.Reference28Ideal.τ).loc Cert.Reference28Ideal.main_v19) = v1 c
          ∧ r.2.mem ((c.tc : Thread Cert.Reference28Ideal.nD Cert.Reference28Ideal.τ).loc Cert.Reference28Ideal.main_v29) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5)
          ∧ r.2.mem ((c.tc : Thread Cert.Reference28Ideal.nD Cert.Reference28Ideal.τ).loc Cert.Reference28Ideal.main_arg6) = m' ((c.tc : Thread Cert.Reference28Ideal.nD Cert.Reference28Ideal.τ).loc Cert.Reference28Ideal.main_arg6)
          ∧ r.2.mem ((c.tc : Thread Cert.Reference28Ideal.nD Cert.Reference28Ideal.τ).loc Cert.Reference28Ideal.main_arg7) = m' ((c.tc : Thread Cert.Reference28Ideal.nD Cert.Reference28Ideal.τ).loc Cert.Reference28Ideal.main_arg7)
          ∧ r.2.mem ((c.tc : Thread Cert.Reference28Ideal.nD Cert.Reference28Ideal.τ).loc Cert.Reference28Ideal.main_arg8) = m' ((c.tc : Thread Cert.Reference28Ideal.nD Cert.Reference28Ideal.τ).loc Cert.Reference28Ideal.main_arg8))

def Claim : Prop :=
  ∃ (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel2 : Cert.Kernel2.Facts) (hKernel2Ideal : Cert.Kernel2Ideal.Facts) (hReference2Ideal : Cert.Reference2Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel : Cert.Kernel.Facts) (hKernelIdeal : Cert.KernelIdeal.Facts) (hReferenceIdeal : Cert.ReferenceIdeal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hPre_finite : Cert.Pre_finite.Facts),
    quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel2_Kernel2Ideal
    ∧ algebraic_Kernel2Ideal_Reference2Ideal (hKernel2Ideal := hKernel2Ideal) (hReference2Ideal := hReference2Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
-- ==== Pre_finite.lean ====
abbrev S4096x512 : Shape := ⟨2, ![4096, 512]⟩
abbrev S4096x1024 : Shape := ⟨2, ![4096, 1024]⟩
abbrev S256 : Shape := ⟨1, ![256]⟩
abbrev S4x128x128 : Shape := ⟨3, ![4, 128, 128]⟩
abbrev S4x128 : Shape := ⟨2, ![4, 128]⟩
abbrev S_ : Shape := ⟨0, ![]⟩

class Facts : Prop where
  bcast_S_S4096x512 : S_.BroadcastsInDim S4096x512 (![] : Fin 0 → Fin S4096x512.rank)
  bcast_S_S4096x1024 : S_.BroadcastsInDim S4096x1024 (![] : Fin 0 → Fin S4096x1024.rank)
  bcast_S_S256 : S_.BroadcastsInDim S256 (![] : Fin 0 → Fin S256.rank)
  bcast_S_S4x128x128 : S_.BroadcastsInDim S4x128x128 (![] : Fin 0 → Fin S4x128x128.rank)

variable [Facts]

def fn {F : FTy → Type} [FloatOps F] (main_arg0 : FVec F S4096x512 .f32) (main_arg1 : FVec F S4096x1024 .f32) (main_arg2 : FVec F S256 .f32) (main_arg3 : FVec F S4x128x128 .f32) (main_arg4 : FVec F S4x128 .f32) : IVec S4096x512 1 × IVec S4096x1024 1 × IVec S256 1 × IVec S4x128x128 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S256 .f32 := Host.absf main_arg2
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  (main_v2, main_v5, main_v8, main_v11)
-- ==== Kernel3.lean ====
abbrev S4096x1024 : Shape := ⟨2, ![4096, 1024]⟩
abbrev S1024 : Shape := ⟨1, ![1024]⟩
abbrev S1024x4096 : Shape := ⟨2, ![1024, 4096]⟩
abbrev S1024x8x512 : Shape := ⟨3, ![1024, 8, 512]⟩
abbrev S8x1024x512 : Shape := ⟨3, ![8, 1024, 512]⟩
abbrev S1x1024 : Shape := ⟨2, ![1, 1024]⟩
abbrev S1024x1024 : Shape := ⟨2, ![1024, 1024]⟩
abbrev S1x1024x512 : Shape := ⟨3, ![1, 1024, 512]⟩
abbrev S512x1024 : Shape := ⟨2, ![512, 1024]⟩
abbrev S1024x1 : Shape := ⟨2, ![1024, 1]⟩
abbrev S1024x512 : Shape := ⟨2, ![1024, 512]⟩

abbrev nBuf : Space → Nat
  | .hbm => 10
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x4096, .bf16⟩
  | .hbm, ⟨5, _⟩ => ⟨S1024x8x512, .bf16⟩
  | .hbm, ⟨6, _⟩ => ⟨S8x1024x512, .bf16⟩
  | .hbm, ⟨7, _⟩ => ⟨S1x1024, .f32⟩
  | .hbm, ⟨8, _⟩ => ⟨S4096x1024, .bf16⟩
  | .hbm, ⟨9, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x1024, .f32⟩
  | .hbm, ⟨26, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S8x1024x512 : Shape := ⟨3, ![8, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S4096x1024, .f32⟩
  | .hbm, ⟨8, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x2048 : Shape := ⟨2, ![4096, 2048]⟩
abbrev S4096x768 : Shape := ⟨2, ![4096, 768]⟩
abbrev S4096x512 : Shape := ⟨2, ![4096, 512]⟩
abbrev S4096x128 : Shape := ⟨2, ![4096, 128]⟩
abbrev S3456x1024 : Shape := ⟨2, ![3456, 1024]⟩
abbrev S4096x1024 : Shape := ⟨2, ![4096, 1024]⟩
abbrev S1024 : Shape := ⟨1, ![1024]⟩
abbrev S1x1024 : Shape := ⟨2, ![1, 1024]⟩
abbrev S512x2048 : Shape := ⟨2, ![512, 2048]⟩
abbrev S512x768 : Shape := ⟨2, ![512, 768]⟩
abbrev S512x512 : Shape := ⟨2, ![512, 512]⟩
abbrev S512x128 : Shape := ⟨2, ![512, 128]⟩
abbrev S512x1024 : Shape := ⟨2, ![512, 1024]⟩
abbrev S2048x1024 : Shape := ⟨2, ![2048, 1024]⟩
abbrev S768x1024 : Shape := ⟨2, ![768, 1024]⟩
abbrev S128x1024 : Shape := ⟨2, ![128, 1024]⟩
abbrev S512 : Shape := ⟨1, ![512]⟩
abbrev S512x1 : Shape := ⟨2, ![512, 1]⟩

abbrev nBuf : Space → Nat
  | .hbm => 12
  | .vmem => 17
  | .smem => 0
  | _ => 0

abbrev bufTy : (tb : Table) → Fin (tcTables nBuf tb) → BufTy
  | .hbm, ⟨0, _⟩ => ⟨S4096x2048, .f32⟩
  | .hbm, ⟨1, _⟩ => ⟨S4096x768, .f32⟩
  | .hbm, ⟨2, _⟩ => ⟨S4096x512, .f32⟩
  | .hbm, ⟨3, _⟩ => ⟨S4096x128, .f32⟩
  | .hbm, ⟨4, _⟩ => ⟨S3456x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S3456x1024, .bf16⟩
  | .hbm, ⟨9, _⟩ => ⟨S1x1024, .f32⟩
  | .hbm, ⟨10, _⟩ => ⟨S4096x1024, .f32⟩
  | .hbm, ⟨11, _⟩ => ⟨S1x1024, .f32⟩
  | .local _ .vmem, ⟨0, _⟩ => ⟨S512x2048, .f32⟩
  | .local _ .vmem, ⟨1, _⟩ => ⟨S512x2048, .f32⟩
  | .local _ .vmem, ⟨2, _⟩ => ⟨S512x768, .f32⟩
  | .local _ .vmem, ⟨3, _⟩ => ⟨S512x768, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S3456x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3456x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference6Ideal.lean ====
abbrev S4096x2048 : Shape := ⟨2, ![4096, 2048]⟩
abbrev S4096x768 : Shape := ⟨2, ![4096, 768]⟩
abbrev S4096x512 : Shape := ⟨2, ![4096, 512]⟩
abbrev S4096x128 : Shape := ⟨2, ![4096, 128]⟩
abbrev S3456x1024 : Shape := ⟨2, ![3456, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x3456 : Shape := ⟨2, ![1024, 3456]⟩
abbrev S4096x3456 : Shape := ⟨2, ![4096, 3456]⟩

abbrev nBuf : Space → Nat
  | .hbm => 59
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x768, .f32⟩
  | .hbm, ⟨2, _⟩ => ⟨S4096x512, .f32⟩
  | .hbm, ⟨3, _⟩ => ⟨S4096x128, .f32⟩
  | .hbm, ⟨4, _⟩ => ⟨S3456x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1024x3456, .f32⟩
  | .hbm, ⟨29, _⟩ => ⟨S4096x3456, .f32⟩
  | .hbm, ⟨30, _⟩ => ⟨S4096x3456, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Kernel7.lean ====
abbrev S4096x2048 : Shape := ⟨2, ![4096, 2048]⟩
abbrev S4096x768 : Shape := ⟨2, ![4096, 768]⟩
abbrev S4096x512 : Shape := ⟨2, ![4096, 512]⟩
abbrev S4096x128 : Shape := ⟨2, ![4096, 128]⟩
abbrev S4096x1024 : Shape := ⟨2, ![4096, 1024]⟩
abbrev S3456x1024 : Shape := ⟨2, ![3456, 1024]⟩
abbrev S512x2048 : Shape := ⟨2, ![512, 2048]⟩
abbrev S512x768 : Shape := ⟨2, ![512, 768]⟩
abbrev S512x512 : Shape := ⟨2, ![512, 512]⟩
abbrev S512x128 : Shape := ⟨2, ![512, 128]⟩
abbrev S512x1024 : Shape := ⟨2, ![512, 1024]⟩
abbrev S2048x1024 : Shape := ⟨2, ![2048, 1024]⟩
abbrev S768x1024 : Shape := ⟨2, ![768, 1024]⟩
abbrev S128x1024 : Shape := ⟨2, ![128, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x768, .f32⟩
  | .hbm, ⟨2, _⟩ => ⟨S4096x512, .f32⟩
  | .hbm, ⟨3, _⟩ => ⟨S4096x128, .f32⟩
  | .hbm, ⟨4, _⟩ => ⟨S4096x1024, .bf16⟩
  | .hbm, ⟨5, _⟩ => ⟨S3456x1024, .f32⟩
  | .local _ .vmem, ⟨0, _⟩ => ⟨S512x2048, .f32⟩
  | .local _ .vmem, ⟨1, _⟩ => ⟨S512x2048, .f32⟩
  | .local _ .vmem, ⟨2, _⟩ => ⟨S512x768, .f32⟩
  | .local _ .vmem, ⟨3, _⟩ => ⟨S512x768, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S512x1024, .bf16⟩
  | .local _ .vmem, ⟨9, _⟩ => ⟨S512x1024, .bf16⟩
  | .local _ .vmem, ⟨10, _⟩ => ⟨S3456x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3456x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference7Ideal.lean ====
abbrev S4096x2048 : Shape := ⟨2, ![4096, 2048]⟩
abbrev S4096x768 : Shape := ⟨2, ![4096, 768]⟩
abbrev S4096x512 : Shape := ⟨2, ![4096, 512]⟩
abbrev S4096x128 : Shape := ⟨2, ![4096, 128]⟩
abbrev S4096x1024 : Shape := ⟨2, ![4096, 1024]⟩
abbrev S_ : Shape := ⟨0, ![]⟩
abbrev S3456x1024 : Shape := ⟨2, ![3456, 1024]⟩
abbrev S1024x3456 : Shape := ⟨2, ![1024, 3456]⟩
abbrev S4096x3456 : Shape := ⟨2, ![4096, 3456]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x768, .f32⟩
  | .hbm, ⟨2, _⟩ => ⟨S4096x512, .f32⟩
  | .hbm, ⟨3, _⟩ => ⟨S4096x128, .f32⟩
  | .hbm, ⟨4, _⟩ => ⟨S4096x1024, .bf16⟩
  | .hbm, ⟨5, _⟩ => ⟨S_, .f32⟩
  | .hbm, ⟨6, _⟩ => ⟨S3456x1024, .f32⟩
  | .hbm, ⟨7, _⟩ => ⟨S4096x1024, .f32⟩
  | .hbm, ⟨8, _⟩ => ⟨S1024x3456, .f32⟩
  | .hbm, ⟨9, _⟩ => ⟨S4096x3456, .f32⟩
  | .hbm, ⟨10, _⟩ => ⟨S4096x3456, .f32⟩
  | .hbm, ⟨11, _⟩ => ⟨S3456x1024, .f32⟩
  | .hbm, ⟨12, _⟩ => ⟨S1024x3456, .f32⟩
  | .hbm, ⟨13, _⟩ => ⟨S3456x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x1024 : Shape := ⟨2, ![4096, 1024]⟩
abbrev S1024 : Shape := ⟨1, ![1024]⟩
abbrev S3456x1024 : Shape := ⟨2, ![3456, 1024]⟩
abbrev S1x1024 : Shape := ⟨2, ![1, 1024]⟩
abbrev S4096x2048 : Shape := ⟨2, ![4096, 2048]⟩
abbrev S4096x768 : Shape := ⟨2, ![4096, 768]⟩
abbrev S4096x512 : Shape := ⟨2, ![4096, 512]⟩
abbrev S4096x128 : Shape := ⟨2, ![4096, 128]⟩
abbrev S1024x1024 : Shape := ⟨2, ![1024, 1024]⟩
abbrev S1024x2048 : Shape := ⟨2, ![1024, 2048]⟩
abbrev S1024x768 : Shape := ⟨2, ![1024, 768]⟩
abbrev S1024x512 : Shape := ⟨2, ![1024, 512]⟩
abbrev S1024x128 : Shape := ⟨2, ![1024, 128]⟩
abbrev S1024x1 : Shape := ⟨2, ![1024, 1]⟩
abbrev S2048x1024 : Shape := ⟨2, ![2048, 1024]⟩
abbrev S768x1024 : Shape := ⟨2, ![768, 1024]⟩
abbrev S512x1024 : Shape := ⟨2, ![512, 1024]⟩
abbrev S128x1024 : Shape := ⟨2, ![128, 1024]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S3456x1024, .f32⟩
  | .hbm, ⟨3, _⟩ => ⟨S1x1024, .f32⟩
  | .hbm, ⟨4, _⟩ => ⟨S3456x1024, .bf16⟩
  | .hbm, ⟨5, _⟩ => ⟨S4096x2048, .f32⟩
  | .hbm, ⟨6, _⟩ => ⟨S4096x768, .f32⟩
  | .hbm, ⟨7, _⟩ => ⟨S4096x512, .f32⟩
  | .hbm, ⟨8, _⟩ => ⟨S4096x128, .f32⟩
  | .hbm, ⟨9, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S3456x1024, .bf16⟩
  | .local _ .vmem, ⟨4, _⟩ => ⟨S1024x2048, .f32⟩
  | .local _ .vmem, ⟨5, _⟩ => ⟨S1024x2048, .f32⟩
  | .local _ .vmem, ⟨6, _⟩ => ⟨S1024x768, .f32⟩
  | .local _ .vmem, ⟨7, _⟩ => ⟨S1024x768, .f32⟩
  | .local _ .vmem, ⟨8, _⟩ => ⟨S1024x512, .f32⟩
  | .local _ .vmem, ⟨9, _⟩ => ⟨S1024x512, .f32⟩
  | .local _ .vmem, ⟨10, _⟩ => ⟨S1024x128, .f32⟩
  | .local _ .vmem, ⟨11, _⟩ => ⟨S1024x128, .f32⟩
  | .local _ .vmem, ⟨12, _⟩ => ⟨S1024x1024, .bf16⟩
  | .local _ .vmem, ⟨13, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3456x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S4096x1024 : Shape := ⟨2, ![4096, 1024]⟩
abbrev S1024 : Shape := ⟨1, ![1024]⟩
abbrev S3456x1024 : Shape := ⟨2, ![3456, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x3456 : Shape := ⟨2, ![1024, 3456]⟩
abbrev S4096x3456 : Shape := ⟨2, ![4096, 3456]⟩
abbrev S4096x2048 : Shape := ⟨2, ![4096, 2048]⟩
abbrev S4096x768 : Shape := ⟨2, ![4096, 768]⟩
abbrev S4096x512 : Shape := ⟨2, ![4096, 512]⟩
abbrev S4096x128 : Shape := ⟨2, ![4096, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S3456x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1024x3456, .f32⟩
  | .hbm, ⟨20, _⟩ => ⟨S4096x3456, .f32⟩
  | .hbm, ⟨21, _⟩ => ⟨S4096x2048, .f32⟩
  | .hbm, ⟨22, _⟩ => ⟨S4096x768, .f32⟩
  | .hbm, ⟨23, _⟩ => ⟨S4096x512, .f32⟩
  | .hbm, ⟨24, _⟩ => ⟨S4096x128, .f32⟩
  | .hbm, ⟨25, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024x1024, .bf16⟩
  | .hbm, ⟨4, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x4096 : Shape := ⟨2, ![1024, 4096]⟩
abbrev S1024x8x512 : Shape := ⟨3, ![1024, 8, 512]⟩
abbrev S8x1024x512 : Shape := ⟨3, ![8, 1024, 512]⟩
abbrev S1x1024 : Shape := ⟨2, ![1, 1024]⟩
abbrev S4096x4096 : Shape := ⟨2, ![4096, 4096]⟩
abbrev S1024x1024 : Shape := ⟨2, ![1024, 1024]⟩
abbrev S1x1024x512 : Shape := ⟨3, ![1, 1024, 512]⟩
abbrev S512x1024 : Shape := ⟨2, ![512, 1024]⟩
abbrev S1024x512 : Shape := ⟨2, ![1024, 512]⟩
abbrev S1024x1 : Shape := ⟨2, ![1024, 1]⟩

abbrev nBuf : Space → Nat
  | .hbm => 15
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024x4096, .bf16⟩
  | .hbm, ⟨6, _⟩ => ⟨S1024x8x512, .bf16⟩
  | .hbm, ⟨7, _⟩ => ⟨S8x1024x512, .bf16⟩
  | .hbm, ⟨8, _⟩ => ⟨S1x1024, .f32⟩
  | .hbm, ⟨9, _⟩ => ⟨S4096x1024, .bf16⟩
  | .hbm, ⟨10, _⟩ => ⟨S4096x1024, .f32⟩
  | .hbm, ⟨11, _⟩ => ⟨S4096x4096, .bf16⟩
  | .hbm, ⟨12, _⟩ => ⟨S4096x4096, .bf16⟩
  | .hbm, ⟨13, _⟩ => ⟨S4096x1024, .bf16⟩
  | .hbm, ⟨14, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024x512, .bf16⟩
  | .local _ .vmem, ⟨6, _⟩ => ⟨S1x1024x512, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v36 : BitVec 1 := Scalar.cmpi .eq arg1 c7_i32
  let v37 : BitVec 32 := Scalar.extui v36
  let c0_i32_27 : BitVec 32 := 0#32
  let v38 : BitVec 1 := Scalar.cmpi .ne v37 c0_i32_27
  v38

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference2Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 116
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .i1⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S4096x1, .f32⟩
  | .hbm, ⟨84, _⟩ => ⟨S4096x1024, .f32⟩
  | .hbm, ⟨85, _⟩ => ⟨S4096x1024, .f32⟩
  | .hbm, ⟨86, _⟩ => ⟨S1x1024, .f32⟩
  | .hbm, ⟨87, _⟩ => ⟨S4096x1024, .f32⟩
  | .hbm, ⟨88, _⟩ => ⟨S4096x1024, .f32⟩
  | .hbm, ⟨89, _⟩ => ⟨S4096x4096, .f32⟩
  | .hbm, ⟨90, _⟩ => ⟨S_, .f32⟩
  | .hbm, ⟨91, _⟩ => ⟨S4096x4096, .f32⟩
  | .hbm, ⟨92, _⟩ => ⟨S4096x4096, .f32⟩
  | .hbm, ⟨93, _⟩ => ⟨S_, .f32⟩
  | .hbm, ⟨94, _⟩ => ⟨S4096x4096, .f32⟩
  | .hbm, ⟨95, _⟩ => ⟨S4096x4096, .i1⟩
  | .hbm, ⟨96, _⟩ => ⟨S_, .f32⟩
  | .hbm, ⟨97, _⟩ => ⟨S4096x4096, .f32⟩
  | .hbm, ⟨98, _⟩ => ⟨S4096x4096, .f32⟩
  | .hbm, ⟨99, _⟩ => ⟨S_, .f32⟩
  | .hbm, ⟨100, _⟩ => ⟨S4096x4096, .f32⟩
  | .hbm, ⟨101, _⟩ => ⟨S4096x4096, .f32⟩
  | .hbm, ⟨102, _⟩ => ⟨S4096x1024, .f32⟩
  | .hbm, ⟨103, _⟩ => ⟨S4096x4096, .f32⟩
  | .hbm, ⟨104, _⟩ => ⟨S4096x4096, .f32⟩
  | .hbm, ⟨105, _⟩ => ⟨S_, .f32⟩
  | .hbm, ⟨106, _⟩ => ⟨S4096x4096, .f32⟩
  | .hbm, ⟨107, _⟩ => ⟨S4096x4096, .f32⟩
  | .hbm, ⟨108, _⟩ => ⟨S4096x4096, .bf16⟩
  | .hbm, ⟨109, _⟩ => ⟨S_, .f32⟩
  | .hbm, ⟨110, _⟩ => ⟨S4096x4096, .f32⟩
  | .hbm, ⟨111, _⟩ => ⟨S4096x4096, .f32⟩
  | .hbm, ⟨112, _⟩ => ⟨S4096x4096, .f32⟩
  | .hbm, ⟨113, _⟩ => ⟨S4096x4096, .bf16⟩
  | .hbm, ⟨114, _⟩ => ⟨S4096x1024, .bf16⟩
  | .hbm, ⟨115, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call1_cst : Ref sig .tc := ⟨.hbm, 90, rfl⟩
abbrev main_call1_v0 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_cst_16 : Ref sig .tc := ⟨.hbm, 96, rfl⟩
abbrev main_v70 : Ref sig .tc := ⟨.hbm, 97, rfl⟩
abbrev main_v71 : Ref sig .tc := ⟨.hbm, 98, rfl⟩
abbrev main_cst_17 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_18 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_call2_cst : Ref sig .tc := ⟨.hbm, 109, rfl⟩
abbrev main_call2_v0 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩

abbrev nD : Nat := 1
abbrev τ : Topo := Topo.v7x

variable {F : FTy → Type} [FloatOps F]
-- ==== Kernel12.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference12Ideal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S2x1024x417 : Shape := ⟨3, ![2, 1024, 417]⟩
abbrev S2048x417 : Shape := ⟨2, ![2048, 417]⟩
abbrev S512x417 : Shape := ⟨2, ![512, 417]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x417, .f32⟩
  | .hbm, ⟨1, _⟩ => ⟨S2x1024x417, .f32⟩
  | .hbm, ⟨2, _⟩ => ⟨S2x1024x417, .f32⟩
  | .hbm, ⟨3, _⟩ => ⟨S2x1024x417, .f32⟩
  | .hbm, ⟨4, _⟩ => ⟨S2048x417, .f32⟩
  | .hbm, ⟨5, _⟩ => ⟨S2048x417, .f32⟩
  | .hbm, ⟨6, _⟩ => ⟨S2048x417, .f32⟩
  | .hbm, ⟨7, _⟩ => ⟨S2048x417, .f32⟩
  | .hbm, ⟨8, _⟩ => ⟨S2048x417, .f32⟩
  | .hbm, ⟨9, _⟩ => ⟨S2048x417, .f32⟩
  | .hbm, ⟨10, _⟩ => ⟨S2048x417, .f32⟩
  | .local _ .vmem, ⟨0, _⟩ => ⟨S512x417, .f32⟩
  | .local _ .vmem, ⟨1, _⟩ => ⟨S512x417, .f32⟩
  | .local _ .vmem, ⟨2, _⟩ => ⟨S512x417, .f32⟩
  | .local _ .vmem, ⟨3, _⟩ => ⟨S512x417, .f32⟩
  | .local _ .vmem, ⟨4, _⟩ => ⟨S512x417, .f32⟩
  | .local _ .vmem, ⟨5, _⟩ => ⟨S512x417, .f32⟩
  | .local _ .vmem, ⟨6, _⟩ => ⟨S512x417, .f32⟩
  | .local _ .vmem, ⟨7, _⟩ => ⟨S512x417, .f32⟩
  | .local _ .vmem, ⟨8, _⟩ => ⟨S512x417, .f32⟩
  | .local _ .vmem, ⟨9, _⟩ => ⟨S512x417, .f32⟩
  | .local _ .vmem, ⟨10, _⟩ => ⟨S512x417, .f32⟩
  | .local _ .vmem, ⟨11, _⟩ => ⟨S512x417, .f32⟩
  | .local _ .vmem, ⟨12, _⟩ => ⟨S512x417, .f32⟩
  | .local _ .vmem, ⟨13, _⟩ => ⟨S512x417, .f32⟩
  | _, _ => ⟨S2x1024x417, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x417 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x417 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x417 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x417 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x417 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x417 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x417 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S2x1024x417 : Shape := ⟨3, ![2, 1024, 417]⟩
abbrev S2048x417 : Shape := ⟨2, ![2048, 417]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x417, .f32⟩
  | .hbm, ⟨1, _⟩ => ⟨S2x1024x417, .f32⟩
  | .hbm, ⟨2, _⟩ => ⟨S2x1024x417, .f32⟩
  | .hbm, ⟨3, _⟩ => ⟨S2x1024x417, .f32⟩
  | .hbm, ⟨4, _⟩ => ⟨S2048x417, .f32⟩
  | .hbm, ⟨5, _⟩ => ⟨S2048x417, .f32⟩
  | .hbm, ⟨6, _⟩ => ⟨S2048x417, .f32⟩
  | .hbm, ⟨7, _⟩ => ⟨S2048x417, .f32⟩
  | .hbm, ⟨8, _⟩ => ⟨S_, .f32⟩
  | .hbm, ⟨9, _⟩ => ⟨S2048x417, .f32⟩
  | .hbm, ⟨10, _⟩ => ⟨S2048x417, .f32⟩
  | .hbm, ⟨11, _⟩ => ⟨S_, .f32⟩
  | .hbm, ⟨12, _⟩ => ⟨S2048x417, .f32⟩
  | .hbm, ⟨13, _⟩ => ⟨S2048x417, .f32⟩
  | .hbm, ⟨14, _⟩ => ⟨S2048x417, .f32⟩
  | .hbm, ⟨15, _⟩ => ⟨S_, .f32⟩
  | .hbm, ⟨16, _⟩ => ⟨S2048x417, .f32⟩
  | .hbm, ⟨17, _⟩ => ⟨S2048x417, .f32⟩
  | .hbm, ⟨18, _⟩ => ⟨S2048x417, .f32⟩
  | .hbm, ⟨19, _⟩ => ⟨S_, .f32⟩
  | .hbm, ⟨20, _⟩ => ⟨S2048x417, .f32⟩
  | .hbm, ⟨21, _⟩ => ⟨S2048x417, .f32⟩
  | .hbm, ⟨22, _⟩ => ⟨S2048x417, .f32⟩
  | .hbm, ⟨23, _⟩ => ⟨S_, .f32⟩
  | .hbm, ⟨24, _⟩ => ⟨S2048x417, .f32⟩
  | .hbm, ⟨25, _⟩ => ⟨S2048x417, .f32⟩
  | .hbm, ⟨26, _⟩ => ⟨S_, .f32⟩
  | .hbm, ⟨27, _⟩ => ⟨S2048x417, .f32⟩
  | .hbm, ⟨28, _⟩ => ⟨S2048x417, .f32⟩
  | .hbm, ⟨29, _⟩ => ⟨S2048x417, .f32⟩
  | .hbm, ⟨30, _⟩ => ⟨S_, .f32⟩
  | .hbm, ⟨31, _⟩ => ⟨S2048x417, .f32⟩
  | .hbm, ⟨32, _⟩ => ⟨S2048x417, .f32⟩
  | .hbm, ⟨33, _⟩ => ⟨S2048x417, .f32⟩
  | .hbm, ⟨34, _⟩ => ⟨S_, .f32⟩
  | .hbm, ⟨35, _⟩ => ⟨S2048x417, .f32⟩
  | .hbm, ⟨36, _⟩ => ⟨S2048x417, .f32⟩
  | .hbm, ⟨37, _⟩ => ⟨S2048x417, .f32⟩
  | .hbm, ⟨38, _⟩ => ⟨S_, .f32⟩
  | .hbm, ⟨39, _⟩ => ⟨S2048x417, .f32⟩
  | .hbm, ⟨40, _⟩ => ⟨S2048x417, .f32⟩
  | _, _ => ⟨S2x1024x417, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel14.lean ====
abbrev S2x4x192 : Shape := ⟨3, ![2, 4, 192]⟩
abbrev S8x192 : Shape := ⟨2, ![8, 192]⟩

abbrev nBuf : Space → Nat
  | .hbm => 11
  | .vmem => 7
  | .smem => 0
  | _ => 0

abbrev bufTy : (tb : Table) → Fin (tcTables nBuf tb) → BufTy
  | .hbm, ⟨0, _⟩ => ⟨S2x4x192, .f32⟩
  | .hbm, ⟨1, _⟩ => ⟨S2x4x192, .f32⟩
  | .hbm, ⟨2, _⟩ => ⟨S2x4x192, .f32⟩
  | .hbm, ⟨3, _⟩ => ⟨S2x4x192, .f32⟩
  | .hbm, ⟨4, _⟩ => ⟨S8x192, .f32⟩
  | .hbm, ⟨5, _⟩ => ⟨S8x192, .f32⟩
  | .hbm, ⟨6, _⟩ => ⟨S8x192, .f32⟩
  | .hbm, ⟨7, _⟩ => ⟨S8x192, .f32⟩
  | .hbm, ⟨8, _⟩ => ⟨S8x192, .f32⟩
  | .hbm, ⟨9, _⟩ => ⟨S8x192, .f32⟩
  | .hbm, ⟨10, _⟩ => ⟨S8x192, .f32⟩
  | .local _ .vmem, ⟨0, _⟩ => ⟨S8x192, .f32⟩
  | .local _ .vmem, ⟨1, _⟩ => ⟨S8x192, .f32⟩
  | .local _ .vmem, ⟨2, _⟩ => ⟨S8x192, .f32⟩
  | .local _ .vmem, ⟨3, _⟩ => ⟨S8x192, .f32⟩
  | .local _ .vmem, ⟨4, _⟩ => ⟨S8x192, .f32⟩
  | .local _ .vmem, ⟨5, _⟩ => ⟨S8x192, .f32⟩
  | .local _ .vmem, ⟨6, _⟩ => ⟨S8x192, .f32⟩
  | _, _ => ⟨S2x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S2x4x192 : Shape := ⟨3, ![2, 4, 192]⟩
abbrev S8x192 : Shape := ⟨2, ![8, 192]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x4x192, .f32⟩
  | .hbm, ⟨1, _⟩ => ⟨S2x4x192, .f32⟩
  | .hbm, ⟨2, _⟩ => ⟨S2x4x192, .f32⟩
  | .hbm, ⟨3, _⟩ => ⟨S2x4x192, .f32⟩
  | .hbm, ⟨4, _⟩ => ⟨S8x192, .f32⟩
  | .hbm, ⟨5, _⟩ => ⟨S8x192, .f32⟩
  | .hbm, ⟨6, _⟩ => ⟨S8x192, .f32⟩
  | .hbm, ⟨7, _⟩ => ⟨S8x192, .f32⟩
  | .hbm, ⟨8, _⟩ => ⟨S_, .f32⟩
  | .hbm, ⟨9, _⟩ => ⟨S8x192, .f32⟩
  | .hbm, ⟨10, _⟩ => ⟨S8x192, .f32⟩
  | .hbm, ⟨11, _⟩ => ⟨S_, .f32⟩
  | .hbm, ⟨12, _⟩ => ⟨S8x192, .f32⟩
  | .hbm, ⟨13, _⟩ => ⟨S8x192, .f32⟩
  | .hbm, ⟨14, _⟩ => ⟨S8x192, .f32⟩
  | .hbm, ⟨15, _⟩ => ⟨S_, .f32⟩
  | .hbm, ⟨16, _⟩ => ⟨S8x192, .f32⟩
  | .hbm, ⟨17, _⟩ => ⟨S8x192, .f32⟩
  | .hbm, ⟨18, _⟩ => ⟨S8x192, .f32⟩
  | .hbm, ⟨19, _⟩ => ⟨S_, .f32⟩
  | .hbm, ⟨20, _⟩ => ⟨S8x192, .f32⟩
  | .hbm, ⟨21, _⟩ => ⟨S8x192, .f32⟩
  | .hbm, ⟨22, _⟩ => ⟨S8x192, .f32⟩
  | .hbm, ⟨23, _⟩ => ⟨S_, .f32⟩
  | .hbm, ⟨24, _⟩ => ⟨S8x192, .f32⟩
  | .hbm, ⟨25, _⟩ => ⟨S8x192, .f32⟩
  | .hbm, ⟨26, _⟩ => ⟨S_, .f32⟩
  | .hbm, ⟨27, _⟩ => ⟨S8x192, .f32⟩
  | .hbm, ⟨28, _⟩ => ⟨S8x192, .f32⟩
  | .hbm, ⟨29, _⟩ => ⟨S8x192, .f32⟩
  | .hbm, ⟨30, _⟩ => ⟨S_, .f32⟩
  | .hbm, ⟨31, _⟩ => ⟨S8x192, .f32⟩
  | .hbm, ⟨32, _⟩ => ⟨S8x192, .f32⟩
  | .hbm, ⟨33, _⟩ => ⟨S8x192, .f32⟩
  | .hbm, ⟨34, _⟩ => ⟨S_, .f32⟩
  | .hbm, ⟨35, _⟩ => ⟨S8x192, .f32⟩
  | .hbm, ⟨36, _⟩ => ⟨S8x192, .f32⟩
  | .hbm, ⟨37, _⟩ => ⟨S8x192, .f32⟩
  | .hbm, ⟨38, _⟩ => ⟨S_, .f32⟩
  | .hbm, ⟨39, _⟩ => ⟨S8x192, .f32⟩
  | .hbm, ⟨40, _⟩ => ⟨S8x192, .f32⟩
  | _, _ => ⟨S2x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel15.lean ====
abbrev S2x4 : Shape := ⟨2, ![2, 4]⟩

abbrev nBuf : Space → Nat
  | .hbm => 7
  | .vmem => 7
  | .smem => 0
  | _ => 0

abbrev bufTy : (tb : Table) → Fin (tcTables nBuf tb) → BufTy
  | .hbm, ⟨0, _⟩ => ⟨S2x4, .f32⟩
  | .hbm, ⟨1, _⟩ => ⟨S2x4, .f32⟩
  | .hbm, ⟨2, _⟩ => ⟨S2x4, .f32⟩
  | .hbm, ⟨3, _⟩ => ⟨S2x4, .f32⟩
  | .hbm, ⟨4, _⟩ => ⟨S2x4, .f32⟩
  | .hbm, ⟨5, _⟩ => ⟨S2x4, .f32⟩
  | .hbm, ⟨6, _⟩ => ⟨S2x4, .f32⟩
  | .local _ .vmem, ⟨0, _⟩ => ⟨S2x4, .f32⟩
  | .local _ .vmem, ⟨1, _⟩ => ⟨S2x4, .f32⟩
  | .local _ .vmem, ⟨2, _⟩ => ⟨S2x4, .f32⟩
  | .local _ .vmem, ⟨3, _⟩ => ⟨S2x4, .f32⟩
  | .local _ .vmem, ⟨4, _⟩ => ⟨S2x4, .f32⟩
  | .local _ .vmem, ⟨5, _⟩ => ⟨S2x4, .f32⟩
  | .local _ .vmem, ⟨6, _⟩ => ⟨S2x4, .f32⟩
  | _, _ => ⟨S2x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference15Ideal.lean ====
abbrev S2x4 : Shape := ⟨2, ![2, 4]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x4, .f32⟩
  | .hbm, ⟨1, _⟩ => ⟨S2x4, .f32⟩
  | .hbm, ⟨2, _⟩ => ⟨S2x4, .f32⟩
  | .hbm, ⟨3, _⟩ => ⟨S2x4, .f32⟩
  | .hbm, ⟨4, _⟩ => ⟨S_, .f32⟩
  | .hbm, ⟨5, _⟩ => ⟨S2x4, .f32⟩
  | .hbm, ⟨6, _⟩ => ⟨S2x4, .f32⟩
  | .hbm, ⟨7, _⟩ => ⟨S_, .f32⟩
  | .hbm, ⟨8, _⟩ => ⟨S2x4, .f32⟩
  | .hbm, ⟨9, _⟩ => ⟨S2x4, .f32⟩
  | .hbm, ⟨10, _⟩ => ⟨S2x4, .f32⟩
  | .hbm, ⟨11, _⟩ => ⟨S_, .f32⟩
  | .hbm, ⟨12, _⟩ => ⟨S2x4, .f32⟩
  | .hbm, ⟨13, _⟩ => ⟨S2x4, .f32⟩
  | .hbm, ⟨14, _⟩ => ⟨S2x4, .f32⟩
  | .hbm, ⟨15, _⟩ => ⟨S_, .f32⟩
  | .hbm, ⟨16, _⟩ => ⟨S2x4, .f32⟩
  | .hbm, ⟨17, _⟩ => ⟨S2x4, .f32⟩
  | .hbm, ⟨18, _⟩ => ⟨S2x4, .f32⟩
  | .hbm, ⟨19, _⟩ => ⟨S_, .f32⟩
  | .hbm, ⟨20, _⟩ => ⟨S2x4, .f32⟩
  | .hbm, ⟨21, _⟩ => ⟨S2x4, .f32⟩
  | .hbm, ⟨22, _⟩ => ⟨S_, .f32⟩
  | .hbm, ⟨23, _⟩ => ⟨S2x4, .f32⟩
  | .hbm, ⟨24, _⟩ => ⟨S2x4, .f32⟩
  | .hbm, ⟨25, _⟩ => ⟨S2x4, .f32⟩
  | .hbm, ⟨26, _⟩ => ⟨S_, .f32⟩
  | .hbm, ⟨27, _⟩ => ⟨S2x4, .f32⟩
  | .hbm, ⟨28, _⟩ => ⟨S2x4, .f32⟩
  | .hbm, ⟨29, _⟩ => ⟨S2x4, .f32⟩
  | .hbm, ⟨30, _⟩ => ⟨S_, .f32⟩
  | .hbm, ⟨31, _⟩ => ⟨S2x4, .f32⟩
  | .hbm, ⟨32, _⟩ => ⟨S2x4, .f32⟩
  | .hbm, ⟨33, _⟩ => ⟨S2x4, .f32⟩
  | .hbm, ⟨34, _⟩ => ⟨S_, .f32⟩
  | .hbm, ⟨35, _⟩ => ⟨S2x4, .f32⟩
  | .hbm, ⟨36, _⟩ => ⟨S2x4, .f32⟩
  | _, _ => ⟨S2x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S2x128 : Shape := ⟨2, ![2, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S2x128 : Shape := ⟨2, ![2, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S_, .f32⟩
  | .hbm, ⟨5, _⟩ => ⟨S2x128, .f32⟩
  | .hbm, ⟨6, _⟩ => ⟨S2x128, .f32⟩
  | .hbm, ⟨7, _⟩ => ⟨S_, .f32⟩
  | .hbm, ⟨8, _⟩ => ⟨S2x128, .f32⟩
  | .hbm, ⟨9, _⟩ => ⟨S2x128, .f32⟩
  | .hbm, ⟨10, _⟩ => ⟨S2x128, .f32⟩
  | .hbm, ⟨11, _⟩ => ⟨S_, .f32⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S_, .f32⟩
  | .hbm, ⟨16, _⟩ => ⟨S2x128, .f32⟩
  | .hbm, ⟨17, _⟩ => ⟨S2x128, .f32⟩
  | .hbm, ⟨18, _⟩ => ⟨S2x128, .f32⟩
  | .hbm, ⟨19, _⟩ => ⟨S_, .f32⟩
  | .hbm, ⟨20, _⟩ => ⟨S2x128, .f32⟩
  | .hbm, ⟨21, _⟩ => ⟨S2x128, .f32⟩
  | .hbm, ⟨22, _⟩ => ⟨S_, .f32⟩
  | .hbm, ⟨23, _⟩ => ⟨S2x128, .f32⟩
  | .hbm, ⟨24, _⟩ => ⟨S2x128, .f32⟩
  | .hbm, ⟨25, _⟩ => ⟨S2x128, .f32⟩
  | .hbm, ⟨26, _⟩ => ⟨S_, .f32⟩
  | .hbm, ⟨27, _⟩ => ⟨S2x128, .f32⟩
  | .hbm, ⟨28, _⟩ => ⟨S2x128, .f32⟩
  | .hbm, ⟨29, _⟩ => ⟨S2x128, .f32⟩
  | .hbm, ⟨30, _⟩ => ⟨S_, .f32⟩
  | .hbm, ⟨31, _⟩ => ⟨S2x128, .f32⟩
  | .hbm, ⟨32, _⟩ => ⟨S2x128, .f32⟩
  | .hbm, ⟨33, _⟩ => ⟨S2x128, .f32⟩
  | .hbm, ⟨34, _⟩ => ⟨S_, .f32⟩
  | .hbm, ⟨35, _⟩ => ⟨S2x128, .f32⟩
  | .hbm, ⟨36, _⟩ => ⟨S2x128, .f32⟩
  | _, _ => ⟨S2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S2x64 : Shape := ⟨2, ![2, 64]⟩

abbrev nBuf : Space → Nat
  | .hbm => 7
  | .vmem => 7
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference17Ideal.lean ====
abbrev S2x64 : Shape := ⟨2, ![2, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S_, .f32⟩
  | .hbm, ⟨5, _⟩ => ⟨S2x64, .f32⟩
  | .hbm, ⟨6, _⟩ => ⟨S2x64, .f32⟩
  | .hbm, ⟨7, _⟩ => ⟨S_, .f32⟩
  | .hbm, ⟨8, _⟩ => ⟨S2x64, .f32⟩
  | .hbm, ⟨9, _⟩ => ⟨S2x64, .f32⟩
  | .hbm, ⟨10, _⟩ => ⟨S2x64, .f32⟩
  | .hbm, ⟨11, _⟩ => ⟨S_, .f32⟩
  | .hbm, ⟨12, _⟩ => ⟨S2x64, .f32⟩
  | .hbm, ⟨13, _⟩ => ⟨S2x64, .f32⟩
  | .hbm, ⟨14, _⟩ => ⟨S2x64, .f32⟩
  | .hbm, ⟨15, _⟩ => ⟨S_, .f32⟩
  | .hbm, ⟨16, _⟩ => ⟨S2x64, .f32⟩
  | .hbm, ⟨17, _⟩ => ⟨S2x64, .f32⟩
  | .hbm, ⟨18, _⟩ => ⟨S2x64, .f32⟩
  | .hbm, ⟨19, _⟩ => ⟨S_, .f32⟩
  | .hbm, ⟨20, _⟩ => ⟨S2x64, .f32⟩
  | .hbm, ⟨21, _⟩ => ⟨S2x64, .f32⟩
  | .hbm, ⟨22, _⟩ => ⟨S_, .f32⟩
  | .hbm, ⟨23, _⟩ => ⟨S2x64, .f32⟩
  | .hbm, ⟨24, _⟩ => ⟨S2x64, .f32⟩
  | .hbm, ⟨25, _⟩ => ⟨S2x64, .f32⟩
  | .hbm, ⟨26, _⟩ => ⟨S_, .f32⟩
  | .hbm, ⟨27, _⟩ => ⟨S2x64, .f32⟩
  | .hbm, ⟨28, _⟩ => ⟨S2x64, .f32⟩
  | .hbm, ⟨29, _⟩ => ⟨S2x64, .f32⟩
  | .hbm, ⟨30, _⟩ => ⟨S_, .f32⟩
  | .hbm, ⟨31, _⟩ => ⟨S2x64, .f32⟩
  | .hbm, ⟨32, _⟩ => ⟨S2x64, .f32⟩
  | .hbm, ⟨33, _⟩ => ⟨S2x64, .f32⟩
  | .hbm, ⟨34, _⟩ => ⟨S_, .f32⟩
  | .hbm, ⟨35, _⟩ => ⟨S2x64, .f32⟩
  | .hbm, ⟨36, _⟩ => ⟨S2x64, .f32⟩
  | _, _ => ⟨S2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference18Ideal.lean ====
abbrev S2x256 : Shape := ⟨2, ![2, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S_, .f32⟩
  | .hbm, ⟨5, _⟩ => ⟨S2x256, .f32⟩
  | .hbm, ⟨6, _⟩ => ⟨S2x256, .f32⟩
  | .hbm, ⟨7, _⟩ => ⟨S_, .f32⟩
  | .hbm, ⟨8, _⟩ => ⟨S2x256, .f32⟩
  | .hbm, ⟨9, _⟩ => ⟨S2x256, .f32⟩
  | .hbm, ⟨10, _⟩ => ⟨S2x256, .f32⟩
  | .hbm, ⟨11, _⟩ => ⟨S_, .f32⟩
  | .hbm, ⟨12, _⟩ => ⟨S2x256, .f32⟩
  | .hbm, ⟨13, _⟩ => ⟨S2x256, .f32⟩
  | .hbm, ⟨14, _⟩ => ⟨S2x256, .f32⟩
  | .hbm, ⟨15, _⟩ => ⟨S_, .f32⟩
  | .hbm, ⟨16, _⟩ => ⟨S2x256, .f32⟩
  | .hbm, ⟨17, _⟩ => ⟨S2x256, .f32⟩
  | .hbm, ⟨18, _⟩ => ⟨S2x256, .f32⟩
  | .hbm, ⟨19, _⟩ => ⟨S_, .f32⟩
  | .hbm, ⟨20, _⟩ => ⟨S2x256, .f32⟩
  | .hbm, ⟨21, _⟩ => ⟨S2x256, .f32⟩
  | .hbm, ⟨22, _⟩ => ⟨S_, .f32⟩
  | .hbm, ⟨23, _⟩ => ⟨S2x256, .f32⟩
  | .hbm, ⟨24, _⟩ => ⟨S2x256, .f32⟩
  | .hbm, ⟨25, _⟩ => ⟨S2x256, .f32⟩
  | .hbm, ⟨26, _⟩ => ⟨S_, .f32⟩
  | .hbm, ⟨27, _⟩ => ⟨S2x256, .f32⟩
  | .hbm, ⟨28, _⟩ => ⟨S2x256, .f32⟩
  | .hbm, ⟨29, _⟩ => ⟨S2x256, .f32⟩
  | .hbm, ⟨30, _⟩ => ⟨S_, .f32⟩
  | .hbm, ⟨31, _⟩ => ⟨S2x256, .f32⟩
  | .hbm, ⟨32, _⟩ => ⟨S2x256, .f32⟩
  | .hbm, ⟨33, _⟩ => ⟨S2x256, .f32⟩
  | .hbm, ⟨34, _⟩ => ⟨S_, .f32⟩
  | .hbm, ⟨35, _⟩ => ⟨S2x256, .f32⟩
  | .hbm, ⟨36, _⟩ => ⟨S2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S2x4x128x128 : Shape := ⟨4, ![2, 4, 128, 128]⟩
abbrev S1024x128 : Shape := ⟨2, ![1024, 128]⟩
abbrev S512x128 : Shape := ⟨2, ![512, 128]⟩

abbrev nBuf : Space → Nat
  | .hbm => 11
  | .vmem => 14
  | .smem => 0
  | _ => 0

abbrev bufTy : (tb : Table) → Fin (tcTables nBuf tb) → BufTy
  | .hbm, ⟨0, _⟩ => ⟨S2x4x128x128, .f32⟩
  | .hbm, ⟨1, _⟩ => ⟨S2x4x128x128, .f32⟩
  | .hbm, ⟨2, _⟩ => ⟨S2x4x128x128, .f32⟩
  | .hbm, ⟨3, _⟩ => ⟨S2x4x128x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S2x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S2x4x128x128 : Shape := ⟨4, ![2, 4, 128, 128]⟩
abbrev S1024x128 : Shape := ⟨2, ![1024, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x4x128x128, .f32⟩
  | .hbm, ⟨1, _⟩ => ⟨S2x4x128x128, .f32⟩
  | .hbm, ⟨2, _⟩ => ⟨S2x4x128x128, .f32⟩
  | .hbm, ⟨3, _⟩ => ⟨S2x4x128x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S_, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S1024x128, .f32⟩
  | .hbm, ⟨23, _⟩ => ⟨S_, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | .hbm, ⟨37, _⟩ => ⟨S1024x128, .f32⟩
  | .hbm, ⟨38, _⟩ => ⟨S_, .f32⟩
  | .hbm, ⟨39, _⟩ => ⟨S1024x128, .f32⟩
  | .hbm, ⟨40, _⟩ => ⟨S1024x128, .f32⟩
  | _, _ => ⟨S2x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel20.lean ====
abbrev S2x4x128 : Shape := ⟨3, ![2, 4, 128]⟩
abbrev S8x128 : Shape := ⟨2, ![8, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x4x128, .f32⟩
  | .hbm, ⟨1, _⟩ => ⟨S2x4x128, .f32⟩
  | .hbm, ⟨2, _⟩ => ⟨S2x4x128, .f32⟩
  | .hbm, ⟨3, _⟩ => ⟨S2x4x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S8x128, .f32⟩
  | .hbm, ⟨10, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S2x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference20Ideal.lean ====
abbrev S2x4x128 : Shape := ⟨3, ![2, 4, 128]⟩
abbrev S8x128 : Shape := ⟨2, ![8, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x4x128, .f32⟩
  | .hbm, ⟨1, _⟩ => ⟨S2x4x128, .f32⟩
  | .hbm, ⟨2, _⟩ => ⟨S2x4x128, .f32⟩
  | .hbm, ⟨3, _⟩ => ⟨S2x4x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S_, .f32⟩
  | .hbm, ⟨9, _⟩ => ⟨S8x128, .f32⟩
  | .hbm, ⟨10, _⟩ => ⟨S8x128, .f32⟩
  | .hbm, ⟨11, _⟩ => ⟨S_, .f32⟩
  | .hbm, ⟨12, _⟩ => ⟨S8x128, .f32⟩
  | .hbm, ⟨13, _⟩ => ⟨S8x128, .f32⟩
  | .hbm, ⟨14, _⟩ => ⟨S8x128, .f32⟩
  | .hbm, ⟨15, _⟩ => ⟨S_, .f32⟩
  | .hbm, ⟨16, _⟩ => ⟨S8x128, .f32⟩
  | .hbm, ⟨17, _⟩ => ⟨S8x128, .f32⟩
  | .hbm, ⟨18, _⟩ => ⟨S8x128, .f32⟩
  | .hbm, ⟨19, _⟩ => ⟨S_, .f32⟩
  | .hbm, ⟨20, _⟩ => ⟨S8x128, .f32⟩
  | .hbm, ⟨21, _⟩ => ⟨S8x128, .f32⟩
  | .hbm, ⟨22, _⟩ => ⟨S8x128, .f32⟩
  | .hbm, ⟨23, _⟩ => ⟨S_, .f32⟩
  | .hbm, ⟨24, _⟩ => ⟨S8x128, .f32⟩
  | .hbm, ⟨25, _⟩ => ⟨S8x128, .f32⟩
  | .hbm, ⟨26, _⟩ => ⟨S_, .f32⟩
  | .hbm, ⟨27, _⟩ => ⟨S8x128, .f32⟩
  | .hbm, ⟨28, _⟩ => ⟨S8x128, .f32⟩
  | .hbm, ⟨29, _⟩ => ⟨S8x128, .f32⟩
  | .hbm, ⟨30, _⟩ => ⟨S_, .f32⟩
  | .hbm, ⟨31, _⟩ => ⟨S8x128, .f32⟩
  | .hbm, ⟨32, _⟩ => ⟨S8x128, .f32⟩
  | .hbm, ⟨33, _⟩ => ⟨S8x128, .f32⟩
  | .hbm, ⟨34, _⟩ => ⟨S_, .f32⟩
  | .hbm, ⟨35, _⟩ => ⟨S8x128, .f32⟩
  | .hbm, ⟨36, _⟩ => ⟨S8x128, .f32⟩
  | .hbm, ⟨37, _⟩ => ⟨S8x128, .f32⟩
  | .hbm, ⟨38, _⟩ => ⟨S_, .f32⟩
  | .hbm, ⟨39, _⟩ => ⟨S8x128, .f32⟩
  | .hbm, ⟨40, _⟩ => ⟨S8x128, .f32⟩
  | _, _ => ⟨S2x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel21.lean ====
abbrev S2x128x1024 : Shape := ⟨3, ![2, 128, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference21Ideal.lean ====
abbrev S2x128x1024 : Shape := ⟨3, ![2, 128, 1024]⟩
abbrev S256x1024 : Shape := ⟨2, ![256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel22.lean ====
abbrev S2x1024x512 : Shape := ⟨3, ![2, 1024, 512]⟩
abbrev S2048x512 : Shape := ⟨2, ![2048, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S2x1024x512 : Shape := ⟨3, ![2, 1024, 512]⟩
abbrev S2048x512 : Shape := ⟨2, ![2048, 512]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S_, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S_, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S_, .f32⟩
  | .hbm, ⟨39, _⟩ => ⟨S2048x512, .f32⟩
  | .hbm, ⟨40, _⟩ => ⟨S2048x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel23.lean ====
abbrev S2x512x1024 : Shape := ⟨3, ![2, 512, 1024]⟩
abbrev S1024x1024 : Shape := ⟨2, ![1024, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S2x512x1024 : Shape := ⟨3, ![2, 512, 1024]⟩
abbrev S1024x1024 : Shape := ⟨2, ![1024, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S_, .f32⟩
  | .hbm, ⟨39, _⟩ => ⟨S1024x1024, .f32⟩
  | .hbm, ⟨40, _⟩ => ⟨S1024x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel24.lean ====
abbrev S4096x1024 : Shape := ⟨2, ![4096, 1024]⟩
abbrev S1x128 : Shape := ⟨2, ![1, 128]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x128, .f32⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x128, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference24Ideal.lean ====
abbrev S4096x1024 : Shape := ⟨2, ![4096, 1024]⟩
abbrev S_ : Shape := ⟨0, ![]⟩
abbrev S4096 : Shape := ⟨1, ![4096]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel.lean ====
abbrev S4096x512 : Shape := ⟨2, ![4096, 512]⟩
abbrev S4096x1024 : Shape := ⟨2, ![4096, 1024]⟩
abbrev S256 : Shape := ⟨1, ![256]⟩
abbrev S4x128x128 : Shape := ⟨3, ![4, 128, 128]⟩
abbrev S4x128 : Shape := ⟨2, ![4, 128]⟩
abbrev S1x256 : Shape := ⟨2, ![1, 256]⟩
abbrev S128x4 : Shape := ⟨2, ![128, 4]⟩
abbrev S128x4x64 : Shape := ⟨3, ![128, 4, 64]⟩
abbrev S128x256 : Shape := ⟨2, ![128, 256]⟩
abbrev S128x128 : Shape := ⟨2, ![128, 128]⟩
abbrev S2048x256 : Shape := ⟨2, ![2048, 256]⟩
abbrev S1x128 : Shape := ⟨2, ![1, 128]⟩
abbrev S1x128x128 : Shape := ⟨3, ![1, 128, 128]⟩
abbrev S2048x128 : Shape := ⟨2, ![2048, 128]⟩
abbrev S2x128x128 : Shape := ⟨3, ![2, 128, 128]⟩
abbrev S128 : Shape := ⟨1, ![128]⟩
abbrev S128x1 : Shape := ⟨2, ![128, 1]⟩

abbrev nBuf : Space → Nat
  | .hbm => 13
  | .vmem => 19
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S1x256, .f32⟩
  | .hbm, ⟨6, _⟩ => ⟨S128x4, .f32⟩
  | .hbm, ⟨7, _⟩ => ⟨S128x4x64, .f32⟩
  | .hbm, ⟨8, _⟩ => ⟨S128x256, .f32⟩
  | .hbm, ⟨9, _⟩ => ⟨S4096x512, .f32⟩
  | .hbm, ⟨10, _⟩ => ⟨S1x256, .f32⟩
  | .hbm, ⟨11, _⟩ => ⟨S4x128x128, .f32⟩
  | .hbm, ⟨12, _⟩ => ⟨S128x128, .f32⟩
  | .local _ .vmem, ⟨0, _⟩ => ⟨S2048x256, .f32⟩
  | .local _ .vmem, ⟨1, _⟩ => ⟨S2048x256, .f32⟩
  | .local _ .vmem, ⟨2, _⟩ => ⟨S1x128, .f32⟩
  | .local _ .vmem, ⟨3, _⟩ => ⟨S1x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S128x128, .f32⟩
  | .local _ .vmem, ⟨9, _⟩ => ⟨S128x128, .f32⟩
  | .local _ .vmem, ⟨10, _⟩ => ⟨S2048x128, .f32⟩
  | .local _ .vmem, ⟨11, _⟩ => ⟨S2048x128, .f32⟩
  | .local _ .vmem, ⟨12, _⟩ => ⟨S2048x256, .f32⟩
  | .local _ .vmem, ⟨13, _⟩ => ⟨S2048x256, .f32⟩
  | .local _ .vmem, ⟨14, _⟩ => ⟨S1x128, .f32⟩
  | .local _ .vmem, ⟨15, _⟩ => ⟨S1x128, .f32⟩
  | .local _ .vmem, ⟨16, _⟩ => ⟨S2x128x128, .f32⟩
  | .local _ .vmem, ⟨17, _⟩ => ⟨S2x128x128, .f32⟩
  | .local _ .vmem, ⟨18, _⟩ => ⟨S128x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨2, ![2, 2], ![false, false]⟩

@[reducible] def k0_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32 : BitVec 32 := 128#32
  let v67 : BitVec 32 := Scalar.muli arg12 c128_i32
  v67
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v67 : BitVec 32 := Scalar.muli arg12 c128_i32
  let v68 : BitVec 32 := v67
  let v69 : Index := Scalar.indexCast v68
  let c0_33 : Index := 0#32
  ![v69.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v67 : BitVec 32 := Scalar.muli arg12 c128_i32
  let v68 : BitVec 32 := v67
  let v71 : Index := Scalar.indexCast v68
  let c128 : Index := 128#32
  ![v71.toNat, 128]
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v67 : BitVec 32 := Scalar.muli arg12 c128_i32
  let v68 : BitVec 32 := v67
  let v165 : Index := Scalar.indexCast v68
  let c0_69 : Index := 0#32
  ![v165.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== ReferenceIdeal.lean ====
abbrev S4096x512 : Shape := ⟨2, ![4096, 512]⟩
abbrev S4096x1024 : Shape := ⟨2, ![4096, 1024]⟩
abbrev S256 : Shape := ⟨1, ![256]⟩
abbrev S4x128x128 : Shape := ⟨3, ![4, 128, 128]⟩
abbrev S4x128 : Shape := ⟨2, ![4, 128]⟩
abbrev S4096x128 : Shape := ⟨2, ![4096, 128]⟩
abbrev S4096x256 : Shape := ⟨2, ![4096, 256]⟩
abbrev S2x2048x256 : Shape := ⟨3, ![2, 2048, 256]⟩
abbrev S_ : Shape := ⟨0, ![]⟩
abbrev S2x2048x4x64 : Shape := ⟨4, ![2, 2048, 4, 64]⟩
abbrev S4x64 : Shape := ⟨2, ![4, 64]⟩
abbrev S2x2048x4 : Shape := ⟨3, ![2, 2048, 4]⟩
abbrev S2x2048x4x1 : Shape := ⟨4, ![2, 2048, 4, 1]⟩
abbrev S1x1x4x64 : Shape := ⟨4, ![1, 1, 4, 64]⟩
abbrev S2x16x128x4x64 : Shape := ⟨5, ![2, 16, 128, 4, 64]⟩
abbrev S128x128 : Shape := ⟨2, ![128, 128]⟩
abbrev S4x2x16x64x128 : Shape := ⟨5, ![4, 2, 16, 64, 128]⟩
abbrev S128x4 : Shape := ⟨2, ![128, 4]⟩
abbrev S1x1x128x4x1 : Shape := ⟨5, ![1, 1, 128, 4, 1]⟩
abbrev S1x256 : Shape := ⟨2, ![1, 256]⟩

abbrev nBuf : Space → Nat
  | .hbm => 206
  | .vmem => 0
  | .smem => 0
  | _ => 0

abbrev hbmTy0_0 (i : Nat) : BufTy := match i % 128 with
  | 0 => ⟨S4096x512, .f32⟩
  | 1 => ⟨S4096x1024, .f32⟩
  | 2 => ⟨S256, .f32⟩
  | 3 => ⟨S4x128x128, .f32⟩
  | 4 => ⟨S4x128, .f32⟩
  | 5 => ⟨S4096x128, .f32⟩
  | 6 => ⟨S4096x128, .f32⟩
  | 7 => ⟨S4096x256, .f32⟩
  | 8 => ⟨S2x2048x256, .f32⟩
  | 9 => ⟨S4096x128, .f32⟩
  | 10 => ⟨S4096x128, .f32⟩
  | 11 => ⟨S4096x256, .f32⟩
  | 12 => ⟨S2x2048x256, .f32⟩
  | 13 => ⟨S4096x256, .f32⟩
  | 14 => ⟨S2x2048x256, .f32⟩
  | 15 => ⟨S2x2048x256, .f32⟩
  | 16 => ⟨S2x2048x256, .f32⟩
  | 17 => ⟨S2x2048x256, .f32⟩
  | 18 => ⟨S_, .f32⟩
  | 19 => ⟨S2x2048x256, .f32⟩
  | 20 => ⟨S2x2048x256, .f32⟩
  | 21 => ⟨S_, .f32⟩
  | 22 => ⟨S2x2048x256, .f32⟩
  | 23 => ⟨S2x2048x256, .f32⟩
  | 24 => ⟨S2x2048x256, .f32⟩
  | 25 => ⟨S_, .f32⟩
  | 26 => ⟨S2x2048x256, .f32⟩
  | 27 => ⟨S2x2048x256, .f32⟩
  | 28 => ⟨S2x2048x256, .f32⟩
  | 29 => ⟨S_, .f32⟩
  | 30 => ⟨S2x2048x256, .f32⟩
  | 31 => ⟨S2x2048x256, .f32⟩
  | 32 => ⟨S_, .f32⟩
  | 33 => ⟨S2x2048x256, .f32⟩
  | 34 => ⟨S2x2048x256, .f32⟩
  | 35 => ⟨S2x2048x256, .f32⟩
  | 36 => ⟨S_, .f32⟩
  | 37 => ⟨S2x2048x256, .f32⟩
  | 38 => ⟨S2x2048x256, .f32⟩
  | 39 => ⟨S_, .f32⟩
  | 40 => ⟨S2x2048x256, .f32⟩
  | 41 => ⟨S2x2048x256, .f32⟩
  | 42 => ⟨S2x2048x256, .f32⟩
  | 43 => ⟨S2x2048x256, .f32⟩
  | 44 => ⟨S2x2048x256, .f32⟩
  | 45 => ⟨S2x2048x256, .f32⟩
  | 46 => ⟨S_, .f32⟩
  | 47 => ⟨S2x2048x256, .f32⟩
  | 48 => ⟨S2x2048x256, .f32⟩
  | 49 => ⟨S_, .f32⟩
  | 50 => ⟨S2x2048x256, .f32⟩
  | 51 => ⟨S2x2048x256, .f32⟩
  | 52 => ⟨S2x2048x256, .f32⟩
  | 53 => ⟨S_, .f32⟩
  | 54 => ⟨S2x2048x256, .f32⟩
  | 55 => ⟨S2x2048x256, .f32⟩
  | 56 => ⟨S2x2048x256, .f32⟩
  | 57 => ⟨S_, .f32⟩
  | 58 => ⟨S2x2048x256, .f32⟩
  | 59 => ⟨S2x2048x256, .f32⟩
  | 60 => ⟨S_, .f32⟩
  | 61 => ⟨S2x2048x256, .f32⟩
  | 62 => ⟨S2x2048x256, .f32⟩
  | 63 => ⟨S2x2048x256, .f32⟩
  | 64 => ⟨S_, .f32⟩
  | 65 => ⟨S2x2048x256, .f32⟩
  | 66 => ⟨S2x2048x256, .f32⟩
  | 67 => ⟨S_, .f32⟩
  | 68 => ⟨S2x2048x256, .f32⟩
  | 69 => ⟨S2x2048x256, .f32⟩
  | 70 => ⟨S2x2048x256, .f32⟩
  | 71 => ⟨S2x2048x4x64, .f32⟩
  | 72 => ⟨S4x64, .f32⟩
  | 73 => ⟨S2x2048x4x64, .f32⟩
  | 74 => ⟨S_, .f32⟩
  | 75 => ⟨S2x2048x4, .f32⟩
  | 76 => ⟨S2x2048x4x1, .f32⟩
  | 77 => ⟨S_, .f32⟩
  | 78 => ⟨S2x2048x4x1, .f32⟩
  | 79 => ⟨S2x2048x4x1, .f32⟩
  | 80 => ⟨S_, .f32⟩
  | 81 => ⟨S2x2048x4x1, .f32⟩
  | 82 => ⟨S2x2048x4x1, .f32⟩
  | 83 => ⟨S2x2048x4x1, .f32⟩
  | 84 => ⟨S2x2048x4x1, .f32⟩
  | 85 => ⟨S_, .f32⟩
  | 86 => ⟨S2x2048x4x1, .f32⟩
  | 87 => ⟨S2x2048x4x1, .f32⟩
  | 88 => ⟨S2x2048x4x64, .f32⟩
  | 89 => ⟨S2x2048x4x64, .f32⟩
  | 90 => ⟨S1x1x4x64, .f32⟩
  | 91 => ⟨S2x2048x4x64, .f32⟩
  | 92 => ⟨S2x2048x4x64, .f32⟩
  | 93 => ⟨S2x16x128x4x64, .f32⟩
  | 94 => ⟨S_, .i1⟩
  | 95 => ⟨S128x128, .i1⟩
  | 96 => ⟨S128x128, .i32⟩
  | 97 => ⟨S_, .i32⟩
  | 98 => ⟨S128x128, .i32⟩
  | 99 => ⟨S128x128, .i32⟩
  | 100 => ⟨S128x128, .i32⟩
  | 101 => ⟨S128x128, .i1⟩
  | 102 => ⟨S_, .i1⟩
  | 103 => ⟨S128x128, .i1⟩
  | 104 => ⟨S128x128, .i1⟩
  | 105 => ⟨S_, .f32⟩
  | 106 => ⟨S_, .f32⟩
  | 107 => ⟨S4x128x128, .i1⟩
  | 108 => ⟨S4x128x128, .f32⟩
  | 109 => ⟨S4x128x128, .f32⟩
  | 110 => ⟨S_, .f32⟩
  | 111 => ⟨S4x128x128, .f32⟩
  | 112 => ⟨S4x2x16x64x128, .f32⟩
  | 113 => ⟨S2x16x128x4x64, .f32⟩
  | 114 => ⟨S128x4, .f32⟩
  | 115 => ⟨S1x1x128x4x1, .f32⟩
  | 116 => ⟨S2x16x128x4x64, .f32⟩
  | 117 => ⟨S2x16x128x4x64, .f32⟩
  | 118 => ⟨S2x2048x256, .f32⟩
  | 119 => ⟨S2x2048x256, .f32⟩
  | 120 => ⟨S2x2048x256, .f32⟩
  | 121 => ⟨S2x2048x256, .f32⟩
  | 122 => ⟨S2x16x128x4x64, .f32⟩
  | 123 => ⟨S_, .f32⟩
  | 124 => ⟨S128x4, .f32⟩
  | 125 => ⟨S1x1x128x4x1, .f32⟩
  | 126 => ⟨S_, .f32⟩
  | 127 => ⟨S128x4, .f32⟩
  | _ => ⟨S4096x512, .f32⟩

abbrev hbmTy0_1 (i : Nat) : BufTy := match i % 128 with
  | 0 => ⟨S4x128, .f32⟩
  | 1 => ⟨S4x2x16x64x128, .f32⟩
  | 2 => ⟨S4x128x128, .f32⟩
  | 3 => ⟨S4x2x16x64x128, .f32⟩
  | 4 => ⟨S2x16x128x4x64, .f32⟩
  | 5 => ⟨S_, .f32⟩
  | 6 => ⟨S4x128x128, .f32⟩
  | 7 => ⟨S4x128x128, .f32⟩
  | 8 => ⟨S2x2048x4x64, .f32⟩
  | 9 => ⟨S2x2048x4x64, .f32⟩
  | 10 => ⟨S_, .f32⟩
  | 11 => ⟨S4x64, .f32⟩
  | 12 => ⟨S1x1x4x64, .f32⟩
  | 13 => ⟨S2x2048x4x64, .f32⟩
  | 14 => ⟨S2x2048x4x64, .f32⟩
  | 15 => ⟨S_, .f32⟩
  | 16 => ⟨S4x64, .f32⟩
  | 17 => ⟨S2x2048x4x64, .f32⟩
  | 18 => ⟨S_, .f32⟩
  | 19 => ⟨S2x2048x4, .f32⟩
  | 20 => ⟨S2x2048x4x1, .f32⟩
  | 21 => ⟨S2x2048x4x64, .f32⟩
  | 22 => ⟨S2x2048x4x64, .f32⟩
  | 23 => ⟨S2x2048x4x1, .f32⟩
  | 24 => ⟨S_, .f32⟩
  | 25 => ⟨S2x2048x4x1, .f32⟩
  | 26 => ⟨S2x2048x4x1, .f32⟩
  | 27 => ⟨S_, .f32⟩
  | 28 => ⟨S2x2048x4, .f32⟩
  | 29 => ⟨S2x2048x4x64, .f32⟩
  | 30 => ⟨S2x2048x4x64, .f32⟩
  | 31 => ⟨S2x2048x4x64, .f32⟩
  | 32 => ⟨S2x2048x4x64, .f32⟩
  | 33 => ⟨S2x2048x4x64, .f32⟩
  | 34 => ⟨S256, .f32⟩
  | 35 => ⟨S2x2048x256, .f32⟩
  | 36 => ⟨S2x2048x256, .f32⟩
  | 37 => ⟨S2x2048x256, .f32⟩
  | 38 => ⟨S_, .f32⟩
  | 39 => ⟨S2x2048x256, .f32⟩
  | 40 => ⟨S2x2048x256, .f32⟩
  | 41 => ⟨S2x2048x256, .f32⟩
  | 42 => ⟨S_, .f32⟩
  | 43 => ⟨S2x2048x256, .f32⟩
  | 44 => ⟨S2x2048x256, .f32⟩
  | 45 => ⟨S2x2048x256, .f32⟩
  | 46 => ⟨S_, .f32⟩
  | 47 => ⟨S2x2048x256, .f32⟩
  | 48 => ⟨S2x2048x256, .f32⟩
  | 49 => ⟨S2x2048x256, .f32⟩
  | 50 => ⟨S2x2048x256, .f32⟩
  | 51 => ⟨S2x2048x256, .f32⟩
  | 52 => ⟨S2x2048x256, .f32⟩
  | 53 => ⟨S_, .f32⟩
  | 54 => ⟨S2x2048x256, .f32⟩
  | 55 => ⟨S2x2048x256, .f32⟩
  | 56 => ⟨S2x2048x256, .f32⟩
  | 57 => ⟨S_, .f32⟩
  | 58 => ⟨S2x2048x256, .f32⟩
  | 59 => ⟨S2x2048x256, .f32⟩
  | 60 => ⟨S2x2048x256, .f32⟩
  | 61 => ⟨S_, .f32⟩
  | 62 => ⟨S2x2048x256, .f32⟩
  | 63 => ⟨S2x2048x256, .f32⟩
  | 64 => ⟨S2x2048x256, .f32⟩
  | 65 => ⟨S2x2048x256, .f32⟩
  | 66 => ⟨S4096x256, .f32⟩
  | 67 => ⟨S4096x256, .f32⟩
  | 68 => ⟨S4096x128, .f32⟩
  | 69 => ⟨S4096x128, .f32⟩
  | 70 => ⟨S4096x128, .f32⟩
  | 71 => ⟨S4096x128, .f32⟩
  | 72 => ⟨S4096x512, .f32⟩
  | 73 => ⟨S1x256, .f32⟩
  | 74 => ⟨S128x4, .f32⟩
  | 75 => ⟨S_, .i32⟩
  | 76 => ⟨S_, .f32⟩
  | 77 => ⟨S128x128, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_13 : Ref sig .tc := ⟨.hbm, 74, rfl⟩
abbrev main_v55 : Ref sig .tc := ⟨.hbm, 75, rfl⟩
abbrev main_v56 : Ref sig .tc := ⟨.hbm, 76, rfl⟩
abbrev main_cst_14 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_16 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c : Ref sig .tc := ⟨.hbm, 94, rfl⟩
abbrev main_v71 : Ref sig .tc := ⟨.hbm, 95, rfl⟩
abbrev main_call0_v0 : Ref sig .tc := ⟨.hbm, 96, rfl⟩
abbrev main_call0_c : Ref sig .tc := ⟨.hbm, 97, rfl⟩
abbrev main_call0_v1 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_call0_c_0 : Ref sig .tc := ⟨.hbm, 102, rfl⟩
abbrev main_call0_v5 : Ref sig .tc := ⟨.hbm, 103, rfl⟩
abbrev main_v72 : Ref sig .tc := ⟨.hbm, 104, rfl⟩
abbrev main_cst_17 : Ref sig .tc := ⟨.hbm, 105, rfl⟩
abbrev main_call1_v0 : Ref sig .tc := ⟨.hbm, 106, rfl⟩
abbrev main_v73_1 : Ref sig .tc := ⟨.hbm, 107, rfl⟩
abbrev main_call1_v2 : Ref sig .tc := ⟨.hbm, 108, rfl⟩
abbrev main_v73_0 : Ref sig .tc := ⟨.hbm, 109, rfl⟩
abbrev main_call1_cst : Ref sig .tc := ⟨.hbm, 110, rfl⟩
abbrev main_v73_2 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_18 : Ref sig .tc := ⟨.hbm, 123, rfl⟩
abbrev main_v85 : Ref sig .tc := ⟨.hbm, 124, rfl⟩
abbrev main_v86 : Ref sig .tc := ⟨.hbm, 125, rfl⟩
abbrev main_cst_19 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_call2_cst : Ref sig .tc := ⟨.hbm, 133, rfl⟩
abbrev main_call2_v0 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_20 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_21 : Ref sig .tc := ⟨.hbm, 143, rfl⟩
abbrev main_v100 : Ref sig .tc := ⟨.hbm, 144, rfl⟩
abbrev main_v101 : Ref sig .tc := ⟨.hbm, 145, rfl⟩
abbrev main_cst_22 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_23 : Ref sig .tc := ⟨.hbm, 152, rfl⟩
abbrev main_v107 : Ref sig .tc := ⟨.hbm, 153, rfl⟩
abbrev main_v108 : Ref sig .tc := ⟨.hbm, 154, rfl⟩
abbrev main_cst_24 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_cst_25 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_26 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_27 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_28 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_cst_29 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_cst_30 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_c_31 : Ref sig .tc := ⟨.hbm, 203, rfl⟩
abbrev main_call3_v0 : Ref sig .tc := ⟨.hbm, 204, rfl⟩
abbrev main_v150 : Ref sig .tc := ⟨.hbm, 205, rfl⟩

abbrev nD : Nat := 1
abbrev τ : Topo := Topo.v7x

variable {F : FTy → Type} [FloatOps F]
-- ==== Kernel25.lean ====
abbrev S8x1176x128 : Shape := ⟨3, ![8, 1176, 128]⟩
abbrev S_ : Shape := ⟨0, ![]⟩
abbrev S1 : Shape := ⟨1, ![1]⟩
abbrev S8 : Shape := ⟨1, ![8]⟩
abbrev S1176x128 : Shape := ⟨2, ![1176, 128]⟩
abbrev S1x1176x128 : Shape := ⟨3, ![1, 1176, 128]⟩

abbrev nBuf : Space → Nat
  | .hbm => 18
  | .vmem => 9
  | .smem => 1
  | _ => 0

abbrev bufTy : (tb : Table) → Fin (tcTables nBuf tb) → BufTy
  | .hbm, ⟨0, _⟩ => ⟨S8x1176x128, .f32⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S1, .i32⟩
  | .hbm, ⟨12, _⟩ => ⟨S1, .i32⟩
  | .hbm, ⟨13, _⟩ => ⟨S1, .i32⟩
  | .hbm, ⟨14, _⟩ => ⟨S1, .i32⟩
  | .hbm, ⟨15, _⟩ => ⟨S1, .i32⟩
  | .hbm, ⟨16, _⟩ => ⟨S1, .i32⟩
  | .hbm, ⟨17, _⟩ => ⟨S1176x128, .f32⟩
  | .local _ .vmem, ⟨0, _⟩ => ⟨S1x1176x128, .f32⟩
  | .local _ .vmem, ⟨1, _⟩ => ⟨S1x1176x128, .f32⟩
  | .local _ .vmem, ⟨2, _⟩ => ⟨S1x1176x128, .f32⟩
  | .local _ .vmem, ⟨3, _⟩ => ⟨S1x1176x128, .f32⟩
  | .local _ .vmem, ⟨4, _⟩ => ⟨S1x1176x128, .f32⟩
  | .local _ .vmem, ⟨5, _⟩ => ⟨S1x1176x128, .f32⟩
  | .local _ .vmem, ⟨6, _⟩ => ⟨S1x1176x128, .f32⟩
  | .local _ .vmem, ⟨7, _⟩ => ⟨S1x1176x128, .f32⟩
  | .local _ .vmem, ⟨8, _⟩ => ⟨S1176x128, .f32⟩
  | .local _ .smem, ⟨0, _⟩ => ⟨S8, .i32⟩
  | _, _ => ⟨S8x1176x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_c_5 : Ref sig .tc := ⟨.hbm, 7, rfl⟩
abbrev main_c_6 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v9 : Ref sig .tc := ⟨.hbm, 17, rfl⟩
abbrev main_v8 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S8_S1_0 : ∀ a, (![0] : Fin 1 → Nat) a + S1.size a ≤ S8.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S8) ![0] S1.size inb_S8_S1_0) numel1_S1
  let c0_i32 : BitVec 32 := 0#32
  let c0_i32_0 : BitVec 32 := 0#32
  ![v0.toNat, arg0.toNat, c0_i32.toNat]

def cc0_transform_1 (inb_S8_S1_1 : ∀ a, (![1] : Fin 1 → Nat) a + S1.size a ≤ S8.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S8) ![1] S1.size inb_S8_S1_1) numel1_S1
  let c0_i32 : BitVec 32 := 0#32
  let c0_i32_0 : BitVec 32 := 0#32
  ![v0.toNat, arg0.toNat, c0_i32.toNat]

def cc0_transform_2 (inb_S8_S1_2 : ∀ a, (![2] : Fin 1 → Nat) a + S1.size a ≤ S8.size a) (numel1_S1 : S1.numel = 1) (pf : pre0.Contents (Elt F)) (i : grid0.Coords) : Fin 3 → Nat :=
  let arg0 : BitVec 32 := BitVec.ofNat 32 (i 0).val
  let c2 : Index := 2#32
  let v0 : BitVec 32 := pf.at 0 (Rect.unit (s := S8) ![2] S1.size inb_S8_S1_2) numel1_S1
  let c0_i32 : BitVec 32 := 0#32
  let c0_i32_0 : BitVec 32 := 0#32
  ![v0.toNat, arg0.toNat, c0_i32.toNat]

def cc0_transform_3 (inb_S8_S1_3 : ∀ a, (![3] : Fin 1 → Nat) a + S1.size a ≤ S8.size a) (numel1_S1 : S1.numel = 1) (pf : pre0.Contents (Elt F)) (i : grid0.Coords) : Fin 3 → Nat :=
  let arg0 : BitVec 32 := BitVec.ofNat 32 (i 0).val
  let c3 : Index := 3#32
  let v0 : BitVec 32 := pf.at 0 (Rect.unit (s := S8) ![3] S1.size inb_S8_S1_3) numel1_S1
  let c0_i32 : BitVec 32 := 0#32
  let c0_i32_0 : BitVec 32 := 0#32
  ![v0.toNat, arg0.toNat, c0_i32.toNat]

def cc0_transform_4 (inb_S8_S1_4 : ∀ a, (![4] : Fin 1 → Nat) a + S1.size a ≤ S8.size a) (numel1_S1 : S1.numel = 1) (pf : pre0.Contents (Elt F)) (i : grid0.Coords) : Fin 3 → Nat :=
  let arg0 : BitVec 32 := BitVec.ofNat 32 (i 0).val
  let c4 : Index := 4#32
  let v0 : BitVec 32 := pf.at 0 (Rect.unit (s := S8) ![4] S1.size inb_S8_S1_4) numel1_S1
  let c0_i32 : BitVec 32 := 0#32
  let c0_i32_0 : BitVec 32 := 0#32
  ![v0.toNat, arg0.toNat, c0_i32.toNat]

def cc0_transform_5 (inb_S8_S1_5 : ∀ a, (![5] : Fin 1 → Nat) a + S1.size a ≤ S8.size a) (numel1_S1 : S1.numel = 1) (pf : pre0.Contents (Elt F)) (i : grid0.Coords) : Fin 3 → Nat :=
  let arg0 : BitVec 32 := BitVec.ofNat 32 (i 0).val
  let c5 : Index := 5#32
  let v0 : BitVec 32 := pf.at 0 (Rect.unit (s := S8) ![5] S1.size inb_S8_S1_5) numel1_S1
  let c0_i32 : BitVec 32 := 0#32
  let c0_i32_0 : BitVec 32 := 0#32
  ![v0.toNat, arg0.toNat, c0_i32.toNat]

def cc0_transform_6 (inb_S8_S1_6 : ∀ a, (![6] : Fin 1 → Nat) a + S1.size a ≤ S8.size a) (numel1_S1 : S1.numel = 1) (pf : pre0.Contents (Elt F)) (i : grid0.Coords) : Fin 3 → Nat :=
  let arg0 : BitVec 32 := BitVec.ofNat 32 (i 0).val
  let c6 : Index := 6#32
  let v0 : BitVec 32 := pf.at 0 (Rect.unit (s := S8) ![6] S1.size inb_S8_S1_6) numel1_S1
  let c0_i32 : BitVec 32 := 0#32
  let c0_i32_0 : BitVec 32 := 0#32
  ![v0.toNat, arg0.toNat, c0_i32.toNat]

def cc0_transform_7 (inb_S8_S1_7 : ∀ a, (![7] : Fin 1 → Nat) a + S1.size a ≤ S8.size a) (numel1_S1 : S1.numel = 1) (pf : pre0.Contents (Elt F)) (i : grid0.Coords) : Fin 3 → Nat :=
  let arg0 : BitVec 32 := BitVec.ofNat 32 (i 0).val
  let c7 : Index := 7#32
  let v0 : BitVec 32 := pf.at 0 (Rect.unit (s := S8) ![7] S1.size inb_S8_S1_7) numel1_S1
  let c0_i32 : BitVec 32 := 0#32
  let c0_i32_0 : BitVec 32 := 0#32
  ![v0.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1176x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1176x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1176x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1176x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1176x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1176x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1176x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference25Ideal.lean ====
abbrev S8x1176x128 : Shape := ⟨3, ![8, 1176, 128]⟩
abbrev S_ : Shape := ⟨0, ![]⟩
abbrev S1176x128 : Shape := ⟨2, ![1176, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1176x128, .f32⟩
  | .hbm, ⟨1, _⟩ => ⟨S_, .f32⟩
  | .hbm, ⟨2, _⟩ => ⟨S1176x128, .f32⟩
  | _, _ => ⟨S8x1176x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel26.lean ====
abbrev S8x432x1024 : Shape := ⟨3, ![8, 432, 1024]⟩
abbrev S4x432x1024 : Shape := ⟨3, ![4, 432, 1024]⟩
abbrev S3x432x1024 : Shape := ⟨3, ![3, 432, 1024]⟩
abbrev S_ : Shape := ⟨0, ![]⟩
abbrev S1 : Shape := ⟨1, ![1]⟩
abbrev S2 : Shape := ⟨1, ![2]⟩
abbrev S432x1024 : Shape := ⟨2, ![432, 1024]⟩
abbrev S1x432x1024 : Shape := ⟨3, ![1, 432, 1024]⟩

abbrev nBuf : Space → Nat
  | .hbm => 8
  | .vmem => 6
  | .smem => 1
  | _ => 0

abbrev bufTy : (tb : Table) → Fin (tcTables nBuf tb) → BufTy
  | .hbm, ⟨0, _⟩ => ⟨S8x432x1024, .bf16⟩
  | .hbm, ⟨1, _⟩ => ⟨S4x432x1024, .bf16⟩
  | .hbm, ⟨2, _⟩ => ⟨S3x432x1024, .bf16⟩
  | .hbm, ⟨3, _⟩ => ⟨S_, .i32⟩
  | .hbm, ⟨4, _⟩ => ⟨S_, .i32⟩
  | .hbm, ⟨5, _⟩ => ⟨S1, .i32⟩
  | .hbm, ⟨6, _⟩ => ⟨S1, .i32⟩
  | .hbm, ⟨7, _⟩ => ⟨S432x1024, .f32⟩
  | .local _ .vmem, ⟨0, _⟩ => ⟨S1x432x1024, .bf16⟩
  | .local _ .vmem, ⟨1, _⟩ => ⟨S1x432x1024, .bf16⟩
  | .local _ .vmem, ⟨2, _⟩ => ⟨S1x432x1024, .bf16⟩
  | .local _ .vmem, ⟨3, _⟩ => ⟨S1x432x1024, .bf16⟩
  | .local _ .vmem, ⟨4, _⟩ => ⟨S1x432x1024, .bf16⟩
  | .local _ .vmem, ⟨5, _⟩ => ⟨S432x1024, .f32⟩
  | .local _ .smem, ⟨0, _⟩ => ⟨S2, .i32⟩
  | _, _ => ⟨S8x432x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v3 : Ref sig .tc := ⟨.hbm, 7, rfl⟩
abbrev main_v2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  let c0_i32_1 : BitVec 32 := 0#32
  ![v0.toNat, c0_i32.toNat, c0_i32_0.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x432x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x432x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x432x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x432x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x432x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S432x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference26Ideal.lean ====
abbrev S8x432x1024 : Shape := ⟨3, ![8, 432, 1024]⟩
abbrev S4x432x1024 : Shape := ⟨3, ![4, 432, 1024]⟩
abbrev S3x432x1024 : Shape := ⟨3, ![3, 432, 1024]⟩
abbrev S1x432x1024 : Shape := ⟨3, ![1, 432, 1024]⟩
abbrev S432x1024 : Shape := ⟨2, ![432, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8x432x1024, .bf16⟩
  | .hbm, ⟨1, _⟩ => ⟨S4x432x1024, .bf16⟩
  | .hbm, ⟨2, _⟩ => ⟨S3x432x1024, .bf16⟩
  | .hbm, ⟨3, _⟩ => ⟨S1x432x1024, .bf16⟩
  | .hbm, ⟨4, _⟩ => ⟨S432x1024, .bf16⟩
  | .hbm, ⟨5, _⟩ => ⟨S432x1024, .f32⟩
  | .hbm, ⟨6, _⟩ => ⟨S1x432x1024, .bf16⟩
  | .hbm, ⟨7, _⟩ => ⟨S432x1024, .bf16⟩
  | .hbm, ⟨8, _⟩ => ⟨S432x1024, .f32⟩
  | .hbm, ⟨9, _⟩ => ⟨S432x1024, .f32⟩
  | .hbm, ⟨10, _⟩ => ⟨S3x432x1024, .f32⟩
  | .hbm, ⟨11, _⟩ => ⟨S_, .f32⟩
  | .hbm, ⟨12, _⟩ => ⟨S432x1024, .f32⟩
  | .hbm, ⟨13, _⟩ => ⟨S432x1024, .f32⟩
  | _, _ => ⟨S8x432x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel27.lean ====
abbrev S8x432x1024 : Shape := ⟨3, ![8, 432, 1024]⟩
abbrev S8x128x1024 : Shape := ⟨3, ![8, 128, 1024]⟩
abbrev S8x1024x512 : Shape := ⟨3, ![8, 1024, 512]⟩
abbrev S8x512x1024 : Shape := ⟨3, ![8, 512, 1024]⟩
abbrev S4x432x1024 : Shape := ⟨3, ![4, 432, 1024]⟩
abbrev S4x128x1024 : Shape := ⟨3, ![4, 128, 1024]⟩
abbrev S4x1024x512 : Shape := ⟨3, ![4, 1024, 512]⟩
abbrev S4x512x1024 : Shape := ⟨3, ![4, 512, 1024]⟩
abbrev S3x432x1024 : Shape := ⟨3, ![3, 432, 1024]⟩
abbrev S3x128x1024 : Shape := ⟨3, ![3, 128, 1024]⟩
abbrev S3x1024x512 : Shape := ⟨3, ![3, 1024, 512]⟩
abbrev S3x512x1024 : Shape := ⟨3, ![3, 512, 1024]⟩
abbrev S_ : Shape := ⟨0, ![]⟩
abbrev S1 : Shape := ⟨1, ![1]⟩
abbrev S2 : Shape := ⟨1, ![2]⟩
abbrev S432x1024 : Shape := ⟨2, ![432, 1024]⟩
abbrev S128x1024 : Shape := ⟨2, ![128, 1024]⟩
abbrev S1024x512 : Shape := ⟨2, ![1024, 512]⟩
abbrev S512x1024 : Shape := ⟨2, ![512, 1024]⟩
abbrev S1x432x1024 : Shape := ⟨3, ![1, 432, 1024]⟩
abbrev S1x128x1024 : Shape := ⟨3, ![1, 128, 1024]⟩
abbrev S1x1024x512 : Shape := ⟨3, ![1, 1024, 512]⟩
abbrev S1x512x1024 : Shape := ⟨3, ![1, 512, 1024]⟩

abbrev nBuf : Space → Nat
  | .hbm => 20
  | .vmem => 24
  | .smem => 1
  | _ => 0

abbrev bufTy : (tb : Table) → Fin (tcTables nBuf tb) → BufTy
  | .hbm, ⟨0, _⟩ => ⟨S8x432x1024, .bf16⟩
  | .hbm, ⟨1, _⟩ => ⟨S8x128x1024, .bf16⟩
  | .hbm, ⟨2, _⟩ => ⟨S8x1024x512, .bf16⟩
  | .hbm, ⟨3, _⟩ => ⟨S8x512x1024, .bf16⟩
  | .hbm, ⟨4, _⟩ => ⟨S4x432x1024, .bf16⟩
  | .hbm, ⟨5, _⟩ => ⟨S4x128x1024, .bf16⟩
  | .hbm, ⟨6, _⟩ => ⟨S4x1024x512, .bf16⟩
  | .hbm, ⟨7, _⟩ => ⟨S4x512x1024, .bf16⟩
  | .hbm, ⟨8, _⟩ => ⟨S3x432x1024, .bf16⟩
  | .hbm, ⟨9, _⟩ => ⟨S3x128x1024, .bf16⟩
  | .hbm, ⟨10, _⟩ => ⟨S3x1024x512, .bf16⟩
  | .hbm, ⟨11, _⟩ => ⟨S3x512x1024, .bf16⟩
  | .hbm, ⟨12, _⟩ => ⟨S_, .i32⟩
  | .hbm, ⟨13, _⟩ => ⟨S_, .i32⟩
  | .hbm, ⟨14, _⟩ => ⟨S1, .i32⟩
  | .hbm, ⟨15, _⟩ => ⟨S1, .i32⟩
  | .hbm, ⟨16, _⟩ => ⟨S432x1024, .f32⟩
  | .hbm, ⟨17, _⟩ => ⟨S128x1024, .f32⟩
  | .hbm, ⟨18, _⟩ => ⟨S1024x512, .f32⟩
  | .hbm, ⟨19, _⟩ => ⟨S512x1024, .f32⟩
  | .local _ .vmem, ⟨0, _⟩ => ⟨S1x432x1024, .bf16⟩
  | .local _ .vmem, ⟨1, _⟩ => ⟨S1x128x1024, .bf16⟩
  | .local _ .vmem, ⟨2, _⟩ => ⟨S1x1024x512, .bf16⟩
  | .local _ .vmem, ⟨3, _⟩ => ⟨S1x512x1024, .bf16⟩
  | .local _ .vmem, ⟨4, _⟩ => ⟨S1x432x1024, .bf16⟩
  | .local _ .vmem, ⟨5, _⟩ => ⟨S1x128x1024, .bf16⟩
  | .local _ .vmem, ⟨6, _⟩ => ⟨S1x1024x512, .bf16⟩
  | .local _ .vmem, ⟨7, _⟩ => ⟨S1x512x1024, .bf16⟩
  | .local _ .vmem, ⟨8, _⟩ => ⟨S1x432x1024, .bf16⟩
  | .local _ .vmem, ⟨9, _⟩ => ⟨S1x128x1024, .bf16⟩
  | .local _ .vmem, ⟨10, _⟩ => ⟨S1x1024x512, .bf16⟩
  | .local _ .vmem, ⟨11, _⟩ => ⟨S1x512x1024, .bf16⟩
  | .local _ .vmem, ⟨12, _⟩ => ⟨S1x432x1024, .bf16⟩
  | .local _ .vmem, ⟨13, _⟩ => ⟨S1x128x1024, .bf16⟩
  | .local _ .vmem, ⟨14, _⟩ => ⟨S1x1024x512, .bf16⟩
  | .local _ .vmem, ⟨15, _⟩ => ⟨S1x512x1024, .bf16⟩
  | .local _ .vmem, ⟨16, _⟩ => ⟨S1x432x1024, .bf16⟩
  | .local _ .vmem, ⟨17, _⟩ => ⟨S1x128x1024, .bf16⟩
  | .local _ .vmem, ⟨18, _⟩ => ⟨S1x1024x512, .bf16⟩
  | .local _ .vmem, ⟨19, _⟩ => ⟨S1x512x1024, .bf16⟩
  | .local _ .vmem, ⟨20, _⟩ => ⟨S432x1024, .f32⟩
  | .local _ .vmem, ⟨21, _⟩ => ⟨S128x1024, .f32⟩
  | .local _ .vmem, ⟨22, _⟩ => ⟨S1024x512, .f32⟩
  | .local _ .vmem, ⟨23, _⟩ => ⟨S512x1024, .f32⟩
  | .local _ .smem, ⟨0, _⟩ => ⟨S2, .i32⟩
  | _, _ => ⟨S8x432x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_v0 : Ref sig .tc := ⟨.hbm, 14, rfl⟩
abbrev main_v1 : Ref sig .tc := ⟨.hbm, 15, rfl⟩
abbrev main_v3_0 : Ref sig .tc := ⟨.hbm, 16, rfl⟩
abbrev main_v3_1 : Ref sig .tc := ⟨.hbm, 17, rfl⟩
abbrev main_v3_2 : Ref sig .tc := ⟨.hbm, 18, rfl⟩
abbrev main_v3_3 : Ref sig .tc := ⟨.hbm, 19, rfl⟩
abbrev main_v2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  let c0_i32_1 : BitVec 32 := 0#32
  ![v0.toNat, c0_i32.toNat, c0_i32_0.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  let c0_i32_1 : BitVec 32 := 0#32
  ![v0.toNat, c0_i32.toNat, c0_i32_0.toNat]

def cc0_transform_2 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  let c0_i32_1 : BitVec 32 := 0#32
  ![v0.toNat, c0_i32.toNat, c0_i32_0.toNat]

def cc0_transform_3 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  let c0_i32_1 : BitVec 32 := 0#32
  ![v0.toNat, c0_i32.toNat, c0_i32_0.toNat]

def cc0_transform_4 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  let c0_i32_1 : BitVec 32 := 0#32
  ![v0.toNat, c0_i32.toNat, c0_i32_0.toNat]

def cc0_transform_5 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  let c0_i32_1 : BitVec 32 := 0#32
  ![v0.toNat, c0_i32.toNat, c0_i32_0.toNat]

def cc0_transform_6 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  let c0_i32_1 : BitVec 32 := 0#32
  ![v0.toNat, c0_i32.toNat, c0_i32_0.toNat]

def cc0_transform_7 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_17 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_18 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_19 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x432x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x432x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x432x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x432x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x432x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S432x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1024x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S512x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== Reference27Ideal.lean ====
abbrev S8x432x1024 : Shape := ⟨3, ![8, 432, 1024]⟩
abbrev S8x128x1024 : Shape := ⟨3, ![8, 128, 1024]⟩
abbrev S8x1024x512 : Shape := ⟨3, ![8, 1024, 512]⟩
abbrev S8x512x1024 : Shape := ⟨3, ![8, 512, 1024]⟩
abbrev S4x432x1024 : Shape := ⟨3, ![4, 432, 1024]⟩
abbrev S4x128x1024 : Shape := ⟨3, ![4, 128, 1024]⟩
abbrev S4x1024x512 : Shape := ⟨3, ![4, 1024, 512]⟩
abbrev S4x512x1024 : Shape := ⟨3, ![4, 512, 1024]⟩
abbrev S3x432x1024 : Shape := ⟨3, ![3, 432, 1024]⟩
abbrev S3x128x1024 : Shape := ⟨3, ![3, 128, 1024]⟩
abbrev S3x1024x512 : Shape := ⟨3, ![3, 1024, 512]⟩
abbrev S3x512x1024 : Shape := ⟨3, ![3, 512, 1024]⟩
abbrev S1x432x1024 : Shape := ⟨3, ![1, 432, 1024]⟩
abbrev S432x1024 : Shape := ⟨2, ![432, 1024]⟩
abbrev S_ : Shape := ⟨0, ![]⟩
abbrev S1x128x1024 : Shape := ⟨3, ![1, 128, 1024]⟩
abbrev S128x1024 : Shape := ⟨2, ![128, 1024]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x432x1024, .bf16⟩
  | .hbm, ⟨1, _⟩ => ⟨S8x128x1024, .bf16⟩
  | .hbm, ⟨2, _⟩ => ⟨S8x1024x512, .bf16⟩
  | .hbm, ⟨3, _⟩ => ⟨S8x512x1024, .bf16⟩
  | .hbm, ⟨4, _⟩ => ⟨S4x432x1024, .bf16⟩
  | .hbm, ⟨5, _⟩ => ⟨S4x128x1024, .bf16⟩
  | .hbm, ⟨6, _⟩ => ⟨S4x1024x512, .bf16⟩
  | .hbm, ⟨7, _⟩ => ⟨S4x512x1024, .bf16⟩
  | .hbm, ⟨8, _⟩ => ⟨S3x432x1024, .bf16⟩
  | .hbm, ⟨9, _⟩ => ⟨S3x128x1024, .bf16⟩
  | .hbm, ⟨10, _⟩ => ⟨S3x1024x512, .bf16⟩
  | .hbm, ⟨11, _⟩ => ⟨S3x512x1024, .bf16⟩
  | .hbm, ⟨12, _⟩ => ⟨S1x432x1024, .bf16⟩
  | .hbm, ⟨13, _⟩ => ⟨S432x1024, .bf16⟩
  | .hbm, ⟨14, _⟩ => ⟨S432x1024, .f32⟩
  | .hbm, ⟨15, _⟩ => ⟨S1x432x1024, .bf16⟩
  | .hbm, ⟨16, _⟩ => ⟨S432x1024, .bf16⟩
  | .hbm, ⟨17, _⟩ => ⟨S432x1024, .f32⟩
  | .hbm, ⟨18, _⟩ => ⟨S432x1024, .f32⟩
  | .hbm, ⟨19, _⟩ => ⟨S3x432x1024, .f32⟩
  | .hbm, ⟨20, _⟩ => ⟨S_, .f32⟩
  | .hbm, ⟨21, _⟩ => ⟨S432x1024, .f32⟩
  | .hbm, ⟨22, _⟩ => ⟨S432x1024, .f32⟩
  | .hbm, ⟨23, _⟩ => ⟨S1x128x1024, .bf16⟩
  | .hbm, ⟨24, _⟩ => ⟨S128x1024, .bf16⟩
  | .hbm, ⟨25, _⟩ => ⟨S128x1024, .f32⟩
  | .hbm, ⟨26, _⟩ => ⟨S1x128x1024, .bf16⟩
  | .hbm, ⟨27, _⟩ => ⟨S128x1024, .bf16⟩
  | .hbm, ⟨28, _⟩ => ⟨S128x1024, .f32⟩
  | .hbm, ⟨29, _⟩ => ⟨S128x1024, .f32⟩
  | .hbm, ⟨30, _⟩ => ⟨S3x128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S1x1024x512, .bf16⟩
  | .hbm, ⟨35, _⟩ => ⟨S1024x512, .bf16⟩
  | .hbm, ⟨36, _⟩ => ⟨S1024x512, .f32⟩
  | .hbm, ⟨37, _⟩ => ⟨S1x1024x512, .bf16⟩
  | .hbm, ⟨38, _⟩ => ⟨S1024x512, .bf16⟩
  | .hbm, ⟨39, _⟩ => ⟨S1024x512, .f32⟩
  | .hbm, ⟨40, _⟩ => ⟨S1024x512, .f32⟩
  | .hbm, ⟨41, _⟩ => ⟨S3x1024x512, .f32⟩
  | .hbm, ⟨42, _⟩ => ⟨S_, .f32⟩
  | .hbm, ⟨43, _⟩ => ⟨S1024x512, .f32⟩
  | .hbm, ⟨44, _⟩ => ⟨S1024x512, .f32⟩
  | .hbm, ⟨45, _⟩ => ⟨S1x512x1024, .bf16⟩
  | .hbm, ⟨46, _⟩ => ⟨S512x1024, .bf16⟩
  | .hbm, ⟨47, _⟩ => ⟨S512x1024, .f32⟩
  | .hbm, ⟨48, _⟩ => ⟨S1x512x1024, .bf16⟩
  | .hbm, ⟨49, _⟩ => ⟨S512x1024, .bf16⟩
  | .hbm, ⟨50, _⟩ => ⟨S512x1024, .f32⟩
  | .hbm, ⟨51, _⟩ => ⟨S512x1024, .f32⟩
  | .hbm, ⟨52, _⟩ => ⟨S3x512x1024, .f32⟩
  | .hbm, ⟨53, _⟩ => ⟨S_, .f32⟩
  | .hbm, ⟨54, _⟩ => ⟨S512x1024, .f32⟩
  | .hbm, ⟨55, _⟩ => ⟨S512x1024, .f32⟩
  | _, _ => ⟨S8x432x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_2 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Kernel28.lean ====
abbrev S8x128x1024 : Shape := ⟨3, ![8, 128, 1024]⟩
abbrev S8x1024x512 : Shape := ⟨3, ![8, 1024, 512]⟩
abbrev S8x512x1024 : Shape := ⟨3, ![8, 512, 1024]⟩
abbrev S4x128x1024 : Shape := ⟨3, ![4, 128, 1024]⟩
abbrev S4x1024x512 : Shape := ⟨3, ![4, 1024, 512]⟩
abbrev S4x512x1024 : Shape := ⟨3, ![4, 512, 1024]⟩
abbrev S3x128x1024 : Shape := ⟨3, ![3, 128, 1024]⟩
abbrev S3x1024x512 : Shape := ⟨3, ![3, 1024, 512]⟩
abbrev S3x512x1024 : Shape := ⟨3, ![3, 512, 1024]⟩
abbrev S_ : Shape := ⟨0, ![]⟩
abbrev S1 : Shape := ⟨1, ![1]⟩
abbrev S2 : Shape := ⟨1, ![2]⟩
abbrev S128x1024 : Shape := ⟨2, ![128, 1024]⟩
abbrev S1024x512 : Shape := ⟨2, ![1024, 512]⟩
abbrev S512x1024 : Shape := ⟨2, ![512, 1024]⟩
abbrev S1x128x1024 : Shape := ⟨3, ![1, 128, 1024]⟩
abbrev S1x1024x512 : Shape := ⟨3, ![1, 1024, 512]⟩
abbrev S1x512x1024 : Shape := ⟨3, ![1, 512, 1024]⟩

abbrev nBuf : Space → Nat
  | .hbm => 16
  | .vmem => 18
  | .smem => 1
  | _ => 0

abbrev bufTy : (tb : Table) → Fin (tcTables nBuf tb) → BufTy
  | .hbm, ⟨0, _⟩ => ⟨S8x128x1024, .bf16⟩
  | .hbm, ⟨1, _⟩ => ⟨S8x1024x512, .bf16⟩
  | .hbm, ⟨2, _⟩ => ⟨S8x512x1024, .bf16⟩
  | .hbm, ⟨3, _⟩ => ⟨S4x128x1024, .bf16⟩
  | .hbm, ⟨4, _⟩ => ⟨S4x1024x512, .bf16⟩
  | .hbm, ⟨5, _⟩ => ⟨S4x512x1024, .bf16⟩
  | .hbm, ⟨6, _⟩ => ⟨S3x128x1024, .bf16⟩
  | .hbm, ⟨7, _⟩ => ⟨S3x1024x512, .bf16⟩
  | .hbm, ⟨8, _⟩ => ⟨S3x512x1024, .bf16⟩
  | .hbm, ⟨9, _⟩ => ⟨S_, .i32⟩
  | .hbm, ⟨10, _⟩ => ⟨S_, .i32⟩
  | .hbm, ⟨11, _⟩ => ⟨S1, .i32⟩
  | .hbm, ⟨12, _⟩ => ⟨S1, .i32⟩
  | .hbm, ⟨13, _⟩ => ⟨S128x1024, .f32⟩
  | .hbm, ⟨14, _⟩ => ⟨S1024x512, .f32⟩
  | .hbm, ⟨15, _⟩ => ⟨S512x1024, .f32⟩
  | .local _ .vmem, ⟨0, _⟩ => ⟨S1x128x1024, .bf16⟩
  | .local _ .vmem, ⟨1, _⟩ => ⟨S1x1024x512, .bf16⟩
  | .local _ .vmem, ⟨2, _⟩ => ⟨S1x512x1024, .bf16⟩
  | .local _ .vmem, ⟨3, _⟩ => ⟨S1x128x1024, .bf16⟩
  | .local _ .vmem, ⟨4, _⟩ => ⟨S1x1024x512, .bf16⟩
  | .local _ .vmem, ⟨5, _⟩ => ⟨S1x512x1024, .bf16⟩
  | .local _ .vmem, ⟨6, _⟩ => ⟨S1x128x1024, .bf16⟩
  | .local _ .vmem, ⟨7, _⟩ => ⟨S1x1024x512, .bf16⟩
  | .local _ .vmem, ⟨8, _⟩ => ⟨S1x512x1024, .bf16⟩
  | .local _ .vmem, ⟨9, _⟩ => ⟨S1x128x1024, .bf16⟩
  | .local _ .vmem, ⟨10, _⟩ => ⟨S1x1024x512, .bf16⟩
  | .local _ .vmem, ⟨11, _⟩ => ⟨S1x512x1024, .bf16⟩
  | .local _ .vmem, ⟨12, _⟩ => ⟨S1x128x1024, .bf16⟩
  | .local _ .vmem, ⟨13, _⟩ => ⟨S1x1024x512, .bf16⟩
  | .local _ .vmem, ⟨14, _⟩ => ⟨S1x512x1024, .bf16⟩
  | .local _ .vmem, ⟨15, _⟩ => ⟨S128x1024, .f32⟩
  | .local _ .vmem, ⟨16, _⟩ => ⟨S1024x512, .f32⟩
  | .local _ .vmem, ⟨17, _⟩ => ⟨S512x1024, .f32⟩
  | .local _ .smem, ⟨0, _⟩ => ⟨S2, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_v0 : Ref sig .tc := ⟨.hbm, 11, rfl⟩
abbrev main_v1 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  let c0_i32_1 : BitVec 32 := 0#32
  ![v0.toNat, c0_i32.toNat, c0_i32_0.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  let c0_i32_1 : BitVec 32 := 0#32
  ![v0.toNat, c0_i32.toNat, c0_i32_0.toNat]

def cc0_transform_2 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  let c0_i32_1 : BitVec 32 := 0#32
  ![v0.toNat, c0_i32.toNat, c0_i32_0.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  let c0_i32_1 : BitVec 32 := 0#32
  ![v0.toNat, c0_i32.toNat, c0_i32_0.toNat]

def cc0_transform_4 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  let c0_i32_1 : BitVec 32 := 0#32
  ![v0.toNat, c0_i32.toNat, c0_i32_0.toNat]

def cc0_transform_5 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_13 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_14 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference28Ideal.lean ====
abbrev S8x128x1024 : Shape := ⟨3, ![8, 128, 1024]⟩
abbrev S8x1024x512 : Shape := ⟨3, ![8, 1024, 512]⟩
abbrev S8x512x1024 : Shape := ⟨3, ![8, 512, 1024]⟩
abbrev S4x128x1024 : Shape := ⟨3, ![4, 128, 1024]⟩
abbrev S4x1024x512 : Shape := ⟨3, ![4, 1024, 512]⟩
abbrev S4x512x1024 : Shape := ⟨3, ![4, 512, 1024]⟩
abbrev S3x128x1024 : Shape := ⟨3, ![3, 128, 1024]⟩
abbrev S3x1024x512 : Shape := ⟨3, ![3, 1024, 512]⟩
abbrev S3x512x1024 : Shape := ⟨3, ![3, 512, 1024]⟩
abbrev S1x128x1024 : Shape := ⟨3, ![1, 128, 1024]⟩
abbrev S128x1024 : Shape := ⟨2, ![128, 1024]⟩
abbrev S_ : Shape := ⟨0, ![]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x1024x512, .bf16⟩
  | .hbm, ⟨2, _⟩ => ⟨S8x512x1024, .bf16⟩
  | .hbm, ⟨3, _⟩ => ⟨S4x128x1024, .bf16⟩
  | .hbm, ⟨4, _⟩ => ⟨S4x1024x512, .bf16⟩
  | .hbm, ⟨5, _⟩ => ⟨S4x512x1024, .bf16⟩
  | .hbm, ⟨6, _⟩ => ⟨S3x128x1024, .bf16⟩
  | .hbm, ⟨7, _⟩ => ⟨S3x1024x512, .bf16⟩
  | .hbm, ⟨8, _⟩ => ⟨S3x512x1024, .bf16⟩
  | .hbm, ⟨9, _⟩ => ⟨S1x128x1024, .bf16⟩
  | .hbm, ⟨10, _⟩ => ⟨S128x1024, .bf16⟩
  | .hbm, ⟨11, _⟩ => ⟨S128x1024, .f32⟩
  | .hbm, ⟨12, _⟩ => ⟨S1x128x1024, .bf16⟩
  | .hbm, ⟨13, _⟩ => ⟨S128x1024, .bf16⟩
  | .hbm, ⟨14, _⟩ => ⟨S128x1024, .f32⟩
  | .hbm, ⟨15, _⟩ => ⟨S128x1024, .f32⟩
  | .hbm, ⟨16, _⟩ => ⟨S3x128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S1x1024x512, .bf16⟩
  | .hbm, ⟨21, _⟩ => ⟨S1024x512, .bf16⟩
  | .hbm, ⟨22, _⟩ => ⟨S1024x512, .f32⟩
  | .hbm, ⟨23, _⟩ => ⟨S1x1024x512, .bf16⟩
  | .hbm, ⟨24, _⟩ => ⟨S1024x512, .bf16⟩
  | .hbm, ⟨25, _⟩ => ⟨S1024x512, .f32⟩
  | .hbm, ⟨26, _⟩ => ⟨S1024x512, .f32⟩
  | .hbm, ⟨27, _⟩ => ⟨S3x1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1x512x1024, .bf16⟩
  | .hbm, ⟨32, _⟩ => ⟨S512x1024, .bf16⟩
  | .hbm, ⟨33, _⟩ => ⟨S512x1024, .f32⟩
  | .hbm, ⟨34, _⟩ => ⟨S1x512x1024, .bf16⟩
  | .hbm, ⟨35, _⟩ => ⟨S512x1024, .bf16⟩
  | .hbm, ⟨36, _⟩ => ⟨S512x1024, .f32⟩
  | .hbm, ⟨37, _⟩ => ⟨S512x1024, .f32⟩
  | .hbm, ⟨38, _⟩ => ⟨S3x512x1024, .f32⟩
  | .hbm, ⟨39, _⟩ => ⟨S_, .f32⟩
  | .hbm, ⟨40, _⟩ => ⟨S512x1024, .f32⟩
  | .hbm, ⟨41, _⟩ => ⟨S512x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Proof.FfnFwd.lean ====
/- The feed-forward network of a layer, with its norm and its residual: over every tile of 1024 tokens the eight blocks of
   512 hidden units, added up in a scratch buffer beside the normed tokens kept in another, give the reference's whole. -/
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pipeline.ReadBack
public import Idealize.ShloMosaic.Lib.Pipeline.ValueKit.Held

@[expose] public section

set_option maxRecDepth 16384

noncomputable section

namespace Cert.Kernel3Ideal.FfnFwd

open Idealize.ShloMosaic Idealize.ShloMosaic.TcCoe Idealize.SL.Sem
open Cert.Kernel3Ideal Cert.Kernel3Ideal.Gen

/-- The input, each row divided by the root of its mean square (the small number added under the root), times the gain. -/
def normed (X : FVec Ideal S4096x1024 .f32) (g : FVec Ideal S1024 .f32) (i : S4096x1024.Idx) : EReal :=
  X i * Ideal.rsqrt (Ideal.div (∑ k : Fin 1024, X (ix2 (i 0) k) * X (ix2 (i 0) k)) (Ideal.ofBits FTy.f32 1149239296#32)
    + Ideal.ofBits FTy.f32 897988541#32) * g (ix1 (i 1))

/-- The positive part, squared. -/
def relu2 (a : EReal) : EReal := max a 0 * max a 0

section Reference
open Cert.Reference3Ideal.Read

theorem normed_at (X : FVec Ideal S4096x1024 .f32) (g : FVec Ideal S1024 .f32) (i : S4096x1024.Idx) :
    val_main_v12 (F := Ideal) X g i = normed X g i := by
  pointwise [normed, val_main_v12, val_main_v11, val_main_v10, val_main_v9, val_main_v8, val_main_v7, val_main_v6,
    val_main_v5, val_main_v4, val_main_v3, val_main_v2, val_main_v1, val_main_v0, val_main_cst, val_main_cst_0, val_main_cst_1]

theorem whole_at (X : FVec Ideal S4096x1024 .f32) (g : FVec Ideal S1024 .f32) (A : FVec Ideal S1024x4096 .f32)
    (B : FVec Ideal S4096x1024 .f32) (i : S4096x1024.Idx) :
    val_main_v17 (F := Ideal) X g A B i
      = X i + ∑ k : Fin 4096, relu2 (∑ l : Fin 1024, normed X g (ix2 (i 0) l) * A (ix2 l k)) * B (ix2 k (i 1)) := by
  pointwise [relu2, val_main_v17, val_main_v16, val_main_v15, val_main_v14, val_main_v13, val_main_call0_v0, val_main_call0_cst]
  simp only [normed_at]

end Reference

theorem place : ∀ t : Fin cfg0.N, win0_0.index t = ![t.val / 8, 0] ∧ win0_1.index t = ![0, 0] ∧ win0_2.index t = ![t.val % 8, 0, 0]
    ∧ win0_3.index t = ![t.val % 8, 0] ∧ win0_4.index t = ![t.val / 8, 0] :=
  (by decide +kernel : ∀ t : Fin grid0.N, _)

theorem block_norm (x : FVec Ideal S1024x1024 .f32) (g : FVec Ideal S1x1024 .f32) (i : S1024x1024.Idx) :
    k0_pay1 (F := Ideal) x g i = x i * Ideal.rsqrt (Ideal.div (∑ k : Fin 1024, x (ix2 (i 0) k) * x (ix2 (i 0) k))
      (Ideal.ofBits FTy.f32 1149239296#32) + Ideal.ofBits FTy.f32 897988541#32) * g (ix2 0 (i 1)) := by
  pointwise [k0_pay1]

theorem fill (j : S1024x1024.Idx) : k0_pay2 (F := Ideal) j = 0 := by pointwise [k0_pay2]

/-- What a block of hidden units adds. -/
def part (h : FVec Ideal S1024x1024 .bf16) (a : FVec Ideal S1x1024x512 .bf16) (b : FVec Ideal S512x1024 .bf16) (j : S1024x1024.Idx) : EReal :=
  ∑ k : Fin 512, relu2 (∑ l : Fin 1024, h (ix2 (j 0) l) * a (ix3 0 l k)) * b (ix2 k (j 1))

theorem add_part (h : FVec Ideal S1024x1024 .bf16) (a : FVec Ideal S1x1024x512 .bf16) (acc : FVec Ideal S1024x1024 .f32)
    (b : FVec Ideal S512x1024 .bf16) (j : S1024x1024.Idx) :
    k0_pay3 (F := Ideal) h a acc b j = acc j + part h a b j := by
  pointwise [part, relu2, k0_pay3]

theorem out_at (x acc : FVec Ideal S1024x1024 .f32) (j : S1024x1024.Idx) : k0_pay4 (F := Ideal) x acc j = x j + acc j := by
  pointwise [k0_pay4]

variable (m : (ℓ : Loc nD τ sig) → Buf (Elt Ideal) ℓ)

/-- The normed tokens of the tile of grid point `n`. -/
def tile (c : Dev nD) (t : Fin cfg0.N) : FVec Ideal S1024x1024 .bf16 := fun i =>
  normed (m ((c : Thread nD τ).loc main_arg0)) (m ((c : Thread nD τ).loc main_arg1))
    (ix2 (⟨1024 * (t.val / 8) + (i 0).val, by have h : t.val < 32 := t.isLt; have : (i 0).val < 1024 := (i 0).isLt; omega⟩ : Fin 4096) (i 1))

theorem block_normed (c : Dev nD) (t : Fin cfg0.N) : k0_pay1 (F := Ideal) (iblk m c 0 t) (iblk m c 1 t) = tile m c t := by
  funext i
  rw [block_norm]
  unfold tile normed
  blk_point [iblk, V, place t]

theorem tile_prev (c : Dev nD) (t : Fin cfg0.N) (h : ¬ t.val % 8 = 0) :
    tile m c ⟨t.val - 1, Nat.lt_of_le_of_lt (Nat.sub_le _ _) t.isLt⟩ = tile m c t := by
  funext i
  exact congrArg (fun r : Fin 4096 => normed (m ((c : Thread nD τ).loc main_arg0)) (m ((c : Thread nD τ).loc main_arg1)) (ix2 r (i 1)))
    (Fin.ext (by simp only; omega))

/-- What the scratch buffer of normed tokens holds at every grid point. -/
theorem held (c : Dev nD) (t : Fin cfg0.N) : (outsAt0 m c t.val t.isLt).2.1 = tile m c t := by
  funext i
  refine (Pipeline.eq_of_write_hold_apply (fun n h => (outsAt0 m c n h).2.1) 8 (fun t => tile m c t)
    (fun t h i => ?_) (fun t h i => ?_) t i).trans ?_
  · rw [outsAt0_A m c t h (by omega)]; dsimp only; frame_out; rw [block_normed]
  · by_cases h' : t.val % 8 = 7
    · rw [outsAt0_C m c t h h']; rfl
    · rw [outsAt0_B m c t h h']; rfl
  · exact congrArg (fun r : Fin 4096 => normed (m ((c : Thread nD τ).loc main_arg0)) (m ((c : Thread nD τ).loc main_arg1)) (ix2 r (i 1)))
      (Fin.ext (by simp only; omega))

theorem first (c : Dev nD) (t : Fin cfg0.N) (h : t.val % 8 = 0) (j : S1024x1024.Idx) :
    (outsAt0 m c t.val t.isLt).2.2 j = 0 + part (tile m c t) (iblk m c 2 t) (iblk m c 3 t) j := by
  rw [outsAt0_A m c t h (by omega)]; dsimp only; frame_out
  rw [add_part, fill, block_normed]

theorem next (c : Dev nD) (t : Fin cfg0.N) (h : ¬ t.val % 8 = 0) (j : S1024x1024.Idx) :
    (outsAt0 m c t.val t.isLt).2.2 j
      = (outsAt0 m c (t.val - 1) (Nat.lt_of_le_of_lt (Nat.sub_le _ _) t.isLt)).2.2 j + part (tile m c t) (iblk m c 2 t) (iblk m c 3 t) j := by
  have e := (held m c ⟨t.val - 1, Nat.lt_of_le_of_lt (Nat.sub_le _ _) t.isLt⟩).trans (tile_prev m c t h)
  by_cases h' : t.val % 8 = 7
  · rw [outsAt0_C m c t h h']; dsimp only; frame_out
    rw [add_part]; simp only [read_unread_whole]; rw [e]
  · rw [outsAt0_B m c t h h']; dsimp only; frame_out
    rw [add_part]; simp only [read_unread_whole]; rw [e]

theorem leaves (c : Dev nD) (t : Fin cfg0.N) (h : t.val % 8 = 7) (j : S1024x1024.Idx) :
    (outsAt0 m c t.val t.isLt).1 j = k0_pay4 (F := Ideal) (iblk m c 0 t) (outsAt0 m c t.val t.isLt).2.2 j := by
  rw [outsAt0_C m c t (by omega) h]; dsimp only; frame_out

theorem final (c : Dev nD) : (dats m 0 c).arrAt 4 (cfgs 0).N
    = Cert.Reference3Ideal.Read.val_main_v17 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  have h3 := (flush0_4 t).mp hf
  rw [after0_4, leaves m c t h3, out_at]
  rw [Pipeline.eq_sum_fin_of_reset_step_apply_of_flush (fun n h => (outsAt0 m c n h).2.2) 8 (fun _ => 0) _
    (fun t h j => first m c t h j) (fun t h j => next m c t h j) t h3 _, zero_add, whole_at]
  refine congrArg₂ (· + ·) (by blk_point [iblk, V, place t]) (Fin.sum_mul_add_congr fun s k hl => ?_)
  unfold relu2
  blk_point [iblk, V, place t, place ⟨_, Pipeline.run_point_lt_of_flush t h3 s⟩, tile]

end Cert.Kernel3Ideal.FfnFwd

end
-- ==== Proof.GradFf1.lean ====
/- The gradient of the first feed-forward weight, `hᵀ · da`, laid out in eight panels of 512 columns: the product accumulated over four blocks of 1024 tokens in a
   scratch buffer is the reference's one product over all 4096 tokens. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack

@[expose] public section

set_option maxRecDepth 16384

noncomputable section

namespace Cert.Kernel4Ideal.GradFf1

open Idealize.ShloMosaic Idealize.ShloMosaic.TcCoe Idealize.SL.Sem
open Cert.Kernel4Ideal Cert.Kernel4Ideal.Gen

/-- The reference's product, as it is printed: the other way round, transposed, then cut into eight panels of 512 columns. -/
def whole (A : FVec Ideal S4096x1024 .bf16) (B : FVec Ideal S4096x4096 .bf16) : FVec Ideal S8x1024x512 .bf16 :=
  truncf .bf16 (transpose Cert.Reference4Ideal.S8x1024x512 [1, 0, 2]
    (shapeCast Cert.Reference4Ideal.S1024x8x512 (transpose Cert.Reference4Ideal.S1024x4096 [1, 0]
      (Host.dotGeneral Cert.Reference4Ideal.dot_S4096x4096_S4096x1024_S4096x1024_0_0_1_1_n_n none
        (extf .f32 B Cert.Reference4Ideal.Gen.bitsLt_bf16_f32) (extf .f32 A Cert.Reference4Ideal.Gen.bitsLt_bf16_f32))
      Cert.Reference4Ideal.Gen.transposes_S4096x1024_S1024x4096_1_0) Cert.Reference4Ideal.Gen.shapeCasts_S1024x4096_S1024x8x512)
    Cert.Reference4Ideal.Gen.transposes_S1024x8x512_S8x1024x512_1_0_2) Cert.Reference4Ideal.Gen.bitsLt_bf16_f32

theorem fill (j : S1024x512.Idx) : k0_pay1 (F := Ideal) j = 0 := by pointwise [k0_pay1]

theorem add_part (acc : FVec Ideal S1024x512 .f32) (a : FVec Ideal S1024x1024 .bf16) (b : FVec Ideal S1024x512 .bf16)
    (j : S1024x512.Idx) : k0_pay2 (F := Ideal) acc a b j
      = acc j + ∑ k : Fin 1024, a (ix2 k (j 0)) * b (ix2 k (j 1)) := by
  pointwise [k0_pay2]

theorem cast_panel (x : FVec Ideal S1024x512 .f32) (j : S1x1024x512.Idx) :
    k0_pay3 (F := Ideal) x j = x (ix2 (j 1) (j 2)) := by
  pointwise [k0_pay3]

/-- Column `512 * p + q` of the product stands at panel `p`, column `q`. -/
theorem whole_at (A : FVec Ideal S4096x1024 .bf16) (B : FVec Ideal S4096x4096 .bf16) (j : S8x1024x512.Idx) :
    whole A B j = ∑ k : Fin 4096, A (ix2 k (j 1)) * B (ix2 k ⟨512 * (j 0).val + (j 2).val, by
      have h0 : (j 0).val < 8 := (j 0).isLt
      have h2 : (j 2).val < 512 := (j 2).isLt
      omega⟩) := by
  pointwise! [whole]

theorem place : ∀ t : Fin cfg0.N, win0_0.index t = ![t.val % 4, 0] ∧ win0_1.index t = ![t.val % 4, t.val / 4]
    ∧ win0_2.index t = ![t.val / 4, 0, 0] :=
  (by decide +kernel : ∀ t : Fin grid0.N, _)

variable (m : (ℓ : Loc nD τ sig) → Buf (Elt Ideal) ℓ)

/-- The point that writes back writes what the scratch then holds. -/
theorem leaves (c : Dev nD) (t : Fin cfg0.N) (h : t.val % 4 = 3) :
    (outsAt0 m c t.val t.isLt).1 = k0_pay3 (F := Ideal) (outsAt0 m c t.val t.isLt).2 := by
  rw [outsAt0_C m c t (by omega) h]
  dsimp only
  frame_out

theorem final (c : Dev nD) : (dats m 0 c).arrAt 2 (cfgs 0).N
    = whole (m ((c : Thread nD τ).loc main_arg0)) (m ((c : Thread nD τ).loc main_arg1)) := by
  refine (dats m 0 c).arrAt_eq_of_covers 2 _ (by decide +kernel) fun t hf y => ?_
  blk_simp
  have h3 := (flush0_2 t).mp hf
  rw [after0_2, leaves m c t h3, cast_panel]
  rw [Pipeline.eq_sum_fin_of_reset_step_apply_of_flush (fun n h => (outsAt0 m c n h).2) 4 (fun _ => 0) _
    (fun t h j => by rw [outsAt0_A m c t h (by omega)]; dsimp only; frame_out; rw [add_part, fill])
    (fun t h j => by
      by_cases h' : t.val % 4 = 3
      · rw [outsAt0_C m c t h h']; dsimp only; frame_out; rw [add_part]; simp only [read_unread_whole]
      · rw [outsAt0_B m c t h h']; dsimp only; frame_out; rw [add_part]; simp only [read_unread_whole])
    t h3 _, zero_add, whole_at]
  refine Fin.sum_mul_add_congr fun s k hl => ?_
  blk_point [iblk, V, place t, place ⟨_, Pipeline.run_point_lt_of_flush t h3 s⟩]

end Cert.Kernel4Ideal.GradFf1

end
-- ==== Proof.GradFf2.lean ====
/- The gradient of the second feed-forward weight, `rᵀ · dy`: the product accumulated over four blocks of 1024 tokens in a
   scratch buffer is the reference's one product over all 4096 tokens. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack

@[expose] public section

set_option maxRecDepth 16384

noncomputable section

namespace Cert.Kernel5Ideal.GradFf2

open Idealize.ShloMosaic Idealize.ShloMosaic.TcCoe Idealize.SL.Sem
open Cert.Kernel5Ideal Cert.Kernel5Ideal.Gen

/-- The reference's product, as it is printed: the other way round, then transposed. -/
def whole (A : FVec Ideal S4096x4096 .bf16) (B : FVec Ideal S4096x1024 .f32) : FVec Ideal S4096x1024 .bf16 :=
  truncf .bf16 (transpose Cert.Reference5Ideal.S4096x1024 [1, 0]
    (Host.dotGeneral Cert.Reference5Ideal.dot_S4096x1024_S4096x4096_S1024x4096_0_0_1_1_n_n none B
      (extf .f32 A Cert.Reference5Ideal.Gen.bitsLt_bf16_f32)) Cert.Reference5Ideal.Gen.transposes_S1024x4096_S4096x1024_1_0)
    Cert.Reference5Ideal.Gen.bitsLt_bf16_f32

theorem fill (j : S1024x1024.Idx) : k0_pay1 (F := Ideal) j = 0 := by pointwise [k0_pay1]

theorem add_part (acc : FVec Ideal S1024x1024 .f32) (a : FVec Ideal S1024x1024 .bf16) (b : FVec Ideal S1024x1024 .f32)
    (j : S1024x1024.Idx) : k0_pay2 (F := Ideal) acc a b j
      = acc j + ∑ k : Fin 1024, a (ix2 k (j 0)) * b (ix2 k (j 1)) := by
  pointwise [k0_pay2]

theorem whole_at (A : FVec Ideal S4096x4096 .bf16) (B : FVec Ideal S4096x1024 .f32) (j : S4096x1024.Idx) :
    whole A B j = ∑ k : Fin 4096, A (ix2 k (j 0)) * B (ix2 k (j 1)) := by
  pointwise! [whole]

theorem place : ∀ t : Fin cfg0.N, win0_0.index t = ![t.val % 4, t.val / 4] ∧ win0_1.index t = ![t.val % 4, 0]
    ∧ win0_2.index t = ![t.val / 4, 0] :=
  (by decide +kernel : ∀ t : Fin grid0.N, _)

variable (m : (ℓ : Loc nD τ sig) → Buf (Elt Ideal) ℓ)

/-- The point that writes back writes what the scratch then holds. -/
theorem leaves (c : Dev nD) (t : Fin cfg0.N) (h : t.val % 4 = 3) :
    (outsAt0 m c t.val t.isLt).1 = (outsAt0 m c t.val t.isLt).2 := by
  rw [outsAt0_C m c t (by omega) h]
  dsimp only
  frame_out
  rfl

theorem final (c : Dev nD) : (dats m 0 c).arrAt 2 (cfgs 0).N
    = whole (m ((c : Thread nD τ).loc main_arg0)) (m ((c : Thread nD τ).loc main_arg1)) := by
  refine (dats m 0 c).arrAt_eq_of_covers 2 _ (by decide +kernel) fun t hf y => ?_
  blk_simp
  have h3 := (flush0_2 t).mp hf
  rw [after0_2, leaves m c t h3]
  rw [Pipeline.eq_sum_fin_of_reset_step_apply_of_flush (fun n h => (outsAt0 m c n h).2) 4 (fun _ => 0) _
    (fun t h j => by rw [outsAt0_A m c t h (by omega)]; dsimp only; frame_out; rw [add_part, fill])
    (fun t h j => by
      by_cases h' : t.val % 4 = 3
      · rw [outsAt0_C m c t h h']; dsimp only; frame_out; rw [add_part]; simp only [read_unread_whole]
      · rw [outsAt0_B m c t h h']; dsimp only; frame_out; rw [add_part]; simp only [read_unread_whole])
    t h3 _, zero_add, whole_at]
  refine Fin.sum_mul_add_congr fun s k hl => ?_
  blk_point [iblk, V, place t, place ⟨_, Pipeline.run_point_lt_of_flush t h3 s⟩]

end Cert.Kernel5Ideal.GradFf2

end
-- ==== Proof.InProjBwd.lean ====
/- The backward pass of the input projection and the norm before it: the gradients of the input and of the norm's gain,
   tile of 512 tokens by tile, are the reference's. -/
module

public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pipeline.ReadBack

@[expose] public section

set_option maxRecDepth 16384

noncomputable section

namespace Cert.Kernel6Ideal.InProjBwd

open Idealize.ShloMosaic Idealize.ShloMosaic.TcCoe Idealize.SL.Sem
open Cert.Kernel6Ideal Cert.Kernel6Ideal.Gen

/-- A row's mean square, with the small number. -/
def ms (x : Fin 1024 → EReal) : EReal :=
  Ideal.div (∑ k : Fin 1024, x k * x k) (Ideal.ofBits FTy.f32 1149239296#32) + Ideal.ofBits FTy.f32 897988541#32

/-- What every entry of a row gets through the mean square. -/
def through (x g d : Fin 1024 → EReal) : EReal :=
  Ideal.div ((∑ k : Fin 1024, x k * (d k * g k)) * (Ideal.ofBits FTy.f32 3204448256#32 * Ideal.div (Ideal.rsqrt (ms x)) (ms x)))
    (Ideal.ofBits FTy.f32 1149239296#32)

/-- The gradient of a row `x` of the norm with gain `g`, coming in as `d`, beside the residual's `e`. -/
def rowGrad (x g d : Fin 1024 → EReal) (e : EReal) (q : Fin 1024) : EReal :=
  e + d q * g q * Ideal.rsqrt (ms x) + x q * through x g d + through x g d * x q

theorem sum_split (f : Fin 3456 → EReal) : ∑ k : Fin 3456, f k
    = ∑ k : Fin 2048, f ⟨k.val, by omega⟩ + ∑ k : Fin 768, f ⟨2048 + k.val, by omega⟩
      + ∑ k : Fin 512, f ⟨2816 + k.val, by omega⟩ + ∑ k : Fin 128, f ⟨3328 + k.val, by omega⟩ := by
  refine (Fin.sum_univ_add (a := 3328) (b := 128) f).trans (congrArg₂ (· + ·) ?_ rfl)
  refine (Fin.sum_univ_add (a := 2816) (b := 512) _).trans (congrArg₂ (· + ·) ?_ rfl)
  exact Fin.sum_univ_add (a := 2048) (b := 768) _

section Reference
open Cert.Reference6Ideal.Read

theorem dh_at (A : FVec Ideal S4096x2048 .f32) (B : FVec Ideal S4096x768 .f32) (C : FVec Ideal S4096x512 .f32)
    (D : FVec Ideal S4096x128 .f32) (W : FVec Ideal S3456x1024 .f32) (i : S4096x1024.Idx) :
    val_main_v19 (F := Ideal) A B C D W i
      = ∑ k : Fin 2048, A (ix2 (i 0) k) * W (ix2 (⟨k.val, by omega⟩ : Fin 3456) (i 1))
        + ∑ k : Fin 768, B (ix2 (i 0) k) * W (ix2 (⟨2048 + k.val, by omega⟩ : Fin 3456) (i 1))
        + ∑ k : Fin 512, C (ix2 (i 0) k) * W (ix2 (⟨2816 + k.val, by omega⟩ : Fin 3456) (i 1))
        + ∑ k : Fin 128, D (ix2 (i 0) k) * W (ix2 (⟨3328 + k.val, by omega⟩ : Fin 3456) (i 1)) := by
  pointwise [val_main_v19, val_main_v18, val_main_v16]
  rw [sum_split]
  refine congrArg₂ (· + ·) (congrArg₂ (· + ·) (congrArg₂ (· + ·) ?_ ?_) ?_) ?_ <;>
    refine Finset.sum_congr rfl fun k _ => congrArg (· * _) ?_
  · rw [dif_pos (by simp only; omega)]
  · rw [dif_neg (by simp only; omega), dif_pos (by simp only; omega)]
    exact congrArg (fun r => B (ix2 (i 0) r)) (Fin.ext (by simp only; omega))
  · rw [dif_neg (by simp only; omega), dif_neg (by simp only; omega), dif_pos (by simp only; omega)]
    exact congrArg (fun r => C (ix2 (i 0) r)) (Fin.ext (by simp only; omega))
  · rw [dif_neg (by simp only; omega), dif_neg (by simp only; omega), dif_neg (by simp only; omega)]
    exact congrArg (fun r => D (ix2 (i 0) r)) (Fin.ext (by simp only; omega))

theorem dx_at (A : FVec Ideal S4096x2048 .f32) (B : FVec Ideal S4096x768 .f32) (C : FVec Ideal S4096x512 .f32)
    (D : FVec Ideal S4096x128 .f32) (W : FVec Ideal S3456x1024 .f32) (X : FVec Ideal S4096x1024 .f32) (g : FVec Ideal S1024 .f32)
    (E : FVec Ideal S4096x1024 .f32) (i : S4096x1024.Idx) :
    val_main_v40 (F := Ideal) A B C D W X g E i
      = rowGrad (fun k => X (ix2 (i 0) k)) (fun k => g (ix1 k)) (fun k => val_main_v19 (F := Ideal) A B C D W (ix2 (i 0) k)) (E i) (i 1) := by
  pointwise [rowGrad, through, ms, val_main_v40, val_main_v39, val_main_v38, val_main_v37, val_main_v36, val_main_v35, val_main_v34,
    val_main_v33, val_main_v32, val_main_v31, val_main_v30, val_main_v29, val_main_v28, val_main_v27, val_main_v26, val_main_v24,
    val_main_v23, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    val_main_cst_2, val_main_cst_5, val_main_cst_6, val_main_cst_7]
  simp only [Fin.sum_univ_one]

theorem dg_at (A : FVec Ideal S4096x2048 .f32) (B : FVec Ideal S4096x768 .f32) (C : FVec Ideal S4096x512 .f32)
    (D : FVec Ideal S4096x128 .f32) (W : FVec Ideal S3456x1024 .f32) (X : FVec Ideal S4096x1024 .f32) (i : S1x1024.Idx) :
    val_main_v41 (F := Ideal) A B C D W X i
      = ∑ r : Fin 4096, X (ix2 r (i 1)) * Ideal.rsqrt (ms fun k => X (ix2 r k)) * val_main_v19 (F := Ideal) A B C D W (ix2 r (i 1)) := by
  pointwise [ms, val_main_v41, val_main_v25, val_main_v22, val_main_v21, val_main_v20, val_main_v12, val_main_v11, val_main_v7, val_main_v6,
    val_main_v5, val_main_v4, val_main_v3, val_main_v2, val_main_v1, val_main_v0, val_main_cst, val_main_cst_0, val_main_cst_1,
    val_main_cst_3, val_main_cst_4]
  simp only [Fin.sum_univ_one]

end Reference

theorem place : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0]
    ∧ win0_6.index t = ![0, 0] ∧ win0_7.index t = ![t.val, 0] ∧ win0_8.index t = ![t.val, 0] ∧ win0_9.index t = ![0, 0] :=
  (by decide +kernel : ∀ t : Fin grid0.N, _)

theorem block_dx (d : FVec Ideal S512x1024 .f32) (x : FVec Ideal S512x1024 .f32) (g : FVec Ideal S1x1024 .f32)
    (e : FVec Ideal S512x1024 .f32) (i : S512x1024.Idx) :
    k0_pay3 (F := Ideal) d x g e i
      = rowGrad (fun k => x (ix2 (i 0) k)) (fun k => g (ix2 0 k)) (fun k => d (ix2 (i 0) k)) (e i) (i 1) := by
  pointwise [rowGrad, through, ms, k0_pay3, k0_pay2, k0_pay1]
  simp only [Fin.sum_univ_one, add_assoc]

/-- What a block of tokens adds to the gain's gradient. -/
def gainPart (x d : FVec Ideal S512x1024 .f32) (i : S1x1024.Idx) : EReal :=
  ∑ r : Fin 512, x (ix2 r (i 1)) * Ideal.rsqrt (ms fun k => x (ix2 r k)) * d (ix2 r (i 1))

theorem block_dg (d : FVec Ideal S512x1024 .f32) (x : FVec Ideal S512x1024 .f32) (acc : FVec Ideal S1x1024 .f32) (i : S1x1024.Idx) :
    k0_pay4 (F := Ideal) d x acc i = acc i + gainPart x d i := by
  pointwise [gainPart, ms, k0_pay4, k0_pay2, k0_pay1]

theorem block_dh (a : FVec Ideal S512x2048 .f32) (wa : FVec Ideal S2048x1024 .bf16) (b : FVec Ideal S512x768 .f32) (wb : FVec Ideal S768x1024 .bf16)
    (c : FVec Ideal S512x512 .f32) (wc : FVec Ideal S512x1024 .bf16) (d : FVec Ideal S512x128 .f32) (wd : FVec Ideal S128x1024 .bf16)
    (i : S512x1024.Idx) :
    k0_pay6 (F := Ideal) a wa b wb c wc d wd i
      = ∑ k : Fin 2048, a (ix2 (i 0) k) * wa (ix2 k (i 1)) + ∑ k : Fin 768, b (ix2 (i 0) k) * wb (ix2 k (i 1))
        + ∑ k : Fin 512, c (ix2 (i 0) k) * wc (ix2 k (i 1)) + ∑ k : Fin 128, d (ix2 (i 0) k) * wd (ix2 k (i 1)) := by
  pointwise [k0_pay6]

variable (m : (ℓ : Loc nD τ sig) → Buf (Elt Ideal) ℓ)

theorem fill (j : S1x1024.Idx) : k0_pay5 (F := Ideal) j = 0 := by pointwise [k0_pay5]

theorem gain_at (g : FVec Ideal S1x1024 .f32) (j : S1x1024.Idx) : k0_pay7 (F := Ideal) g j = g j := by pointwise [k0_pay7]

variable (m : (ℓ : Loc nD τ sig) → Buf (Elt Ideal) ℓ)

/-- What comes into the norm's backward pass at a grid point. -/
def dhBlk (c : Dev nD) (t : Fin cfg0.N) : FVec Ideal S512x1024 .f32 :=
  k0_pay6 (F := Ideal) (iblk m c 0 t) (View.ld (iblk m c 4 t) (Rect.unit ![0, 0] ![2048, 1024] inb_S3456x1024_S2048x1024_0_0))
    (iblk m c 1 t) (View.ld (iblk m c 4 t) (Rect.unit ![2048, 0] ![768, 1024] inb_S3456x1024_S768x1024_2048_0))
    (iblk m c 2 t) (View.ld (iblk m c 4 t) (Rect.unit ![2816, 0] ![512, 1024] inb_S3456x1024_S512x1024_2816_0))
    (iblk m c 3 t) (View.ld (iblk m c 4 t) (Rect.unit ![3328, 0] ![128, 1024] inb_S3456x1024_S128x1024_3328_0))

theorem dh_block (c : Dev nD) (t : Fin cfg0.N) (i : S512x1024.Idx) (r : Fin 4096) (hr : r.val = 512 * t.val + (i 0).val) :
    dhBlk m c t i = Cert.Reference6Ideal.Read.val_main_v19 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (ix2 r (i 1)) := by
  unfold dhBlk
  rw [block_dh, dh_at]
  blk_point [iblk, V, place t, hr]

theorem dx_block (c : Dev nD) (t : Fin cfg0.N) : (outsAt0 m c t.val t.isLt).1
    = k0_pay3 (F := Ideal) (dhBlk m c t) (iblk m c 5 t) (k0_pay7 (F := Ideal) (iblk m c 6 t)) (iblk m c 7 t) := by
  by_cases h0 : t.val % 8 = 0
  · rw [outsAt0_A m c t h0]; dsimp only; frame_out; unfold dhBlk; rfl
  · rw [outsAt0_B m c t h0]; dsimp only; frame_out; unfold dhBlk; rfl

theorem final0 (c : Dev nD) : (dats m 0 c).arrAt 8 (cfgs 0).N
    = Cert.Reference6Ideal.Read.val_main_v40 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8, dx_block, block_dx, dx_at]
  unfold rowGrad through ms
  simp only [gain_at]
  have key := fun t (i : S512x1024.Idx) => dh_block m c t i ⟨512 * t.val + (i 0).val, by have := t.isLt; have : cfg0.N = 8 := rfl; have : (i 0).val < 512 := (i 0).isLt; omega⟩ rfl
  generalize dhBlk m c = d at key ⊢
  generalize Cert.Reference6Ideal.Read.val_main_v19 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = D at key ⊢
  blk_point [iblk, V, place t, key]

theorem final1 (c : Dev nD) : (dats m 0 c).arrAt 9 (cfgs 0).N
    = Cert.Reference6Ideal.Read.val_main_v41 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 9 _ (by decide +kernel) fun t hf y => ?_
  blk_simp
  have h3 := (flush0_9 t).mp hf
  rw [after0_9]
  rw [Pipeline.eq_sum_fin_of_reset_step_apply_of_flush (fun n h => (outsAt0 m c n h).2) 8 (fun _ => 0)
    (fun t j => gainPart (iblk m c 5 t) (dhBlk m c t) j)
    (fun t h j => by rw [outsAt0_A m c t h]; dsimp only; frame_out; rw [block_dg, fill]; unfold dhBlk; rfl)
    (fun t h j => by rw [outsAt0_B m c t h]; dsimp only; frame_out; rw [block_dg]; unfold dhBlk; rfl)
    t h3 _, zero_add, dg_at]
  have key := fun t (i : S512x1024.Idx) => dh_block m c t i ⟨512 * t.val + (i 0).val, by have := t.isLt; have : cfg0.N = 8 := rfl; have : (i 0).val < 512 := (i 0).isLt; omega⟩ rfl
  generalize dhBlk m c = d at key ⊢
  generalize Cert.Reference6Ideal.Read.val_main_v19 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = D at key ⊢
  unfold gainPart ms
  refine Fin.sum_mul_add_congr fun s k hl => ?_
  blk_point [iblk, V, place t, place ⟨_, Pipeline.run_point_lt_of_flush t h3 s⟩, key]
  refine congrArg₂ (· * ·) ?_ ?_ <;> blk_point [iblk, V, place t, place ⟨_, Pipeline.run_point_lt_of_flush t h3 s⟩]

end Cert.Kernel6Ideal.InProjBwd

end
-- ==== Proof.GradIn.lean ====
/- The gradient of the input projection's weight, `dprojᵀ · h`, whose four column groups come as four separate arrays: the
   product accumulated over eight blocks of 512 tokens, one store per group, is the reference's one product of the groups
   side by side over all 4096 tokens. -/
module

public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pipeline.ReadBack

@[expose] public section

set_option maxRecDepth 16384

noncomputable section

namespace Cert.Kernel7Ideal.GradIn

open Idealize.ShloMosaic Idealize.ShloMosaic.TcCoe Idealize.SL.Sem
open Cert.Kernel7Ideal Cert.Kernel7Ideal.Gen

/-- Row `r` of the four groups stacked: 2048, 768, 512 and 128 rows. -/
def pick (a : Fin 2048 → EReal) (b : Fin 768 → EReal) (c : Fin 512 → EReal) (d : Fin 128 → EReal) (r : Fin 3456) : EReal :=
  if h : r.val < 2048 then a ⟨r.val, h⟩
  else if h2 : r.val - 2048 < 768 then b ⟨r.val - 2048, h2⟩
  else if h3 : r.val - 2048 - 768 < 512 then c ⟨r.val - 2048 - 768, h3⟩
  else d ⟨r.val - 2048 - 768 - 512, by omega⟩

theorem row_a (a : Fin 2048 → EReal) (b : Fin 768 → EReal) (c : Fin 512 → EReal) (d : Fin 128 → EReal) (i : Fin 2048) (r : Fin 3456)
    (h : r.val = 0 + i.val) : a i = pick a b c d r := by
  have hi := i.isLt
  unfold pick
  rw [dif_pos (by omega)]
  exact congrArg a (Fin.ext (by show i.val = _; simp only; omega))

theorem row_b (a : Fin 2048 → EReal) (b : Fin 768 → EReal) (c : Fin 512 → EReal) (d : Fin 128 → EReal) (i : Fin 768) (r : Fin 3456)
    (h : r.val = 2048 + i.val) : b i = pick a b c d r := by
  have hi := i.isLt
  unfold pick
  rw [dif_neg (by omega), dif_pos (by omega)]
  exact congrArg b (Fin.ext (by show i.val = _; simp only; omega))

theorem row_c (a : Fin 2048 → EReal) (b : Fin 768 → EReal) (c : Fin 512 → EReal) (d : Fin 128 → EReal) (i : Fin 512) (r : Fin 3456)
    (h : r.val = 2816 + i.val) : c i = pick a b c d r := by
  have hi := i.isLt
  unfold pick
  rw [dif_neg (by omega), dif_neg (by omega), dif_pos (by omega)]
  exact congrArg c (Fin.ext (by show i.val = _; simp only; omega))

theorem row_d (a : Fin 2048 → EReal) (b : Fin 768 → EReal) (c : Fin 512 → EReal) (d : Fin 128 → EReal) (i : Fin 128) (r : Fin 3456)
    (h : r.val = 3328 + i.val) : d i = pick a b c d r := by
  have hi := i.isLt
  unfold pick
  rw [dif_neg (by omega), dif_neg (by omega), dif_neg (by omega)]
  exact congrArg d (Fin.ext (by show i.val = _; simp only; omega))

theorem place : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] :=
  (by decide +kernel : ∀ t : Fin grid0.N, _)

theorem fill (j : S3456x1024.Idx) : k0_pay2 (F := Ideal) j = 0 := by pointwise [k0_pay2]

theorem add_a (acc : FVec Ideal S2048x1024 .f32) (a : FVec Ideal S512x2048 .f32) (b : FVec Ideal S512x1024 .bf16)
    (j : S2048x1024.Idx) : k0_pay3 (F := Ideal) acc a b j = acc j + ∑ k : Fin 512, a (ix2 k (j 0)) * b (ix2 k (j 1)) := by
  pointwise [k0_pay3]

theorem add_b (acc : FVec Ideal S768x1024 .f32) (a : FVec Ideal S512x768 .f32) (b : FVec Ideal S512x1024 .bf16)
    (j : S768x1024.Idx) : k0_pay4 (F := Ideal) acc a b j = acc j + ∑ k : Fin 512, a (ix2 k (j 0)) * b (ix2 k (j 1)) := by
  pointwise [k0_pay4]

theorem add_c (acc : FVec Ideal S512x1024 .f32) (a : FVec Ideal S512x512 .f32) (b : FVec Ideal S512x1024 .bf16)
    (j : S512x1024.Idx) : k0_pay5 (F := Ideal) acc a b j = acc j + ∑ k : Fin 512, a (ix2 k (j 0)) * b (ix2 k (j 1)) := by
  pointwise [k0_pay5]

theorem add_d (acc : FVec Ideal S128x1024 .f32) (a : FVec Ideal S512x128 .f32) (b : FVec Ideal S512x1024 .bf16)
    (j : S128x1024.Idx) : k0_pay1 (F := Ideal) acc a b j = acc j + ∑ k : Fin 512, a (ix2 k (j 0)) * b (ix2 k (j 1)) := by
  pointwise [k0_pay1]

theorem whole_at (A : FVec Ideal S4096x2048 .f32) (B : FVec Ideal S4096x768 .f32) (C : FVec Ideal S4096x512 .f32)
    (D : FVec Ideal S4096x128 .f32) (H : FVec Ideal S4096x1024 .bf16) (j : S3456x1024.Idx) :
    Cert.Reference7Ideal.Read.val_main_v7 (F := Ideal) A B C D H j
      = ∑ k : Fin 4096, pick (fun r => A (ix2 k r)) (fun r => B (ix2 k r)) (fun r => C (ix2 k r)) (fun r => D (ix2 k r)) (j 0)
          * H (ix2 k (j 1)) := by
  pointwise [Cert.Reference7Ideal.Read.val_main_v7, Cert.Reference7Ideal.Read.val_main_v6, Cert.Reference7Ideal.Read.val_main_v5,
    Cert.Reference7Ideal.Read.val_main_v4, Cert.Reference7Ideal.Read.val_main_v1]
  rfl

variable (m : (ℓ : Loc nD τ sig) → Buf (Elt Ideal) ℓ)

/-- What one block of tokens adds to the accumulator at `j`. -/
def part (c : Dev nD) (t : Fin cfg0.N) (j : S3456x1024.Idx) : EReal :=
  ∑ k : Fin 512, pick (fun r => iblk m c 0 t (ix2 k r)) (fun r => iblk m c 1 t (ix2 k r)) (fun r => iblk m c 2 t (ix2 k r))
    (fun r => iblk m c 3 t (ix2 k r)) (j 0) * iblk m c 4 t (ix2 k (j 1))

theorem first (c : Dev nD) (t : Fin cfg0.N) (h0 : t.val % 8 = 0) (j : S3456x1024.Idx) :
    outsAt0 m c t.val t.isLt j = 0 + part m c t j := by
  rw [outsAt0_A m c t h0]; frame_open
  simp (disch := decide) only [↓ View.readCov_skip, ↓ View.readCov_cons_toLoadRect, ↓ View.readCov_fill]
  frame_out
  rw [← fill j]
  refine View.canon_append_of_piecesOf (Val := Elt Ideal) (e := .f32) (fun j : S3456x1024.Idx => k0_pay2 (F := Ideal) j + part m c t j) [_]
    [_, _, _, _] ⟨fun x => ?_, fun x => ?_, fun x => ?_, fun x => ?_, trivial⟩ j ?_
  · show k0_pay1 (F := Ideal) _ _ _ x = _
    have hr : ((Rect.unit (s := S3456x1024) ![3328, 0] ![128, 1024] inb_S3456x1024_S128x1024_3328_0).emb x 0).val = 3328 + (x 0).val := by
      show 3328 + 1 * (x 0).val = _; omega
    rw [add_d]
    exact congrArg₂ (· + ·) rfl (Finset.sum_congr rfl fun k _ => congrArg₂ (· * ·)
      (row_d (fun r => iblk m c 0 t (ix2 k r)) (fun r => iblk m c 1 t (ix2 k r)) (fun r => iblk m c 2 t (ix2 k r))
        (fun r => iblk m c 3 t (ix2 k r)) (x 0) _ hr)
      (congrArg (fun u => iblk m c 4 t (ix2 k u)) (Fin.ext (by show (x 1).val = 0 + 1 * (x 1).val; omega))))
  · show k0_pay5 (F := Ideal) _ _ _ x = _
    have hr : ((Rect.unit (s := S3456x1024) ![2816, 0] ![512, 1024] inb_S3456x1024_S512x1024_2816_0).emb x 0).val = 2816 + (x 0).val := by
      show 2816 + 1 * (x 0).val = _; omega
    rw [add_c]
    exact congrArg₂ (· + ·) rfl (Finset.sum_congr rfl fun k _ => congrArg₂ (· * ·)
      (row_c (fun r => iblk m c 0 t (ix2 k r)) (fun r => iblk m c 1 t (ix2 k r)) (fun r => iblk m c 2 t (ix2 k r))
        (fun r => iblk m c 3 t (ix2 k r)) (x 0) _ hr)
      (congrArg (fun u => iblk m c 4 t (ix2 k u)) (Fin.ext (by show (x 1).val = 0 + 1 * (x 1).val; omega))))
  · show k0_pay4 (F := Ideal) _ _ _ x = _
    have hr : ((Rect.unit (s := S3456x1024) ![2048, 0] ![768, 1024] inb_S3456x1024_S768x1024_2048_0).emb x 0).val = 2048 + (x 0).val := by
      show 2048 + 1 * (x 0).val = _; omega
    rw [add_b]
    exact congrArg₂ (· + ·) rfl (Finset.sum_congr rfl fun k _ => congrArg₂ (· * ·)
      (row_b (fun r => iblk m c 0 t (ix2 k r)) (fun r => iblk m c 1 t (ix2 k r)) (fun r => iblk m c 2 t (ix2 k r))
        (fun r => iblk m c 3 t (ix2 k r)) (x 0) _ hr)
      (congrArg (fun u => iblk m c 4 t (ix2 k u)) (Fin.ext (by show (x 1).val = 0 + 1 * (x 1).val; omega))))
  · show k0_pay3 (F := Ideal) _ _ _ x = _
    have hr : ((Rect.unit (s := S3456x1024) ![0, 0] ![2048, 1024] inb_S3456x1024_S2048x1024_0_0).emb x 0).val = 0 + (x 0).val := by
      show 0 + 1 * (x 0).val = _; omega
    rw [add_a]
    exact congrArg₂ (· + ·) rfl (Finset.sum_congr rfl fun k _ => congrArg₂ (· * ·)
      (row_a (fun r => iblk m c 0 t (ix2 k r)) (fun r => iblk m c 1 t (ix2 k r)) (fun r => iblk m c 2 t (ix2 k r))
        (fun r => iblk m c 3 t (ix2 k r)) (x 0) _ hr)
      (congrArg (fun u => iblk m c 4 t (ix2 k u)) (Fin.ext (by show (x 1).val = 0 + 1 * (x 1).val; omega))))
  · exact View.cover_of_tiledBy _ ![128, 1024] (by sl_kernel_rfl) j

theorem next (c : Dev nD) (t : Fin cfg0.N) (h0 : ¬ t.val % 8 = 0) (j : S3456x1024.Idx) :
    outsAt0 m c t.val t.isLt j = outsAt0 m c (t.val - 1) (by omega) j + part m c t j := by
  rw [outsAt0_B m c t h0]; frame_out
  refine View.canon_append_of_piecesOf (fun j => outsAt0 m c (t.val - 1) (by omega) j + part m c t j) [] [_, _, _, _]
    ⟨fun x => ?_, fun x => ?_, fun x => ?_, fun x => ?_, trivial⟩ j ?_
  · show k0_pay1 (F := Ideal) _ _ _ x = _
    have hr : ((Rect.unit (s := S3456x1024) ![3328, 0] ![128, 1024] inb_S3456x1024_S128x1024_3328_0).emb x 0).val = 3328 + (x 0).val := by
      show 3328 + 1 * (x 0).val = _; omega
    rw [add_d]
    exact congrArg₂ (· + ·) rfl (Finset.sum_congr rfl fun k _ => congrArg₂ (· * ·)
      (row_d (fun r => iblk m c 0 t (ix2 k r)) (fun r => iblk m c 1 t (ix2 k r)) (fun r => iblk m c 2 t (ix2 k r))
        (fun r => iblk m c 3 t (ix2 k r)) (x 0) _ hr)
      (congrArg (fun u => iblk m c 4 t (ix2 k u)) (Fin.ext (by show (x 1).val = 0 + 1 * (x 1).val; omega))))
  · show k0_pay5 (F := Ideal) _ _ _ x = _
    have hr : ((Rect.unit (s := S3456x1024) ![2816, 0] ![512, 1024] inb_S3456x1024_S512x1024_2816_0).emb x 0).val = 2816 + (x 0).val := by
      show 2816 + 1 * (x 0).val = _; omega
    rw [add_c]
    exact congrArg₂ (· + ·) rfl (Finset.sum_congr rfl fun k _ => congrArg₂ (· * ·)
      (row_c (fun r => iblk m c 0 t (ix2 k r)) (fun r => iblk m c 1 t (ix2 k r)) (fun r => iblk m c 2 t (ix2 k r))
        (fun r => iblk m c 3 t (ix2 k r)) (x 0) _ hr)
      (congrArg (fun u => iblk m c 4 t (ix2 k u)) (Fin.ext (by show (x 1).val = 0 + 1 * (x 1).val; omega))))
  · show k0_pay4 (F := Ideal) _ _ _ x = _
    have hr : ((Rect.unit (s := S3456x1024) ![2048, 0] ![768, 1024] inb_S3456x1024_S768x1024_2048_0).emb x 0).val = 2048 + (x 0).val := by
      show 2048 + 1 * (x 0).val = _; omega
    rw [add_b]
    exact congrArg₂ (· + ·) rfl (Finset.sum_congr rfl fun k _ => congrArg₂ (· * ·)
      (row_b (fun r => iblk m c 0 t (ix2 k r)) (fun r => iblk m c 1 t (ix2 k r)) (fun r => iblk m c 2 t (ix2 k r))
        (fun r => iblk m c 3 t (ix2 k r)) (x 0) _ hr)
      (congrArg (fun u => iblk m c 4 t (ix2 k u)) (Fin.ext (by show (x 1).val = 0 + 1 * (x 1).val; omega))))
  · show k0_pay3 (F := Ideal) _ _ _ x = _
    have hr : ((Rect.unit (s := S3456x1024) ![0, 0] ![2048, 1024] inb_S3456x1024_S2048x1024_0_0).emb x 0).val = 0 + (x 0).val := by
      show 0 + 1 * (x 0).val = _; omega
    rw [add_a]
    exact congrArg₂ (· + ·) rfl (Finset.sum_congr rfl fun k _ => congrArg₂ (· * ·)
      (row_a (fun r => iblk m c 0 t (ix2 k r)) (fun r => iblk m c 1 t (ix2 k r)) (fun r => iblk m c 2 t (ix2 k r))
        (fun r => iblk m c 3 t (ix2 k r)) (x 0) _ hr)
      (congrArg (fun u => iblk m c 4 t (ix2 k u)) (Fin.ext (by show (x 1).val = 0 + 1 * (x 1).val; omega))))
  · exact View.cover_of_tiledBy _ ![128, 1024] (by sl_kernel_rfl) j

theorem final (c : Dev nD) : (dats m 0 c).arrAt 5 (cfgs 0).N
    = Cert.Reference7Ideal.Read.val_main_v7 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  have h3 := (flush0_5 t).mp hf
  rw [after0_5]
  rw [Pipeline.eq_sum_fin_of_reset_step_apply_of_flush (fun n h => outsAt0 m c n h) 8 (fun _ => 0) _
    (fun t h j => first m c t h j) (fun t h j => next m c t h j) t h3 _, zero_add, whole_at]
  refine Fin.sum_mul_add_congr fun s k hl => ?_
  blk_point [iblk, V, place t, place ⟨_, Pipeline.run_point_lt_of_flush t h3 s⟩, pick]

end Cert.Kernel7Ideal.GradIn

end
-- ==== Proof.Dmix.lean ====
/- The gradient that enters the mixers, `dmix = dx1 · w_outᵀ`: the tiled product's result array is the reference's
   product. A grid point holds a block of rows of `dx1` and the whole of `w_out`, so an element of its block is one sum over
   the 1024 output channels, the same sum as the reference's. -/
module

public import proofs.«01_k».proof.Proof.Gen.Kernel8Ideal.Value
public import proofs.«01_k».proof.Proof.Gen.Reference8Ideal.Run
public import Idealize.ShloMosaic.Lib.Pipeline.ValueKit

@[expose] public section

set_option maxRecDepth 16384

noncomputable section

namespace Cert.Kernel8Ideal.Dmix

open Idealize.ShloMosaic Idealize.ShloMosaic.TcCoe Idealize.SL.Sem
open Cert.Kernel8Ideal Cert.Kernel8Ideal.Gen

/-- The reference's product. -/
def whole (X : FVec Ideal S4096x1024 .f32) (W : FVec Ideal S1024x1024 .f32) : FVec Ideal S4096x1024 .f32 :=
  Host.dotGeneral Cert.Reference8Ideal.dot_S4096x1024_S1024x1024_S4096x1024_1_1_0_0_n_n none X W

/-- Where each window's block lies. -/
theorem place : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

theorem point (c : Dev nD) (t : Fin cfg0.N) (y : S1024x1024.Idx) : k0_pay1 (F := Ideal) (iblk m c 0 t) (iblk m c 1 t) y
    = whole (m ((c : Thread nD τ).loc main_arg0)) (m ((c : Thread nD τ).loc main_arg1)) (((cfg0.win 2).blk t).view.emb y) := by
  pointwise [k0_pay1, whole]
  blk_point [iblk, V, place t]

theorem final (c : Dev nD) : (dats m 0 c).arrAt 2 (cfgs 0).N
    = whole (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel8Ideal.Dmix

end
-- ==== Proof.GradOut.lean ====
/- The gradient of the output weight, `mixᵀ · dx1`: the product accumulated over four blocks of 1024 tokens in a
   scratch buffer is the reference's one product over all 4096 tokens. -/
module

public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack

@[expose] public section

set_option maxRecDepth 16384

noncomputable section

namespace Cert.Kernel9Ideal.GradOut

open Idealize.ShloMosaic Idealize.ShloMosaic.TcCoe Idealize.SL.Sem
open Cert.Kernel9Ideal Cert.Kernel9Ideal.Gen

/-- The reference's product, as it is printed: the other way round, then transposed. -/
def whole (A : FVec Ideal S4096x1024 .f32) (B : FVec Ideal S4096x1024 .f32) : FVec Ideal S1024x1024 .bf16 :=
  truncf .bf16 (transpose Cert.Reference9Ideal.S1024x1024 [1, 0]
    (Host.dotGeneral Cert.Reference9Ideal.dot_S4096x1024_S4096x1024_S1024x1024_0_0_1_1_n_n none B A)
      Cert.Reference9Ideal.Gen.transposes_S1024x1024_S1024x1024_1_0)
    Cert.Reference9Ideal.Gen.bitsLt_bf16_f32

theorem fill (j : S1024x1024.Idx) : k0_pay1 (F := Ideal) j = 0 := by pointwise [k0_pay1]

theorem add_part (acc : FVec Ideal S1024x1024 .f32) (a : FVec Ideal S1024x1024 .f32) (b : FVec Ideal S1024x1024 .f32)
    (j : S1024x1024.Idx) : k0_pay2 (F := Ideal) acc a b j
      = acc j + ∑ k : Fin 1024, a (ix2 k (j 0)) * b (ix2 k (j 1)) := by
  pointwise [k0_pay2]

theorem whole_at (A : FVec Ideal S4096x1024 .f32) (B : FVec Ideal S4096x1024 .f32) (j : S1024x1024.Idx) :
    whole A B j = ∑ k : Fin 4096, A (ix2 k (j 0)) * B (ix2 k (j 1)) := by
  pointwise! [whole]

theorem place : ∀ t : Fin cfg0.N, win0_0.index t = ![t.val % 4, 0] ∧ win0_1.index t = ![t.val % 4, 0]
    ∧ win0_2.index t = ![0, 0] :=
  (by decide +kernel : ∀ t : Fin grid0.N, _)

variable (m : (ℓ : Loc nD τ sig) → Buf (Elt Ideal) ℓ)

/-- The point that writes back writes what the scratch then holds. -/
theorem leaves (c : Dev nD) (t : Fin cfg0.N) (h : t.val % 4 = 3) :
    (outsAt0 m c t.val t.isLt).1 = (outsAt0 m c t.val t.isLt).2 := by
  rw [outsAt0_C m c t (by omega) h]
  dsimp only
  frame_out
  rfl

theorem final (c : Dev nD) : (dats m 0 c).arrAt 2 (cfgs 0).N
    = whole (m ((c : Thread nD τ).loc main_arg0)) (m ((c : Thread nD τ).loc main_arg1)) := by
  refine (dats m 0 c).arrAt_eq_of_covers 2 _ (by decide +kernel) fun t hf y => ?_
  blk_simp
  have h3 := (flush0_2 t).mp hf
  rw [after0_2, leaves m c t h3]
  rw [Pipeline.eq_sum_fin_of_reset_step_apply_of_flush (fun n h => (outsAt0 m c n h).2) 4 (fun _ => 0) _
    (fun t h j => by rw [outsAt0_A m c t h (by omega)]; dsimp only; frame_out; rw [add_part, fill])
    (fun t h j => by
      by_cases h' : t.val % 4 = 3
      · rw [outsAt0_C m c t h h']; dsimp only; frame_out; rw [add_part]; simp only [read_unread_whole]
      · rw [outsAt0_B m c t h h']; dsimp only; frame_out; rw [add_part]; simp only [read_unread_whole])
    t h3 _, zero_add, whole_at]
  refine Fin.sum_mul_add_congr fun s k hl => ?_
  blk_point [iblk, V, place t, place ⟨_, Pipeline.run_point_lt_of_flush t h3 s⟩]

end Cert.Kernel9Ideal.GradOut

end
-- ==== Proof.InProj.lean ====
/- The input projection: four sections of the product of the normed input with the packed weight, and the normed input
   itself, block of 1024 tokens by block, are the reference's. -/
module

public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Pipeline.ReadBack

@[expose] public section

set_option maxRecDepth 16384

noncomputable section

namespace Cert.Kernel10Ideal.InProj

open Idealize.ShloMosaic Idealize.ShloMosaic.TcCoe Idealize.SL.Sem
open Cert.Kernel10Ideal Cert.Kernel10Ideal.Gen

/-- The input, each row divided by the root of its mean square (the small number added under the root), times the gain. -/
def normed (X : FVec Ideal S4096x1024 .f32) (g : FVec Ideal S1024 .f32) (i : S4096x1024.Idx) : EReal :=
  X i * Ideal.rsqrt (Ideal.div (∑ k : Fin 1024, X (ix2 (i 0) k) * X (ix2 (i 0) k)) (Ideal.ofBits FTy.f32 1149239296#32)
    + Ideal.ofBits FTy.f32 897988541#32) * g (ix1 (i 1))

section Reference
open Cert.Reference10Ideal.Read

theorem normed_at (X : FVec Ideal S4096x1024 .f32) (g : FVec Ideal S1024 .f32) (i : S4096x1024.Idx) :
    val_main_v12 (F := Ideal) X g i = normed X g i := by
  pointwise [normed, val_main_v12, val_main_v11, val_main_v10, val_main_v9, val_main_v8, val_main_v7, val_main_v6,
    val_main_v5, val_main_v4, val_main_v3, val_main_v2, val_main_v1, val_main_v0, val_main_cst, val_main_cst_0, val_main_cst_1]

theorem product_at (X : FVec Ideal S4096x1024 .f32) (g : FVec Ideal S1024 .f32) (W : FVec Ideal S3456x1024 .f32)
    (i : Cert.Reference10Ideal.S4096x3456.Idx) :
    val_main_v14 (F := Ideal) X g W i = ∑ k : Fin 1024, normed X g (ix2 (i 0) k) * W (ix2 (i 1) k) := by
  pointwise [val_main_v14, val_main_v13]
  simp only [normed_at]

end Reference

theorem place : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

theorem block_at (x : FVec Ideal S1024x1024 .f32) (g : FVec Ideal S1x1024 .f32) (i : S1024x1024.Idx) :
    k0_pay2 (F := Ideal) x g i = x i * Ideal.rsqrt (Ideal.div (∑ k : Fin 1024, x (ix2 (i 0) k) * x (ix2 (i 0) k))
      (Ideal.ofBits FTy.f32 1149239296#32) + Ideal.ofBits FTy.f32 897988541#32) * g (ix2 0 (i 1)) := by
  pointwise [k0_pay2]

variable (m : (ℓ : Loc nD τ sig) → Buf (Elt Ideal) ℓ)

/-- The rows a grid point norms are the rows of the whole input's norm. -/
theorem block_normed (c : Dev nD) (t : Fin cfg0.N) (i : S1024x1024.Idx) (r : Fin 4096) (hr : r.val = 1024 * t.val + (i 0).val) :
    k0_pay2 (F := Ideal) (iblk m c 0 t) (iblk m c 1 t) i
      = normed (m ((c : Thread nD τ).loc main_arg0)) (m ((c : Thread nD τ).loc main_arg1)) (ix2 r (i 1)) := by
  rw [block_at]
  unfold normed
  blk_point [iblk, V, place t, hr]

theorem final0 (c : Dev nD) : (dats m 0 c).arrAt 3 (cfgs 0).N
    = Cert.Reference10Ideal.Read.val_main_v15 (m ((c : Thread nD τ).loc main_arg0)) (m ((c : Thread nD τ).loc main_arg1))
      (m ((c : Thread nD τ).loc main_arg2)) := by
  refine (dats m 0 c).arrAt_eq_of_covers 3 _ (by decide +kernel) fun t _ y => ?_
  blk_simp
  rw [after0_3]; frame_out
  pointwise [k0_pay3, Cert.Reference10Ideal.Read.val_main_v15]
  rw [product_at]
  blk_point [iblk, V, place t, block_normed]

theorem final1 (c : Dev nD) : (dats m 0 c).arrAt 4 (cfgs 0).N
    = Cert.Reference10Ideal.Read.val_main_v16 (m ((c : Thread nD τ).loc main_arg0)) (m ((c : Thread nD τ).loc main_arg1))
      (m ((c : Thread nD τ).loc main_arg2)) := by
  refine (dats m 0 c).arrAt_eq_of_covers 4 _ (by decide +kernel) fun t _ y => ?_
  blk_simp
  rw [after0_4]; frame_out
  pointwise [k0_pay4, Cert.Reference10Ideal.Read.val_main_v16]
  rw [product_at]
  blk_point [iblk, V, place t, block_normed]

theorem final2 (c : Dev nD) : (dats m 0 c).arrAt 5 (cfgs 0).N
    = Cert.Reference10Ideal.Read.val_main_v17 (m ((c : Thread nD τ).loc main_arg0)) (m ((c : Thread nD τ).loc main_arg1))
      (m ((c : Thread nD τ).loc main_arg2)) := by
  refine (dats m 0 c).arrAt_eq_of_covers 5 _ (by decide +kernel) fun t _ y => ?_
  blk_simp
  rw [after0_5]; frame_out
  pointwise [k0_pay5, Cert.Reference10Ideal.Read.val_main_v17]
  rw [product_at]
  blk_point [iblk, V, place t, block_normed]

theorem final3 (c : Dev nD) : (dats m 0 c).arrAt 6 (cfgs 0).N
    = Cert.Reference10Ideal.Read.val_main_v18 (m ((c : Thread nD τ).loc main_arg0)) (m ((c : Thread nD τ).loc main_arg1))
      (m ((c : Thread nD τ).loc main_arg2)) := by
  refine (dats m 0 c).arrAt_eq_of_covers 6 _ (by decide +kernel) fun t _ y => ?_
  blk_simp
  rw [after0_6]; frame_out
  pointwise [k0_pay1, Cert.Reference10Ideal.Read.val_main_v18]
  rw [product_at]
  blk_point [iblk, V, place t, block_normed]

theorem final4 (c : Dev nD) : (dats m 0 c).arrAt 7 (cfgs 0).N
    = Cert.Reference10Ideal.Read.val_main_v19 (m ((c : Thread nD τ).loc main_arg0)) (m ((c : Thread nD τ).loc main_arg1)) := by
  refine (dats m 0 c).arrAt_eq_of_covers 7 _ (by decide +kernel) fun t _ y => ?_
  blk_simp
  rw [after0_7]; frame_out
  pointwise [Cert.Reference10Ideal.Read.val_main_v19]
  rw [normed_at]
  blk_point [iblk, V, place t, block_normed]

end Cert.Kernel10Ideal.InProj

end
-- ==== Proof.OutProj.lean ====
/- The output projection and its residual, block of 1024 tokens by block, are the reference's. -/
module

public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pipeline.ReadBack

@[expose] public section

set_option maxRecDepth 16384

noncomputable section

namespace Cert.Kernel11Ideal.OutProj

open Idealize.ShloMosaic Idealize.ShloMosaic.TcCoe Idealize.SL.Sem
open Cert.Kernel11Ideal Cert.Kernel11Ideal.Gen

theorem place : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

variable (m : (ℓ : Loc nD τ sig) → Buf (Elt Ideal) ℓ)

theorem final (c : Dev nD) : (dats m 0 c).arrAt 3 (cfgs 0).N
    = Cert.Reference11Ideal.Read.val_main_v1 (m ((c : Thread nD τ).loc main_arg0)) (m ((c : Thread nD τ).loc main_arg1))
      (m ((c : Thread nD τ).loc main_arg2)) := by
  refine (dats m 0 c).arrAt_eq_of_covers 3 _ (by decide +kernel) fun t _ y => ?_
  blk_simp
  rw [after0_3]; frame_out
  pointwise [k0_pay1, Cert.Reference11Ideal.Read.val_main_v1, Cert.Reference11Ideal.Read.val_main_v0]
  blk_point [iblk, V, place t]

end Cert.Kernel11Ideal.OutProj

end
-- ==== Proof.FfnBwdRun.lean ====
module

public import proofs.«01_k».proof.Proof.Gen.Kernel2Ideal.Frame
public import proofs.«01_k».proof.Proof.Gen.Kernel2Ideal.Skeleton
public import Idealize.ShloMosaic.Lib.Pipeline.TableIdle
public import Idealize.ShloMosaic.Lib.Pipeline.ReadBack
public import Idealize.ShloMosaic.Lib.VecWindow
public import Idealize.ShloMosaic.Lib.Pipeline.ValueKit
public import Idealize.ShloMosaic.Lib.Claim

@[expose] public section

set_option maxRecDepth 16384

/-! The body of the backward call of the channel mixer, run once for each combination of its conditions. Each run says
    what every buffer holds afterwards, as a value of what the buffers held before: the normed rows, the squared
    activations, the gradient in front of the activation, the running sum of the hidden tiles, and at the last hidden tile
    the gradient of the rows and the column sums for the gain. -/

noncomputable section

namespace Cert.Kernel2Ideal.FfnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal Cert.Kernel2Ideal.Gen

variable {F : FTy → Type} [FloatOps F]

/-- The resources the assertions below speak of. -/
abbrev Res (F : FTy → Type) [FloatOps F] : Type := MT nD τ sig Unit (Elt F) ℕ (UR sig nD τ) ℕ

/-- A buffer held whole, at stated contents. -/
abbrev holds {s : Shape} {e : EltTy} (c : Dev nD) (M : Memref sig .tc .vmem s e) (x : s.Idx → Elt F e) : sProp (Res F) :=
  owns (c : Thread nD τ) M fullShare x

/-- A buffer held whole, at anything. -/
abbrev free {s : Shape} {e : EltTy} (c : Dev nD) (M : Memref sig .tc .vmem s e) : sProp (Res F) :=
  iprop(∃ d, owns (c : Thread nD τ) M fullShare d)

section Runs

variable (c : Dev nD) (i : grid0.Coords)
variable (arg2 : Memref sig .tc .vmem S1024x1024 .f32) (harg2 : arg2.IsWhole)
  (arg3 : Memref sig .tc .vmem S1024x1024 .f32) (harg3 : arg3.IsWhole)
  (arg4 : Memref sig .tc .vmem S1x1024 .f32) (harg4 : arg4.IsWhole)
  (arg5 : Memref sig .tc .vmem S1x1024x512 .bf16) (harg5 : arg5.IsWhole)
  (arg6 : Memref sig .tc .vmem S512x1024 .bf16) (harg6 : arg6.IsWhole)
  (arg7 : Memref sig .tc .vmem S1024x1024 .f32) (harg7 : arg7.IsWhole)
  (arg8 : Memref sig .tc .vmem S1024x512 .bf16) (harg8 : arg8.IsWhole)
  (arg9 : Memref sig .tc .vmem S1024x512 .bf16) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S1024x1024 .f32) (harg12 : arg12.IsWhole)
variable (x dy : Vec F S1024x1024 .f32) (g : Vec F S1x1024 .f32) (w1 : Vec F S1x1024x512 .bf16) (w2 : Vec F S512x1024 .bf16)

set_option maxHeartbeats 4000000 in
/-- The first tile of all: the rows are normed, the sums for the gain are cleared and the running sum starts. -/
theorem run_first (hc1 : k0_cond1 i = 1#1) (hc2 : k0_cond2 i = 1#1) (hc3 : ¬k0_cond3 i = 1#1)
    (y : Vec F S1024x1024 .f32) (E : Set ℕ) (K : PUnit → sProp (Res F)) :
    iprop(holds c arg2 x ∗ holds c arg3 dy ∗ holds c arg4 g ∗ holds c arg5 w1 ∗ holds c arg6 w2 ∗ holds c arg7 y ∗ free c arg8 ∗ free c arg9 ∗ free c arg10 ∗ free c arg11 ∗ free c arg12
        ∗ (iprop(holds c arg2 x ∗ holds c arg3 dy ∗ holds c arg4 g ∗ holds c arg5 w1 ∗ holds c arg6 w2 ∗ holds c arg7 y ∗ holds c arg8 (k0_pay12 (k0_pay7 x g) w1 dy w2) ∗ holds c arg9 (k0_pay11 (k0_pay7 x g) w1) ∗ holds c arg10 (k0_pay7 x g) ∗ holds c arg11 k0_pay9 ∗ holds c arg12 (k0_pay1 (k0_pay12 (k0_pay7 x g) w1 dy w2) k0_pay8 w1)) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12) K := by
  simp only [cc0_ffn_bwd_eq_skeleton]; unfold cc0_ffn_bwd_skel
  simp only [k0_part1_eq_skeleton, k0_part2_eq_skeleton]; unfold k0_part1_skel k0_part2_skel
  unfold free holds owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro; (try frame_open); rw [View.read_writes_full]; try frame_out
  isplitl [H7]
  · iexists _; isplitr; swap; · iexact H7
    ipureintro; (try frame_open); rw [View.read_writes_full]; try frame_out
  isplitl [H8]
  · iexists _; isplitr; swap; · iexact H8
    ipureintro; (try frame_open); rw [View.read_writes_full]; try frame_out
  isplitl [H9]
  · iexists _; isplitr; swap; · iexact H9
    ipureintro; (try frame_open); rw [View.read_writes_full]; try frame_out
  iexists _; isplitr; swap; · iexact H10
  ipureintro; (try frame_open); rw [View.read_writes_full]; try frame_out

set_option maxHeartbeats 4000000 in
/-- The first hidden tile of the other row tiles: the rows are normed and the running sum starts. -/
theorem run_rows (hc1 : k0_cond1 i = 1#1) (hc2 : ¬k0_cond2 i = 1#1) (hc3 : ¬k0_cond3 i = 1#1)
    (y : Vec F S1024x1024 .f32) (s : Vec F S1x1024 .f32) (E : Set ℕ) (K : PUnit → sProp (Res F)) :
    iprop(holds c arg2 x ∗ holds c arg3 dy ∗ holds c arg4 g ∗ holds c arg5 w1 ∗ holds c arg6 w2 ∗ holds c arg7 y ∗ free c arg8 ∗ free c arg9 ∗ free c arg10 ∗ holds c arg11 s ∗ free c arg12
        ∗ (iprop(holds c arg2 x ∗ holds c arg3 dy ∗ holds c arg4 g ∗ holds c arg5 w1 ∗ holds c arg6 w2 ∗ holds c arg7 y ∗ holds c arg8 (k0_pay12 (k0_pay7 x g) w1 dy w2) ∗ holds c arg9 (k0_pay11 (k0_pay7 x g) w1) ∗ holds c arg10 (k0_pay7 x g) ∗ holds c arg11 s ∗ holds c arg12 (k0_pay1 (k0_pay12 (k0_pay7 x g) w1 dy w2) k0_pay8 w1)) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12) K := by
  simp only [cc0_ffn_bwd_eq_skeleton]; unfold cc0_ffn_bwd_skel
  simp only [k0_part1_eq_skeleton, k0_part2_eq_skeleton]; unfold k0_part1_skel k0_part2_skel
  unfold free holds owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hf9
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro; (try frame_open); rw [View.read_writes_full]; try frame_out
  isplitl [H7]
  · iexists _; isplitr; swap; · iexact H7
    ipureintro; (try frame_open); rw [View.read_writes_full]; try frame_out
  isplitl [H8]
  · iexists _; isplitr; swap; · iexact H8
    ipureintro; (try frame_open); rw [View.read_writes_full]; try frame_out
  isplitl [H9]
  · iexists _; isplitr; · ipureintro; exact harg11.read_unread _
    iexact H9
  iexists _; isplitr; swap; · iexact H10
  ipureintro; (try frame_open); rw [View.read_writes_full]; try frame_out

set_option maxHeartbeats 4000000 in
/-- A hidden tile between: the running sum grows. -/
theorem run_inner (hc1 : ¬k0_cond1 i = 1#1) (hc2 : ¬k0_cond2 i = 1#1) (hc3 : ¬k0_cond3 i = 1#1)
    (y : Vec F S1024x1024 .f32) (h : Vec F S1024x1024 .bf16) (s : Vec F S1x1024 .f32) (a : Vec F S1024x1024 .f32) (E : Set ℕ) (K : PUnit → sProp (Res F)) :
    iprop(holds c arg2 x ∗ holds c arg3 dy ∗ holds c arg4 g ∗ holds c arg5 w1 ∗ holds c arg6 w2 ∗ holds c arg7 y ∗ free c arg8 ∗ free c arg9 ∗ holds c arg10 h ∗ holds c arg11 s ∗ holds c arg12 a
        ∗ (iprop(holds c arg2 x ∗ holds c arg3 dy ∗ holds c arg4 g ∗ holds c arg5 w1 ∗ holds c arg6 w2 ∗ holds c arg7 y ∗ holds c arg8 (k0_pay12 h w1 dy w2) ∗ holds c arg9 (k0_pay11 h w1) ∗ holds c arg10 h ∗ holds c arg11 s ∗ holds c arg12 (k0_pay1 (k0_pay12 h w1 dy w2) a w1)) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12) K := by
  simp only [cc0_ffn_bwd_eq_skeleton]; unfold cc0_ffn_bwd_skel
  simp only [k0_part1_eq_skeleton, k0_part2_eq_skeleton]; unfold k0_part1_skel k0_part2_skel
  unfold free holds owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8; obtain rfl := harg11.eq_unread hf9; obtain rfl := harg12.eq_unread hf10
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro; (try frame_open); rw [View.read_writes_full]; try frame_out
  isplitl [H7]
  · iexists _; isplitr; swap; · iexact H7
    ipureintro; (try frame_open); rw [View.read_writes_full]; try frame_out
  isplitl [H8]
  · iexists _; isplitr; · ipureintro; exact harg10.read_unread _
    iexact H8
  isplitl [H9]
  · iexists _; isplitr; · ipureintro; exact harg11.read_unread _
    iexact H9
  iexists _; isplitr; swap; · iexact H10
  ipureintro; (try frame_open); rw [View.read_writes_full]; try frame_out

set_option maxHeartbeats 4000000 in
/-- The last hidden tile: the running sum is finished, the rows' gradient is written and their column sums are added. -/
theorem run_last (hc1 : ¬k0_cond1 i = 1#1) (hc2 : ¬k0_cond2 i = 1#1) (hc3 : k0_cond3 i = 1#1)
    (h : Vec F S1024x1024 .bf16) (s : Vec F S1x1024 .f32) (a : Vec F S1024x1024 .f32) (E : Set ℕ) (K : PUnit → sProp (Res F)) :
    iprop(holds c arg2 x ∗ holds c arg3 dy ∗ holds c arg4 g ∗ holds c arg5 w1 ∗ holds c arg6 w2 ∗ free c arg7 ∗ free c arg8 ∗ free c arg9 ∗ holds c arg10 h ∗ holds c arg11 s ∗ holds c arg12 a
        ∗ (iprop(holds c arg2 x ∗ holds c arg3 dy ∗ holds c arg4 g ∗ holds c arg5 w1 ∗ holds c arg6 w2 ∗ holds c arg7 (k0_pay6 x g (k0_pay1 (k0_pay12 h w1 dy w2) a w1) dy) ∗ holds c arg8 (k0_pay12 h w1 dy w2) ∗ holds c arg9 (k0_pay11 h w1) ∗ holds c arg10 h ∗ holds c arg11 (k0_pay2 (k0_pay5 x (k0_pay1 (k0_pay12 h w1 dy w2) a w1)) s) ∗ holds c arg12 (k0_pay1 (k0_pay12 h w1 dy w2) a w1)) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12) K := by
  simp only [cc0_ffn_bwd_eq_skeleton]; unfold cc0_ffn_bwd_skel
  simp only [k0_part1_eq_skeleton, k0_part2_eq_skeleton]; unfold k0_part1_skel k0_part2_skel
  unfold free holds owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg10.eq_unread hf8; obtain rfl := harg11.eq_unread hf9; obtain rfl := harg12.eq_unread hf10
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro; (try frame_open); rw [View.read_writes_full]; try frame_out
  isplitl [H6]
  · iexists _; isplitr; swap; · iexact H6
    ipureintro; (try frame_open); rw [View.read_writes_full]; try frame_out
  isplitl [H7]
  · iexists _; isplitr; swap; · iexact H7
    ipureintro; (try frame_open); rw [View.read_writes_full]; try frame_out
  isplitl [H8]
  · iexists _; isplitr; · ipureintro; exact harg10.read_unread _
    iexact H8
  isplitl [H9]
  · iexists _; isplitr; swap; · iexact H9
    ipureintro; (try frame_open); rw [View.read_writes_full]; try frame_out
  iexists _; isplitr; swap; · iexact H10
  ipureintro; (try frame_open); rw [View.read_writes_full]; try frame_out

end Runs

end Cert.Kernel2Ideal.FfnBwd

end
-- ==== Proof.FfnBwdFrame.lean ====
module

public import proofs.«01_k».proof.Proof.FfnBwdRun

@[expose] public section

set_option maxRecDepth 16384

/-! The whole run of the backward call of the channel mixer. The grid has four row tiles of eight hidden tiles. The normed
    rows are computed at the first hidden tile of a row tile and read at the seven others; the sums for the gain are
    cleared at the very first tile and grow at the last hidden tile of each row tile. So two result buffers are read at
    tiles that do not store into them, and what they hold there is stated below tile by tile. -/

noncomputable section

namespace Cert.Kernel2Ideal.FfnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal Cert.Kernel2Ideal.Gen

variable {F : FTy → Type} [FloatOps F]
variable (m : (ℓ : Loc nD τ sig) → Buf (Elt F) ℓ) (ρ : Dev nD → PrngReg)

/-! ### The conditions over the points -/

theorem starts : ∀ t : Fin cfg0.N, k0_cond1 (grid0.coords t) = 1#1 ↔ t.val % 8 = 0 :=
  (by decide +kernel : ∀ t : Fin grid0.N, k0_cond1 (grid0.coords t) = 1#1 ↔ t.val % 8 = 0)
theorem clears : ∀ t : Fin cfg0.N, k0_cond2 (grid0.coords t) = 1#1 ↔ t.val = 0 :=
  (by decide +kernel : ∀ t : Fin grid0.N, k0_cond2 (grid0.coords t) = 1#1 ↔ t.val = 0)
theorem ends : ∀ t : Fin cfg0.N, k0_cond3 (grid0.coords t) = 1#1 ↔ t.val % 8 = 7 :=
  (by decide +kernel : ∀ t : Fin grid0.N, k0_cond3 (grid0.coords t) = 1#1 ↔ t.val % 8 = 7)

theorem points : cfg0.N = 32 := N_0

theorem idle_dx : ∀ t : Fin cfg0.N, ¬t.val % 8 = 7 → cfg0.idle 5 (grid0.coords t) = true := by decide +kernel
theorem live_dx : ∀ t : Fin cfg0.N, t.val % 8 = 7 → cfg0.idle 5 (grid0.coords t) = false := by decide +kernel
theorem stay_dx : ∀ t : Fin cfg0.N, ¬t.val % 8 = 7 → (cfg0.win 5).flush t = false := by decide +kernel
theorem idle_h : ∀ t : Fin cfg0.N, ¬t.val % 8 = 0 → cfg0.idle 8 (grid0.coords t) = true := by decide +kernel
theorem live_h : ∀ t : Fin cfg0.N, t.val % 8 = 0 → cfg0.idle 8 (grid0.coords t) = false := by decide +kernel
theorem stay_h : ∀ t : Fin cfg0.N, ¬t.val % 8 = 7 → (cfg0.win 8).flush t = false := by decide +kernel
theorem leave_h : ∀ t : Fin cfg0.N, t.val % 8 = 7 → (cfg0.win 8).flush t = true := by decide +kernel
theorem idle_dg : ∀ t : Fin cfg0.N, ¬t.val = 0 → ¬t.val % 8 = 7 → cfg0.idle 9 (grid0.coords t) = true := by decide +kernel
theorem live_first : ∀ t : Fin cfg0.N, t.val = 0 → cfg0.idle 9 (grid0.coords t) = false := by decide +kernel
theorem live_last : ∀ t : Fin cfg0.N, t.val % 8 = 7 → cfg0.idle 9 (grid0.coords t) = false := by decide +kernel
theorem stay_dg : ∀ t : Fin cfg0.N, ¬t.val % 8 = 7 → (cfg0.win 9).flush t = false := by decide +kernel

theorem fresh_h (n : ℕ) (h : n ≤ cfg0.N) : cfg0.fresh 8 n = decide (n % 8 = 0) :=
  Pipeline.Cfg.fresh_tab cfg0 8 (fun n => decide (n % 8 = 0)) (by decide)
    (by decide +kernel : ∀ t : Fin cfg0.N, decide ((t.val + 1) % 8 = 0)
      = ((cfg0.win 8).flush t || (cfg0.idle 8 (cfg0.grid.coords t) && decide (t.val % 8 = 0)))) n h
theorem fresh_dg (n : ℕ) (h : n ≤ cfg0.N) : cfg0.fresh 9 n = decide (n % 32 = 0) :=
  Pipeline.Cfg.fresh_tab cfg0 9 (fun n => decide (n % 32 = 0)) (by decide)
    (by decide +kernel : ∀ t : Fin cfg0.N, decide ((t.val + 1) % 32 = 0)
      = ((cfg0.win 9).flush t || (cfg0.idle 9 (cfg0.grid.coords t) && decide (t.val % 32 = 0)))) n h

/-! ### What the buffers hold after each point -/

/-- The first hidden tile of the point's row tile. -/
def base (t : Fin cfg0.N) : Fin cfg0.N := ⟨t.val / 8 * 8, lt_of_le_of_lt (Nat.div_mul_le_self _ _) t.isLt⟩

/-- The point before. -/
def prev (t : Fin cfg0.N) : Fin cfg0.N := ⟨t.val - 1, lt_of_le_of_lt (Nat.sub_le _ _) t.isLt⟩

theorem base_start (t : Fin cfg0.N) (h : t.val % 8 = 0) : base t = t := Fin.ext (by show t.val / 8 * 8 = t.val; omega)
theorem base_prev (t : Fin cfg0.N) (h : ¬t.val % 8 = 0) : base t = base (prev t) :=
  Fin.ext (by show t.val / 8 * 8 = (t.val - 1) / 8 * 8; omega)

/-- The normed rows of the point's row tile. -/
def hAt (c : Dev nD) (t : Fin cfg0.N) : Vec F S1024x1024 .bf16 := k0_pay7 (iblk m c 0 (base t)) (iblk m c 2 (base t))
/-- The squared activations of the point's tile. -/
def rAt (c : Dev nD) (t : Fin cfg0.N) : Vec F S1024x512 .bf16 := k0_pay11 (hAt m c t) (iblk m c 3 t)
/-- The gradient in front of the activation at the point's tile. -/
def daAt (c : Dev nD) (t : Fin cfg0.N) : Vec F S1024x512 .bf16 := k0_pay12 (hAt m c t) (iblk m c 3 t) (iblk m c 1 t) (iblk m c 4 t)
/-- The running sum over the hidden tiles, restarted at each row tile. -/
def accAt (c : Dev nD) : (n : ℕ) → n < cfg0.N → Vec F S1024x1024 .f32
  | 0, h => k0_pay1 (daAt m c ⟨0, h⟩) k0_pay8 (iblk m c 3 ⟨0, h⟩)
  | n + 1, h => k0_pay1 (daAt m c ⟨n + 1, h⟩) (if (n + 1) % 8 = 0 then k0_pay8 else accAt c n (Nat.lt_of_succ_lt h)) (iblk m c 3 ⟨n + 1, h⟩)
/-- The sums for the gain, which grow at each row tile's last hidden tile. -/
def dgAt (c : Dev nD) : (n : ℕ) → n < cfg0.N → Vec F S1x1024 .f32
  | 0, _ => k0_pay9
  | n + 1, h => if (n + 1) % 8 = 7 then k0_pay2 (k0_pay5 (iblk m c 0 ⟨n + 1, h⟩) (accAt m c (n + 1) h)) (dgAt c n (Nat.lt_of_succ_lt h))
      else dgAt c n (Nat.lt_of_succ_lt h)
/-- The gradient of the rows, from the running sum. -/
def dxAt (c : Dev nD) (t : Fin cfg0.N) : Vec F S1024x1024 .f32 :=
  k0_pay6 (iblk m c 0 t) (iblk m c 2 t) (accAt m c t.val t.isLt) (iblk m c 1 t)

theorem hAt_start (c : Dev nD) (t : Fin cfg0.N) (h : t.val % 8 = 0) : hAt m c t = k0_pay7 (iblk m c 0 t) (iblk m c 2 t) := by
  unfold hAt; rw [base_start t h]
theorem hAt_prev (c : Dev nD) (t : Fin cfg0.N) (h : ¬t.val % 8 = 0) : hAt m c t = hAt m c (prev t) := by
  unfold hAt; rw [base_prev t h]
theorem accAt_start (c : Dev nD) (t : Fin cfg0.N) (h : t.val % 8 = 0) :
    accAt m c t.val t.isLt = k0_pay1 (daAt m c t) k0_pay8 (iblk m c 3 t) := by
  obtain ⟨n, hn⟩ := t
  cases n with
  | zero => rfl
  | succ n => unfold accAt; rw [if_pos h]
theorem accAt_step (c : Dev nD) (t : Fin cfg0.N) (h : ¬t.val % 8 = 0) :
    accAt m c t.val t.isLt = k0_pay1 (daAt m c t) (accAt m c (t.val - 1) (prev t).isLt) (iblk m c 3 t) := by
  obtain ⟨n, hn⟩ := t
  cases n with
  | zero => exact absurd rfl h
  | succ n =>
    show accAt m c (n + 1) hn = k0_pay1 (daAt m c ⟨n + 1, hn⟩) (accAt m c n (Nat.lt_of_succ_lt hn)) (iblk m c 3 ⟨n + 1, hn⟩)
    rw [accAt, if_neg h]
theorem dgAt_keep (c : Dev nD) (t : Fin cfg0.N) (h0 : ¬t.val = 0) (h : ¬t.val % 8 = 7) :
    dgAt m c t.val t.isLt = dgAt m c (t.val - 1) (prev t).isLt := by
  obtain ⟨n, hn⟩ := t
  cases n with
  | zero => exact absurd rfl h0
  | succ n =>
    show dgAt m c (n + 1) hn = dgAt m c n (Nat.lt_of_succ_lt hn)
    rw [dgAt, if_neg h]
theorem dgAt_grow (c : Dev nD) (t : Fin cfg0.N) (h : t.val % 8 = 7) :
    dgAt m c t.val t.isLt = k0_pay2 (k0_pay5 (iblk m c 0 t) (accAt m c t.val t.isLt)) (dgAt m c (t.val - 1) (prev t).isLt) := by
  obtain ⟨n, hn⟩ := t
  cases n with
  | zero => exact absurd (show (0 : ℕ) % 8 = 7 from h) (by decide)
  | succ n =>
    show dgAt m c (n + 1) hn = k0_pay2 (k0_pay5 (iblk m c 0 ⟨n + 1, hn⟩) (accAt m c (n + 1) hn)) (dgAt m c n (Nat.lt_of_succ_lt hn))
    rw [dgAt, if_pos h]

/-! ### The run's data -/

/-- Between two points: the running sum's buffer, at anything before the first point and at what the point before left
    afterwards, beside the generator's register. -/
def between (c : Dev nD) : (n : ℕ) → n ≤ cfg0.N → sProp (Res F)
  | 0, _ => Pipeline.ΦA spec0 c
  | n + 1, h => iprop(owns (c : Thread nD τ) (Memref.whole cc0_scratch0) fullShare (accAt m c n h) ∗ (∃ r, prngReg c r))

theorem between_first (c : Dev nD) (n : ℕ) (h : n ≤ cfg0.N) (hz : n = 0) : between m c n h = Pipeline.ΦA spec0 c := by
  subst hz; rfl
theorem between_later (c : Dev nD) (n : ℕ) (h : n ≤ cfg0.N) (hz : n ≠ 0) :
    between m c n h = iprop(owns (c : Thread nD τ) (Memref.whole cc0_scratch0) fullShare (accAt m c (n - 1) (by omega)) ∗ (∃ r, prngReg c r)) := by
  cases n with
  | zero => exact absurd rfl hz
  | succ n => rfl

theorem handed (c : Dev nD) : (Pipeline.ΦA spec0 c : sProp (Res F))
    = iprop((∃ d, owns (c : Thread nD τ) (Memref.whole cc0_scratch0 : Memref sig .tc .vmem S1024x1024 .f32) fullShare d) ∗ (∃ r, prngReg c r)) := by
  unfold Pipeline.ΦA; rw [scopedRest0_eq]; simp only [owns_whole]; try rfl

/-- The data of the run: each input's buffer keeps its block, and the results' buffers hold what is stated above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dxAt m c t
    | ⟨6, _⟩ => daAt m c t
    | ⟨7, _⟩ => rAt m c t
    | ⟨8, _⟩ => hAt m c t
    | ⟨9, _⟩ => dgAt m c t.val t.isLt
  Φ t := between m c t.val (Nat.le_of_lt_succ t.isLt)
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = dxAt m c t := by dsimp only [dats]
theorem after0_6 (c : Dev nD) (t : Fin cfg0.N) : (dats m 0 c).after 6 t = daAt m c t := by dsimp only [dats]
theorem after0_7 (c : Dev nD) (t : Fin cfg0.N) : (dats m 0 c).after 7 t = rAt m c t := by dsimp only [dats]
theorem after0_8 (c : Dev nD) (t : Fin cfg0.N) : (dats m 0 c).after 8 t = hAt m c t := by dsimp only [dats]
theorem after0_9 (c : Dev nD) (t : Fin cfg0.N) : (dats m 0 c).after 9 t = dgAt m c t.val t.isLt := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Past the first hidden tile the normed rows are found in their buffer. -/
theorem before_h (c : Dev nD) (t : Fin cfg0.N) (h : ¬t.val % 8 = 0) (d) : (dats m 0 c).before 8 t d = hAt m c t := by
  rw [(dats m 0 c).before_out_traj 8 rfl (fun _ _ => rfl) (fun t _ _ hf => by
      rw [fresh_h _ (le_of_lt t.isLt), decide_eq_false_iff_not] at hf
      rw [after0_8, after0_8]; exact hAt_prev m c t hf) t.val t rfl d,
    fresh_h _ (le_of_lt t.isLt), if_neg (by simpa using h), after0_8]
  exact (hAt_prev m c t h).symm

/-- Past the very first point the sums for the gain are found in their buffer. -/
theorem before_dg (c : Dev nD) (t : Fin cfg0.N) (h : ¬t.val = 0) (d) :
    (dats m 0 c).before 9 t d = dgAt m c (t.val - 1) (prev t).isLt := by
  have hN : t.val < 32 := lt_of_lt_of_eq t.isLt points
  rw [(dats m 0 c).before_out_traj 9 rfl (fun _ _ => rfl) (fun t h0 hi _ => by
      rw [after0_9, after0_9]
      exact dgAt_keep m c t h0 (fun h7 => by rw [show cfg0.idle 9 (cfg0.grid.coords t) = false from live_last t h7] at hi; exact Bool.false_ne_true hi)) t.val t rfl d,
    fresh_dg _ (le_of_lt t.isLt), if_neg (by simp only [decide_eq_true_eq]; omega), after0_9]

theorem between_at (c : Dev nD) (t : Fin cfg0.N) : (dats m 0 c).Φ t.castSucc = between m c t.val (Nat.le_of_lt t.isLt) := by
  dsimp only [dats]; exact Pipeline.Dat.Φ_castSucc (between m c) t
theorem between_after (c : Dev nD) (t : Fin cfg0.N) : (dats m 0 c).Φ t.succ
    = iprop(owns (c : Thread nD τ) (Memref.whole cc0_scratch0) fullShare (accAt m c t.val t.isLt) ∗ (∃ r, prngReg c r)) := rfl

/-! ### The body at a point -/

/-- What the body is handed at a point. -/
def bodyPre (c : Dev nD) (t : Fin cfg0.N) : sProp (Res F) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

/-- What the body gives back. -/
def bodyPost (c : Dev nD) (t : Fin cfg0.N) : sProp (Res F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The very first point. -/
theorem body_first (c : Dev nD) (t : Fin cfg0.N) (hz : t.val = 0) :
    bodyPre m c t ⊢ wp frame (wpE (defs₀ (F := F)) Variants.none c none) Set.univ (bodyAt0 t) (fun _ => bodyPost m c t) := by
  have hN : t.val < 32 := lt_of_lt_of_eq t.isLt points
  unfold bodyPre bodyPost bodyAt0
  simp only [before0_0, before0_1, before0_2, before0_3, before0_4]
  rw [show (dats m 0 c).owesAt () t.succ = (dats m 0 c).owesAt () t.castSucc from rfl, between_after]
  rw [show (dats m 0 c).leavesExact 0 t = owns (c : Thread nD τ) (win0_0.stage (cfg0.slots t 0)) fullShare ((dats m 0 c).after 0 t) from by
      unfold Dat.leavesExact; rw [show cfg0.idle 0 (cfg0.grid.coords t) = false from rfl], after0_0]
  rw [show (dats m 0 c).leavesExact 1 t = owns (c : Thread nD τ) (win0_1.stage (cfg0.slots t 1)) fullShare ((dats m 0 c).after 1 t) from by
      unfold Dat.leavesExact; rw [show cfg0.idle 1 (cfg0.grid.coords t) = false from rfl], after0_1]
  rw [show (dats m 0 c).leavesExact 2 t = owns (c : Thread nD τ) (win0_2.stage (cfg0.slots t 2)) fullShare ((dats m 0 c).after 2 t) from by
      unfold Dat.leavesExact; rw [show cfg0.idle 2 (cfg0.grid.coords t) = false from rfl], after0_2]
  rw [show (dats m 0 c).leavesExact 3 t = owns (c : Thread nD τ) (win0_3.stage (cfg0.slots t 3)) fullShare ((dats m 0 c).after 3 t) from by
      unfold Dat.leavesExact; rw [show cfg0.idle 3 (cfg0.grid.coords t) = false from rfl], after0_3]
  rw [show (dats m 0 c).leavesExact 4 t = owns (c : Thread nD τ) (win0_4.stage (cfg0.slots t 4)) fullShare ((dats m 0 c).after 4 t) from by
      unfold Dat.leavesExact; rw [show cfg0.idle 4 (cfg0.grid.coords t) = false from rfl], after0_4]
  rw [Dat.leavesExact_idle (dats m 0 c) 5 t (idle_dx t (by omega)) (stay_dx t (by omega))]
  rw [show (dats m 0 c).leavesExact 6 t = owns (c : Thread nD τ) (win0_6.stage (cfg0.slots t 6)) fullShare ((dats m 0 c).after 6 t) from by
      unfold Dat.leavesExact; rw [show cfg0.idle 6 (cfg0.grid.coords t) = false from rfl], after0_6]
  rw [show (dats m 0 c).leavesExact 7 t = owns (c : Thread nD τ) (win0_7.stage (cfg0.slots t 7)) fullShare ((dats m 0 c).after 7 t) from by
      unfold Dat.leavesExact; rw [show cfg0.idle 7 (cfg0.grid.coords t) = false from rfl], after0_7]
  rw [show (dats m 0 c).leavesExact 8 t = owns (c : Thread nD τ) (win0_8.stage (cfg0.slots t 8)) fullShare ((dats m 0 c).after 8 t) from by
      unfold Dat.leavesExact; rw [show cfg0.idle 8 (cfg0.grid.coords t) = false from live_h t (by omega)], after0_8]
  rw [show (dats m 0 c).leavesExact 9 t = owns (c : Thread nD τ) (win0_9.stage (cfg0.slots t 9)) fullShare ((dats m 0 c).after 9 t) from by
      unfold Dat.leavesExact; rw [show cfg0.idle 9 (cfg0.grid.coords t) = false from live_first t hz], after0_9]
  rw [between_at m c t, between_first m c _ _ hz, handed]
  rw [rAt, daAt, accAt_start m c t (by omega), daAt, hAt_start m c t (by omega)]
  rw [show dgAt m c t.val t.isLt = k0_pay9 from by obtain ⟨n, hn⟩ := t; cases hz; rfl]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_first c (grid0.coords t) _ _ _ _ _ _ _ _ _ _ _ _ _ _ _ _ _ _ _ _ _ _ (iblk m c 0 t) (iblk m c 1 t) (iblk m c 2 t) (iblk m c 3 t) (iblk m c 4 t) ((starts t).mpr (by omega)) ((clears t).mpr hz) (fun h => by have := (ends t).mp h; omega) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS]; · iexact HS
  iintro ⟨H0, H1, H2, H3, H4, H5, H6, H7, H8, H9, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  iexact H9

set_option maxHeartbeats 4000000 in
/-- The first hidden tile of another row tile. -/
theorem body_rows (c : Dev nD) (t : Fin cfg0.N) (h0 : t.val % 8 = 0) (hz : ¬t.val = 0) :
    bodyPre m c t ⊢ wp frame (wpE (defs₀ (F := F)) Variants.none c none) Set.univ (bodyAt0 t) (fun _ => bodyPost m c t) := by
  have hN : t.val < 32 := lt_of_lt_of_eq t.isLt points
  unfold bodyPre bodyPost bodyAt0
  simp only [before0_0, before0_1, before0_2, before0_3, before0_4]
  rw [show (dats m 0 c).owesAt () t.succ = (dats m 0 c).owesAt () t.castSucc from rfl, between_after]
  rw [show (dats m 0 c).leavesExact 0 t = owns (c : Thread nD τ) (win0_0.stage (cfg0.slots t 0)) fullShare ((dats m 0 c).after 0 t) from by
      unfold Dat.leavesExact; rw [show cfg0.idle 0 (cfg0.grid.coords t) = false from rfl], after0_0]
  rw [show (dats m 0 c).leavesExact 1 t = owns (c : Thread nD τ) (win0_1.stage (cfg0.slots t 1)) fullShare ((dats m 0 c).after 1 t) from by
      unfold Dat.leavesExact; rw [show cfg0.idle 1 (cfg0.grid.coords t) = false from rfl], after0_1]
  rw [show (dats m 0 c).leavesExact 2 t = owns (c : Thread nD τ) (win0_2.stage (cfg0.slots t 2)) fullShare ((dats m 0 c).after 2 t) from by
      unfold Dat.leavesExact; rw [show cfg0.idle 2 (cfg0.grid.coords t) = false from rfl], after0_2]
  rw [show (dats m 0 c).leavesExact 3 t = owns (c : Thread nD τ) (win0_3.stage (cfg0.slots t 3)) fullShare ((dats m 0 c).after 3 t) from by
      unfold Dat.leavesExact; rw [show cfg0.idle 3 (cfg0.grid.coords t) = false from rfl], after0_3]
  rw [show (dats m 0 c).leavesExact 4 t = owns (c : Thread nD τ) (win0_4.stage (cfg0.slots t 4)) fullShare ((dats m 0 c).after 4 t) from by
      unfold Dat.leavesExact; rw [show cfg0.idle 4 (cfg0.grid.coords t) = false from rfl], after0_4]
  rw [Dat.leavesExact_idle (dats m 0 c) 5 t (idle_dx t (by omega)) (stay_dx t (by omega))]
  rw [show (dats m 0 c).leavesExact 6 t = owns (c : Thread nD τ) (win0_6.stage (cfg0.slots t 6)) fullShare ((dats m 0 c).after 6 t) from by
      unfold Dat.leavesExact; rw [show cfg0.idle 6 (cfg0.grid.coords t) = false from rfl], after0_6]
  rw [show (dats m 0 c).leavesExact 7 t = owns (c : Thread nD τ) (win0_7.stage (cfg0.slots t 7)) fullShare ((dats m 0 c).after 7 t) from by
      unfold Dat.leavesExact; rw [show cfg0.idle 7 (cfg0.grid.coords t) = false from rfl], after0_7]
  rw [show (dats m 0 c).leavesExact 8 t = owns (c : Thread nD τ) (win0_8.stage (cfg0.slots t 8)) fullShare ((dats m 0 c).after 8 t) from by
      unfold Dat.leavesExact; rw [show cfg0.idle 8 (cfg0.grid.coords t) = false from live_h t h0], after0_8]
  rw [Dat.leavesExact_idle (dats m 0 c) 9 t (idle_dg t hz (by omega)) (stay_dg t (by omega))]
  rw [between_at m c t, between_later m c _ _ hz]
  rw [rAt, daAt, accAt_start m c t h0, daAt, hAt_start m c t h0]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_rows c (grid0.coords t) _ _ _ _ _ _ _ _ _ _ _ _ _ _ _ _ _ _ _ _ _ _ (iblk m c 0 t) (iblk m c 1 t) (iblk m c 2 t) (iblk m c 3 t) (iblk m c 4 t) ((starts t).mpr h0) (fun h => hz ((clears t).mp h)) (fun h => by have := (ends t).mp h; omega) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexact H9
  isplitl [HS]; · iexists _; iexact HS
  iintro ⟨H0, H1, H2, H3, H4, H5, H6, H7, H8, H9, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  iexists _; iexact H9

set_option maxHeartbeats 4000000 in
/-- A hidden tile between. -/
theorem body_inner (c : Dev nD) (t : Fin cfg0.N) (h0 : ¬t.val % 8 = 0) (h7 : ¬t.val % 8 = 7) :
    bodyPre m c t ⊢ wp frame (wpE (defs₀ (F := F)) Variants.none c none) Set.univ (bodyAt0 t) (fun _ => bodyPost m c t) := by
  have hN : t.val < 32 := lt_of_lt_of_eq t.isLt points
  unfold bodyPre bodyPost bodyAt0
  simp only [before0_0, before0_1, before0_2, before0_3, before0_4]
  rw [show (dats m 0 c).owesAt () t.succ = (dats m 0 c).owesAt () t.castSucc from rfl, between_after]
  rw [show (dats m 0 c).leavesExact 0 t = owns (c : Thread nD τ) (win0_0.stage (cfg0.slots t 0)) fullShare ((dats m 0 c).after 0 t) from by
      unfold Dat.leavesExact; rw [show cfg0.idle 0 (cfg0.grid.coords t) = false from rfl], after0_0]
  rw [show (dats m 0 c).leavesExact 1 t = owns (c : Thread nD τ) (win0_1.stage (cfg0.slots t 1)) fullShare ((dats m 0 c).after 1 t) from by
      unfold Dat.leavesExact; rw [show cfg0.idle 1 (cfg0.grid.coords t) = false from rfl], after0_1]
  rw [show (dats m 0 c).leavesExact 2 t = owns (c : Thread nD τ) (win0_2.stage (cfg0.slots t 2)) fullShare ((dats m 0 c).after 2 t) from by
      unfold Dat.leavesExact; rw [show cfg0.idle 2 (cfg0.grid.coords t) = false from rfl], after0_2]
  rw [show (dats m 0 c).leavesExact 3 t = owns (c : Thread nD τ) (win0_3.stage (cfg0.slots t 3)) fullShare ((dats m 0 c).after 3 t) from by
      unfold Dat.leavesExact; rw [show cfg0.idle 3 (cfg0.grid.coords t) = false from rfl], after0_3]
  rw [show (dats m 0 c).leavesExact 4 t = owns (c : Thread nD τ) (win0_4.stage (cfg0.slots t 4)) fullShare ((dats m 0 c).after 4 t) from by
      unfold Dat.leavesExact; rw [show cfg0.idle 4 (cfg0.grid.coords t) = false from rfl], after0_4]
  rw [Dat.leavesExact_idle (dats m 0 c) 5 t (idle_dx t (by omega)) (stay_dx t (by omega))]
  rw [show (dats m 0 c).leavesExact 6 t = owns (c : Thread nD τ) (win0_6.stage (cfg0.slots t 6)) fullShare ((dats m 0 c).after 6 t) from by
      unfold Dat.leavesExact; rw [show cfg0.idle 6 (cfg0.grid.coords t) = false from rfl], after0_6]
  rw [show (dats m 0 c).leavesExact 7 t = owns (c : Thread nD τ) (win0_7.stage (cfg0.slots t 7)) fullShare ((dats m 0 c).after 7 t) from by
      unfold Dat.leavesExact; rw [show cfg0.idle 7 (cfg0.grid.coords t) = false from rfl], after0_7]
  rw [Dat.leavesExact_idle (dats m 0 c) 8 t (idle_h t h0) (stay_h t h7)]
  rw [Dat.leavesExact_idle (dats m 0 c) 9 t (idle_dg t (by omega) h7) (stay_dg t h7)]
  rw [between_at m c t, between_later m c _ _ (by omega)]
  simp only [before_h m c t h0]
  rw [rAt, daAt, accAt_step m c t h0, daAt]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_inner c (grid0.coords t) _ _ _ _ _ _ _ _ _ _ _ _ _ _ _ _ _ _ _ _ _ _ (iblk m c 0 t) (iblk m c 1 t) (iblk m c 2 t) (iblk m c 3 t) (iblk m c 4 t) (fun h => h0 ((starts t).mp h)) (fun h => by have := (clears t).mp h; omega) (fun h => h7 ((ends t).mp h)) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexact H9
  isplitl [HS]; · iexact HS
  iintro ⟨H0, H1, H2, H3, H4, H5, H6, H7, H8, H9, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexists d8; iexact H8
  iexists _; iexact H9

set_option maxHeartbeats 4000000 in
/-- The last hidden tile of a row tile. -/
theorem body_last (c : Dev nD) (t : Fin cfg0.N) (h7 : t.val % 8 = 7) :
    bodyPre m c t ⊢ wp frame (wpE (defs₀ (F := F)) Variants.none c none) Set.univ (bodyAt0 t) (fun _ => bodyPost m c t) := by
  have hN : t.val < 32 := lt_of_lt_of_eq t.isLt points
  unfold bodyPre bodyPost bodyAt0
  simp only [before0_0, before0_1, before0_2, before0_3, before0_4]
  rw [show (dats m 0 c).owesAt () t.succ = (dats m 0 c).owesAt () t.castSucc from rfl, between_after]
  rw [show (dats m 0 c).leavesExact 0 t = owns (c : Thread nD τ) (win0_0.stage (cfg0.slots t 0)) fullShare ((dats m 0 c).after 0 t) from by
      unfold Dat.leavesExact; rw [show cfg0.idle 0 (cfg0.grid.coords t) = false from rfl], after0_0]
  rw [show (dats m 0 c).leavesExact 1 t = owns (c : Thread nD τ) (win0_1.stage (cfg0.slots t 1)) fullShare ((dats m 0 c).after 1 t) from by
      unfold Dat.leavesExact; rw [show cfg0.idle 1 (cfg0.grid.coords t) = false from rfl], after0_1]
  rw [show (dats m 0 c).leavesExact 2 t = owns (c : Thread nD τ) (win0_2.stage (cfg0.slots t 2)) fullShare ((dats m 0 c).after 2 t) from by
      unfold Dat.leavesExact; rw [show cfg0.idle 2 (cfg0.grid.coords t) = false from rfl], after0_2]
  rw [show (dats m 0 c).leavesExact 3 t = owns (c : Thread nD τ) (win0_3.stage (cfg0.slots t 3)) fullShare ((dats m 0 c).after 3 t) from by
      unfold Dat.leavesExact; rw [show cfg0.idle 3 (cfg0.grid.coords t) = false from rfl], after0_3]
  rw [show (dats m 0 c).leavesExact 4 t = owns (c : Thread nD τ) (win0_4.stage (cfg0.slots t 4)) fullShare ((dats m 0 c).after 4 t) from by
      unfold Dat.leavesExact; rw [show cfg0.idle 4 (cfg0.grid.coords t) = false from rfl], after0_4]
  rw [show (dats m 0 c).leavesExact 5 t = owns (c : Thread nD τ) (win0_5.stage (cfg0.slots t 5)) fullShare ((dats m 0 c).after 5 t) from by
      unfold Dat.leavesExact; rw [show cfg0.idle 5 (cfg0.grid.coords t) = false from live_dx t h7], after0_5]
  rw [show (dats m 0 c).leavesExact 6 t = owns (c : Thread nD τ) (win0_6.stage (cfg0.slots t 6)) fullShare ((dats m 0 c).after 6 t) from by
      unfold Dat.leavesExact; rw [show cfg0.idle 6 (cfg0.grid.coords t) = false from rfl], after0_6]
  rw [show (dats m 0 c).leavesExact 7 t = owns (c : Thread nD τ) (win0_7.stage (cfg0.slots t 7)) fullShare ((dats m 0 c).after 7 t) from by
      unfold Dat.leavesExact; rw [show cfg0.idle 7 (cfg0.grid.coords t) = false from rfl], after0_7]
  rw [show (dats m 0 c).leavesExact 8 t = owns (c : Thread nD τ) (win0_8.stage (cfg0.slots t 8)) fullShare ((dats m 0 c).after 8 t) from by
      unfold Dat.leavesExact; rw [show cfg0.idle 8 (cfg0.grid.coords t) = true from idle_h t (by omega), leave_h t h7], after0_8]
  rw [show (dats m 0 c).leavesExact 9 t = owns (c : Thread nD τ) (win0_9.stage (cfg0.slots t 9)) fullShare ((dats m 0 c).after 9 t) from by
      unfold Dat.leavesExact; rw [show cfg0.idle 9 (cfg0.grid.coords t) = false from live_last t h7], after0_9]
  rw [between_at m c t, between_later m c _ _ (by omega)]
  simp only [before_h m c t (by omega), before_dg m c t (by omega)]
  rw [dgAt_grow m c t h7, dxAt, rAt, daAt, accAt_step m c t (by omega), daAt]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_last c (grid0.coords t) _ _ _ _ _ _ _ _ _ _ _ _ _ _ _ _ _ _ _ _ _ _ (iblk m c 0 t) (iblk m c 1 t) (iblk m c 2 t) (iblk m c 3 t) (iblk m c 4 t) (fun h => by have := (starts t).mp h; omega) (fun h => by have := (clears t).mp h; omega) ((ends t).mpr h7) _ _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexact H8
  isplitl [H9]; · iexact H9
  isplitl [HS]; · iexact HS
  iintro ⟨H0, H1, H2, H3, H4, H5, H6, H7, H8, H9, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact body_first m c t hz
  · by_cases h0 : t.val % 8 = 0
    · exact body_rows m c t h0 hz
    · by_cases h7 : t.val % 8 = 7
      · exact body_last m c t h7
      · exact body_inner m c t h0 h7

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

theorem hin (c : Dev nD) : Pipeline.ΦA spec0 c ⊢ (dats m 0 c).Φ 0 := by
  rw [show (dats m 0 c).Φ 0 = between m c 0 (Nat.zero_le _) from rfl, between_first m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = between m c cfg0.N le_rfl from rfl,
    between_later m c _ _ (by rw [points]; decide), handed]
  iintro ⟨HS, Hg⟩
  isplitl [HS]; · iexists _; iexact HS
  iexact Hg

/-! ### The run -/

set_option backward.isDefEq.respectTransparency.types false in
/-- Every fair execution ends, with every array as the data say and every counter at zero. -/
theorem run_counted : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_counted m ρ)

/-- The arguments end as they were, and every counter at zero. -/
theorem whole_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_counted m ρ))

end Cert.Kernel2Ideal.FfnBwd

end
-- ==== Proof.FfnBwd.lean ====
/- The backward pass of the channel mixer with its norm and its residual: the gradients of the input and of the norm's gain,
   and the three arrays kept for the gradients of the weights, are the reference's. -/
module

public import proofs.«01_k».proof.Proof.FfnBwdFrame
public import proofs.«01_k».proof.Proof.Gen.Reference2Ideal.Run
public import proofs.«01_k».proof.Proof.Gen.Reference2Ideal.Read
public import Idealize.ShloMosaic.Lib.Pipeline.ValueKit
public import Idealize.ShloMosaic.Lib.Pipeline.ReadBack

@[expose] public section

set_option maxRecDepth 16384

noncomputable section

namespace Cert.Kernel2Ideal.FfnBwd

open Idealize.ShloMosaic Idealize.ShloMosaic.TcCoe Idealize.SL.Sem
open Cert.Kernel2Ideal Cert.Kernel2Ideal.Gen

/-- A row's mean square, with the small number. -/
def ms (x : Fin 1024 → EReal) : EReal :=
  Ideal.div (∑ k : Fin 1024, x k * x k) (Ideal.ofBits FTy.f32 1149239296#32) + Ideal.ofBits FTy.f32 897988541#32

/-- What every entry of a row gets through the mean square. -/
def through (x g d : Fin 1024 → EReal) : EReal :=
  Ideal.div ((∑ k : Fin 1024, x k * (d k * g k)) * (Ideal.ofBits FTy.f32 3204448256#32 * Ideal.div (Ideal.rsqrt (ms x)) (ms x)))
    (Ideal.ofBits FTy.f32 1149239296#32)

/-- The gradient of a row `x` of the norm with gain `g`, coming in as `d`, beside the residual's `e`. -/
def rowGrad (x g d : Fin 1024 → EReal) (e : EReal) (q : Fin 1024) : EReal :=
  e + d q * g q * Ideal.rsqrt (ms x) + x q * through x g d + through x g d * x q

theorem rowGrad_congr {x x' g g' d d' : Fin 1024 → EReal} {e e' : EReal} {q q' : Fin 1024} (hx : x = x') (hg : g = g') (hd : d = d')
    (he : e = e') (hq : ∀ f : Fin 1024 → EReal, f q = f q') : rowGrad x g d e q = rowGrad x' g' d' e' q' := by subst hx hg hd he; exact hq _

/-- The input, each row normed, times the gain. -/
def normed (X : FVec Ideal S4096x1024 .f32) (g : FVec Ideal S1024 .f32) (r : Fin 4096) (q : Fin 1024) : EReal :=
  X (ix2 r q) * Ideal.rsqrt (ms fun k => X (ix2 r k)) * g (ix1 q)

/-- What goes into the activation, token `r`, hidden unit `k`. -/
def hid (X : FVec Ideal S4096x1024 .f32) (g : FVec Ideal S1024 .f32) (A : FVec Ideal S1024x4096 .f32) (r k : Fin 4096) : EReal :=
  ∑ l : Fin 1024, normed X g r l * A (ix2 l k)

/-- The gradient `d` times the activation's slope at `a`. -/
def slope (d a : EReal) : EReal := d * (Ideal.ofBits FTy.f32 1073741824#32 * max a 0)

/-- The gradient in front of the activation. -/
def da (X DY : FVec Ideal S4096x1024 .f32) (g : FVec Ideal S1024 .f32) (A : FVec Ideal S1024x4096 .f32) (B : FVec Ideal S4096x1024 .f32)
    (r k : Fin 4096) : EReal :=
  slope (∑ l : Fin 1024, DY (ix2 r l) * B (ix2 k l)) (hid X g A r k)

/-- The gradient that comes into the norm. -/
def dh (X DY : FVec Ideal S4096x1024 .f32) (g : FVec Ideal S1024 .f32) (A : FVec Ideal S1024x4096 .f32) (B : FVec Ideal S4096x1024 .f32)
    (r : Fin 4096) (q : Fin 1024) : EReal :=
  ∑ k : Fin 4096, da X DY g A B r k * A (ix2 q k)

/-- What a token adds to the gain's gradient. -/
def gainRow (x d : Fin 1024 → EReal) (q : Fin 1024) : EReal := x q * Ideal.rsqrt (ms x) * d q

section Reference
open Cert.Reference2Ideal.Read

variable (X DY : FVec Ideal S4096x1024 .f32) (g : FVec Ideal S1024 .f32) (A : FVec Ideal S1024x4096 .f32) (B : FVec Ideal S4096x1024 .f32)

theorem normed_at (i : S4096x1024.Idx) : val_main_v65 (F := Ideal) X g i = normed X g (i 0) (i 1) := by
  pointwise [normed, ms, val_main_v65, val_main_v64, val_main_v63, val_main_v62, val_main_v61, val_main_v60, val_main_v59, val_main_v58,
    val_main_v57, val_main_v56, val_main_v55, val_main_v54, val_main_v53, val_main_cst_12, val_main_cst_13, val_main_cst_14]

theorem normed_at' (i : S4096x1024.Idx) : val_main_v15 (F := Ideal) X g i = normed X g (i 0) (i 1) := by
  pointwise [normed, ms, val_main_v15, val_main_v14, val_main_v13, val_main_v12, val_main_v11, val_main_v7, val_main_v6,
    val_main_v5, val_main_v4, val_main_v3, val_main_v2, val_main_v1, val_main_v0, val_main_cst, val_main_cst_0, val_main_cst_1]

theorem hid_at (i : S4096x4096.Idx) : val_main_v66 (F := Ideal) X g A i = hid X g A (i 0) (i 1) := by
  pointwise [hid, val_main_v66]
  simp only [normed_at]
  rfl

theorem hid_at' (i : S4096x4096.Idx) : val_main_v16 (F := Ideal) X g A i = hid X g A (i 0) (i 1) := by
  pointwise [hid, val_main_v16]
  simp only [normed_at']
  rfl

theorem slope_of_not_pos (d a : EReal) (h : ¬ 0 < a) : slope d a = 0 := by
  unfold slope
  rw [max_eq_right (not_lt.mp h), mul_zero, mul_zero]

theorem da_at (i : S4096x4096.Idx) : val_main_v79 (F := Ideal) X DY g A B i = da X DY g A B (i 0) (i 1) := by
  unfold da
  rw [← hid_at X g A i]
  generalize hz : val_main_v66 (F := Ideal) X g A = z
  pointwise [val_main_v79, val_main_v78, val_main_v77, val_main_v76, val_main_v75, val_main_v73, val_main_v72, val_main_v69, val_main_v68,
    val_main_v67, val_main_call1_v0, val_main_call1_cst, val_main_cst_15, val_main_cst_17, val_main_cst_18, hz]
  split_ifs with h
  · rfl
  · exact (slope_of_not_pos _ _ h).symm

theorem da_at' (i : S4096x4096.Idx) : val_main_v30 (F := Ideal) X DY g A B i = da X DY g A B (i 0) (i 1) := by
  unfold da
  rw [← hid_at' X g A i]
  generalize hz : val_main_v16 (F := Ideal) X g A = z
  pointwise [val_main_v30, val_main_v29, val_main_v28, val_main_v27, val_main_v26, val_main_v23, val_main_v22, val_main_v19, val_main_v18,
    val_main_v17, val_main_call0_v0, val_main_call0_cst, val_main_cst_3, val_main_cst_5, val_main_cst_6, hz]
  split_ifs with h
  · rfl
  · exact (slope_of_not_pos _ _ h).symm

theorem r_at (i : S4096x4096.Idx) : val_main_v82 (F := Ideal) X g A i = max (hid X g A (i 0) (i 1)) 0 * max (hid X g A (i 0) (i 1)) 0 := by
  rw [← hid_at X g A i]
  pointwise [val_main_v82, val_main_v81, val_main_v80, val_main_call2_v0, val_main_call2_cst]

theorem h_at (i : S4096x1024.Idx) : val_main_v83 (F := Ideal) X g i = normed X g (i 0) (i 1) := by
  rw [← normed_at X g i]
  pointwise [val_main_v83]

theorem dh_at (r : Fin 4096) (q : Fin 1024) : dh X DY g A B r q = val_main_v31 (F := Ideal) X DY g A B (ix2 r q) := by
  pointwise [dh, val_main_v31]
  simp only [da_at']
  rfl

theorem dx_at (i : S4096x1024.Idx) : val_main_v52 (F := Ideal) X DY g A B i
    = rowGrad (fun k => X (ix2 (i 0) k)) (fun k => g (ix1 k)) (dh X DY g A B (i 0)) (DY i) (i 1) := by
  rw [show dh X DY g A B (i 0) = fun k => val_main_v31 (F := Ideal) X DY g A B (ix2 (i 0) k) from funext fun k => dh_at X DY g A B (i 0) k]
  generalize hz : val_main_v31 (F := Ideal) X DY g A B = z
  pointwise [rowGrad, through, ms, val_main_v52, val_main_v51, val_main_v50, val_main_v49, val_main_v48, val_main_v47, val_main_v46,
    val_main_v45, val_main_v44, val_main_v43, val_main_v42, val_main_v41, val_main_v40, val_main_v39, val_main_v38, val_main_v36,
    val_main_v35, val_main_v13, val_main_v10, val_main_v9, val_main_v8, val_main_v7, val_main_v6,
    val_main_v5, val_main_v4, val_main_v3, val_main_v2, val_main_v1, val_main_v0, val_main_cst, val_main_cst_0, val_main_cst_1,
    val_main_cst_2, val_main_cst_9, val_main_cst_10, val_main_cst_11, hz]
  try simp only [Fin.sum_univ_one]

theorem dg_at (i : S1x1024.Idx) : val_main_v84 (F := Ideal) X DY g A B i
    = ∑ r : Fin 4096, gainRow (fun k => X (ix2 r k)) (dh X DY g A B r) (i 1) := by
  unfold gainRow
  have e : ∀ r, dh X DY g A B r (i 1) = val_main_v31 (F := Ideal) X DY g A B (ix2 r (i 1)) := fun r => dh_at X DY g A B r (i 1)
  simp only [e]
  generalize hz : val_main_v31 (F := Ideal) X DY g A B = z
  pointwise [ms, val_main_v84, val_main_v37, val_main_v34, val_main_v33, val_main_v32, val_main_v12, val_main_v11, val_main_v7, val_main_v6,
    val_main_v5, val_main_v4, val_main_v3, val_main_v2, val_main_v1, val_main_v0, val_main_cst, val_main_cst_0, val_main_cst_1,
    val_main_cst_7, val_main_cst_8, hz]
  try simp only [Fin.sum_univ_one]

end Reference

theorem place : ∀ t : Fin cfg0.N, win0_0.index t = ![t.val / 8, 0] ∧ win0_1.index t = ![t.val / 8, 0] ∧ win0_2.index t = ![0, 0]
    ∧ win0_3.index t = ![t.val % 8, 0, 0] ∧ win0_4.index t = ![t.val % 8, 0] ∧ win0_5.index t = ![t.val / 8, 0]
    ∧ win0_6.index t = ![t.val / 8, t.val % 8] ∧ win0_7.index t = ![t.val / 8, t.val % 8] ∧ win0_8.index t = ![t.val / 8, 0]
    ∧ win0_9.index t = ![0, 0] :=
  (by decide +kernel : ∀ t : Fin grid0.N, _)

theorem block_norm (x : FVec Ideal S1024x1024 .f32) (g : FVec Ideal S1x1024 .f32) (i : S1024x1024.Idx) :
    k0_pay7 (F := Ideal) x g i = x i * Ideal.rsqrt (ms fun k => x (ix2 (i 0) k)) * g (ix2 0 (i 1)) := by
  pointwise [ms, k0_pay7]

theorem block_hid (h : FVec Ideal S1024x1024 .bf16) (a : FVec Ideal S1x1024x512 .bf16) (i : S1024x512.Idx) :
    k0_pay10 (F := Ideal) h a i = max (∑ l : Fin 1024, h (ix2 (i 0) l) * a (ix3 0 l (i 1))) 0 := by
  pointwise [k0_pay10]

theorem block_r (h : FVec Ideal S1024x1024 .bf16) (a : FVec Ideal S1x1024x512 .bf16) (i : S1024x512.Idx) :
    k0_pay11 (F := Ideal) h a i = k0_pay10 (F := Ideal) h a i * k0_pay10 (F := Ideal) h a i := by
  pointwise [k0_pay11]

theorem block_da (h : FVec Ideal S1024x1024 .bf16) (a : FVec Ideal S1x1024x512 .bf16) (d : FVec Ideal S1024x1024 .f32)
    (b : FVec Ideal S512x1024 .bf16) (i : S1024x512.Idx) :
    k0_pay12 (F := Ideal) h a d b i = slope (∑ l : Fin 1024, d (ix2 (i 0) l) * b (ix2 (i 1) l)) (∑ l : Fin 1024, h (ix2 (i 0) l) * a (ix3 0 l (i 1))) := by
  unfold slope
  rw [← block_hid]
  pointwise [k0_pay12]

theorem fill (j : S1024x1024.Idx) : k0_pay8 (F := Ideal) j = 0 := by pointwise [k0_pay8]

theorem fill_gain (j : S1x1024.Idx) : k0_pay9 (F := Ideal) j = 0 := by pointwise [k0_pay9]

/-- What a block of hidden units adds. -/
def part (d : FVec Ideal S1024x512 .bf16) (a : FVec Ideal S1x1024x512 .bf16) (j : S1024x1024.Idx) : EReal :=
  ∑ k : Fin 512, d (ix2 (j 0) k) * a (ix3 0 (j 1) k)

theorem add_part (d : FVec Ideal S1024x512 .bf16) (acc : FVec Ideal S1024x1024 .f32) (a : FVec Ideal S1x1024x512 .bf16) (j : S1024x1024.Idx) :
    k0_pay1 (F := Ideal) d acc a j = acc j + part d a j := by
  pointwise [part, k0_pay1]

theorem block_dx (x : FVec Ideal S1024x1024 .f32) (g : FVec Ideal S1x1024 .f32) (d e : FVec Ideal S1024x1024 .f32) (i : S1024x1024.Idx) :
    k0_pay6 (F := Ideal) x g d e i
      = rowGrad (fun k => x (ix2 (i 0) k)) (fun k => g (ix2 0 k)) (fun k => d (ix2 (i 0) k)) (e i) (i 1) := by
  pointwise [rowGrad, through, ms, k0_pay6, k0_pay4, k0_pay3]
  simp only [Fin.sum_univ_one, add_assoc]

theorem block_dg (x d : FVec Ideal S1024x1024 .f32) (s : FVec Ideal S1x1024 .f32) (i : S1x1024.Idx) :
    k0_pay2 (F := Ideal) (k0_pay5 (F := Ideal) x d) s i
      = s i + ∑ r : Fin 1024, gainRow (fun k => x (ix2 r k)) (fun k => d (ix2 r k)) (i 1) := by
  pointwise [gainRow, ms, k0_pay2, k0_pay5, k0_pay4, k0_pay3]

variable (m : (ℓ : Loc nD τ sig) → Buf (Elt Ideal) ℓ)

/-- The token at row `r` of the point's row tile. -/
def token (t : Fin cfg0.N) (r : Fin 1024) : Fin 4096 :=
  ⟨1024 * (t.val / 8) + r.val, by have h : t.val < 32 := t.isLt; omega⟩

/-- The hidden unit at column `k` of the point's hidden tile. -/
def unit (t : Fin cfg0.N) (k : Fin 512) : Fin 4096 := ⟨512 * (t.val % 8) + k.val, by omega⟩

theorem token_base (t : Fin cfg0.N) (r : Fin 1024) : token (base t) r = token t r :=
  Fin.ext (by show 1024 * (t.val / 8 * 8 / 8) + r.val = 1024 * (t.val / 8) + r.val; omega)

theorem h_block (c : Dev nD) (t : Fin cfg0.N) (i : S1024x1024.Idx) : hAt m c t i = normed (m ((c : Thread nD τ).loc main_arg0)) (m ((c : Thread nD τ).loc main_arg2)) (token t (i 0)) (i 1) := by
  unfold hAt
  rw [block_norm]
  have e := token_base t (i 0)
  rw [← e]
  unfold normed ms token
  blk_point [iblk, V, place (base t)]
  refine congrArg₂ (· * ·) ?_ ?_ <;> blk_point [iblk, V, place (base t)]

theorem hid_block (c : Dev nD) (t : Fin cfg0.N) (i : S1024x512.Idx) :
    ∑ l : Fin 1024, hAt m c t (ix2 (i 0) l) * iblk m c 3 t (ix3 0 l (i 1)) = hid (m ((c : Thread nD τ).loc main_arg0)) (m ((c : Thread nD τ).loc main_arg2)) (m ((c : Thread nD τ).loc main_arg3)) (token t (i 0)) (unit t (i 1)) := by
  unfold hid
  refine Finset.sum_congr rfl fun l _ => congrArg₂ (· * ·) (h_block m c t _) ?_
  unfold unit
  blk_point [iblk, V, place t]

theorem da_block (c : Dev nD) (t : Fin cfg0.N) (i : S1024x512.Idx) :
    daAt m c t i = da (m ((c : Thread nD τ).loc main_arg0)) (m ((c : Thread nD τ).loc main_arg1)) (m ((c : Thread nD τ).loc main_arg2)) (m ((c : Thread nD τ).loc main_arg3)) (m ((c : Thread nD τ).loc main_arg4)) (token t (i 0)) (unit t (i 1)) := by
  unfold daAt da
  rw [block_da, hid_block]
  refine congrArg (fun z => slope z _) ?_
  unfold token unit
  blk_point [iblk, V, place t]

theorem r_block (c : Dev nD) (t : Fin cfg0.N) (i : S1024x512.Idx) :
    rAt m c t i = max (hid (m ((c : Thread nD τ).loc main_arg0)) (m ((c : Thread nD τ).loc main_arg2)) (m ((c : Thread nD τ).loc main_arg3)) (token t (i 0)) (unit t (i 1))) 0 * max (hid (m ((c : Thread nD τ).loc main_arg0)) (m ((c : Thread nD τ).loc main_arg2)) (m ((c : Thread nD τ).loc main_arg3)) (token t (i 0)) (unit t (i 1))) 0 := by
  unfold rAt
  rw [block_r, block_hid, hid_block]

theorem acc_block (c : Dev nD) (t : Fin cfg0.N) (h : t.val % 8 = 7) (j : S1024x1024.Idx) :
    accAt m c t.val t.isLt j = dh (m ((c : Thread nD τ).loc main_arg0)) (m ((c : Thread nD τ).loc main_arg1)) (m ((c : Thread nD τ).loc main_arg2)) (m ((c : Thread nD τ).loc main_arg3)) (m ((c : Thread nD τ).loc main_arg4)) (token t (j 0)) (j 1) := by
  rw [Pipeline.eq_sum_fin_of_reset_step_apply_of_flush (fun n h => accAt m c n h) 8 (fun _ => 0)
    (fun t j => part (daAt m c t) (iblk m c 3 t) j)
    (fun t h j => by rw [accAt_start m c t h, add_part, fill])
    (fun t h j => by rw [accAt_step m c t h, add_part])
    t h _, zero_add]
  unfold dh part
  refine Fin.sum_mul_add_congr fun s k hl => ?_
  rw [da_block]
  refine congrArg₂ (· * ·) (congrArg₂ (da _ _ _ _ _) (Fin.ext ?_) (Fin.ext ?_)) ?_
  · unfold token; show 1024 * ((8 * (t.val / 8) + s.val) / 8) + (j 0).val = 1024 * (t.val / 8) + (j 0).val; omega
  · unfold unit; show 512 * ((8 * (t.val / 8) + s.val) % 8) + k.val = s.val * 512 + k.val; omega
  · blk_point [iblk, V, place ⟨_, Pipeline.run_point_lt_of_flush t h s⟩]

/-- What a row tile adds to the gain's gradient. -/
def gainTile (c : Dev nD) (s : ℕ) (q : Fin 1024) : EReal :=
  if h : s < 4 then ∑ r : Fin 1024, gainRow (fun k => (m ((c : Thread nD τ).loc main_arg0)) (ix2 (⟨1024 * s + r.val, by omega⟩ : Fin 4096) k)) (dh (m ((c : Thread nD τ).loc main_arg0)) (m ((c : Thread nD τ).loc main_arg1)) (m ((c : Thread nD τ).loc main_arg2)) (m ((c : Thread nD τ).loc main_arg3)) (m ((c : Thread nD τ).loc main_arg4)) ⟨1024 * s + r.val, by omega⟩) q else 0

theorem gainTile_at (c : Dev nD) (s : Fin 4) (q : Fin 1024) : gainTile m c s.val q
    = ∑ r : Fin 1024, gainRow (fun k => (m ((c : Thread nD τ).loc main_arg0)) (ix2 (⟨1024 * s.val + r.val, by omega⟩ : Fin 4096) k)) (dh (m ((c : Thread nD τ).loc main_arg0)) (m ((c : Thread nD τ).loc main_arg1)) (m ((c : Thread nD τ).loc main_arg2)) (m ((c : Thread nD τ).loc main_arg3)) (m ((c : Thread nD τ).loc main_arg4)) ⟨1024 * s.val + r.val, by omega⟩) q :=
  dif_pos s.isLt

theorem gain_block (c : Dev nD) : ∀ (n : ℕ) (h : n < cfg0.N) (j : S1x1024.Idx),
    dgAt m c n h j = ∑ s ∈ Finset.range ((n + 1) / 8), gainTile m c s (j 1) := by
  intro n
  induction n with
  | zero => intro h j; exact (fill_gain j).trans (by simp)
  | succ n ih =>
    intro h j
    have hN : n + 1 < 32 := lt_of_lt_of_eq h points
    by_cases h7 : (n + 1) % 8 = 7
    · rw [show (n + 1 + 1) / 8 = (n + 1) / 8 + 1 by omega, Finset.sum_range_succ, ← ih (Nat.lt_of_succ_lt h) j]
      refine (congrFun (dgAt_grow m c ⟨n + 1, h⟩ h7) j).trans ?_
      rw [block_dg]
      refine congrArg (dgAt m c n (Nat.lt_of_succ_lt h) j + ·) ?_
      unfold gainTile
      rw [dif_pos (by omega)]
      refine Finset.sum_congr rfl fun r _ => ?_
      have e : ∀ q, accAt m c (n + 1) h (ix2 r q) = dh (m ((c : Thread nD τ).loc main_arg0)) (m ((c : Thread nD τ).loc main_arg1)) (m ((c : Thread nD τ).loc main_arg2)) (m ((c : Thread nD τ).loc main_arg3)) (m ((c : Thread nD τ).loc main_arg4)) (token ⟨n + 1, h⟩ r) q := fun q => acc_block m c ⟨n + 1, h⟩ h7 (ix2 r q)
      have e' : (⟨1024 * ((n + 1) / 8) + r.val, by omega⟩ : Fin 4096) = token ⟨n + 1, h⟩ r := Fin.ext rfl
      simp only [e, e']
      refine congrArg (fun x => gainRow x _ _) (funext fun k => ?_)
      unfold token
      blk_point [iblk, V, place ⟨n + 1, h⟩]
    · rw [show (n + 1 + 1) / 8 = (n + 1) / 8 by omega, ← ih (Nat.lt_of_succ_lt h) j]
      exact congrFun (dgAt_keep m c ⟨n + 1, h⟩ (Nat.succ_ne_zero n) h7) j

theorem final0 (c : Dev nD) : (dats m 0 c).arrAt 5 (cfgs 0).N
    = Cert.Reference2Ideal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  have h3 := (flush0_5 t).mp hf
  have e : ∀ D : FVec Ideal S4096x1024 .f32, D (ix2 (token t (y 0)) (y 1)) = D ((win0_5.blk t).view.emb y) := fun D => by
    unfold token; blk_point [place t]
  refine Eq.trans ?_ (e _)
  rw [after0_5, dx_at]
  unfold dxAt
  rw [block_dx]
  refine rowGrad_congr (funext fun k => ?_) (funext fun k => ?_) (funext fun k => acc_block m c t h3 _) ?_ (fun f => rfl)
  · unfold token; blk_point [iblk, V, place t]
  · blk_point [iblk, V, place t]
  · unfold token; blk_point [iblk, V, place t]

theorem final1 (c : Dev nD) : (dats m 0 c).arrAt 6 (cfgs 0).N
    = Cert.Reference2Ideal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, da_at, da_block]
  unfold token unit
  blk_point [place t]

theorem final2 (c : Dev nD) : (dats m 0 c).arrAt 7 (cfgs 0).N
    = Cert.Reference2Ideal.Read.val_main_v82 (F := Ideal) (m ((c : Thread nD τ).loc main_arg0)) (m ((c : Thread nD τ).loc main_arg2)) (m ((c : Thread nD τ).loc main_arg3)) := by
  refine (dats m 0 c).arrAt_eq_of_covers 7 _ (by decide +kernel) fun t hf y => ?_
  blk_simp
  rw [after0_7, r_at, r_block]
  unfold token unit
  blk_point [place t]

theorem final3 (c : Dev nD) : (dats m 0 c).arrAt 8 (cfgs 0).N
    = Cert.Reference2Ideal.Read.val_main_v83 (F := Ideal) (m ((c : Thread nD τ).loc main_arg0)) (m ((c : Thread nD τ).loc main_arg2)) := by
  refine (dats m 0 c).arrAt_eq_of_covers 8 _ (by decide +kernel) fun t hf y => ?_
  blk_simp
  rw [after0_8, h_at, h_block]
  unfold token
  blk_point [place t]

theorem final4 (c : Dev nD) : (dats m 0 c).arrAt 9 (cfgs 0).N
    = Cert.Reference2Ideal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  have h3 := (flush0_9 t).mp hf
  have hN : t.val < 32 := t.isLt
  have e : ∀ D : FVec Ideal S1x1024 .f32, D (ix2 0 (y 1)) = D ((win0_9.blk t).view.emb y) := fun D => by
    blk_point [place t]
  refine Eq.trans ?_ (e _)
  rw [after0_9, gain_block, dg_at, show (t.val + 1) / 8 = 4 by omega, Finset.sum_range]
  refine (Finset.sum_congr rfl fun s _ => gainTile_at m c s _).trans ?_
  refine Fin.sum_mul_add_congr fun s k hl => ?_
  rw [show (⟨1024 * s.val + k.val, by omega⟩ : Fin 4096) = ⟨s.val * 1024 + k.val, hl⟩ from Fin.ext (by simp only; omega)]
  rfl

end Cert.Kernel2Ideal.FfnBwd

end
-- ==== Proof.AdamNorm1G.lean ====
/- The update of `norm1_g` and `norm2_g` by its optimiser, in one block, are the reference's: the step, the first moment, the second. -/
module

public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pipeline.ReadBack

@[expose] public section

set_option maxRecDepth 16384

noncomputable section

namespace Cert.Kernel12Ideal.AdamNorm1G

open Idealize.ShloMosaic Idealize.ShloMosaic.TcCoe Idealize.SL.Sem
open Cert.Kernel12Ideal Cert.Kernel12Ideal.Gen

theorem place : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

variable (m : (ℓ : Loc nD τ sig) → Buf (Elt Ideal) ℓ)

/-- The step. -/
theorem final0 (c : Dev nD) : (dats m 0 c).arrAt 4 (cfgs 0).N
    = Cert.Reference12Ideal.Read.val_main_v23 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay3, k0_pay2, k0_pay1, Cert.Reference12Ideal.Read.val_main_v23, Cert.Reference12Ideal.Read.val_main_v22, Cert.Reference12Ideal.Read.val_main_v21, Cert.Reference12Ideal.Read.val_main_v20, Cert.Reference12Ideal.Read.val_main_v19, Cert.Reference12Ideal.Read.val_main_v18, Cert.Reference12Ideal.Read.val_main_v17, Cert.Reference12Ideal.Read.val_main_v16, Cert.Reference12Ideal.Read.val_main_v15, Cert.Reference12Ideal.Read.val_main_v14, Cert.Reference12Ideal.Read.val_main_v13, Cert.Reference12Ideal.Read.val_main_v12, Cert.Reference12Ideal.Read.val_main_v11, Cert.Reference12Ideal.Read.val_main_v10, Cert.Reference12Ideal.Read.val_main_v9, Cert.Reference12Ideal.Read.val_main_v8, Cert.Reference12Ideal.Read.val_main_v7, Cert.Reference12Ideal.Read.val_main_v6, Cert.Reference12Ideal.Read.val_main_v5, Cert.Reference12Ideal.Read.val_main_v4, Cert.Reference12Ideal.Read.val_main_v3, Cert.Reference12Ideal.Read.val_main_v2, Cert.Reference12Ideal.Read.val_main_v1, Cert.Reference12Ideal.Read.val_main_v0, Cert.Reference12Ideal.Read.val_main_cst, Cert.Reference12Ideal.Read.val_main_cst_0, Cert.Reference12Ideal.Read.val_main_cst_1, Cert.Reference12Ideal.Read.val_main_cst_2, Cert.Reference12Ideal.Read.val_main_cst_3, Cert.Reference12Ideal.Read.val_main_cst_4, Cert.Reference12Ideal.Read.val_main_cst_5, Cert.Reference12Ideal.Read.val_main_cst_6, Cert.Reference12Ideal.Read.val_main_cst_7]
  blk_point [iblk, V, place t]

/-- The first moment. -/
theorem final1 (c : Dev nD) : (dats m 0 c).arrAt 5 (cfgs 0).N
    = Cert.Reference12Ideal.Read.val_main_v4 (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay1, Cert.Reference12Ideal.Read.val_main_v4, Cert.Reference12Ideal.Read.val_main_v3, Cert.Reference12Ideal.Read.val_main_v2, Cert.Reference12Ideal.Read.val_main_v1, Cert.Reference12Ideal.Read.val_main_v0, Cert.Reference12Ideal.Read.val_main_cst, Cert.Reference12Ideal.Read.val_main_cst_0]
  blk_point [iblk, V, place t]

/-- The second moment. -/
theorem final2 (c : Dev nD) : (dats m 0 c).arrAt 6 (cfgs 0).N
    = Cert.Reference12Ideal.Read.val_main_v10 (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay2, Cert.Reference12Ideal.Read.val_main_v10, Cert.Reference12Ideal.Read.val_main_v9, Cert.Reference12Ideal.Read.val_main_v8, Cert.Reference12Ideal.Read.val_main_v7, Cert.Reference12Ideal.Read.val_main_v6, Cert.Reference12Ideal.Read.val_main_v5, Cert.Reference12Ideal.Read.val_main_cst_1, Cert.Reference12Ideal.Read.val_main_cst_2]
  blk_point [iblk, V, place t]

end Cert.Kernel12Ideal.AdamNorm1G

end
-- ==== Proof.AdamWIn.lean ====
/- The update of `w_in` by its optimiser, block of 512 rows by block, are the reference's: the step, the first moment, the second. -/
module

public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Pipeline.ReadBack

@[expose] public section

set_option maxRecDepth 16384

noncomputable section

namespace Cert.Kernel13Ideal.AdamWIn

open Idealize.ShloMosaic Idealize.ShloMosaic.TcCoe Idealize.SL.Sem
open Cert.Kernel13Ideal Cert.Kernel13Ideal.Gen

theorem place : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ)

/-- The step. -/
theorem final0 (c : Dev nD) : (dats m 0 c).arrAt 4 (cfgs 0).N
    = Cert.Reference13Ideal.Read.val_main_v27 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay4, k0_pay3, k0_pay2, k0_pay1, Cert.Reference13Ideal.Read.val_main_v27, Cert.Reference13Ideal.Read.val_main_v26, Cert.Reference13Ideal.Read.val_main_v25, Cert.Reference13Ideal.Read.val_main_v24, Cert.Reference13Ideal.Read.val_main_v23, Cert.Reference13Ideal.Read.val_main_v22, Cert.Reference13Ideal.Read.val_main_v21, Cert.Reference13Ideal.Read.val_main_v20, Cert.Reference13Ideal.Read.val_main_v19, Cert.Reference13Ideal.Read.val_main_v18, Cert.Reference13Ideal.Read.val_main_v17, Cert.Reference13Ideal.Read.val_main_v16, Cert.Reference13Ideal.Read.val_main_v15, Cert.Reference13Ideal.Read.val_main_v14, Cert.Reference13Ideal.Read.val_main_v13, Cert.Reference13Ideal.Read.val_main_v12, Cert.Reference13Ideal.Read.val_main_v11, Cert.Reference13Ideal.Read.val_main_v10, Cert.Reference13Ideal.Read.val_main_v9, Cert.Reference13Ideal.Read.val_main_v8, Cert.Reference13Ideal.Read.val_main_v7, Cert.Reference13Ideal.Read.val_main_v6, Cert.Reference13Ideal.Read.val_main_v5, Cert.Reference13Ideal.Read.val_main_v4, Cert.Reference13Ideal.Read.val_main_cst, Cert.Reference13Ideal.Read.val_main_cst_0, Cert.Reference13Ideal.Read.val_main_cst_1, Cert.Reference13Ideal.Read.val_main_cst_2, Cert.Reference13Ideal.Read.val_main_cst_3, Cert.Reference13Ideal.Read.val_main_cst_4, Cert.Reference13Ideal.Read.val_main_cst_5, Cert.Reference13Ideal.Read.val_main_cst_6, Cert.Reference13Ideal.Read.val_main_cst_7]
  blk_point [iblk, V, place t]

/-- The first moment. -/
theorem final1 (c : Dev nD) : (dats m 0 c).arrAt 5 (cfgs 0).N
    = Cert.Reference13Ideal.Read.val_main_v8 (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay2, k0_pay1, Cert.Reference13Ideal.Read.val_main_v8, Cert.Reference13Ideal.Read.val_main_v7, Cert.Reference13Ideal.Read.val_main_v6, Cert.Reference13Ideal.Read.val_main_v5, Cert.Reference13Ideal.Read.val_main_v4, Cert.Reference13Ideal.Read.val_main_cst, Cert.Reference13Ideal.Read.val_main_cst_0]
  blk_point [iblk, V, place t]

/-- The second moment. -/
theorem final2 (c : Dev nD) : (dats m 0 c).arrAt 6 (cfgs 0).N
    = Cert.Reference13Ideal.Read.val_main_v14 (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay3, k0_pay1, Cert.Reference13Ideal.Read.val_main_v14, Cert.Reference13Ideal.Read.val_main_v13, Cert.Reference13Ideal.Read.val_main_v12, Cert.Reference13Ideal.Read.val_main_v11, Cert.Reference13Ideal.Read.val_main_v10, Cert.Reference13Ideal.Read.val_main_v9, Cert.Reference13Ideal.Read.val_main_cst_1, Cert.Reference13Ideal.Read.val_main_cst_2]
  blk_point [iblk, V, place t]

end Cert.Kernel13Ideal.AdamWIn

end
-- ==== Proof.AdamConvW.lean ====
/- The update of `conv_w` by its optimiser, in one block, are the reference's: the step, the first moment, the second. -/
module

public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Pipeline.ReadBack

@[expose] public section

set_option maxRecDepth 16384

noncomputable section

namespace Cert.Kernel14Ideal.AdamConvW

open Idealize.ShloMosaic Idealize.ShloMosaic.TcCoe Idealize.SL.Sem
open Cert.Kernel14Ideal Cert.Kernel14Ideal.Gen

theorem place : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

variable (m : (ℓ : Loc nD τ sig) → Buf (Elt Ideal) ℓ)

/-- The step. -/
theorem final0 (c : Dev nD) : (dats m 0 c).arrAt 4 (cfgs 0).N
    = Cert.Reference14Ideal.Read.val_main_v27 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay4, k0_pay3, k0_pay2, k0_pay1, Cert.Reference14Ideal.Read.val_main_v27, Cert.Reference14Ideal.Read.val_main_v26, Cert.Reference14Ideal.Read.val_main_v25, Cert.Reference14Ideal.Read.val_main_v24, Cert.Reference14Ideal.Read.val_main_v23, Cert.Reference14Ideal.Read.val_main_v22, Cert.Reference14Ideal.Read.val_main_v21, Cert.Reference14Ideal.Read.val_main_v20, Cert.Reference14Ideal.Read.val_main_v19, Cert.Reference14Ideal.Read.val_main_v18, Cert.Reference14Ideal.Read.val_main_v17, Cert.Reference14Ideal.Read.val_main_v16, Cert.Reference14Ideal.Read.val_main_v15, Cert.Reference14Ideal.Read.val_main_v14, Cert.Reference14Ideal.Read.val_main_v13, Cert.Reference14Ideal.Read.val_main_v12, Cert.Reference14Ideal.Read.val_main_v11, Cert.Reference14Ideal.Read.val_main_v10, Cert.Reference14Ideal.Read.val_main_v9, Cert.Reference14Ideal.Read.val_main_v8, Cert.Reference14Ideal.Read.val_main_v7, Cert.Reference14Ideal.Read.val_main_v6, Cert.Reference14Ideal.Read.val_main_v5, Cert.Reference14Ideal.Read.val_main_v4, Cert.Reference14Ideal.Read.val_main_cst, Cert.Reference14Ideal.Read.val_main_cst_0, Cert.Reference14Ideal.Read.val_main_cst_1, Cert.Reference14Ideal.Read.val_main_cst_2, Cert.Reference14Ideal.Read.val_main_cst_3, Cert.Reference14Ideal.Read.val_main_cst_4, Cert.Reference14Ideal.Read.val_main_cst_5, Cert.Reference14Ideal.Read.val_main_cst_6, Cert.Reference14Ideal.Read.val_main_cst_7]
  blk_point [iblk, V, place t]

/-- The first moment. -/
theorem final1 (c : Dev nD) : (dats m 0 c).arrAt 5 (cfgs 0).N
    = Cert.Reference14Ideal.Read.val_main_v8 (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay2, k0_pay1, Cert.Reference14Ideal.Read.val_main_v8, Cert.Reference14Ideal.Read.val_main_v7, Cert.Reference14Ideal.Read.val_main_v6, Cert.Reference14Ideal.Read.val_main_v5, Cert.Reference14Ideal.Read.val_main_v4, Cert.Reference14Ideal.Read.val_main_cst, Cert.Reference14Ideal.Read.val_main_cst_0]
  blk_point [iblk, V, place t]

/-- The second moment. -/
theorem final2 (c : Dev nD) : (dats m 0 c).arrAt 6 (cfgs 0).N
    = Cert.Reference14Ideal.Read.val_main_v14 (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay3, k0_pay1, Cert.Reference14Ideal.Read.val_main_v14, Cert.Reference14Ideal.Read.val_main_v13, Cert.Reference14Ideal.Read.val_main_v12, Cert.Reference14Ideal.Read.val_main_v11, Cert.Reference14Ideal.Read.val_main_v10, Cert.Reference14Ideal.Read.val_main_v9, Cert.Reference14Ideal.Read.val_main_cst_1, Cert.Reference14Ideal.Read.val_main_cst_2]
  blk_point [iblk, V, place t]

end Cert.Kernel14Ideal.AdamConvW

end
-- ==== Proof.AdamALog.lean ====
/- The update of `a_log` and `dt_bias` by its optimiser, in one block, are the reference's: the step, the first moment, the second. -/
module

public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Pipeline.ReadBack

@[expose] public section

set_option maxRecDepth 16384

noncomputable section

namespace Cert.Kernel15Ideal.AdamALog

open Idealize.ShloMosaic Idealize.ShloMosaic.TcCoe Idealize.SL.Sem
open Cert.Kernel15Ideal Cert.Kernel15Ideal.Gen

theorem place : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

variable (m : (ℓ : Loc nD τ sig) → Buf (Elt Ideal) ℓ)

/-- The step. -/
theorem final0 (c : Dev nD) : (dats m 0 c).arrAt 4 (cfgs 0).N
    = Cert.Reference15Ideal.Read.val_main_v23 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay3, k0_pay2, k0_pay1, Cert.Reference15Ideal.Read.val_main_v23, Cert.Reference15Ideal.Read.val_main_v22, Cert.Reference15Ideal.Read.val_main_v21, Cert.Reference15Ideal.Read.val_main_v20, Cert.Reference15Ideal.Read.val_main_v19, Cert.Reference15Ideal.Read.val_main_v18, Cert.Reference15Ideal.Read.val_main_v17, Cert.Reference15Ideal.Read.val_main_v16, Cert.Reference15Ideal.Read.val_main_v15, Cert.Reference15Ideal.Read.val_main_v14, Cert.Reference15Ideal.Read.val_main_v13, Cert.Reference15Ideal.Read.val_main_v12, Cert.Reference15Ideal.Read.val_main_v11, Cert.Reference15Ideal.Read.val_main_v10, Cert.Reference15Ideal.Read.val_main_v9, Cert.Reference15Ideal.Read.val_main_v8, Cert.Reference15Ideal.Read.val_main_v7, Cert.Reference15Ideal.Read.val_main_v6, Cert.Reference15Ideal.Read.val_main_v5, Cert.Reference15Ideal.Read.val_main_v4, Cert.Reference15Ideal.Read.val_main_v3, Cert.Reference15Ideal.Read.val_main_v2, Cert.Reference15Ideal.Read.val_main_v1, Cert.Reference15Ideal.Read.val_main_v0, Cert.Reference15Ideal.Read.val_main_cst, Cert.Reference15Ideal.Read.val_main_cst_0, Cert.Reference15Ideal.Read.val_main_cst_1, Cert.Reference15Ideal.Read.val_main_cst_2, Cert.Reference15Ideal.Read.val_main_cst_3, Cert.Reference15Ideal.Read.val_main_cst_4, Cert.Reference15Ideal.Read.val_main_cst_5, Cert.Reference15Ideal.Read.val_main_cst_6, Cert.Reference15Ideal.Read.val_main_cst_7]
  blk_point [iblk, V, place t]

/-- The first moment. -/
theorem final1 (c : Dev nD) : (dats m 0 c).arrAt 5 (cfgs 0).N
    = Cert.Reference15Ideal.Read.val_main_v4 (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay1, Cert.Reference15Ideal.Read.val_main_v4, Cert.Reference15Ideal.Read.val_main_v3, Cert.Reference15Ideal.Read.val_main_v2, Cert.Reference15Ideal.Read.val_main_v1, Cert.Reference15Ideal.Read.val_main_v0, Cert.Reference15Ideal.Read.val_main_cst, Cert.Reference15Ideal.Read.val_main_cst_0]
  blk_point [iblk, V, place t]

/-- The second moment. -/
theorem final2 (c : Dev nD) : (dats m 0 c).arrAt 6 (cfgs 0).N
    = Cert.Reference15Ideal.Read.val_main_v10 (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay2, Cert.Reference15Ideal.Read.val_main_v10, Cert.Reference15Ideal.Read.val_main_v9, Cert.Reference15Ideal.Read.val_main_v8, Cert.Reference15Ideal.Read.val_main_v7, Cert.Reference15Ideal.Read.val_main_v6, Cert.Reference15Ideal.Read.val_main_v5, Cert.Reference15Ideal.Read.val_main_cst_1, Cert.Reference15Ideal.Read.val_main_cst_2]
  blk_point [iblk, V, place t]

end Cert.Kernel15Ideal.AdamALog

end
-- ==== Proof.AdamDnOutG.lean ====
/- The update of `dn_out_g` by its optimiser, in one block, are the reference's: the step, the first moment, the second. -/
module

public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit
public import Idealize.ShloMosaic.Lib.Pipeline.ReadBack

@[expose] public section

set_option maxRecDepth 16384

noncomputable section

namespace Cert.Kernel16Ideal.AdamDnOutG

open Idealize.ShloMosaic Idealize.ShloMosaic.TcCoe Idealize.SL.Sem
open Cert.Kernel16Ideal Cert.Kernel16Ideal.Gen

theorem place : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

variable (m : (ℓ : Loc nD τ sig) → Buf (Elt Ideal) ℓ)

/-- The step. -/
theorem final0 (c : Dev nD) : (dats m 0 c).arrAt 4 (cfgs 0).N
    = Cert.Reference16Ideal.Read.val_main_v23 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay3, k0_pay2, k0_pay1, Cert.Reference16Ideal.Read.val_main_v23, Cert.Reference16Ideal.Read.val_main_v22, Cert.Reference16Ideal.Read.val_main_v21, Cert.Reference16Ideal.Read.val_main_v20, Cert.Reference16Ideal.Read.val_main_v19, Cert.Reference16Ideal.Read.val_main_v18, Cert.Reference16Ideal.Read.val_main_v17, Cert.Reference16Ideal.Read.val_main_v16, Cert.Reference16Ideal.Read.val_main_v15, Cert.Reference16Ideal.Read.val_main_v14, Cert.Reference16Ideal.Read.val_main_v13, Cert.Reference16Ideal.Read.val_main_v12, Cert.Reference16Ideal.Read.val_main_v11, Cert.Reference16Ideal.Read.val_main_v10, Cert.Reference16Ideal.Read.val_main_v9, Cert.Reference16Ideal.Read.val_main_v8, Cert.Reference16Ideal.Read.val_main_v7, Cert.Reference16Ideal.Read.val_main_v6, Cert.Reference16Ideal.Read.val_main_v5, Cert.Reference16Ideal.Read.val_main_v4, Cert.Reference16Ideal.Read.val_main_v3, Cert.Reference16Ideal.Read.val_main_v2, Cert.Reference16Ideal.Read.val_main_v1, Cert.Reference16Ideal.Read.val_main_v0, Cert.Reference16Ideal.Read.val_main_cst, Cert.Reference16Ideal.Read.val_main_cst_0, Cert.Reference16Ideal.Read.val_main_cst_1, Cert.Reference16Ideal.Read.val_main_cst_2, Cert.Reference16Ideal.Read.val_main_cst_3, Cert.Reference16Ideal.Read.val_main_cst_4, Cert.Reference16Ideal.Read.val_main_cst_5, Cert.Reference16Ideal.Read.val_main_cst_6, Cert.Reference16Ideal.Read.val_main_cst_7]
  blk_point [iblk, V, place t]

/-- The first moment. -/
theorem final1 (c : Dev nD) : (dats m 0 c).arrAt 5 (cfgs 0).N
    = Cert.Reference16Ideal.Read.val_main_v4 (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay1, Cert.Reference16Ideal.Read.val_main_v4, Cert.Reference16Ideal.Read.val_main_v3, Cert.Reference16Ideal.Read.val_main_v2, Cert.Reference16Ideal.Read.val_main_v1, Cert.Reference16Ideal.Read.val_main_v0, Cert.Reference16Ideal.Read.val_main_cst, Cert.Reference16Ideal.Read.val_main_cst_0]
  blk_point [iblk, V, place t]

/-- The second moment. -/
theorem final2 (c : Dev nD) : (dats m 0 c).arrAt 6 (cfgs 0).N
    = Cert.Reference16Ideal.Read.val_main_v10 (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay2, Cert.Reference16Ideal.Read.val_main_v10, Cert.Reference16Ideal.Read.val_main_v9, Cert.Reference16Ideal.Read.val_main_v8, Cert.Reference16Ideal.Read.val_main_v7, Cert.Reference16Ideal.Read.val_main_v6, Cert.Reference16Ideal.Read.val_main_v5, Cert.Reference16Ideal.Read.val_main_cst_1, Cert.Reference16Ideal.Read.val_main_cst_2]
  blk_point [iblk, V, place t]

end Cert.Kernel16Ideal.AdamDnOutG

end
-- ==== Proof.AdamSbQG.lean ====
/- The update of `sb_q_g` and `sb_k_g` by its optimiser, in one block, are the reference's: the step, the first moment, the second. -/
module

public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit
public import Idealize.ShloMosaic.Lib.Pipeline.ReadBack

@[expose] public section

set_option maxRecDepth 16384

noncomputable section

namespace Cert.Kernel17Ideal.AdamSbQG

open Idealize.ShloMosaic Idealize.ShloMosaic.TcCoe Idealize.SL.Sem
open Cert.Kernel17Ideal Cert.Kernel17Ideal.Gen

theorem place : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

variable (m : (ℓ : Loc nD τ sig) → Buf (Elt Ideal) ℓ)

/-- The step. -/
theorem final0 (c : Dev nD) : (dats m 0 c).arrAt 4 (cfgs 0).N
    = Cert.Reference17Ideal.Read.val_main_v23 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay3, k0_pay2, k0_pay1, Cert.Reference17Ideal.Read.val_main_v23, Cert.Reference17Ideal.Read.val_main_v22, Cert.Reference17Ideal.Read.val_main_v21, Cert.Reference17Ideal.Read.val_main_v20, Cert.Reference17Ideal.Read.val_main_v19, Cert.Reference17Ideal.Read.val_main_v18, Cert.Reference17Ideal.Read.val_main_v17, Cert.Reference17Ideal.Read.val_main_v16, Cert.Reference17Ideal.Read.val_main_v15, Cert.Reference17Ideal.Read.val_main_v14, Cert.Reference17Ideal.Read.val_main_v13, Cert.Reference17Ideal.Read.val_main_v12, Cert.Reference17Ideal.Read.val_main_v11, Cert.Reference17Ideal.Read.val_main_v10, Cert.Reference17Ideal.Read.val_main_v9, Cert.Reference17Ideal.Read.val_main_v8, Cert.Reference17Ideal.Read.val_main_v7, Cert.Reference17Ideal.Read.val_main_v6, Cert.Reference17Ideal.Read.val_main_v5, Cert.Reference17Ideal.Read.val_main_v4, Cert.Reference17Ideal.Read.val_main_v3, Cert.Reference17Ideal.Read.val_main_v2, Cert.Reference17Ideal.Read.val_main_v1, Cert.Reference17Ideal.Read.val_main_v0, Cert.Reference17Ideal.Read.val_main_cst, Cert.Reference17Ideal.Read.val_main_cst_0, Cert.Reference17Ideal.Read.val_main_cst_1, Cert.Reference17Ideal.Read.val_main_cst_2, Cert.Reference17Ideal.Read.val_main_cst_3, Cert.Reference17Ideal.Read.val_main_cst_4, Cert.Reference17Ideal.Read.val_main_cst_5, Cert.Reference17Ideal.Read.val_main_cst_6, Cert.Reference17Ideal.Read.val_main_cst_7]
  blk_point [iblk, V, place t]

/-- The first moment. -/
theorem final1 (c : Dev nD) : (dats m 0 c).arrAt 5 (cfgs 0).N
    = Cert.Reference17Ideal.Read.val_main_v4 (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay1, Cert.Reference17Ideal.Read.val_main_v4, Cert.Reference17Ideal.Read.val_main_v3, Cert.Reference17Ideal.Read.val_main_v2, Cert.Reference17Ideal.Read.val_main_v1, Cert.Reference17Ideal.Read.val_main_v0, Cert.Reference17Ideal.Read.val_main_cst, Cert.Reference17Ideal.Read.val_main_cst_0]
  blk_point [iblk, V, place t]

/-- The second moment. -/
theorem final2 (c : Dev nD) : (dats m 0 c).arrAt 6 (cfgs 0).N
    = Cert.Reference17Ideal.Read.val_main_v10 (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay2, Cert.Reference17Ideal.Read.val_main_v10, Cert.Reference17Ideal.Read.val_main_v9, Cert.Reference17Ideal.Read.val_main_v8, Cert.Reference17Ideal.Read.val_main_v7, Cert.Reference17Ideal.Read.val_main_v6, Cert.Reference17Ideal.Read.val_main_v5, Cert.Reference17Ideal.Read.val_main_cst_1, Cert.Reference17Ideal.Read.val_main_cst_2]
  blk_point [iblk, V, place t]

end Cert.Kernel17Ideal.AdamSbQG

end
-- ==== Proof.AdamSgVG.lean ====
/- The update of `sg_v_g` by its optimiser, in one block, are the reference's: the step, the first moment, the second. -/
module

public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit
public import Idealize.ShloMosaic.Lib.Pipeline.ReadBack

@[expose] public section

set_option maxRecDepth 16384

noncomputable section

namespace Cert.Kernel18Ideal.AdamSgVG

open Idealize.ShloMosaic Idealize.ShloMosaic.TcCoe Idealize.SL.Sem
open Cert.Kernel18Ideal Cert.Kernel18Ideal.Gen

theorem place : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

variable (m : (ℓ : Loc nD τ sig) → Buf (Elt Ideal) ℓ)

/-- The step. -/
theorem final0 (c : Dev nD) : (dats m 0 c).arrAt 4 (cfgs 0).N
    = Cert.Reference18Ideal.Read.val_main_v23 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay3, k0_pay2, k0_pay1, Cert.Reference18Ideal.Read.val_main_v23, Cert.Reference18Ideal.Read.val_main_v22, Cert.Reference18Ideal.Read.val_main_v21, Cert.Reference18Ideal.Read.val_main_v20, Cert.Reference18Ideal.Read.val_main_v19, Cert.Reference18Ideal.Read.val_main_v18, Cert.Reference18Ideal.Read.val_main_v17, Cert.Reference18Ideal.Read.val_main_v16, Cert.Reference18Ideal.Read.val_main_v15, Cert.Reference18Ideal.Read.val_main_v14, Cert.Reference18Ideal.Read.val_main_v13, Cert.Reference18Ideal.Read.val_main_v12, Cert.Reference18Ideal.Read.val_main_v11, Cert.Reference18Ideal.Read.val_main_v10, Cert.Reference18Ideal.Read.val_main_v9, Cert.Reference18Ideal.Read.val_main_v8, Cert.Reference18Ideal.Read.val_main_v7, Cert.Reference18Ideal.Read.val_main_v6, Cert.Reference18Ideal.Read.val_main_v5, Cert.Reference18Ideal.Read.val_main_v4, Cert.Reference18Ideal.Read.val_main_v3, Cert.Reference18Ideal.Read.val_main_v2, Cert.Reference18Ideal.Read.val_main_v1, Cert.Reference18Ideal.Read.val_main_v0, Cert.Reference18Ideal.Read.val_main_cst, Cert.Reference18Ideal.Read.val_main_cst_0, Cert.Reference18Ideal.Read.val_main_cst_1, Cert.Reference18Ideal.Read.val_main_cst_2, Cert.Reference18Ideal.Read.val_main_cst_3, Cert.Reference18Ideal.Read.val_main_cst_4, Cert.Reference18Ideal.Read.val_main_cst_5, Cert.Reference18Ideal.Read.val_main_cst_6, Cert.Reference18Ideal.Read.val_main_cst_7]
  blk_point [iblk, V, place t]

/-- The first moment. -/
theorem final1 (c : Dev nD) : (dats m 0 c).arrAt 5 (cfgs 0).N
    = Cert.Reference18Ideal.Read.val_main_v4 (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay1, Cert.Reference18Ideal.Read.val_main_v4, Cert.Reference18Ideal.Read.val_main_v3, Cert.Reference18Ideal.Read.val_main_v2, Cert.Reference18Ideal.Read.val_main_v1, Cert.Reference18Ideal.Read.val_main_v0, Cert.Reference18Ideal.Read.val_main_cst, Cert.Reference18Ideal.Read.val_main_cst_0]
  blk_point [iblk, V, place t]

/-- The second moment. -/
theorem final2 (c : Dev nD) : (dats m 0 c).arrAt 6 (cfgs 0).N
    = Cert.Reference18Ideal.Read.val_main_v10 (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay2, Cert.Reference18Ideal.Read.val_main_v10, Cert.Reference18Ideal.Read.val_main_v9, Cert.Reference18Ideal.Read.val_main_v8, Cert.Reference18Ideal.Read.val_main_v7, Cert.Reference18Ideal.Read.val_main_v6, Cert.Reference18Ideal.Read.val_main_v5, Cert.Reference18Ideal.Read.val_main_cst_1, Cert.Reference18Ideal.Read.val_main_cst_2]
  blk_point [iblk, V, place t]

end Cert.Kernel18Ideal.AdamSgVG

end
-- ==== Proof.AdamSgW.lean ====
/- The update of `sg_w` by its optimiser, block of 512 rows by block, are the reference's: the step, the first moment, the second. -/
module

public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.ValueKit
public import Idealize.ShloMosaic.Lib.Pipeline.ReadBack

@[expose] public section

set_option maxRecDepth 16384

noncomputable section

namespace Cert.Kernel19Ideal.AdamSgW

open Idealize.ShloMosaic Idealize.ShloMosaic.TcCoe Idealize.SL.Sem
open Cert.Kernel19Ideal Cert.Kernel19Ideal.Gen

theorem place : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ)

/-- The step. -/
theorem final0 (c : Dev nD) : (dats m 0 c).arrAt 4 (cfgs 0).N
    = Cert.Reference19Ideal.Read.val_main_v27 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay4, k0_pay3, k0_pay2, k0_pay1, Cert.Reference19Ideal.Read.val_main_v27, Cert.Reference19Ideal.Read.val_main_v26, Cert.Reference19Ideal.Read.val_main_v25, Cert.Reference19Ideal.Read.val_main_v24, Cert.Reference19Ideal.Read.val_main_v23, Cert.Reference19Ideal.Read.val_main_v22, Cert.Reference19Ideal.Read.val_main_v21, Cert.Reference19Ideal.Read.val_main_v20, Cert.Reference19Ideal.Read.val_main_v19, Cert.Reference19Ideal.Read.val_main_v18, Cert.Reference19Ideal.Read.val_main_v17, Cert.Reference19Ideal.Read.val_main_v16, Cert.Reference19Ideal.Read.val_main_v15, Cert.Reference19Ideal.Read.val_main_v14, Cert.Reference19Ideal.Read.val_main_v13, Cert.Reference19Ideal.Read.val_main_v12, Cert.Reference19Ideal.Read.val_main_v11, Cert.Reference19Ideal.Read.val_main_v10, Cert.Reference19Ideal.Read.val_main_v9, Cert.Reference19Ideal.Read.val_main_v8, Cert.Reference19Ideal.Read.val_main_v7, Cert.Reference19Ideal.Read.val_main_v6, Cert.Reference19Ideal.Read.val_main_v5, Cert.Reference19Ideal.Read.val_main_v4, Cert.Reference19Ideal.Read.val_main_cst, Cert.Reference19Ideal.Read.val_main_cst_0, Cert.Reference19Ideal.Read.val_main_cst_1, Cert.Reference19Ideal.Read.val_main_cst_2, Cert.Reference19Ideal.Read.val_main_cst_3, Cert.Reference19Ideal.Read.val_main_cst_4, Cert.Reference19Ideal.Read.val_main_cst_5, Cert.Reference19Ideal.Read.val_main_cst_6, Cert.Reference19Ideal.Read.val_main_cst_7]
  blk_point [iblk, V, place t]

/-- The first moment. -/
theorem final1 (c : Dev nD) : (dats m 0 c).arrAt 5 (cfgs 0).N
    = Cert.Reference19Ideal.Read.val_main_v8 (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay2, k0_pay1, Cert.Reference19Ideal.Read.val_main_v8, Cert.Reference19Ideal.Read.val_main_v7, Cert.Reference19Ideal.Read.val_main_v6, Cert.Reference19Ideal.Read.val_main_v5, Cert.Reference19Ideal.Read.val_main_v4, Cert.Reference19Ideal.Read.val_main_cst, Cert.Reference19Ideal.Read.val_main_cst_0]
  blk_point [iblk, V, place t]

/-- The second moment. -/
theorem final2 (c : Dev nD) : (dats m 0 c).arrAt 6 (cfgs 0).N
    = Cert.Reference19Ideal.Read.val_main_v14 (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay3, k0_pay1, Cert.Reference19Ideal.Read.val_main_v14, Cert.Reference19Ideal.Read.val_main_v13, Cert.Reference19Ideal.Read.val_main_v12, Cert.Reference19Ideal.Read.val_main_v11, Cert.Reference19Ideal.Read.val_main_v10, Cert.Reference19Ideal.Read.val_main_v9, Cert.Reference19Ideal.Read.val_main_cst_1, Cert.Reference19Ideal.Read.val_main_cst_2]
  blk_point [iblk, V, place t]

end Cert.Kernel19Ideal.AdamSgW

end
-- ==== Proof.AdamSgB.lean ====
/- The update of `sg_b` by its optimiser, in one block, are the reference's: the step, the first moment, the second. -/
module

public import proofs.«01_k».proof.Proof.Gen.Kernel20Ideal.Value
public import proofs.«01_k».proof.Proof.Gen.Reference20Ideal.Run
public import proofs.«01_k».proof.Proof.Gen.Reference20Ideal.Read
public import Idealize.ShloMosaic.Lib.Pipeline.ValueKit
public import Idealize.ShloMosaic.Lib.Pipeline.ReadBack

@[expose] public section

set_option maxRecDepth 16384

noncomputable section

namespace Cert.Kernel20Ideal.AdamSgB

open Idealize.ShloMosaic Idealize.ShloMosaic.TcCoe Idealize.SL.Sem
open Cert.Kernel20Ideal Cert.Kernel20Ideal.Gen

theorem place : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

variable (m : (ℓ : Loc nD τ sig) → Buf (Elt Ideal) ℓ)

/-- The step. -/
theorem final0 (c : Dev nD) : (dats m 0 c).arrAt 4 (cfgs 0).N
    = Cert.Reference20Ideal.Read.val_main_v27 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay4, k0_pay3, k0_pay2, k0_pay1, Cert.Reference20Ideal.Read.val_main_v27, Cert.Reference20Ideal.Read.val_main_v26, Cert.Reference20Ideal.Read.val_main_v25, Cert.Reference20Ideal.Read.val_main_v24, Cert.Reference20Ideal.Read.val_main_v23, Cert.Reference20Ideal.Read.val_main_v22, Cert.Reference20Ideal.Read.val_main_v21, Cert.Reference20Ideal.Read.val_main_v20, Cert.Reference20Ideal.Read.val_main_v19, Cert.Reference20Ideal.Read.val_main_v18, Cert.Reference20Ideal.Read.val_main_v17, Cert.Reference20Ideal.Read.val_main_v16, Cert.Reference20Ideal.Read.val_main_v15, Cert.Reference20Ideal.Read.val_main_v14, Cert.Reference20Ideal.Read.val_main_v13, Cert.Reference20Ideal.Read.val_main_v12, Cert.Reference20Ideal.Read.val_main_v11, Cert.Reference20Ideal.Read.val_main_v10, Cert.Reference20Ideal.Read.val_main_v9, Cert.Reference20Ideal.Read.val_main_v8, Cert.Reference20Ideal.Read.val_main_v7, Cert.Reference20Ideal.Read.val_main_v6, Cert.Reference20Ideal.Read.val_main_v5, Cert.Reference20Ideal.Read.val_main_v4, Cert.Reference20Ideal.Read.val_main_cst, Cert.Reference20Ideal.Read.val_main_cst_0, Cert.Reference20Ideal.Read.val_main_cst_1, Cert.Reference20Ideal.Read.val_main_cst_2, Cert.Reference20Ideal.Read.val_main_cst_3, Cert.Reference20Ideal.Read.val_main_cst_4, Cert.Reference20Ideal.Read.val_main_cst_5, Cert.Reference20Ideal.Read.val_main_cst_6, Cert.Reference20Ideal.Read.val_main_cst_7]
  blk_point [iblk, V, place t]

/-- The first moment. -/
theorem final1 (c : Dev nD) : (dats m 0 c).arrAt 5 (cfgs 0).N
    = Cert.Reference20Ideal.Read.val_main_v8 (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay2, k0_pay1, Cert.Reference20Ideal.Read.val_main_v8, Cert.Reference20Ideal.Read.val_main_v7, Cert.Reference20Ideal.Read.val_main_v6, Cert.Reference20Ideal.Read.val_main_v5, Cert.Reference20Ideal.Read.val_main_v4, Cert.Reference20Ideal.Read.val_main_cst, Cert.Reference20Ideal.Read.val_main_cst_0]
  blk_point [iblk, V, place t]

/-- The second moment. -/
theorem final2 (c : Dev nD) : (dats m 0 c).arrAt 6 (cfgs 0).N
    = Cert.Reference20Ideal.Read.val_main_v14 (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay3, k0_pay1, Cert.Reference20Ideal.Read.val_main_v14, Cert.Reference20Ideal.Read.val_main_v13, Cert.Reference20Ideal.Read.val_main_v12, Cert.Reference20Ideal.Read.val_main_v11, Cert.Reference20Ideal.Read.val_main_v10, Cert.Reference20Ideal.Read.val_main_v9, Cert.Reference20Ideal.Read.val_main_cst_1, Cert.Reference20Ideal.Read.val_main_cst_2]
  blk_point [iblk, V, place t]

end Cert.Kernel20Ideal.AdamSgB

end
-- ==== Proof.AdamWOut.lean ====
/- The update of `w_out` by its optimiser, in one block, are the reference's: the step, the first moment, the second. -/
module

public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit
public import Idealize.ShloMosaic.Lib.Pipeline.ReadBack

@[expose] public section

set_option maxRecDepth 16384

noncomputable section

namespace Cert.Kernel21Ideal.AdamWOut

open Idealize.ShloMosaic Idealize.ShloMosaic.TcCoe Idealize.SL.Sem
open Cert.Kernel21Ideal Cert.Kernel21Ideal.Gen

theorem place : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

variable (m : (ℓ : Loc nD τ sig) → Buf (Elt Ideal) ℓ)

/-- The step. -/
theorem final0 (c : Dev nD) : (dats m 0 c).arrAt 4 (cfgs 0).N
    = Cert.Reference21Ideal.Read.val_main_v27 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay4, k0_pay3, k0_pay2, k0_pay1, Cert.Reference21Ideal.Read.val_main_v27, Cert.Reference21Ideal.Read.val_main_v26, Cert.Reference21Ideal.Read.val_main_v25, Cert.Reference21Ideal.Read.val_main_v24, Cert.Reference21Ideal.Read.val_main_v23, Cert.Reference21Ideal.Read.val_main_v22, Cert.Reference21Ideal.Read.val_main_v21, Cert.Reference21Ideal.Read.val_main_v20, Cert.Reference21Ideal.Read.val_main_v19, Cert.Reference21Ideal.Read.val_main_v18, Cert.Reference21Ideal.Read.val_main_v17, Cert.Reference21Ideal.Read.val_main_v16, Cert.Reference21Ideal.Read.val_main_v15, Cert.Reference21Ideal.Read.val_main_v14, Cert.Reference21Ideal.Read.val_main_v13, Cert.Reference21Ideal.Read.val_main_v12, Cert.Reference21Ideal.Read.val_main_v11, Cert.Reference21Ideal.Read.val_main_v10, Cert.Reference21Ideal.Read.val_main_v9, Cert.Reference21Ideal.Read.val_main_v8, Cert.Reference21Ideal.Read.val_main_v7, Cert.Reference21Ideal.Read.val_main_v6, Cert.Reference21Ideal.Read.val_main_v5, Cert.Reference21Ideal.Read.val_main_v4, Cert.Reference21Ideal.Read.val_main_cst, Cert.Reference21Ideal.Read.val_main_cst_0, Cert.Reference21Ideal.Read.val_main_cst_1, Cert.Reference21Ideal.Read.val_main_cst_2, Cert.Reference21Ideal.Read.val_main_cst_3, Cert.Reference21Ideal.Read.val_main_cst_4, Cert.Reference21Ideal.Read.val_main_cst_5, Cert.Reference21Ideal.Read.val_main_cst_6, Cert.Reference21Ideal.Read.val_main_cst_7]
  blk_point [iblk, V, place t]

/-- The first moment. -/
theorem final1 (c : Dev nD) : (dats m 0 c).arrAt 5 (cfgs 0).N
    = Cert.Reference21Ideal.Read.val_main_v8 (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay2, k0_pay1, Cert.Reference21Ideal.Read.val_main_v8, Cert.Reference21Ideal.Read.val_main_v7, Cert.Reference21Ideal.Read.val_main_v6, Cert.Reference21Ideal.Read.val_main_v5, Cert.Reference21Ideal.Read.val_main_v4, Cert.Reference21Ideal.Read.val_main_cst, Cert.Reference21Ideal.Read.val_main_cst_0]
  blk_point [iblk, V, place t]

/-- The second moment. -/
theorem final2 (c : Dev nD) : (dats m 0 c).arrAt 6 (cfgs 0).N
    = Cert.Reference21Ideal.Read.val_main_v14 (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay3, k0_pay1, Cert.Reference21Ideal.Read.val_main_v14, Cert.Reference21Ideal.Read.val_main_v13, Cert.Reference21Ideal.Read.val_main_v12, Cert.Reference21Ideal.Read.val_main_v11, Cert.Reference21Ideal.Read.val_main_v10, Cert.Reference21Ideal.Read.val_main_v9, Cert.Reference21Ideal.Read.val_main_cst_1, Cert.Reference21Ideal.Read.val_main_cst_2]
  blk_point [iblk, V, place t]

end Cert.Kernel21Ideal.AdamWOut

end
-- ==== Proof.AdamWFf1.lean ====
/- The update of `w_ff1` by its optimiser, block of 512 rows by block, are the reference's: the step, the first moment, the second. -/
module

public import proofs.«01_k».proof.Proof.Gen.Kernel22Ideal.Value
public import proofs.«01_k».proof.Proof.Gen.Reference22Ideal.Run
public import proofs.«01_k».proof.Proof.Gen.Reference22Ideal.Read
public import Idealize.ShloMosaic.Lib.Pipeline.ValueKit
public import Idealize.ShloMosaic.Lib.Pipeline.ReadBack

@[expose] public section

set_option maxRecDepth 16384

noncomputable section

namespace Cert.Kernel22Ideal.AdamWFf1

open Idealize.ShloMosaic Idealize.ShloMosaic.TcCoe Idealize.SL.Sem
open Cert.Kernel22Ideal Cert.Kernel22Ideal.Gen

theorem place : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ)

/-- The step. -/
theorem final0 (c : Dev nD) : (dats m 0 c).arrAt 4 (cfgs 0).N
    = Cert.Reference22Ideal.Read.val_main_v27 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay4, k0_pay3, k0_pay2, k0_pay1, Cert.Reference22Ideal.Read.val_main_v27, Cert.Reference22Ideal.Read.val_main_v26, Cert.Reference22Ideal.Read.val_main_v25, Cert.Reference22Ideal.Read.val_main_v24, Cert.Reference22Ideal.Read.val_main_v23, Cert.Reference22Ideal.Read.val_main_v22, Cert.Reference22Ideal.Read.val_main_v21, Cert.Reference22Ideal.Read.val_main_v20, Cert.Reference22Ideal.Read.val_main_v19, Cert.Reference22Ideal.Read.val_main_v18, Cert.Reference22Ideal.Read.val_main_v17, Cert.Reference22Ideal.Read.val_main_v16, Cert.Reference22Ideal.Read.val_main_v15, Cert.Reference22Ideal.Read.val_main_v14, Cert.Reference22Ideal.Read.val_main_v13, Cert.Reference22Ideal.Read.val_main_v12, Cert.Reference22Ideal.Read.val_main_v11, Cert.Reference22Ideal.Read.val_main_v10, Cert.Reference22Ideal.Read.val_main_v9, Cert.Reference22Ideal.Read.val_main_v8, Cert.Reference22Ideal.Read.val_main_v7, Cert.Reference22Ideal.Read.val_main_v6, Cert.Reference22Ideal.Read.val_main_v5, Cert.Reference22Ideal.Read.val_main_v4, Cert.Reference22Ideal.Read.val_main_cst, Cert.Reference22Ideal.Read.val_main_cst_0, Cert.Reference22Ideal.Read.val_main_cst_1, Cert.Reference22Ideal.Read.val_main_cst_2, Cert.Reference22Ideal.Read.val_main_cst_3, Cert.Reference22Ideal.Read.val_main_cst_4, Cert.Reference22Ideal.Read.val_main_cst_5, Cert.Reference22Ideal.Read.val_main_cst_6, Cert.Reference22Ideal.Read.val_main_cst_7]
  blk_point [iblk, V, place t]

/-- The first moment. -/
theorem final1 (c : Dev nD) : (dats m 0 c).arrAt 5 (cfgs 0).N
    = Cert.Reference22Ideal.Read.val_main_v8 (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay2, k0_pay1, Cert.Reference22Ideal.Read.val_main_v8, Cert.Reference22Ideal.Read.val_main_v7, Cert.Reference22Ideal.Read.val_main_v6, Cert.Reference22Ideal.Read.val_main_v5, Cert.Reference22Ideal.Read.val_main_v4, Cert.Reference22Ideal.Read.val_main_cst, Cert.Reference22Ideal.Read.val_main_cst_0]
  blk_point [iblk, V, place t]

/-- The second moment. -/
theorem final2 (c : Dev nD) : (dats m 0 c).arrAt 6 (cfgs 0).N
    = Cert.Reference22Ideal.Read.val_main_v14 (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay3, k0_pay1, Cert.Reference22Ideal.Read.val_main_v14, Cert.Reference22Ideal.Read.val_main_v13, Cert.Reference22Ideal.Read.val_main_v12, Cert.Reference22Ideal.Read.val_main_v11, Cert.Reference22Ideal.Read.val_main_v10, Cert.Reference22Ideal.Read.val_main_v9, Cert.Reference22Ideal.Read.val_main_cst_1, Cert.Reference22Ideal.Read.val_main_cst_2]
  blk_point [iblk, V, place t]

end Cert.Kernel22Ideal.AdamWFf1

end
-- ==== Proof.AdamWFf2.lean ====
/- The update of `w_ff2` by its optimiser, block of 512 rows by block, are the reference's: the step, the first moment, the second. -/
module

public import proofs.«01_k».proof.Proof.Gen.Kernel23Ideal.Value
public import proofs.«01_k».proof.Proof.Gen.Reference23Ideal.Run
public import proofs.«01_k».proof.Proof.Gen.Reference23Ideal.Read
public import Idealize.ShloMosaic.Lib.Pipeline.ValueKit
public import Idealize.ShloMosaic.Lib.Pipeline.ReadBack

@[expose] public section

set_option maxRecDepth 16384

noncomputable section

namespace Cert.Kernel23Ideal.AdamWFf2

open Idealize.ShloMosaic Idealize.ShloMosaic.TcCoe Idealize.SL.Sem
open Cert.Kernel23Ideal Cert.Kernel23Ideal.Gen

theorem place : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ)

/-- The step. -/
theorem final0 (c : Dev nD) : (dats m 0 c).arrAt 4 (cfgs 0).N
    = Cert.Reference23Ideal.Read.val_main_v27 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay4, k0_pay3, k0_pay2, k0_pay1, Cert.Reference23Ideal.Read.val_main_v27, Cert.Reference23Ideal.Read.val_main_v26, Cert.Reference23Ideal.Read.val_main_v25, Cert.Reference23Ideal.Read.val_main_v24, Cert.Reference23Ideal.Read.val_main_v23, Cert.Reference23Ideal.Read.val_main_v22, Cert.Reference23Ideal.Read.val_main_v21, Cert.Reference23Ideal.Read.val_main_v20, Cert.Reference23Ideal.Read.val_main_v19, Cert.Reference23Ideal.Read.val_main_v18, Cert.Reference23Ideal.Read.val_main_v17, Cert.Reference23Ideal.Read.val_main_v16, Cert.Reference23Ideal.Read.val_main_v15, Cert.Reference23Ideal.Read.val_main_v14, Cert.Reference23Ideal.Read.val_main_v13, Cert.Reference23Ideal.Read.val_main_v12, Cert.Reference23Ideal.Read.val_main_v11, Cert.Reference23Ideal.Read.val_main_v10, Cert.Reference23Ideal.Read.val_main_v9, Cert.Reference23Ideal.Read.val_main_v8, Cert.Reference23Ideal.Read.val_main_v7, Cert.Reference23Ideal.Read.val_main_v6, Cert.Reference23Ideal.Read.val_main_v5, Cert.Reference23Ideal.Read.val_main_v4, Cert.Reference23Ideal.Read.val_main_cst, Cert.Reference23Ideal.Read.val_main_cst_0, Cert.Reference23Ideal.Read.val_main_cst_1, Cert.Reference23Ideal.Read.val_main_cst_2, Cert.Reference23Ideal.Read.val_main_cst_3, Cert.Reference23Ideal.Read.val_main_cst_4, Cert.Reference23Ideal.Read.val_main_cst_5, Cert.Reference23Ideal.Read.val_main_cst_6, Cert.Reference23Ideal.Read.val_main_cst_7]
  blk_point [iblk, V, place t]

/-- The first moment. -/
theorem final1 (c : Dev nD) : (dats m 0 c).arrAt 5 (cfgs 0).N
    = Cert.Reference23Ideal.Read.val_main_v8 (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay2, k0_pay1, Cert.Reference23Ideal.Read.val_main_v8, Cert.Reference23Ideal.Read.val_main_v7, Cert.Reference23Ideal.Read.val_main_v6, Cert.Reference23Ideal.Read.val_main_v5, Cert.Reference23Ideal.Read.val_main_v4, Cert.Reference23Ideal.Read.val_main_cst, Cert.Reference23Ideal.Read.val_main_cst_0]
  blk_point [iblk, V, place t]

/-- The second moment. -/
theorem final2 (c : Dev nD) : (dats m 0 c).arrAt 6 (cfgs 0).N
    = Cert.Reference23Ideal.Read.val_main_v14 (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay3, k0_pay1, Cert.Reference23Ideal.Read.val_main_v14, Cert.Reference23Ideal.Read.val_main_v13, Cert.Reference23Ideal.Read.val_main_v12, Cert.Reference23Ideal.Read.val_main_v11, Cert.Reference23Ideal.Read.val_main_v10, Cert.Reference23Ideal.Read.val_main_v9, Cert.Reference23Ideal.Read.val_main_cst_1, Cert.Reference23Ideal.Read.val_main_cst_2]
  blk_point [iblk, V, place t]

end Cert.Kernel23Ideal.AdamWFf2

end
-- ==== Proof.Loss.lean ====
/- The loss of one device's tokens and its gradient, block of 1024 tokens by block, are the reference's. -/
module

public import proofs.«01_k».proof.Proof.Gen.Kernel24Ideal.Value
public import proofs.«01_k».proof.Proof.Gen.Reference24Ideal.Run
public import proofs.«01_k».proof.Proof.Gen.Reference24Ideal.Read
public import Idealize.ShloMosaic.Lib.Pipeline.ValueKit
public import Idealize.ShloMosaic.Lib.Pipeline.ReadBack

@[expose] public section

set_option maxRecDepth 16384

noncomputable section

namespace Cert.Kernel24Ideal.Loss

open Idealize.ShloMosaic Idealize.ShloMosaic.TcCoe Idealize.SL.Sem
open Cert.Kernel24Ideal Cert.Kernel24Ideal.Gen

/-- A half, the row's length, its reciprocal and two as extended reals. -/
theorem half_eq : Ideal.ofBits .f32 0x3F000000#32 = (((1 : ℝ) / 2 : ℝ) : EReal) := by
  simp [Ideal.ofBits, Ideal.ieee, -EReal.coe_mul]; norm_num

theorem long_eq : Ideal.ofBits .f32 0x44800000#32 = ((1024 : ℝ) : EReal) := by
  simp [Ideal.ofBits, Ideal.ieee, -EReal.coe_mul]; norm_num

theorem recip_eq : Ideal.ofBits .f32 0x3A800000#32 = (((1 : ℝ) / 1024 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem slope_eq : Ideal.div (Ideal.ofBits .f32 0x3F000000#32) (Ideal.ofBits .f32 0x44800000#32) * Ideal.ofBits .f32 0x40000000#32
    = Ideal.ofBits .f32 0x3A800000#32 := by
  rw [half_eq, long_eq, two_eq, recip_eq, Ideal.div, if_neg (by exact_mod_cast (by norm_num : (1024 : ℝ) ≠ 0)), ← EReal.coe_inv,
    ← EReal.coe_mul, ← EReal.coe_mul]
  norm_num

/-- A half of a sum is the sum of the halves. -/
theorem half_sum (n : ℕ) (f : Fin n → EReal) :
    Ideal.ofBits .f32 0x3F000000#32 * ∑ k : Fin n, f k = ∑ k : Fin n, Ideal.ofBits .f32 0x3F000000#32 * f k := by
  rw [half_eq]
  induction n with
  | zero => simp
  | succ n ih =>
    rw [Fin.sum_univ_succ, Fin.sum_univ_succ, ← ih]
    exact EReal.left_distrib_of_nonneg_of_ne_top (by exact_mod_cast (by norm_num : (0 : ℝ) ≤ 1 / 2)) (EReal.coe_ne_top _) _ _

/-- A token's loss but for the half: its mean squared error. -/
def row (y t : Fin 1024 → EReal) : EReal :=
  Ideal.div (∑ k : Fin 1024, (y k - t k) * (y k - t k)) (Ideal.ofBits .f32 0x44800000#32)

section Reference
open Cert.Reference24Ideal.Read

theorem loss_at (Y T : FVec Ideal S4096x1024 .f32) (i : S1x128.Idx) :
    val_main_v9 (F := Ideal) Y T i
      = Ideal.ofBits .f32 0x3F000000#32 * ∑ r : Fin 4096, row (fun k => Y (ix2 r k)) (fun k => T (ix2 r k)) := by
  pointwise [row, val_main_v9, val_main_v8, val_main_v7, val_main_v6, val_main_v5, val_main_v4, val_main_v1, val_main_v0,
    val_main_cst_0, val_main_cst_1, val_main_cst_2, val_main_cst_3]

theorem dy_at (Y T : FVec Ideal S4096x1024 .f32) (i : S4096x1024.Idx) :
    val_main_v15 (F := Ideal) Y T i = (Y i - T i) * Ideal.ofBits .f32 0x3A800000#32 := by
  pointwise [val_main_v15, val_main_v14, val_main_v13, val_main_v12, val_main_v11, val_main_v10, val_main_v3, val_main_v2, val_main_v0,
    val_main_cst, val_main_cst_4, val_main_cst_5, val_main_cst_6]
  rw [← mul_assoc, slope_eq, mul_comm]

end Reference

theorem place : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

theorem block_dy (y t : FVec Ideal S1024x1024 .f32) (i : S1024x1024.Idx) :
    k0_pay3 (F := Ideal) y t i = (y i - t i) * Ideal.ofBits .f32 0x3A800000#32 := by
  pointwise [k0_pay3, k0_pay2]

/-- What a block of tokens adds to the loss. -/
def part (y t : FVec Ideal S1024x1024 .f32) : EReal :=
  Ideal.ofBits .f32 0x3F000000#32 * ∑ r : Fin 1024, row (fun k => y (ix2 r k)) (fun k => t (ix2 r k))

theorem block_loss (y t : FVec Ideal S1024x1024 .f32) (acc : FVec Ideal S1x128 .f32) (i : S1x128.Idx) :
    k0_pay4 (F := Ideal) y t acc i = acc i + part y t := by
  pointwise [part, row, k0_pay4, k0_pay2]

theorem fill (j : S1x128.Idx) : k0_pay1 (F := Ideal) j = 0 := by pointwise [k0_pay1]

variable (m : (ℓ : Loc nD τ sig) → Buf (Elt Ideal) ℓ)

/-- The loss, in every lane. -/
theorem final0 (c : Dev nD) : (dats m 0 c).arrAt 2 (cfgs 0).N
    = Cert.Reference24Ideal.Read.val_main_v9 (F := Ideal) (m ((c : Thread nD τ).loc main_arg0)) (m ((c : Thread nD τ).loc main_arg1)) := by
  refine (dats m 0 c).arrAt_eq_of_covers 2 _ (by decide +kernel) fun t hf y => ?_
  blk_simp
  have h3 := (flush0_2 t).mp hf
  rw [after0_2]
  rw [Pipeline.eq_sum_fin_of_reset_step_apply_of_flush (fun n h => (outsAt0 m c n h).1) 4 (fun _ => 0)
    (fun t j => part (iblk m c 0 t) (iblk m c 1 t))
    (fun t h j => by rw [outsAt0_A m c t h]; dsimp only; frame_out; rw [block_loss, fill])
    (fun t h j => by rw [outsAt0_B m c t h]; dsimp only; frame_out; rw [block_loss])
    t h3 _, zero_add, loss_at, half_sum]
  unfold part
  simp only [half_sum]
  refine Fin.sum_mul_add_congr fun s k hl => ?_
  refine congrArg (_ * ·) (congrArg₂ row (funext fun l => ?_) (funext fun l => ?_)) <;>
    blk_point [iblk, V, place t, place ⟨_, Pipeline.run_point_lt_of_flush t h3 s⟩]

theorem dy_block (c : Dev nD) (t : Fin cfg0.N) : (outsAt0 m c t.val t.isLt).2
    = k0_pay3 (F := Ideal) (iblk m c 0 t) (iblk m c 1 t) := by
  by_cases h0 : t.val % 4 = 0
  · rw [outsAt0_A m c t h0]; dsimp only; frame_out
  · rw [outsAt0_B m c t h0]; dsimp only; frame_out

/-- The gradient of the loss. -/
theorem final1 (c : Dev nD) : (dats m 0 c).arrAt 3 (cfgs 0).N
    = Cert.Reference24Ideal.Read.val_main_v15 (F := Ideal) (m ((c : Thread nD τ).loc main_arg0)) (m ((c : Thread nD τ).loc main_arg1)) := by
  refine (dats m 0 c).arrAt_eq_of_covers 3 _ (by decide +kernel) fun t _ y => ?_
  blk_simp
  rw [after0_3, dy_block, block_dy, dy_at]
  blk_point [iblk, V, place t]

end Cert.Kernel24Ideal.Loss

end
-- ==== Proof.SgMath.lean ====
/- The gradient of the chunked spatial gating as functions of one token and one column, over the extended reals: the
   columns are four groups of 64, the tokens 32 chunks of 128. -/
module

public import Idealize.ShloMosaic.Lib.Pipeline.ValueKit

@[expose] public section

set_option maxRecDepth 16384

noncomputable section

namespace Cert.SgMath

open Idealize.ShloMosaic

/-- A group of a column. -/
def grp (h : Fin 256) : Fin 4 := ⟨h.val / 64, by omega⟩
/-- Column `k` of group `q`. -/
def col (q : Fin 4) (k : Fin 64) : Fin 256 := ⟨q.val * 64 + k.val, by omega⟩
/-- Token `t` of chunk `n`. -/
def tok (n : Fin 32) (t : Fin 128) : Fin 4096 := ⟨n.val * 128 + t.val, by omega⟩

/-- The hyperbolic tangent inside the gate's nonlinearity. -/
def th (x : EReal) : EReal :=
  Ideal.tanh (Ideal.ofBits .f32 0x3F4C422A#32 * (x + Ideal.ofBits .f32 0x3D372713#32 * (x * x * x)))

/-- The nonlinearity. -/
def act (x : EReal) : EReal := Ideal.ofBits .f32 0x3F000000#32 * x * (Ideal.ofBits .f32 0x3F800000#32 + th x)

/-- The part of the nonlinearity's gradient that comes through its tangent. -/
def inward (x d : EReal) : EReal :=
  Ideal.ofBits .f32 0x3F4C422A#32 * (Ideal.ofBits .f32 0x3F000000#32 * x * d
    * ((Ideal.ofBits .f32 0x3F800000#32 + th x) * (Ideal.ofBits .f32 0x3F800000#32 - th x)))

/-- The nonlinearity's gradient. -/
def actGrad (x d : EReal) : EReal :=
  inward x d + x * x * (Ideal.ofBits .f32 0x3D372713#32 * inward x d) + x * (Ideal.ofBits .f32 0x3D372713#32 * inward x d * x)
    + Ideal.ofBits .f32 0x3D372713#32 * inward x d * x * x
    + Ideal.ofBits .f32 0x3F000000#32 * (d * (Ideal.ofBits .f32 0x3F800000#32 + th x))

theorem half_eq : Ideal.ofBits .f32 0x3F000000#32 = ((1 / 2 : ℝ) : EReal) := by
  simp [Ideal.ofBits, Ideal.ieee, -EReal.coe_mul]; norm_num
theorem mhalf_eq : Ideal.ofBits .f32 0xBF000000#32 = ((-1 / 2 : ℝ) : EReal) := by
  simp [Ideal.ofBits, Ideal.ieee, -EReal.coe_mul]; norm_num
theorem one_eq : Ideal.ofBits .f32 0x3F800000#32 = ((1 : ℝ) : EReal) := by
  simp [Ideal.ofBits, Ideal.ieee, -EReal.coe_mul]; norm_num
theorem three_eq : Ideal.ofBits .f32 0x40400000#32 = ((3 : ℝ) : EReal) := by
  simp [Ideal.ofBits, Ideal.ieee, -EReal.coe_mul]; norm_num
theorem len_eq : Ideal.ofBits .f32 0x42800000#32 = ((64 : ℝ) : EReal) := by
  simp [Ideal.ofBits, Ideal.ieee, -EReal.coe_mul]; norm_num
theorem recip_eq : Ideal.ofBits .f32 0x3C800000#32 = ((1 / 64 : ℝ) : EReal) := by
  simp [Ideal.ofBits, Ideal.ieee, -EReal.coe_mul]; norm_num
theorem zero_eq : Ideal.ofBits .f32 0x00000000#32 = 0 := by
  simp [Ideal.ofBits, Ideal.ieee]
theorem inf_eq : Ideal.ofBits .f32 0x7F800000#32 = ⊤ := by
  simp [Ideal.ofBits, Ideal.ieee]
theorem scale_real : ∃ r : ℝ, Ideal.ofBits .f32 0x3F4C422A#32 = (r : EReal) :=
  ⟨_, by simp [Ideal.ofBits, Ideal.ieee, -EReal.coe_mul]; rfl⟩
theorem cubic_real : ∃ r : ℝ, Ideal.ofBits .f32 0x3D372713#32 = (r : EReal) :=
  ⟨_, by simp [Ideal.ofBits, Ideal.ieee, -EReal.coe_mul]; rfl⟩
theorem eps_real : ∃ r : ℝ, 0 < r ∧ Ideal.ofBits .f32 0x358637BD#32 = (r : EReal) :=
  ⟨8796093 * (2 : ℝ) ^ (-43 : ℤ), by positivity, by simp [Ideal.ofBits, Ideal.ieee, -EReal.coe_mul]⟩

/-- Division by 64 is multiplication by its inverse. -/
theorem div_len (x : EReal) : Ideal.div x (Ideal.ofBits .f32 0x42800000#32) = x * Ideal.ofBits .f32 0x3C800000#32 := by
  rw [len_eq, recip_eq, Ideal.div, if_neg (by exact_mod_cast (by norm_num : (64 : ℝ) ≠ 0)), ← EReal.coe_inv]
  norm_num

/-- Three times a value is the value added twice to itself. -/
theorem three_mul_eq (a : EReal) : Ideal.ofBits .f32 0x40400000#32 * a = a + a + a := by
  rw [three_eq]
  induction a using EReal.rec with
  | bot => rw [EReal.coe_mul_bot_of_pos (by norm_num)]; rfl
  | top => rw [EReal.coe_mul_top_of_pos (by norm_num)]; rfl
  | coe a => norm_cast; ring

section
variable (U V C : Fin 4096 → Fin 256 → EReal) (G : Fin 256 → EReal) (W : Fin 4 → Fin 128 → Fin 128 → EReal) (B : Fin 4 → Fin 128 → EReal)

/-- A token's mean square over a group, with the small number. -/
def ms (r : Fin 4096) (q : Fin 4) : EReal :=
  (∑ k : Fin 64, act (V r (col q k)) * act (V r (col q k))) * Ideal.ofBits .f32 0x3C800000#32 + Ideal.ofBits .f32 0x358637BD#32

/-- The normalised value before its gain. -/
def unit (r : Fin 4096) (h : Fin 256) : EReal := act (V r h) * Ideal.rsqrt (ms V r (grp h))

/-- The normalised value. -/
def normed (r : Fin 4096) (h : Fin 256) : EReal := unit V r h * G h

/-- The mixing weights: what is above the diagonal is left out. -/
def tri (q : Fin 4) (t s : Fin 128) : EReal := if s.val ≤ t.val then W q t s else 0

/-- The mixed value of token `t` of chunk `n`. -/
def mix (n : Fin 32) (t : Fin 128) (h : Fin 256) : EReal :=
  ∑ s : Fin 128, tri W (grp h) t s * normed V G (tok n s) h + B (grp h) t

/-- The gradient of the mixed value. -/
def dmix (r : Fin 4096) (h : Fin 256) : EReal := act (U r h) * C r h

/-- The gradient of the gate's input. -/
def du (n : Fin 32) (t : Fin 128) (h : Fin 256) : EReal :=
  actGrad (U (tok n t) h) (C (tok n t) h * mix V G W B n t h)

/-- The gradient of the normalised value of token `s` of chunk `n`. -/
def dnorm (n : Fin 32) (s : Fin 128) (h : Fin 256) : EReal :=
  ∑ t : Fin 128, tri W (grp h) t s * dmix U C (tok n t) h

/-- What every entry of a group gets through the mean square. -/
def through (n : Fin 32) (s : Fin 128) (q : Fin 4) : EReal :=
  (∑ k : Fin 64, act (V (tok n s) (col q k)) * (dnorm U C W n s (col q k) * G (col q k)))
    * (Ideal.ofBits .f32 0xBF000000#32 * Ideal.div (Ideal.rsqrt (ms V (tok n s) q)) (ms V (tok n s) q))
    * Ideal.ofBits .f32 0x3C800000#32

/-- The gradient of the values before the norm. -/
def dact (n : Fin 32) (s : Fin 128) (h : Fin 256) : EReal :=
  dnorm U C W n s h * G h * Ideal.rsqrt (ms V (tok n s) (grp h)) + act (V (tok n s) h) * through U V C G W n s (grp h)
    + through U V C G W n s (grp h) * act (V (tok n s) h)

/-- The gradient of the values. -/
def dv (n : Fin 32) (s : Fin 128) (h : Fin 256) : EReal := actGrad (V (tok n s) h) (dact U V C G W n s h)

/-- What chunk `n` adds to the gain's gradient. -/
def dgain (n : Fin 32) (h : Fin 256) : EReal := ∑ s : Fin 128, unit V (tok n s) h * dnorm U C W n s h

/-- What chunk `n` adds to the mixing weights' gradient. -/
def dtri (n : Fin 32) (q : Fin 4) (t s : Fin 128) : EReal :=
  if s.val ≤ t.val then ∑ k : Fin 64, dmix U C (tok n t) (col q k) * normed V G (tok n s) (col q k) else 0
end

/-- A sum over the lower half of 128 lanes. -/
theorem low_sum (f : Fin 128 → EReal) : ∑ j : Fin 128, (if j.val < 64 then f j else 0) = ∑ k : Fin 64, f ⟨k.val, by omega⟩ := by
  refine (Fin.sum_univ_add (a := 64) (b := 64) _).trans ?_
  refine (congrArg₂ (· + ·) (Finset.sum_congr rfl fun k _ => if_pos ?_) (Finset.sum_eq_zero fun k _ => if_neg ?_)).trans (add_zero _)
  · show k.val < 64; omega
  · show ¬(64 + k.val < 64); omega

/-- A sum over the upper half of 128 lanes. -/
theorem high_sum (f : Fin 128 → EReal) : ∑ j : Fin 128, (if j.val < 64 then 0 else f j) = ∑ k : Fin 64, f ⟨64 + k.val, by omega⟩ := by
  refine (Fin.sum_univ_add (a := 64) (b := 64) _).trans ?_
  refine (congrArg₂ (· + ·) (Finset.sum_eq_zero fun k _ => if_pos ?_) (Finset.sum_congr rfl fun k _ => if_neg ?_)).trans (zero_add _)
  · show k.val < 64; omega
  · show ¬(64 + k.val < 64); omega

theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite value. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩
theorem IsReal.tanh (x : EReal) : IsReal (Ideal.tanh x) := by
  induction x using EReal.rec with
  | bot => exact ⟨-1, show (-1 : EReal) = _ by norm_num⟩
  | top => exact ⟨1, show (1 : EReal) = _ by norm_num⟩
  | coe x => exact ⟨Real.tanh x, rfl⟩

theorem IsReal.act {x : EReal} (h : IsReal x) : IsReal (act x) :=
  IsReal.mul (IsReal.mul ⟨_, half_eq⟩ h) (IsReal.add ⟨_, one_eq⟩ (IsReal.tanh _))

/-- A common finite factor comes out of a sum of finite values. -/
theorem sum_mul_real {n : ℕ} {f : Fin n → EReal} {w : EReal} (hf : ∀ i, IsReal (f i)) (hw : IsReal w) :
    ∑ i, f i * w = (∑ i, f i) * w := by
  choose g hg using hf
  obtain ⟨w, rfl⟩ := hw
  simp only [hg]
  rw [← coe_sum, ← EReal.coe_mul, Finset.sum_mul, coe_sum]
  simp only [EReal.coe_mul]

/-- The mean square of finite values is positive and finite, and so is the factor that comes from it. -/
theorem ms_real {V : Fin 4096 → Fin 256 → EReal} (hV : ∀ r h, IsReal (V r h)) (r : Fin 4096) (q : Fin 4) :
    ∃ x : ℝ, 0 < x ∧ ms V r q = (x : EReal) := by
  choose v hv using fun h => (hV r h).act
  obtain ⟨e, he, h2⟩ := eps_real
  refine ⟨(∑ k : Fin 64, v (col q k) * v (col q k)) * (1 / 64) + e, add_pos_of_nonneg_of_pos (mul_nonneg (Finset.sum_nonneg fun k _ => mul_self_nonneg _) (by norm_num)) he, ?_⟩
  rw [ms, h2, recip_eq, EReal.coe_add, EReal.coe_mul, coe_sum]
  simp only [hv, EReal.coe_mul]

theorem rsqrt_real {x : ℝ} (h : 0 < x) : IsReal (Ideal.rsqrt (x : EReal)) := by
  refine ⟨(Real.sqrt x)⁻¹, ?_⟩
  show (if x < 0 then (⊥ : EReal) else if x = 0 then ⊤ else _) = _
  rw [if_neg (not_lt.mpr h.le), if_neg h.ne']

theorem factor_real {V : Fin 4096 → Fin 256 → EReal} (hV : ∀ r h, IsReal (V r h)) (r : Fin 4096) (q : Fin 4) :
    IsReal (Ideal.ofBits .f32 0xBF000000#32 * Ideal.div (Ideal.rsqrt (ms V r q)) (ms V r q)) := by
  obtain ⟨x, hx, e⟩ := ms_real hV r q
  refine IsReal.mul ⟨_, mhalf_eq⟩ ?_
  rw [e, Ideal.div, if_neg (by exact_mod_cast hx.ne')]
  exact (rsqrt_real hx).mul ⟨x⁻¹, (EReal.coe_inv x).symm⟩

/-- The factor of the mean square, inside a group's sum or outside of it. -/
theorem through_eq {U V C : Fin 4096 → Fin 256 → EReal} {G : Fin 256 → EReal} {W : Fin 4 → Fin 128 → Fin 128 → EReal}
    (hU : ∀ r h, IsReal (U r h)) (hV : ∀ r h, IsReal (V r h)) (hC : ∀ r h, IsReal (C r h)) (hG : ∀ h, IsReal (G h))
    (hW : ∀ q t s, IsReal (W q t s)) (n : Fin 32) (s : Fin 128) (q : Fin 4) :
    ∑ k : Fin 64, act (V (tok n s) (col q k)) * (dnorm U C W n s (col q k) * G (col q k))
      * (Ideal.ofBits .f32 0xBF000000#32 * Ideal.div (Ideal.rsqrt (ms V (tok n s) q)) (ms V (tok n s) q))
      * Ideal.ofBits .f32 0x3C800000#32 = through U V C G W n s q := by
  have hd : ∀ h, IsReal (dnorm U C W n s h) := fun h => IsReal.sum _ fun t =>
    IsReal.mul (by unfold tri; split_ifs; exacts [hW _ _ _, ⟨0, rfl⟩]) ((hU _ _).act.mul (hC _ _))
  rw [Finset.sum_congr rfl fun k _ => mul_assoc _ _ _, sum_mul_real (fun k => (hV _ _).act.mul ((hd _).mul (hG _))) ((factor_real hV _ _).mul ⟨_, recip_eq⟩)]
  exact (mul_assoc _ _ _).symm

end Cert.SgMath

end
-- ==== Proof.SgChunk.lean ====
/- One chunk of 128 tokens of the gradient of the chunked spatial gating: what the kernel computes of it, for the two
   groups of one block of columns, entry by entry. -/
module

public import proofs.«01_k».proof.Proof.Gen.KernelIdeal.Skeleton
public import proofs.«01_k».proof.Proof.SgMath

@[expose] public section

set_option maxRecDepth 16384

noncomputable section

namespace Cert.KernelIdeal.SgChunk

open Idealize.ShloMosaic Idealize.ShloMosaic.TcCoe Idealize.SL.Sem
open Cert.KernelIdeal Cert.KernelIdeal.Gen
open Cert.SgMath

/-- Lane `l` of block `p` of the columns. -/
def lane (p : Fin 2) (l : Fin 128) : Fin 256 := ⟨p.val * 128 + l.val, by omega⟩
/-- The block's two groups. -/
def lo (p : Fin 2) : Fin 4 := ⟨2 * p.val, by omega⟩
def hi (p : Fin 2) : Fin 4 := ⟨2 * p.val + 1, by omega⟩

theorem grp_lane (p : Fin 2) (l : Fin 128) : grp (lane p l) = if l.val < 64 then lo p else hi p := by
  refine Fin.ext ?_
  split_ifs <;> simp only [grp, lane, lo, hi] <;> omega
theorem lane_low (p : Fin 2) (k : Fin 64) : lane p ⟨k.val, by omega⟩ = col (lo p) k :=
  Fin.ext (by simp only [lane, col, lo]; omega)
theorem lane_high (p : Fin 2) (k : Fin 64) : lane p ⟨64 + k.val, by omega⟩ = col (hi p) k :=
  Fin.ext (by simp only [lane, col, hi]; omega)

/-- A sum over the lanes of one group. -/
theorem group_sum (p : Fin 2) (l : Fin 128) (f : Fin 256 → EReal) :
    (if l.val < 64 then ∑ j : Fin 128, (if j.val < 64 then f (lane p j) else 0)
      else ∑ j : Fin 128, (if j.val < 64 then 0 else f (lane p j))) = ∑ k : Fin 64, f (col (grp (lane p l)) k) := by
  rw [grp_lane, low_sum fun j => f (lane p j), high_sum fun j => f (lane p j)]
  simp only [lane_low, lane_high]
  split_ifs <;> rfl

/-- The gradient of the values before the norm, with the factor of the mean square inside the sum over the lanes. -/
theorem dact_lane {U V C : Fin 4096 → Fin 256 → EReal} {G : Fin 256 → EReal} {W : Fin 4 → Fin 128 → Fin 128 → EReal}
    (hU : ∀ r h, IsReal (U r h)) (hV : ∀ r h, IsReal (V r h)) (hC : ∀ r h, IsReal (C r h)) (hG : ∀ h, IsReal (G h))
    (hW : ∀ q t s, IsReal (W q t s)) (n : Fin 32) (s : Fin 128) (p : Fin 2) (l : Fin 128) (T : Fin 256 → EReal)
    (hT : ∀ h, T h = act (V (tok n s) h) * (dnorm U C W n s h * G h)
      * (Ideal.ofBits .f32 0xBF000000#32 * Ideal.div (Ideal.rsqrt (ms V (tok n s) (grp h))) (ms V (tok n s) (grp h)))
      * Ideal.ofBits .f32 0x3C800000#32) (X : EReal)
    (hX : X = if l.val < 64 then ∑ j : Fin 128, (if j.val < 64 then T (lane p j) else 0)
      else ∑ j : Fin 128, (if j.val < 64 then 0 else T (lane p j))) :
    dnorm U C W n s (lane p l) * G (lane p l) * Ideal.rsqrt (ms V (tok n s) (grp (lane p l))) + act (V (tok n s) (lane p l)) * X
      + X * act (V (tok n s) (lane p l)) = dact U V C G W n s (lane p l) := by
  have e : ∀ q k, grp (col q k) = q := fun q k => Fin.ext (by simp only [grp, col]; omega)
  have : X = through U V C G W n s (grp (lane p l)) := by
    rw [hX, group_sum, ← through_eq hU hV hC hG hW]
    exact Finset.sum_congr rfl fun k _ => by rw [hT, e]
  rw [this, dact]

abbrev rows : IVec S128x128 32 := iota .tc S128x128 32 [0] iota_S128x128_d0_w32
abbrev cols : IVec S128x128 32 := iota .tc S128x128 32 [1] iota_S128x128_d1_w32

section
variable (u v c b : FVec Ideal S128x128 .f32) (g : FVec Ideal S1x128 .f32) (wa wb : FVec Ideal S1x128x128 .f32)

abbrev acts : FVec Ideal S128x128 .f32 := k0_pay18 (F := Ideal) v
abbrev norms : FVec Ideal S128x128 .f32 := k0_pay24 (F := Ideal) (k0_pay8 g) (acts v) cols 64#32
abbrev dmixed : FVec Ideal S128x128 .f32 := k0_pay36 (F := Ideal) u (k0_pay30 u) (k0_pay32 u) k0_pay33 c
abbrev lower : FVec Ideal S128x128 .f32 :=
  k0_pay40 (F := Ideal) u (k0_pay28 k0_pay12) (k0_pay30 u) (k0_pay32 u) k0_pay33 c
abbrev upper : FVec Ideal S128x128 .f32 :=
  k0_pay41 (F := Ideal) u (k0_pay27 (k0_pay10 wb) rows cols) (k0_pay28 k0_pay12) (k0_pay30 u) (k0_pay32 u) k0_pay33 c
abbrev wlow : FVec Ideal S128x128 .f32 := k0_pay26 (F := Ideal) (k0_pay9 wa) rows cols

/-- What the chunk adds to the four sums, and the two gradients it stores. -/
abbrev cGain : FVec Ideal S1x128 .f32 :=
  k0_pay46 (F := Ideal) (k0_pay23 (acts v) cols 64#32) (wlow wa) (lower u c) (upper u c wb)
abbrev cLow : FVec Ideal S128x128 .f32 :=
  k0_pay45 (F := Ideal) (k0_pay25 rows cols) (lower u c) (k0_pay43 (norms v g))
abbrev cHigh : FVec Ideal S128x128 .f32 :=
  k0_pay42 (F := Ideal) u (norms v g) (k0_pay25 rows cols) (k0_pay28 k0_pay12) (k0_pay30 u) (k0_pay32 u) k0_pay33 c
abbrev cU : FVec Ideal S128x128 .f32 :=
  k0_pay37 (F := Ideal) u (k0_pay29 (k0_pay8 g) (k0_pay9 wa) (k0_pay10 wb) (k0_pay11 b) rows cols k0_pay12 (acts v) cols 64#32)
    (k0_pay30 u) (k0_pay31 u) (k0_pay32 u) k0_pay33 c
abbrev cAct : FVec Ideal S128x128 .f32 :=
  k0_pay47 (F := Ideal) (k0_pay8 g) (acts v) (k0_pay19 cols 64#32) (k0_pay21 (acts v) cols 64#32) (k0_pay22 (acts v) cols 64#32)
    (wlow wa) (lower u c) (upper u c wb)
abbrev cV : FVec Ideal S128x128 .f32 :=
  k0_pay52 (F := Ideal) v (k0_pay14 v)
    (k0_pay48 (k0_pay8 g) (k0_pay17 v) (acts v) (k0_pay19 cols 64#32) (k0_pay21 (acts v) cols 64#32) (k0_pay22 (acts v) cols 64#32)
      (wlow wa) (lower u c) (upper u c wb))
    (k0_pay49 (k0_pay8 g) (k0_pay13 v) (k0_pay16 v) (acts v) (k0_pay19 cols 64#32) (k0_pay21 (acts v) cols 64#32)
      (k0_pay22 (acts v) cols 64#32) (wlow wa) (lower u c) (upper u c wb))

theorem below (l : Fin 128) : IntOp.cmpi CmpIPredicate.slt (BitVec.ofNat 32 l.val) 64#32 = if l.val < 64 then 1#1 else 0#1 :=
  (by decide +kernel : ∀ l : Fin 128, IntOp.cmpi CmpIPredicate.slt (BitVec.ofNat 32 l.val) 64#32 = if l.val < 64 then 1#1 else 0#1) l
theorem upto (l t : Fin 128) : IntOp.cmpi CmpIPredicate.sle (BitVec.ofNat 32 l.val) (BitVec.ofNat 32 t.val)
    = if l.val ≤ t.val then 1#1 else 0#1 :=
  (by decide +kernel : ∀ l t : Fin 128, IntOp.cmpi CmpIPredicate.sle (BitVec.ofNat 32 l.val) (BitVec.ofNat 32 t.val)
    = if l.val ≤ t.val then 1#1 else 0#1) l t
theorem pick {α : Type} (q : Prop) [Decidable q] (x y : α) : Scalar.select (if q then 1#1 else 0#1) x y = if q then x else y := by
  split_ifs <;> rfl

theorem first_at (i : S128x128.Idx) : k0_pay28 k0_pay12 i = if (i 1).val < 64 then 1#1 else 0#1 := by
  pointwise [k0_pay28, k0_pay12]
  exact below (i 1)
theorem half_at (i : S128x128.Idx) : k0_pay19 cols 64#32 i = if (i 1).val < 64 then 1#1 else 0#1 := by
  pointwise [k0_pay19, cols]
  exact below (i 1)
theorem tril_at (i : S128x128.Idx) : k0_pay25 rows cols i = if (i 1).val ≤ (i 0).val then 1#1 else 0#1 := by
  pointwise [k0_pay25, rows, cols]
  exact upto (i 1) (i 0)

theorem acts_at (i : S128x128.Idx) : acts v i = act (v i) := by
  pointwise [k0_pay18, k0_pay13, k0_pay17, k0_pay15, k0_pay14, act, th]
theorem dmixed_at (i : S128x128.Idx) : dmixed u c i = act (u i) * c i := by
  pointwise [k0_pay36, k0_pay30, k0_pay32, k0_pay33, k0_pay31, k0_pay35, k0_pay34, act, th]

variable {U V C : Fin 4096 → Fin 256 → EReal} {G : Fin 256 → EReal} {W : Fin 4 → Fin 128 → Fin 128 → EReal} {B : Fin 4 → Fin 128 → EReal}
  {n : Fin 32} {p : Fin 2}
  (hu : ∀ t l, u (ix2 t l) = U (tok n t) (lane p l)) (hv : ∀ t l, v (ix2 t l) = V (tok n t) (lane p l))
  (hc : ∀ t l, c (ix2 t l) = C (tok n t) (lane p l)) (hg : ∀ l, g (ix2 0 l) = G (lane p l))
  (ha : ∀ t s, wa (ix3 0 t s) = W (lo p) t s) (hb : ∀ t s, wb (ix3 0 t s) = W (hi p) t s)
  (hbias : ∀ t l, b (ix2 t l) = B (grp (lane p l)) t)

include hv in
theorem ms_at (i : S128x128.Idx) : k0_pay20 (F := Ideal) (acts v) cols 64#32 i = ms V (tok n (i 0)) (grp (lane p (i 1))) := by
  rw [ms, ← group_sum p (i 1) fun h => act (V (tok n (i 0)) h) * act (V (tok n (i 0)) h)]
  pointwise [k0_pay20, half_at, acts_at, hv]
  rw [pick]

include hv in
theorem unit_at (i : S128x128.Idx) : k0_pay23 (F := Ideal) (acts v) cols 64#32 i = unit V (tok n (i 0)) (lane p (i 1)) := by
  have e : v i = V (tok n (i 0)) (lane p (i 1)) := (congrArg v (ix2_eta i).symm).trans (hv _ _)
  pointwise [k0_pay23, k0_pay21, acts_at, unit, e]
  rw [ms_at v hv]

include hv hg in
theorem norm_at (i : S128x128.Idx) : norms v g i = normed V G (tok n (i 0)) (lane p (i 1)) := by
  pointwise [k0_pay24, k0_pay8, normed, unit_at v hv, hg]

include hu hc in
theorem dmix_at (i : S128x128.Idx) : dmixed u c i = dmix U C (tok n (i 0)) (lane p (i 1)) := by
  have e : u i = U (tok n (i 0)) (lane p (i 1)) := (congrArg u (ix2_eta i).symm).trans (hu _ _)
  have e' : c i = C (tok n (i 0)) (lane p (i 1)) := (congrArg c (ix2_eta i).symm).trans (hc _ _)
  rw [dmixed_at, e, e', dmix]

include hu hc in
theorem lower_at (i : S128x128.Idx) : lower u c i = if (i 1).val < 64 then dmix U C (tok n (i 0)) (lane p (i 1)) else 0 := by
  pointwise [k0_pay40, first_at, dmix_at u c hu hc, k0_pay38, pick]

include hu hv hc hg in
theorem low_at (i : S128x128.Idx) : cLow u v c g i = dtri U V C G n (lo p) (i 0) (i 1) := by
  pointwise [k0_pay45, k0_pay43, tril_at, pick, lower_at u c hu hc, norm_at v g hv hg, dtri]
  simp only [zero_mul, Finset.sum_const_zero, add_zero, lane_low]

include hu hv hc hg in
theorem high_at (i : S128x128.Idx) : cHigh u v c g i = dtri U V C G n (hi p) (i 0) (i 1) := by
  pointwise [k0_pay42, k0_pay39, k0_pay38, first_at, tril_at, pick, dmix_at u c hu hc, norm_at v g hv hg, dtri]
  simp only [zero_mul, Finset.sum_const_zero, zero_add, lane_high]

include hu hc ha hb in
theorem dnorm_at (i : S128x128.Idx) : k0_pay44 (F := Ideal) (wlow wa) (lower u c) (upper u c wb) i = dnorm U C W n (i 0) (lane p (i 1)) := by
  pointwise [k0_pay44, k0_pay26, k0_pay27, k0_pay9, k0_pay10, k0_pay41, k0_pay39, k0_pay38, first_at, tril_at, pick, lower_at u c hu hc, dmix_at u c hu hc, dnorm, tri, grp_lane]
  by_cases h : (i 1).val < 64 <;> simp only [h, if_true, if_false, mul_zero, Finset.sum_const_zero, zero_add, add_zero]
  · exact Finset.sum_congr rfl fun x _ => congrArg (fun w => (if (i 0).val ≤ x.val then w else 0) * _) (ha x (i 0))
  · exact Finset.sum_congr rfl fun x _ => congrArg (fun w => (if (i 0).val ≤ x.val then w else 0) * _) (hb x (i 0))

include hv hg ha hb hbias in
theorem mix_at (i : S128x128.Idx) : k0_pay29 (F := Ideal) (k0_pay8 g) (k0_pay9 wa) (k0_pay10 wb) (k0_pay11 b) rows cols k0_pay12 (acts v) cols 64#32 i
    = mix V G W B n (i 0) (lane p (i 1)) := by
  have e : b i = b (ix2 (i 0) (i 1)) := congrArg b (ix2_eta i).symm
  pointwise [k0_pay29, k0_pay26, k0_pay27, k0_pay9, k0_pay10, k0_pay11, first_at, tril_at, pick, norm_at v g hv hg, mix, tri, e, grp_lane]
  by_cases h : (i 1).val < 64 <;> simp only [h, if_true, if_false] <;> refine congrArg₂ (· + ·) ?_ ((hbias _ _).trans (congrArg (fun q => B q (i 0)) ((grp_lane p (i 1)).trans (by simp only [h, if_true, if_false]))))
  · exact Finset.sum_congr rfl fun x _ => congrArg (fun w => (if x.val ≤ (i 0).val then w else 0) * _) (ha (i 0) x)
  · exact Finset.sum_congr rfl fun x _ => congrArg (fun w => (if x.val ≤ (i 0).val then w else 0) * _) (hb (i 0) x)

include hv in
theorem factor_at (i : S128x128.Idx) : k0_pay22 (F := Ideal) (acts v) cols 64#32 i
    = Ideal.ofBits .f32 0xBF000000#32 * Ideal.div (Ideal.rsqrt (ms V (tok n (i 0)) (grp (lane p (i 1))))) (ms V (tok n (i 0)) (grp (lane p (i 1)))) := by
  pointwise [k0_pay22, k0_pay21]
  rw [ms_at v hv]

include hu hv hc hg ha hb in
theorem gain_at (i : S1x128.Idx) : cGain u v c wa wb i = dgain U V C W n (lane p (i 1)) := by
  pointwise [k0_pay46, dgain, unit_at v hv, dnorm_at u c wa wb hu hc ha hb]

include hu hv hc hg ha hb hbias in
theorem u_at (i : S128x128.Idx) : cU u v c b g wa wb i = du U V C G W B n (i 0) (lane p (i 1)) := by
  have e : u i = U (tok n (i 0)) (lane p (i 1)) := (congrArg u (ix2_eta i).symm).trans (hu _ _)
  have e' : c i = C (tok n (i 0)) (lane p (i 1)) := (congrArg c (ix2_eta i).symm).trans (hc _ _)
  have h := mix_at v b g wa wb hv hg ha hb hbias
  refine Eq.trans ?_ (show actGrad (U (tok n (i 0)) (lane p (i 1))) (C (tok n (i 0)) (lane p (i 1)) * mix V G W B n (i 0) (lane p (i 1))) = _ from rfl)
  generalize mix V G W B n = D at h ⊢
  pointwise [k0_pay37, k0_pay30, k0_pay31, k0_pay32, k0_pay33, k0_pay34, k0_pay35, actGrad, inward, th, h, e, e']

include hu hv hc hg ha hb in
theorem act_at (hU : ∀ r h, IsReal (U r h)) (hV : ∀ r h, IsReal (V r h)) (hC : ∀ r h, IsReal (C r h)) (hG : ∀ h, IsReal (G h))
    (hW : ∀ q t s, IsReal (W q t s)) (i : S128x128.Idx) : cAct u v c g wa wb i = dact U V C G W n (i 0) (lane p (i 1)) := by
  have e : v i = V (tok n (i 0)) (lane p (i 1)) := (congrArg v (ix2_eta i).symm).trans (hv _ _)
  refine Eq.trans ?_ (dact_lane hU hV hC hG hW n (i 0) p (i 1) _ (fun h => rfl) _ rfl)
  pointwise [k0_pay47, k0_pay21, k0_pay8, half_at, pick, acts_at, hv, hg, dnorm_at u c wa wb hu hc ha hb, factor_at v hv, ms_at v hv, e]
  by_cases h : (i 1).val < 64 <;> simp only [h, if_true, if_false, Fin.sum_univ_one, zero_add, add_zero]

include hu hv hc hg ha hb in
theorem v_at (hU : ∀ r h, IsReal (U r h)) (hV : ∀ r h, IsReal (V r h)) (hC : ∀ r h, IsReal (C r h)) (hG : ∀ h, IsReal (G h))
    (hW : ∀ q t s, IsReal (W q t s)) (i : S128x128.Idx) : cV u v c g wa wb i = dv U V C G W n (i 0) (lane p (i 1)) := by
  have e : v i = V (tok n (i 0)) (lane p (i 1)) := (congrArg v (ix2_eta i).symm).trans (hv _ _)
  have h := act_at u v c g wa wb hu hv hc hg ha hb hU hV hC hG hW
  refine Eq.trans ?_ (show actGrad (V (tok n (i 0)) (lane p (i 1))) (dact U V C G W n (i 0) (lane p (i 1))) = _ from rfl)
  generalize dact U V C G W n = D at h ⊢
  pointwise [k0_pay52, k0_pay48, k0_pay49, k0_pay13, k0_pay14, k0_pay15, k0_pay16, k0_pay17, actGrad, inward, th, h, e]
end

end Cert.KernelIdeal.SgChunk

end
-- ==== Proof.SgLoop.lean ====
module

public import proofs.«01_k».proof.Proof.Gen.KernelIdeal.Value
public import proofs.«01_k».proof.Proof.SgChunk
public import Idealize.ShloMosaic.Lib.Pipeline.ValueKit
public import Idealize.ShloMosaic.Lib.Pipeline.ReadBack

@[expose] public section

set_option maxRecDepth 16384

noncomputable section

namespace Cert.KernelIdeal.SgLoop

open Idealize.ShloMosaic Idealize.ShloMosaic.TcCoe Idealize.SL.Sem
open Cert.KernelIdeal Cert.KernelIdeal.Gen
open Cert.SgMath Cert.KernelIdeal.SgChunk

abbrev Carry : Type := FVec Ideal S1x128 .f32 × FVec Ideal S128x128 .f32 × FVec Ideal S128x128 .f32 × FVec Ideal S128x128 .f32

variable (c : Dev nD) (i : grid0.Coords)
  (arg2 : Memref sig .tc .vmem S2048x256 .f32) (harg2 : arg2.IsWhole)
  (arg3 : Memref sig .tc .vmem S1x128 .f32) (harg3 : arg3.IsWhole)
  (arg4 : Memref sig .tc .vmem S1x128x128 .f32) (harg4 : arg4.IsWhole)
  (arg5 : Memref sig .tc .vmem S1x128x128 .f32) (harg5 : arg5.IsWhole)
  (arg6 : Memref sig .tc .vmem S128x128 .f32) (harg6 : arg6.IsWhole)
  (arg7 : Memref sig .tc .vmem S2048x128 .f32) (harg7 : arg7.IsWhole)
  (arg8 : Memref sig .tc .vmem S2048x256 .f32) (harg8 : arg8.IsWhole)
  (arg9 : Memref sig .tc .vmem S1x128 .f32) (harg9 : arg9.IsWhole)
  (arg10 : Memref sig .tc .vmem S2x128x128 .f32) (harg10 : arg10.IsWhole)
  (arg11 : Memref sig .tc .vmem S128x128 .f32) (harg11 : arg11.IsWhole)
  (x0 : Vec Ideal S2048x256 .f32) (x1 : Vec Ideal S1x128 .f32) (x2 : Vec Ideal S1x128x128 .f32) (x3 : Vec Ideal S1x128x128 .f32)
  (x4 : Vec Ideal S128x128 .f32) (x5 : Vec Ideal S2048x128 .f32)

/-- The loop's state before trip `k`, from the six blocks a grid point reads. -/
abbrev state (k : ℕ) : Carry × List (View.Piece (Elt Ideal) S2048x256 .f32) :=
  st_k0_t1 (F := Ideal) Variants.none c none i arg2 harg2 arg3 harg3 arg4 harg4 arg5 harg5 arg6 harg6 arg7 harg7 arg8 harg8 arg9 harg9 arg10 harg10 arg11 harg11
    (harg2.unread x0) (harg3.unread x1) (harg4.unread x2) (harg5.unread x3) (harg6.unread x4) (harg7.unread x5)
    (k0_pay51, k0_pay50, k0_pay50, k0_pay50) k

/-- The rows of chunk `k`: the first and the second half of the columns, and the one half of the incoming gradient. -/
abbrev rectU (k : Fin k0_t1_loop.trips) : Rect S2048x256 := Rect.unit (s := S2048x256) (k0_off1 k) S128x128.size (k0_off1_inb k)
abbrev rectV (k : Fin k0_t1_loop.trips) : Rect S2048x256 := Rect.unit (s := S2048x256) (k0_off2 k) S128x128.size (k0_off2_inb k)
abbrev rectC (k : Fin k0_t1_loop.trips) : Rect S2048x128 := Rect.unit (s := S2048x128) (k0_off3 k) S128x128.size (k0_off3_inb k)

theorem off1 : ∀ k : Fin k0_t1_loop.trips, k0_off1 k 0 = 128 * k.val ∧ k0_off1 k 1 = 0 :=
  (by decide +kernel : ∀ k : Fin 16, k0_off1 k 0 = 128 * k.val ∧ k0_off1 k 1 = 0)
theorem off2 : ∀ k : Fin k0_t1_loop.trips, k0_off2 k 0 = 128 * k.val ∧ k0_off2 k 1 = 128 :=
  (by decide +kernel : ∀ k : Fin 16, k0_off2 k 0 = 128 * k.val ∧ k0_off2 k 1 = 128)
theorem off3 : ∀ k : Fin k0_t1_loop.trips, k0_off3 k 0 = 128 * k.val ∧ k0_off3 k 1 = 0 :=
  (by decide +kernel : ∀ k : Fin 16, k0_off3 k 0 = 128 * k.val ∧ k0_off3 k 1 = 0)
theorem placeU (k : Fin k0_t1_loop.trips) (x : S128x128.Idx) :
    ((rectU k).emb x 0).val = 128 * k.val + (x 0).val ∧ ((rectU k).emb x 1).val = (x 1).val :=
  ⟨((rectU k).emb_apply x 0).trans ((congrArg (fun n => n + 1 * (x 0).val) (off1 k).1).trans (congrArg (128 * k.val + ·) (one_mul _))),
    ((rectU k).emb_apply x 1).trans ((congrArg (fun n => n + 1 * (x 1).val) (off1 k).2).trans ((zero_add _).trans (one_mul _)))⟩
theorem placeV (k : Fin k0_t1_loop.trips) (x : S128x128.Idx) :
    ((rectV k).emb x 0).val = 128 * k.val + (x 0).val ∧ ((rectV k).emb x 1).val = 128 + (x 1).val :=
  ⟨((rectV k).emb_apply x 0).trans ((congrArg (fun n => n + 1 * (x 0).val) (off2 k).1).trans (congrArg (128 * k.val + ·) (one_mul _))),
    ((rectV k).emb_apply x 1).trans ((congrArg (fun n => n + 1 * (x 1).val) (off2 k).2).trans (congrArg (128 + ·) (one_mul _)))⟩
theorem placeC (k : Fin k0_t1_loop.trips) (x : S128x128.Idx) :
    ((rectC k).emb x 0).val = 128 * k.val + (x 0).val ∧ ((rectC k).emb x 1).val = (x 1).val :=
  ⟨((rectC k).emb_apply x 0).trans ((congrArg (fun n => n + 1 * (x 0).val) (off3 k).1).trans (congrArg (128 * k.val + ·) (one_mul _))),
    ((rectC k).emb_apply x 1).trans ((congrArg (fun n => n + 1 * (x 1).val) (off3 k).2).trans ((zero_add _).trans (one_mul _)))⟩

abbrev ldU (k : Fin k0_t1_loop.trips) : Vec Ideal S128x128 .f32 := View.ld x0 (rectU k)
abbrev ldV (k : Fin k0_t1_loop.trips) : Vec Ideal S128x128 .f32 := View.ld x0 (rectV k)
abbrev ldC (k : Fin k0_t1_loop.trips) : Vec Ideal S128x128 .f32 := View.ld x5 (rectC k)
abbrev ldG : Vec Ideal S1x128 .f32 := View.ld x1 (Rect.unit ![0, 0] ![1, 128] inb_S1x128_S1x128_0_0)
abbrev ldA : Vec Ideal S1x128x128 .f32 := View.ld x2 (Rect.unit ![0, 0, 0] ![1, 128, 128] inb_S1x128x128_S1x128x128_0_0_0)
abbrev ldB : Vec Ideal S128x128 .f32 := View.ld x4 (Rect.unit ![0, 0] ![128, 128] inb_S128x128_S128x128_0_0)

/-- What one trip does to the four sums. -/
theorem state_fst (k : Fin k0_t1_loop.trips) : (state c i arg2 harg2 arg3 harg3 arg4 harg4 arg5 harg5 arg6 harg6 arg7 harg7 arg8 harg8 arg9 harg9 arg10 harg10 arg11 harg11 x0 x1 x2 x3 x4 x5 (k.val + 1)).1
    = (k0_pay53 (state c i arg2 harg2 arg3 harg3 arg4 harg4 arg5 harg5 arg6 harg6 arg7 harg7 arg8 harg8 arg9 harg9 arg10 harg10 arg11 harg11 x0 x1 x2 x3 x4 x5 k.val).1.1 (cGain (ldU x0 k) (ldV x0 k) (ldC x5 k) (ldA x2) (ldA x3)),
      k0_pay54 (state c i arg2 harg2 arg3 harg3 arg4 harg4 arg5 harg5 arg6 harg6 arg7 harg7 arg8 harg8 arg9 harg9 arg10 harg10 arg11 harg11 x0 x1 x2 x3 x4 x5 k.val).1.2.1 (cLow (ldU x0 k) (ldV x0 k) (ldC x5 k) (ldG x1)),
      k0_pay55 (state c i arg2 harg2 arg3 harg3 arg4 harg4 arg5 harg5 arg6 harg6 arg7 harg7 arg8 harg8 arg9 harg9 arg10 harg10 arg11 harg11 x0 x1 x2 x3 x4 x5 k.val).1.2.2.1 (cHigh (ldU x0 k) (ldV x0 k) (ldC x5 k) (ldG x1)),
      k0_pay56 (state c i arg2 harg2 arg3 harg3 arg4 harg4 arg5 harg5 arg6 harg6 arg7 harg7 arg8 harg8 arg9 harg9 arg10 harg10 arg11 harg11 x0 x1 x2 x3 x4 x5 k.val).1.2.2.2 (dmixed (ldU x0 k) (ldC x5 k))) := by
  unfold state
  rw [st_k0_t1_succ]
  dsimp only
  generalize (st_k0_t1 (F := Ideal) Variants.none c none i arg2 harg2 arg3 harg3 arg4 harg4 arg5 harg5 arg6 harg6 arg7 harg7 arg8 harg8 arg9 harg9 arg10 harg10 arg11 harg11
    (harg2.unread x0) (harg3.unread x1) (harg4.unread x2) (harg5.unread x3) (harg6.unread x4) (harg7.unread x5)
    (k0_pay51, k0_pay50, k0_pay50, k0_pay50) k.val) = s
  unfold tripR_k0_t1 trip_k0_t1
  dsimp only
  sl_unfold_words
  simp only [View.readAt_eq_ld, Memref.IsWhole.read_unread]
  rfl

/-- And what it stores. -/
theorem state_snd (k : Fin k0_t1_loop.trips) : (state c i arg2 harg2 arg3 harg3 arg4 harg4 arg5 harg5 arg6 harg6 arg7 harg7 arg8 harg8 arg9 harg9 arg10 harg10 arg11 harg11 x0 x1 x2 x3 x4 x5 (k.val + 1)).2
    = ⟨rectV k, cV (ldU x0 k) (ldV x0 k) (ldC x5 k) (ldG x1) (ldA x2) (ldA x3)⟩
      :: ⟨rectU k, cU (ldU x0 k) (ldV x0 k) (ldC x5 k) (ldB x4) (ldG x1) (ldA x2) (ldA x3)⟩
      :: (state c i arg2 harg2 arg3 harg3 arg4 harg4 arg5 harg5 arg6 harg6 arg7 harg7 arg8 harg8 arg9 harg9 arg10 harg10 arg11 harg11 x0 x1 x2 x3 x4 x5 k.val).2 := by
  unfold state
  rw [st_k0_t1_succ]
  dsimp only
  generalize (st_k0_t1 (F := Ideal) Variants.none c none i arg2 harg2 arg3 harg3 arg4 harg4 arg5 harg5 arg6 harg6 arg7 harg7 arg8 harg8 arg9 harg9 arg10 harg10 arg11 harg11
    (harg2.unread x0) (harg3.unread x1) (harg4.unread x2) (harg5.unread x3) (harg6.unread x4) (harg7.unread x5)
    (k0_pay51, k0_pay50, k0_pay50, k0_pay50) k.val) = s
  unfold tripL_k0_t1 trip_k0_t1
  dsimp only
  sl_unfold_words
  simp only [View.readAt_eq_ld, Memref.IsWhole.read_unread]
  rfl

theorem ldU_at (k : Fin k0_t1_loop.trips) (t l : Fin 128) (r : Fin 2048) (h : Fin 256) (hr : 128 * k.val + t.val = r.val) (hh : l.val = h.val) :
    ldU x0 k (ix2 t l) = x0 (ix2 r h) := by
  refine congrArg x0 (funext fun a => Fin.ext ?_)
  fin_cases a
  · exact (placeU k (ix2 t l)).1.trans hr
  · exact (placeU k (ix2 t l)).2.trans hh
theorem ldV_at (k : Fin k0_t1_loop.trips) (t l : Fin 128) (r : Fin 2048) (h : Fin 256) (hr : 128 * k.val + t.val = r.val) (hh : 128 + l.val = h.val) :
    ldV x0 k (ix2 t l) = x0 (ix2 r h) := by
  refine congrArg x0 (funext fun a => Fin.ext ?_)
  fin_cases a
  · exact (placeV k (ix2 t l)).1.trans hr
  · exact (placeV k (ix2 t l)).2.trans hh
theorem ldC_at (k : Fin k0_t1_loop.trips) (t l : Fin 128) (r : Fin 2048) (hr : 128 * k.val + t.val = r.val) :
    ldC x5 k (ix2 t l) = x5 (ix2 r l) := by
  refine congrArg x5 (funext fun a => Fin.ext ?_)
  fin_cases a
  · exact (placeC k (ix2 t l)).1.trans hr
  · exact (placeC k (ix2 t l)).2
theorem ldG_eq : ldG x1 = x1 := View.ld_unit_zero (by decide) _ x1
theorem ldA_eq : ldA x2 = x2 := View.ld_unit_zero (by decide) _ x2
theorem ldB_eq : ldB x4 = x4 := View.ld_unit_zero (by decide) _ x4

/-- Row `t` of chunk `k`, and a lane of the first and of the second half of the columns. -/
def rowOf (k : Fin 16) (t : Fin 128) : Fin 2048 := ⟨128 * k.val + t.val, by omega⟩
def colU (l : Fin 128) : Fin 256 := ⟨l.val, by omega⟩
def colV (l : Fin 128) : Fin 256 := ⟨128 + l.val, by omega⟩
/-- Chunk `k` of batch `b`. -/
def chunk (b : Fin 2) (k : ℕ) : Fin 32 := ⟨(b.val * 16 + k) % 32, Nat.mod_lt _ (by decide)⟩

variable {U V C : Fin 4096 → Fin 256 → EReal} {G : Fin 256 → EReal} {W : Fin 4 → Fin 128 → Fin 128 → EReal} {B : Fin 4 → Fin 128 → EReal}
  {b p : Fin 2}
  (hu : ∀ (k : Fin 16) (t l : Fin 128), x0 (ix2 (rowOf k t) (colU l)) = U (tok (chunk b k.val) t) (lane p l))
  (hv : ∀ (k : Fin 16) (t l : Fin 128), x0 (ix2 (rowOf k t) (colV l)) = V (tok (chunk b k.val) t) (lane p l))
  (hc : ∀ (k : Fin 16) (t l : Fin 128), x5 (ix2 (rowOf k t) l) = C (tok (chunk b k.val) t) (lane p l))
  (hg : ∀ l, x1 (ix2 0 l) = G (lane p l))
  (ha : ∀ t s, x2 (ix3 0 t s) = W (lo p) t s) (hb : ∀ t s, x3 (ix3 0 t s) = W (hi p) t s)
  (hbias : ∀ t l, x4 (ix2 t l) = B (grp (lane p l)) t)

include hu in
theorem ldU_eq (k : Fin k0_t1_loop.trips) (t l : Fin 128) : ldU x0 k (ix2 t l) = U (tok (chunk b k.val) t) (lane p l) :=
  (ldU_at x0 k t l _ _ rfl rfl).trans (hu ⟨k.val, k.isLt⟩ t l)
include hv in
theorem ldV_eq (k : Fin k0_t1_loop.trips) (t l : Fin 128) : ldV x0 k (ix2 t l) = V (tok (chunk b k.val) t) (lane p l) :=
  (ldV_at x0 k t l _ _ rfl rfl).trans (hv ⟨k.val, k.isLt⟩ t l)
include hc in
theorem ldC_eq (k : Fin k0_t1_loop.trips) (t l : Fin 128) : ldC x5 k (ix2 t l) = C (tok (chunk b k.val) t) (lane p l) :=
  (ldC_at x5 k t l _ rfl).trans (hc ⟨k.val, k.isLt⟩ t l)

include hu hv hc hg ha hb in
/-- The four sums before trip `k`. -/
theorem sums : ∀ k : ℕ, k ≤ 16 →
    (∀ j : S1x128.Idx, (state c i arg2 harg2 arg3 harg3 arg4 harg4 arg5 harg5 arg6 harg6 arg7 harg7 arg8 harg8 arg9 harg9 arg10 harg10 arg11 harg11 x0 x1 x2 x3 x4 x5 k).1.1 j = ∑ n ∈ Finset.range k, dgain U V C W (chunk b n) (lane p (j 1)))
    ∧ (∀ j : S128x128.Idx, (state c i arg2 harg2 arg3 harg3 arg4 harg4 arg5 harg5 arg6 harg6 arg7 harg7 arg8 harg8 arg9 harg9 arg10 harg10 arg11 harg11 x0 x1 x2 x3 x4 x5 k).1.2.1 j = ∑ n ∈ Finset.range k, dtri U V C G (chunk b n) (lo p) (j 0) (j 1))
    ∧ (∀ j : S128x128.Idx, (state c i arg2 harg2 arg3 harg3 arg4 harg4 arg5 harg5 arg6 harg6 arg7 harg7 arg8 harg8 arg9 harg9 arg10 harg10 arg11 harg11 x0 x1 x2 x3 x4 x5 k).1.2.2.1 j = ∑ n ∈ Finset.range k, dtri U V C G (chunk b n) (hi p) (j 0) (j 1))
    ∧ (∀ j : S128x128.Idx, (state c i arg2 harg2 arg3 harg3 arg4 harg4 arg5 harg5 arg6 harg6 arg7 harg7 arg8 harg8 arg9 harg9 arg10 harg10 arg11 harg11 x0 x1 x2 x3 x4 x5 k).1.2.2.2 j = ∑ n ∈ Finset.range k, dmix U C (tok (chunk b n) (j 0)) (lane p (j 1)))
  | 0, _ => ⟨fun j => zero_eq, fun j => zero_eq, fun j => zero_eq, fun j => zero_eq⟩
  | k + 1, hk => by
    obtain ⟨h1, h2, h3, h4⟩ := sums k (by omega)
    have hs := state_fst c i arg2 harg2 arg3 harg3 arg4 harg4 arg5 harg5 arg6 harg6 arg7 harg7 arg8 harg8 arg9 harg9 arg10 harg10 arg11 harg11 x0 x1 x2 x3 x4 x5 (⟨k, by omega⟩ : Fin 16)
    have eu := fun t l => ldU_eq x0 hu (⟨k, by omega⟩ : Fin 16) t l
    have ev := fun t l => ldV_eq x0 hv (⟨k, by omega⟩ : Fin 16) t l
    have ec := fun t l => ldC_eq x5 hc (⟨k, by omega⟩ : Fin 16) t l
    rw [ldA_eq, ldA_eq, ldG_eq] at hs
    simp only [Finset.sum_range_succ]
    refine ⟨fun j => (congrFun (congrArg (fun s : Carry => s.1) hs) j).trans ?_, fun j => (congrFun (congrArg (fun s : Carry => s.2.1) hs) j).trans ?_,
      fun j => (congrFun (congrArg (fun s : Carry => s.2.2.1) hs) j).trans ?_, fun j => (congrFun (congrArg (fun s : Carry => s.2.2.2) hs) j).trans ?_⟩
    · exact congrArg₂ (· + ·) (h1 j) (gain_at _ _ _ x1 x2 x3 eu ev ec hg ha hb j)
    · exact congrArg₂ (· + ·) (h2 j) (low_at _ _ _ x1 eu ev ec hg j)
    · exact congrArg₂ (· + ·) (h3 j) (high_at _ _ _ x1 eu ev ec hg j)
    · exact congrArg₂ (· + ·) (h4 j) (dmix_at _ _ eu ec j)

/-- The block of the input's gradient. -/
def blockX (U V C : Fin 4096 → Fin 256 → EReal) (G : Fin 256 → EReal) (W : Fin 4 → Fin 128 → Fin 128 → EReal) (B : Fin 4 → Fin 128 → EReal)
    (b p : Fin 2) (y : S2048x256.Idx) : EReal :=
  if (y 1).val < 128 then
    du U V C G W B (chunk b ((y 0).val / 128)) ⟨(y 0).val % 128, Nat.mod_lt _ (by decide)⟩ (lane p ⟨(y 1).val % 128, Nat.mod_lt _ (by decide)⟩)
  else dv U V C G W (chunk b ((y 0).val / 128)) ⟨(y 0).val % 128, Nat.mod_lt _ (by decide)⟩ (lane p ⟨(y 1).val % 128, Nat.mod_lt _ (by decide)⟩)

theorem blockX_low (y : S2048x256.Idx) (k : Fin 16) (t l : Fin 128) (h0 : (y 0).val = 128 * k.val + t.val) (h1 : (y 1).val = l.val) :
    du U V C G W B (chunk b k.val) t (lane p l) = blockX U V C G W B b p y := by
  unfold blockX
  rw [if_pos (by omega)]
  congr 1
  · exact congrArg (chunk b) (by omega)
  · exact Fin.ext (show t.val = (y 0).val % 128 by omega)
  · exact congrArg (lane p) (Fin.ext (show l.val = (y 1).val % 128 by omega))
theorem blockX_high (y : S2048x256.Idx) (k : Fin 16) (t l : Fin 128) (h0 : (y 0).val = 128 * k.val + t.val) (h1 : (y 1).val = 128 + l.val) :
    dv U V C G W (chunk b k.val) t (lane p l) = blockX U V C G W B b p y := by
  unfold blockX
  rw [if_neg (by omega)]
  congr 1
  · exact congrArg (chunk b) (by omega)
  · exact Fin.ext (show t.val = (y 0).val % 128 by omega)
  · exact congrArg (lane p) (Fin.ext (show l.val = (y 1).val % 128 by omega))

include hu hv hc hg ha hb hbias in
/-- Every piece stored before trip `k` is of the one block. -/
theorem pieces (hU : ∀ r h, IsReal (U r h)) (hV : ∀ r h, IsReal (V r h)) (hC : ∀ r h, IsReal (C r h)) (hG : ∀ h, IsReal (G h))
    (hW : ∀ q t s, IsReal (W q t s)) : ∀ k : ℕ, k ≤ 16 → ∀ pc ∈ (state c i arg2 harg2 arg3 harg3 arg4 harg4 arg5 harg5 arg6 harg6 arg7 harg7 arg8 harg8 arg9 harg9 arg10 harg10 arg11 harg11 x0 x1 x2 x3 x4 x5 k).2, ∀ x : pc.1.shape.Idx,
      pc.2 x = blockX U V C G W B b p (pc.1.emb x)
  | 0, _, pc, hp, _ => absurd hp List.not_mem_nil
  | k + 1, hk, pc, hp, x => by
    have hs := state_snd c i arg2 harg2 arg3 harg3 arg4 harg4 arg5 harg5 arg6 harg6 arg7 harg7 arg8 harg8 arg9 harg9 arg10 harg10 arg11 harg11 x0 x1 x2 x3 x4 x5 (⟨k, by omega⟩ : Fin 16)
    have eu := fun t l => ldU_eq x0 hu (⟨k, by omega⟩ : Fin 16) t l
    have ev := fun t l => ldV_eq x0 hv (⟨k, by omega⟩ : Fin 16) t l
    have ec := fun t l => ldC_eq x5 hc (⟨k, by omega⟩ : Fin 16) t l
    rw [ldA_eq, ldA_eq, ldG_eq, ldB_eq] at hs
    rw [show (state c i arg2 harg2 arg3 harg3 arg4 harg4 arg5 harg5 arg6 harg6 arg7 harg7 arg8 harg8 arg9 harg9 arg10 harg10 arg11 harg11 x0 x1 x2 x3 x4 x5 (k + 1)).2 = _ from hs] at hp
    rcases List.mem_cons.mp hp with rfl | hp
    · exact (v_at _ _ _ x1 x2 x3 eu ev ec hg ha hb hU hV hC hG hW x).trans
        (blockX_high _ ⟨k, by omega⟩ (x 0) (x 1) (placeV (⟨k, by omega⟩ : Fin 16) x).1 (placeV (⟨k, by omega⟩ : Fin 16) x).2)
    rcases List.mem_cons.mp hp with rfl | hp
    · exact (u_at _ _ _ x4 x1 x2 x3 eu ev ec hg ha hb hbias x).trans
        (blockX_low _ ⟨k, by omega⟩ (x 0) (x 1) (placeU (⟨k, by omega⟩ : Fin 16) x).1 (placeU (⟨k, by omega⟩ : Fin 16) x).2)
    exact pieces hU hV hC hG hW k (by omega) pc hp x

end Cert.KernelIdeal.SgLoop

end
-- ==== Proof.SgRefA.lean ====
/- The reference's gradient of the chunked spatial gating, stage by stage, at one token and column. -/
module

public import proofs.«01_k».proof.Proof.Gen.ReferenceIdeal.Read
public import proofs.«01_k».proof.Proof.SgMath

@[expose] public section

set_option maxRecDepth 16384

noncomputable section

namespace Cert.ReferenceIdeal.SgRef

open Idealize.ShloMosaic Idealize.ShloMosaic.TcCoe Idealize.SL.Sem
open Cert.ReferenceIdeal Cert.ReferenceIdeal.Read
open Cert.SgMath

/-- Token `t` of sequence `b`. -/
def row (b : Fin 2) (t : Fin 2048) : Fin 4096 := ⟨b.val * 2048 + t.val, by omega⟩
/-- Chunk `m` of sequence `b`. -/
def chk (b : Fin 2) (m : Fin 16) : Fin 32 := ⟨b.val * 16 + m.val, by omega⟩

/-- The arrays by token and column. -/
def argU (x : FVec Ideal S4096x512 .f32) (r : Fin 4096) (h : Fin 256) : EReal := x (ix2 r (⟨h.val / 128 * 256 + h.val % 128, by omega⟩ : Fin 512))
def argV (x : FVec Ideal S4096x512 .f32) (r : Fin 4096) (h : Fin 256) : EReal := x (ix2 r (⟨h.val / 128 * 256 + 128 + h.val % 128, by omega⟩ : Fin 512))
def argC (d : FVec Ideal S4096x1024 .f32) (r : Fin 4096) (h : Fin 256) : EReal := d (ix2 r (⟨768 + h.val, by omega⟩ : Fin 1024))
def argG (g : FVec Ideal S256 .f32) (h : Fin 256) : EReal := g (ix1 h)
def argW (w : FVec Ideal S4x128x128 .f32) (q : Fin 4) (t s : Fin 128) : EReal := w (ix3 q t s)
def argB (b : FVec Ideal S4x128 .f32) (q : Fin 4) (t : Fin 128) : EReal := b (ix2 q t)

theorem grp_col (q : Fin 4) (k : Fin 64) : grp (col q k) = q := Fin.ext (by show (q.val * 64 + k.val) / 64 = q.val; omega)
theorem half_act (y : EReal) : y * (Ideal.ofBits .f32 0x3F000000#32 * (1 + th y)) = act y := by
  rw [act, one_eq, EReal.coe_one, ← mul_assoc, mul_comm y]
theorem row_tok (b : Fin 2) (m : Fin 16) (t : Fin 128) (h : m.val * 128 + t.val < 2048) : row b ⟨m.val * 128 + t.val, h⟩ = tok (chk b m) t :=
  Fin.ext (by show b.val * 2048 + (m.val * 128 + t.val) = (b.val * 16 + m.val) * 128 + t.val; omega)
theorem below (t s : Fin 128) : Scalar.select (IntOp.cmpi .sge (IntOp.addi (BitVec.ofNat 32 t.val) 0#32) (BitVec.ofNat 32 s.val)) 1#1 0#1
    = if s.val ≤ t.val then 1#1 else 0#1 :=
  (by decide +kernel : ∀ t s : Fin 128, Scalar.select (IntOp.cmpi .sge (IntOp.addi (BitVec.ofNat 32 t.val) 0#32) (BitVec.ofNat 32 s.val)) 1#1 0#1
    = if s.val ≤ t.val then 1#1 else 0#1) t s
theorem pick {p : Prop} [Decidable p] (a b : EReal) : Scalar.select (if p then 1#1 else 0#1) a b = if p then a else b := by
  split_ifs <;> rfl
theorem mix_col (V : Fin 4096 → Fin 256 → EReal) (G : Fin 256 → EReal) (W : Fin 4 → Fin 128 → Fin 128 → EReal) (B : Fin 4 → Fin 128 → EReal)
    (n : Fin 32) (t : Fin 128) (q : Fin 4) (k : Fin 64) :
    mix V G W B n t (col q k) = ∑ s : Fin 128, tri W q t s * normed V G (tok n s) (col q k) + B q t := by
  rw [mix, grp_col]
theorem dnorm_col (U C : Fin 4096 → Fin 256 → EReal) (W : Fin 4 → Fin 128 → Fin 128 → EReal)
    (n : Fin 32) (s : Fin 128) (q : Fin 4) (k : Fin 64) :
    dnorm U C W n s (col q k) = ∑ t : Fin 128, tri W q t s * dmix U C (tok n t) (col q k) := by
  rw [dnorm, grp_col]

/-- The chunk and the place in it of a sequence's token. -/
def up (t : Fin 2048) : Fin 16 := ⟨t.val / 128, by omega⟩
def dn (t : Fin 2048) : Fin 128 := ⟨t.val % 128, by omega⟩

theorem row_eq (b : Fin 2) (t : Fin 2048) : row b t = tok (chk b (up t)) (dn t) :=
  Fin.ext (by show b.val * 2048 + t.val = (b.val * 16 + t.val / 128) * 128 + t.val % 128; omega)
theorem col_grp (h : Fin 256) : col (grp h) ⟨h.val % 64, by omega⟩ = h := Fin.ext (by show h.val / 64 * 64 + h.val % 64 = h.val; omega)

theorem slope (x d : EReal) : d * (Ideal.ofBits .f32 0x3F000000#32 * (1 + th x))
      + Ideal.ofBits .f32 0x3F4C422A#32 * (Ideal.ofBits .f32 0x3F000000#32 * (x * d) * ((1 + th x) * (1 - th x)))
      + Ideal.ofBits .f32 0x3D372713#32 * (Ideal.ofBits .f32 0x3F4C422A#32 * (Ideal.ofBits .f32 0x3F000000#32 * (x * d) * ((1 + th x) * (1 - th x))))
        * (Ideal.ofBits .f32 0x40400000#32 * (x * x)) = actGrad x d := by
  have hk : Ideal.ofBits .f32 0x3F4C422A#32 * (Ideal.ofBits .f32 0x3F000000#32 * (x * d) * ((1 + th x) * (1 - th x))) = inward x d := by
    rw [inward, one_eq, EReal.coe_one, mul_assoc _ x d]
  rw [hk, actGrad, one_eq, EReal.coe_one]
  generalize inward x d = k
  generalize Ideal.ofBits .f32 0x3D372713#32 = c
  generalize Ideal.ofBits .f32 0x3F000000#32 = e
  have h3 : c * k * (Ideal.ofBits .f32 0x40400000#32 * (x * x)) = c * k * (x * x) + c * k * (x * x) + c * k * (x * x) := by
    rw [← three_mul_eq, mul_left_comm]
  have a1 : x * x * (c * k) = c * k * (x * x) := mul_comm _ _
  have a2 : x * (c * k * x) = c * k * (x * x) := by rw [mul_left_comm]
  have a3 : c * k * x * x = c * k * (x * x) := mul_assoc _ _ _
  have a4 : e * (d * (1 + th x)) = d * (e * (1 + th x)) := mul_left_comm _ _ _
  rw [h3, a1, a2, a3, a4]
  generalize c * k * (x * x) = y
  generalize d * (e * (1 + th x)) = z
  abel

section
variable (U V C : Fin 4096 → Fin 256 → EReal) (G : Fin 256 → EReal) (W : Fin 4 → Fin 128 → Fin 128 → EReal) (B : Fin 4 → Fin 128 → EReal)

theorem through_form (r : Fin 4096) (n : Fin 32) (s : Fin 128) (q : Fin 4) (hr : r = tok n s) :
    Ideal.div ((∑ k : Fin 64, act (V r (col q k)) * (dnorm U C W n s (col q k) * G (col q k)))
        * (Ideal.ofBits .f32 0xBF000000#32 * Ideal.div (Ideal.rsqrt (ms V r q)) (ms V r q))) (Ideal.ofBits .f32 0x42800000#32)
      = through U V C G W n s q := by
  subst hr; rw [div_len, through]
theorem dact_form (r : Fin 4096) (n : Fin 32) (s : Fin 128) (q : Fin 4) (k : Fin 64) (hr : r = tok n s) :
    dnorm U C W n s (col q k) * G (col q k) * Ideal.rsqrt (ms V r q) + act (V r (col q k)) * (∑ _e : Fin 1, through U V C G W n s q)
        + (∑ _e : Fin 1, through U V C G W n s q) * act (V r (col q k)) = dact U V C G W n s (col q k) := by
  subst hr; rw [dact, grp_col, Fin.sum_univ_one]
theorem dv_form (r : Fin 4096) (n : Fin 32) (s : Fin 128) (h : Fin 256) (hr : r = tok n s) :
    dact U V C G W n s h * (Ideal.ofBits .f32 0x3F000000#32 * (1 + th (V r h)))
      + Ideal.ofBits .f32 0x3F4C422A#32 * (Ideal.ofBits .f32 0x3F000000#32 * (V r h * dact U V C G W n s h) * ((1 + th (V r h)) * (1 - th (V r h))))
      + Ideal.ofBits .f32 0x3D372713#32 * (Ideal.ofBits .f32 0x3F4C422A#32 * (Ideal.ofBits .f32 0x3F000000#32 * (V r h * dact U V C G W n s h) * ((1 + th (V r h)) * (1 - th (V r h)))))
        * (Ideal.ofBits .f32 0x40400000#32 * (V r h * V r h)) = dv U V C G W n s h := by
  subst hr; exact slope _ _
theorem du_form (r : Fin 4096) (n : Fin 32) (s : Fin 128) (h : Fin 256) (hr : r = tok n s) :
    C r h * mix V G W B n s h * (Ideal.ofBits .f32 0x3F000000#32 * (1 + th (U r h)))
      + Ideal.ofBits .f32 0x3F4C422A#32 * (Ideal.ofBits .f32 0x3F000000#32 * (U r h * (C r h * mix V G W B n s h)) * ((1 + th (U r h)) * (1 - th (U r h))))
      + Ideal.ofBits .f32 0x3D372713#32 * (Ideal.ofBits .f32 0x3F4C422A#32 * (Ideal.ofBits .f32 0x3F000000#32 * (U r h * (C r h * mix V G W B n s h)) * ((1 + th (U r h)) * (1 - th (U r h)))))
        * (Ideal.ofBits .f32 0x40400000#32 * (U r h * U r h)) = du U V C G W B n s h := by
  subst hr; exact slope _ _
end

section
variable (x : FVec Ideal S4096x512 .f32) (d : FVec Ideal S4096x1024 .f32) (g : FVec Ideal S256 .f32) (w : FVec Ideal S4x128x128 .f32)
  (b : FVec Ideal S4x128 .f32)

theorem u_at (i : S2x2048x256.Idx) : val_main_v3 (F := Ideal) x i = argU x (row (i 0) (i 1)) (i 2) := by
  have h2 : (i 2).val < 256 := (i 2).isLt
  pointwise [val_main_v3, val_main_v2, val_main_v1, val_main_v0, argU, row]
  split_ifs with h <;> exact congrArg (fun k => x (ix2 _ k)) (Fin.ext (by show _ = (i 2).val / 128 * 256 + (i 2).val % 128; dsimp only; omega))
theorem v_at (i : S2x2048x256.Idx) : val_main_v7 (F := Ideal) x i = argV x (row (i 0) (i 1)) (i 2) := by
  have h2 : (i 2).val < 256 := (i 2).isLt
  pointwise [val_main_v7, val_main_v6, val_main_v5, val_main_v4, argV, row]
  split_ifs with h <;> exact congrArg (fun k => x (ix2 _ k)) (Fin.ext (by show _ = (i 2).val / 128 * 256 + 128 + (i 2).val % 128; dsimp only; omega))
theorem c_at (i : S2x2048x256.Idx) : val_main_v9 (F := Ideal) d i = argC d (row (i 0) (i 1)) (i 2) := by
  pointwise [val_main_v9, val_main_v8, argC, row]
theorem mask_at (i : S4x128x128.Idx) : val_main_v73_1 (F := Ideal) i = if (i 2).val ≤ (i 1).val then 1#1 else 0#1 := by
  have h1 : (i 1).val < 128 := (i 1).isLt
  have h2 : (i 2).val < 128 := (i 2).isLt
  pointwise [val_main_v73_1, val_main_v72, val_main_v71, val_main_c, val_main_call0_v0, val_main_call0_c, val_main_call0_v1, val_main_call0_v2, val_main_call0_v3, val_main_call0_v4, val_main_call0_c_0, val_main_call0_v5]
  exact below (i 1) (i 2)
theorem tri_of  (i : S4x128x128.Idx) :
    val_main_v73_0 (F := Ideal) w i = tri (argW w) (i 0) (i 1) (i 2) := by
  pointwise [val_main_v73_0, val_main_cst_17, val_main_call1_v0, val_main_call1_v2, mask_at]
  rw [pick]
  exact if_congr Iff.rfl (congrArg w (ix3_eta i).symm) zero_eq
end

end Cert.ReferenceIdeal.SgRef

end
-- ==== Proof.SgPoint.lean ====
/- What each grid point of the gating's backward pass reads: the blocks of its arguments, entry by entry. -/
module

public import proofs.«01_k».proof.Proof.Gen.KernelIdeal.Value
public import proofs.«01_k».proof.Proof.SgLoop
public import proofs.«01_k».proof.Proof.SgRefA
public import Idealize.ShloMosaic.Lib.Pipeline.ValueKit
public import Idealize.ShloMosaic.Lib.Pipeline.ReadBack

@[expose] public section

set_option maxRecDepth 16384

noncomputable section

namespace Cert.KernelIdeal.SgPoint

open Idealize.ShloMosaic Idealize.ShloMosaic.TcCoe Idealize.SL.Sem
open Cert.KernelIdeal Cert.KernelIdeal.Gen
open Cert.SgMath Cert.KernelIdeal.SgChunk Cert.KernelIdeal.SgLoop
open Cert.ReferenceIdeal.SgRef (argU argV argC argG argW argB)

variable (m : (ℓ : Loc nD τ sig) → Buf (Elt Ideal) ℓ) (c : Dev nD)

abbrev aX : FVec Ideal S4096x512 .f32 := m ((c : Thread nD τ).loc main_arg0)
abbrev aD : FVec Ideal S4096x1024 .f32 := m ((c : Thread nD τ).loc main_arg1)
abbrev aG : FVec Ideal S256 .f32 := m ((c : Thread nD τ).loc main_arg2)
abbrev aW : FVec Ideal S4x128x128 .f32 := m ((c : Thread nD τ).loc main_arg3)
abbrev aB : FVec Ideal S4x128 .f32 := m ((c : Thread nD τ).loc main_arg4)

/-- The batch and the pair of groups of a point. -/
def bt (t : Fin cfg0.N) : Fin 2 := ⟨t.val % 2, Nat.mod_lt _ (by decide)⟩
def pt (t : Fin cfg0.N) : Fin 2 := ⟨t.val / 2 % 2, Nat.mod_lt _ (by decide)⟩

theorem place : ∀ t : Fin cfg0.N, win0_0.index t = ![t.val % 2, t.val / 2 % 2] ∧ win0_1.index t = ![0, t.val / 2 % 2]
    ∧ win0_2.index t = ![2 * (t.val / 2 % 2), 0, 0] ∧ win0_3.index t = ![2 * (t.val / 2 % 2) + 1, 0, 0] ∧ win0_4.index t = ![0, t.val / 2 % 2]
    ∧ win0_5.index t = ![t.val % 2, 6 + t.val / 2 % 2] ∧ win0_6.index t = ![t.val % 2, t.val / 2 % 2] ∧ win0_7.index t = ![0, t.val / 2 % 2]
    ∧ win0_8.index t = ![t.val / 2 % 2, 0, 0] ∧ win0_9.index t = ![0, 0] :=
  (by decide +kernel : ∀ t : Fin grid0.N, _)

theorem u_of (t : Fin cfg0.N) (k : Fin 16) (s l : Fin 128) :
    iblk m c 0 t (ix2 (rowOf k s) (colU l))
      = argU (aX m c) (tok (chunk (bt t) k.val) s) (lane (pt t) l) := by
  unfold argU
  blk_point [iblk, V, place t, chunk, bt, pt, tok, lane, rowOf, colU, colV]
theorem v_of (t : Fin cfg0.N) (k : Fin 16) (s l : Fin 128) :
    iblk m c 0 t (ix2 (rowOf k s) (colV l))
      = argV (aX m c) (tok (chunk (bt t) k.val) s) (lane (pt t) l) := by
  unfold argV
  blk_point [iblk, V, place t, chunk, bt, pt, tok, lane, rowOf, colU, colV]
theorem c_of (t : Fin cfg0.N) (k : Fin 16) (s l : Fin 128) :
    iblk m c 5 t (ix2 (rowOf k s) l)
      = argC (aD m c) (tok (chunk (bt t) k.val) s) (lane (pt t) l) := by
  unfold argC
  blk_point [iblk, V, place t, chunk, bt, pt, tok, lane, rowOf, colU, colV]
theorem g_of (t : Fin cfg0.N) (l : Fin 128) : iblk m c 1 t (ix2 0 l) = argG (aG m c) (lane (pt t) l) := by
  unfold argG
  blk_point [iblk, V, place t, pt, lane]
theorem wa_of (t : Fin cfg0.N) (q s : Fin 128) : iblk m c 2 t (ix3 0 q s) = argW (aW m c) (lo (pt t)) q s := by
  unfold argW
  blk_point [iblk, V, place t, pt, lo]
theorem wb_of (t : Fin cfg0.N) (q s : Fin 128) : iblk m c 3 t (ix3 0 q s) = argW (aW m c) (hi (pt t)) q s := by
  unfold argW
  blk_point [iblk, V, place t, pt, hi]
theorem b_of (t : Fin cfg0.N) (s l : Fin 128) : iblk m c 4 t (ix2 s l) = argB (aB m c) (grp (lane (pt t) l)) s := by
  unfold argB
  blk_point [iblk, V, place t, pt, lane, grp]

end Cert.KernelIdeal.SgPoint

end
-- ==== Proof.SgOut.lean ====
/- What each grid point of the gating's backward pass leaves: its block of the input's gradient, and its part of the sums. -/
module

public import proofs.«01_k».proof.Proof.SgPoint

@[expose] public section

set_option maxRecDepth 16384

noncomputable section

namespace Cert.KernelIdeal.SgOut

open Idealize.ShloMosaic Idealize.ShloMosaic.TcCoe Idealize.SL.Sem
open Cert.KernelIdeal Cert.KernelIdeal.Gen
open Cert.SgMath Cert.KernelIdeal.SgChunk Cert.KernelIdeal.SgLoop Cert.KernelIdeal.SgPoint
open Cert.ReferenceIdeal.SgRef (argU argV argC argG argW argB)

variable (m : (ℓ : Loc nD τ sig) → Buf (Elt Ideal) ℓ) (c : Dev nD)

/-- The loop's state at a point, after all sixteen chunks. -/
abbrev after (t : Fin cfg0.N) : Carry × List (View.Piece (Elt Ideal) S2048x256 .f32) :=
  state c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (iblk m c 0 t) (iblk m c 1 t) (iblk m c 2 t) (iblk m c 3 t) (iblk m c 4 t) (iblk m c 5 t) 16

abbrev pGain (t : Fin cfg0.N) (l : Fin 128) : EReal :=
  ∑ n ∈ Finset.range 16, dgain (argU (aX m c)) (argV (aX m c)) (argC (aD m c)) (argW (aW m c)) (chunk (bt t) n) (lane (pt t) l)
abbrev pTri (t : Fin cfg0.N) (q : Fin 4) (x y : Fin 128) : EReal :=
  ∑ n ∈ Finset.range 16, dtri (argU (aX m c)) (argV (aX m c)) (argC (aD m c)) (argG (aG m c)) (chunk (bt t) n) q x y
abbrev pMix (t : Fin cfg0.N) (x : Fin 128) (h : Fin 256) : EReal :=
  ∑ n ∈ Finset.range 16, dmix (argU (aX m c)) (argC (aD m c)) (tok (chunk (bt t) n) x) h

theorem sums_at (t : Fin cfg0.N) :
    (∀ j : S1x128.Idx, (after m c t).1.1 j = pGain m c t (j 1))
    ∧ (∀ j : S128x128.Idx, (after m c t).1.2.1 j = pTri m c t (lo (pt t)) (j 0) (j 1))
    ∧ (∀ j : S128x128.Idx, (after m c t).1.2.2.1 j = pTri m c t (hi (pt t)) (j 0) (j 1))
    ∧ (∀ j : S128x128.Idx, (after m c t).1.2.2.2 j = pMix m c t (j 0) (lane (pt t) (j 1))) :=
  sums c _ _ _ _ _ _ _ _ _ _ _ _ _ _ _ _ _ _ _ _ _ _ _ _ _ _ _ (u_of m c t) (v_of m c t) (c_of m c t) (g_of m c t) (wa_of m c t) (wb_of m c t) 16 le_rfl

/-- All entries are real. -/
structure Real : Prop where
  u : ∀ r h, IsReal (argU (aX m c) r h)
  v : ∀ r h, IsReal (argV (aX m c) r h)
  d : ∀ r h, IsReal (argC (aD m c) r h)
  g : ∀ h, IsReal (argG (aG m c) h)
  w : ∀ q t s, IsReal (argW (aW m c) q t s)

abbrev pX (t : Fin cfg0.N) (y : S2048x256.Idx) : EReal :=
  blockX (argU (aX m c)) (argV (aX m c)) (argC (aD m c)) (argG (aG m c)) (argW (aW m c)) (argB (aB m c)) (bt t) (pt t) y

variable {m c} in
theorem pieces_at (h : Real m c) (t : Fin cfg0.N) : ∀ pc ∈ (after m c t).2, ∀ x : pc.1.shape.Idx, pc.2 x = pX m c t (pc.1.emb x) :=
  pieces c _ _ _ _ _ _ _ _ _ _ _ _ _ _ _ _ _ _ _ _ _ _ _ _ _ _ _ (u_of m c t) (v_of m c t) (c_of m c t) (g_of m c t) (wa_of m c t) (wb_of m c t)
    (b_of m c t) h.u h.v h.d h.g h.w 16 le_rfl

variable {m c} in
theorem x_at (h : Real m c) (t : Fin cfg0.N) (y : S2048x256.Idx) : (outsAt0 m c t.val t.isLt).1 y = pX m c t y := by
  by_cases h0 : t.val % 2 = 0
  · by_cases h1 : t.val % 4 = 0
    · rw [outsAt0_A m c t h0 h1]; dsimp only; unfold out0_A_6
      refine View.read_writes_apply_of_pieces (Val := Elt Ideal) _ _ (pX m c t) _ ?_ y (cover0_A_6 ..)
      frame_open
      exact pieces_at h t
    · rw [outsAt0_C m c t h0 h1]; dsimp only; unfold out0_C_6
      refine View.read_writes_apply_of_pieces (Val := Elt Ideal) _ _ (pX m c t) _ ?_ y (cover0_C_6 ..)
      frame_open
      exact pieces_at h t
  · have h1 : ¬ t.val % 4 = 0 := by omega
    rw [outsAt0_B m c t h0 h1]; dsimp only; unfold out0_B_6
    refine View.read_writes_apply_of_pieces (Val := Elt Ideal) _ _ (pX m c t) _ ?_ y (cover0_B_6 ..)
    frame_open
    exact pieces_at h t

/-- What the point before left. -/
abbrev before (t : Fin cfg0.N) := outsAt0 m c (t.val - 1) (Nat.lt_of_le_of_lt (Nat.sub_le _ _) t.isLt)

theorem pay4 (s o : FVec Ideal S1x128 .f32) (j : S1x128.Idx) : k0_pay4 (F := Ideal) s o j = o j + s j := by
  pointwise [k0_pay4]
theorem gain_even (t : Fin cfg0.N) (h0 : t.val % 2 = 0) (j : S1x128.Idx) : (outsAt0 m c t.val t.isLt).2.1 j = pGain m c t (j 1) := by
  by_cases h1 : t.val % 4 = 0
  · rw [outsAt0_A m c t h0 h1]; dsimp only; frame_out
    exact (pay4 _ _ j).trans <| (congrArg₂ (· + ·) zero_eq ((sums_at m c t).1 j)).trans (zero_add _)
  · rw [outsAt0_C m c t h0 h1]; dsimp only; frame_out
    exact (pay4 _ _ j).trans <| (congrArg₂ (· + ·) zero_eq ((sums_at m c t).1 j)).trans (zero_add _)
theorem gain_odd (t : Fin cfg0.N) (h0 : ¬ t.val % 2 = 0) (j : S1x128.Idx) :
    (outsAt0 m c t.val t.isLt).2.1 j = (before m c t).2.1 j + pGain m c t (j 1) := by
  have h1 : ¬ t.val % 4 = 0 := by omega
  rw [outsAt0_B m c t h0 h1]; dsimp only; frame_out
  exact (pay4 _ _ j).trans (congrArg₂ (· + ·) rfl ((sums_at m c t).1 j))

theorem below (l : Fin 128) : IntOp.cmpi CmpIPredicate.slt (BitVec.ofNat 32 l.val) 64#32 = if l.val < 64 then 1#1 else 0#1 :=
  (by decide +kernel : ∀ l : Fin 128, IntOp.cmpi CmpIPredicate.slt (BitVec.ofNat 32 l.val) 64#32 = if l.val < 64 then 1#1 else 0#1) l
theorem isLo (p : Fin 2) (l : Fin 128) : IntOp.cmpi CmpIPredicate.eq (BitVec.ofNat 32 l.val) (Scalar.muli 2#32 (BitVec.ofNat 32 p.val)) = if l.val = 2 * p.val then 1#1 else 0#1 :=
  (by decide +kernel : ∀ (p : Fin 2) (l : Fin 128), IntOp.cmpi CmpIPredicate.eq (BitVec.ofNat 32 l.val) (Scalar.muli 2#32 (BitVec.ofNat 32 p.val)) = if l.val = 2 * p.val then 1#1 else 0#1) p l
theorem isHi (p : Fin 2) (l : Fin 128) : IntOp.cmpi CmpIPredicate.eq (BitVec.ofNat 32 l.val) (Scalar.addi (Scalar.muli 2#32 (BitVec.ofNat 32 p.val)) 1#32) = if l.val = 2 * p.val + 1 then 1#1 else 0#1 :=
  (by decide +kernel : ∀ (p : Fin 2) (l : Fin 128), IntOp.cmpi CmpIPredicate.eq (BitVec.ofNat 32 l.val) (Scalar.addi (Scalar.muli 2#32 (BitVec.ofNat 32 p.val)) 1#32) = if l.val = 2 * p.val + 1 then 1#1 else 0#1) p l

abbrev pBias (t : Fin cfg0.N) (x l : Fin 128) : EReal :=
  (if l.val = 2 * (pt t).val then ∑ k : Fin 64, pMix m c t x (col (lo (pt t)) k) else 0)
    + (if l.val = 2 * (pt t).val + 1 then ∑ k : Fin 64, pMix m c t x (col (hi (pt t)) k) else 0)

theorem bias_part (t : Fin cfg0.N) (s : FVec Ideal S128x128 .f32) (hs : ∀ j : S128x128.Idx, s j = pMix m c t (j 0) (lane (pt t) (j 1)))
    (j : S128x128.Idx) : k0_pay57 (F := Ideal) (grid0.coords t) s j = pBias m c t (j 0) (j 1) := by
  have hp : (grid0.coords t 0).val = (pt t).val := (by decide +kernel : ∀ t : Fin grid0.N, (grid0.coords t 0).val = t.val / 2 % 2) t
  generalize grid0.coords t = gc at hp ⊢
  have e0 := low_sum fun l => pMix m c t (j 0) (lane (pt t) l)
  have e1 := high_sum fun l => pMix m c t (j 0) (lane (pt t) l)
  simp only [lane_low, lane_high] at e0 e1
  unfold pBias
  rw [← e0, ← e1]
  pointwise [k0_pay57, hs, hp, below, pick]
  rw [isLo (pt t) (j 1), isHi (pt t) (j 1), pick, pick]

theorem pay7 (s o : FVec Ideal S128x128 .f32) (j : S128x128.Idx) : k0_pay7 (F := Ideal) s o j = o j + s j := by
  pointwise [k0_pay7]
theorem bias_first (t : Fin cfg0.N) (h1 : t.val % 4 = 0) (j : S128x128.Idx) :
    (outsAt0 m c t.val t.isLt).2.2.2 j = pBias m c t (j 0) (j 1) := by
  rw [outsAt0_A m c t (by omega) h1]; dsimp only; frame_out
  exact (pay7 _ _ j).trans ((congrArg₂ (· + ·) zero_eq (bias_part m c t _ (sums_at m c t).2.2.2 j)).trans (zero_add _))
theorem bias_next (t : Fin cfg0.N) (h1 : ¬ t.val % 4 = 0) (j : S128x128.Idx) :
    (outsAt0 m c t.val t.isLt).2.2.2 j = (before m c t).2.2.2 j + pBias m c t (j 0) (j 1) := by
  by_cases h0 : t.val % 2 = 0
  · rw [outsAt0_C m c t h0 h1]; dsimp only; frame_out
    exact (pay7 _ _ j).trans (congrArg₂ (· + ·) rfl (bias_part m c t _ (sums_at m c t).2.2.2 j))
  · rw [outsAt0_B m c t h0 h1]; dsimp only; frame_out
    exact (pay7 _ _ j).trans (congrArg₂ (· + ·) rfl (bias_part m c t _ (sums_at m c t).2.2.2 j))

theorem pay5 (s : FVec Ideal S128x128 .f32) (o : FVec Ideal S1x128x128 .f32) (j : S1x128x128.Idx) :
    k0_pay5 (F := Ideal) s o j = o j + s (ix2 (j 1) (j 2)) := by
  pointwise [k0_pay5]
theorem pay6 (s : FVec Ideal S128x128 .f32) (o : FVec Ideal S1x128x128 .f32) (j : S1x128x128.Idx) :
    k0_pay6 (F := Ideal) s o j = o j + s (ix2 (j 1) (j 2)) := by
  pointwise [k0_pay6]

/-- Two stores, one of each half. -/
theorem halves (G : Vec Ideal S2x128x128 .f32) (w1 w0 : Vec Ideal S1x128x128 .f32) (L : List (View.Piece (Elt Ideal) S2x128x128 .f32))
    (h1 : ∀ x y : Fin 128, w1 (ix3 0 x y) = G (ix3 1 x y)) (h0 : ∀ x y : Fin 128, w0 (ix3 0 x y) = G (ix3 0 x y)) (j : S2x128x128.Idx) :
    View.canon (⟨Rect.unit ![1, 0, 0] ![1, 128, 128] inb_S2x128x128_S1x128x128_1_0_0, w1⟩
      :: ⟨Rect.unit ![0, 0, 0] ![1, 128, 128] inb_S2x128x128_S1x128x128_0_0_0, w0⟩ :: L) j = G j := by
  have b0 : (j 0).val < 2 := (j 0).isLt
  have b1 : (j 1).val < 128 := (j 1).isLt
  have b2 : (j 2).val < 128 := (j 2).isLt
  by_cases h : (j 0).val = 1
  · have e : j = (Rect.unit (s := S2x128x128) ![1, 0, 0] ![1, 128, 128] inb_S2x128x128_S1x128x128_1_0_0).emb (ix3 0 (j 1) (j 2)) :=
      funext fun a => Fin.ext (Eq.trans (by fin_cases a <;> simp [h]) (Rect.emb_apply _ _ a).symm)
    rw [e]
    exact (View.canon_cons_emb _ _ _ _).trans ((h1 _ _).trans (congrArg G (by rw [← e]; exact (congrArg (fun q => ix3 q (j 1) (j 2)) (Fin.ext h.symm)).trans (ix3_eta j))))
  · have hz : (j 0).val = 0 := by omega
    have e : j = (Rect.unit (s := S2x128x128) ![0, 0, 0] ![1, 128, 128] inb_S2x128x128_S1x128x128_0_0_0).emb (ix3 0 (j 1) (j 2)) :=
      funext fun a => Fin.ext (Eq.trans (by fin_cases a <;> simp [hz]) (Rect.emb_apply _ _ a).symm)
    have hn : j ∉ (Rect.unit (s := S2x128x128) ![1, 0, 0] ![1, 128, 128] inb_S2x128x128_S1x128x128_1_0_0).set := fun hm => by
      have h1 : 1 ≤ (j 0).val := (Rect.mem_set_unit.mp hm 0).1
      omega
    have s1 := View.canon_cons_of_not_mem (Val := Elt Ideal) (e := .f32)
      ⟨Rect.unit (s := S2x128x128) ![1, 0, 0] ![1, 128, 128] inb_S2x128x128_S1x128x128_1_0_0, w1⟩
      (⟨Rect.unit (s := S2x128x128) ![0, 0, 0] ![1, 128, 128] inb_S2x128x128_S1x128x128_0_0_0, w0⟩ :: L) hn
    refine s1.trans ?_
    rw [e]
    exact (View.canon_cons_emb _ _ _ _).trans ((h0 _ _).trans (congrArg G (by rw [← e]; exact (congrArg (fun q => ix3 q (j 1) (j 2)) (Fin.ext hz.symm)).trans (ix3_eta j))))

theorem tri_even (t : Fin cfg0.N) (h0 : t.val % 2 = 0) (j : S2x128x128.Idx) :
    (outsAt0 m c t.val t.isLt).2.2.1 j = pTri m c t (if (j 0).val = 0 then lo (pt t) else hi (pt t)) (j 1) (j 2) := by
  by_cases h1 : t.val % 4 = 0
  · rw [outsAt0_A m c t h0 h1]; dsimp only; frame_out
    rw [View.readCov_skip _ _ _ _ _ (by decide), View.readCov_fill _ _ _ _ _ (by decide), View.readCov_fill _ _ _ _ _ (by decide)]
    refine halves (fun j => pTri m c t (if (j 0).val = 0 then lo (pt t) else hi (pt t)) (j 1) (j 2)) _ _ _ (fun x y => ?_) (fun x y => ?_) j
    · exact (pay6 _ _ _).trans ((congrArg₂ (· + ·) zero_eq ((sums_at m c t).2.2.1 (ix2 x y))).trans (zero_add _))
    · exact (pay5 _ _ _).trans ((congrArg₂ (· + ·) zero_eq ((sums_at m c t).2.1 (ix2 x y))).trans (zero_add _))
  · rw [outsAt0_C m c t h0 h1]; dsimp only; frame_out
    rw [View.readCov_skip _ _ _ _ _ (by decide), View.readCov_fill _ _ _ _ _ (by decide), View.readCov_fill _ _ _ _ _ (by decide)]
    refine halves (fun j => pTri m c t (if (j 0).val = 0 then lo (pt t) else hi (pt t)) (j 1) (j 2)) _ _ _ (fun x y => ?_) (fun x y => ?_) j
    · exact (pay6 _ _ _).trans ((congrArg₂ (· + ·) zero_eq ((sums_at m c t).2.2.1 (ix2 x y))).trans (zero_add _))
    · exact (pay5 _ _ _).trans ((congrArg₂ (· + ·) zero_eq ((sums_at m c t).2.1 (ix2 x y))).trans (zero_add _))
theorem ld_high (X : Vec Ideal S2x128x128 .f32) (x y : Fin 128) :
    View.ld X (Rect.unit ![1, 0, 0] ![1, 128, 128] inb_S2x128x128_S1x128x128_1_0_0) (ix3 0 x y) = X (ix3 1 x y) :=
  congrArg X (funext fun a => Fin.ext ((Rect.emb_apply _ _ a).trans (by fin_cases a <;> simp)))
theorem ld_low (X : Vec Ideal S2x128x128 .f32) (x y : Fin 128) :
    View.ld X (Rect.unit ![0, 0, 0] ![1, 128, 128] inb_S2x128x128_S1x128x128_0_0_0) (ix3 0 x y) = X (ix3 0 x y) :=
  congrArg X (funext fun a => Fin.ext ((Rect.emb_apply _ _ a).trans (by fin_cases a <;> simp)))
theorem tri_odd (t : Fin cfg0.N) (h0 : ¬ t.val % 2 = 0) (j : S2x128x128.Idx) :
    (outsAt0 m c t.val t.isLt).2.2.1 j = (before m c t).2.2.1 j
      + pTri m c t (if (j 0).val = 0 then lo (pt t) else hi (pt t)) (j 1) (j 2) := by
  have h1 : ¬ t.val % 4 = 0 := by omega
  rw [outsAt0_B m c t h0 h1]; dsimp only; frame_out
  refine halves (fun j => (before m c t).2.2.1 j + pTri m c t (if (j 0).val = 0 then lo (pt t) else hi (pt t)) (j 1) (j 2)) _ _ [] (fun x y => ?_) (fun x y => ?_) j
  · exact (pay6 _ _ _).trans (congrArg₂ (· + ·) (ld_high _ x y) ((sums_at m c t).2.2.1 (ix2 x y)))
  · exact (pay5 _ _ _).trans (congrArg₂ (· + ·) (ld_low _ x y) ((sums_at m c t).2.1 (ix2 x y)))

end Cert.KernelIdeal.SgOut

end
-- ==== Proof.SgRefSum.lean ====
/- The reference's gradient of the chunked spatial gating, stage by stage, at one token and column. -/
module

public import proofs.«01_k».proof.Proof.SgRefA

@[expose] public section

set_option maxRecDepth 16384

noncomputable section

namespace Cert.ReferenceIdeal.SgRef

open Idealize.ShloMosaic Idealize.ShloMosaic.TcCoe Idealize.SL.Sem
open Cert.ReferenceIdeal Cert.ReferenceIdeal.Read
open Cert.SgMath

section
variable {n0 n1 n2 n3 n4 : ℕ} {t : Shape}

/-- A host sum over the axes 0, 1 and 4 of five. -/
theorem sum_axes_014 (h : (⟨5, ![n0, n1, n2, n3, n4]⟩ : Shape).ReducesTo [0, 1, 4] t)
    (v : (⟨5, ![n0, n1, n2, n3, n4]⟩ : Shape).Idx → EReal) (init : EReal) (j : t.Idx) (hr : 0 < t.rank) (hs : 1 < t.rank) (p : Fin n2) (q : Fin n3)
    (hp : (j ⟨0, hr⟩).val = p.val) (hq : (j ⟨1, hs⟩).val = q.val) :
    Ideal.hostReduceAdd h v init j = init + ∑ a : Fin n0, ∑ b : Fin n1, ∑ e : Fin n4, v (ix5 a b p q e) := by
  have hrank : t.rank = 2 := h.1
  refine congrArg (init + ·) ((Finset.sum_filter_eq_sum_of_fiber _ (fun k : Fin n0 × Fin n1 × Fin n4 => ix5 k.1 k.2.1 p q k.2.2)
    (fun _ _ e => Prod.ext (congrFun e 0) (Prod.ext (congrFun e 1) (congrFun e 4))) (fun i => ⟨fun e => ⟨(i 0, i 1, i 4), ?_⟩, ?_⟩) v).trans ?_)
  · funext a; apply Fin.ext
    match a with
    | ⟨0, _⟩ => rfl
    | ⟨1, _⟩ => rfl
    | ⟨2, _⟩ => exact hp.symm.trans (congrArg Fin.val (congrFun e ⟨0, hr⟩)).symm
    | ⟨3, _⟩ => exact hq.symm.trans (congrArg Fin.val (congrFun e ⟨1, hs⟩)).symm
    | ⟨4, _⟩ => rfl
  · rintro ⟨k, rfl⟩
    funext a; apply Fin.ext
    match a with
    | ⟨0, _⟩ => exact hp.symm
    | ⟨1, _⟩ => exact hq.symm
    | ⟨_ + 2, hb⟩ => exact absurd hb (by omega)
  · simp only [Fintype.sum_prod_type]

/-- A host sum over the axes 0 and 1 of four. -/
theorem sum_axes_01 (h : (⟨4, ![n0, n1, n2, n3]⟩ : Shape).ReducesTo [0, 1] t)
    (v : (⟨4, ![n0, n1, n2, n3]⟩ : Shape).Idx → EReal) (init : EReal) (j : t.Idx) (hr : 0 < t.rank) (hs : 1 < t.rank) (p : Fin n2) (q : Fin n3)
    (hp : (j ⟨0, hr⟩).val = p.val) (hq : (j ⟨1, hs⟩).val = q.val) :
    Ideal.hostReduceAdd h v init j = init + ∑ a : Fin n0, ∑ b : Fin n1, v (ix4 a b p q) := by
  have hrank : t.rank = 2 := h.1
  refine congrArg (init + ·) ((Finset.sum_filter_eq_sum_of_fiber _ (fun k : Fin n0 × Fin n1 => ix4 k.1 k.2 p q)
    (fun _ _ e => Prod.ext (congrFun e 0) (congrFun e 1)) (fun i => ⟨fun e => ⟨(i 0, i 1), ?_⟩, ?_⟩) v).trans ?_)
  · funext a; apply Fin.ext
    match a with
    | ⟨0, _⟩ => rfl
    | ⟨1, _⟩ => rfl
    | ⟨2, _⟩ => exact hp.symm.trans (congrArg Fin.val (congrFun e ⟨0, hr⟩)).symm
    | ⟨3, _⟩ => exact hq.symm.trans (congrArg Fin.val (congrFun e ⟨1, hs⟩)).symm
  · rintro ⟨k, rfl⟩
    funext a; apply Fin.ext
    match a with
    | ⟨0, _⟩ => exact hp.symm
    | ⟨1, _⟩ => exact hq.symm
    | ⟨_ + 2, hb⟩ => exact absurd hb (by omega)
  · simp only [Fintype.sum_prod_type]
end

abbrev dwDot := dot_S4x2x16x64x128_S2x16x128x4x64_S4x128x128_123_014_4_2_0_3

/-- The three contracted coordinates of the mixing weights' gradient. -/
def contr (k : Fin 2 × Fin 16 × Fin 64) : dwDot.contr.Idx := fun a => match a with
  | ⟨0, _⟩ => k.1
  | ⟨1, _⟩ => k.2.1
  | ⟨2, _⟩ => k.2.2

theorem contr_bij : Function.Bijective contr := by
  refine ⟨fun k l e => Prod.ext (congrFun e ⟨0, by decide⟩) (Prod.ext (congrFun e ⟨1, by decide⟩) (congrFun e ⟨2, by decide⟩)), fun q => ⟨(q ⟨0, by decide⟩, q ⟨1, by decide⟩, q ⟨2, by decide⟩), ?_⟩⟩
  funext a
  match a with
  | ⟨0, _⟩ => rfl
  | ⟨1, _⟩ => rfl
  | ⟨2, _⟩ => rfl

theorem dw_sum (a : S4x2x16x64x128.Idx → EReal) (b : S2x16x128x4x64.Idx → EReal) (i : S4x128x128.Idx) :
    Ideal.matmul dwDot a b (fun _ => 0) i = ∑ n : Fin 2, ∑ m : Fin 16, ∑ k : Fin 64, a (ix5 (i 0) n m k (i 1)) * b (ix5 n m (i 2) (i 0) k) := by
  refine (zero_add _).trans ?_
  rw [← Function.Bijective.sum_comp contr_bij]
  simp only [Fintype.sum_prod_type]
  refine Finset.sum_congr rfl fun n _ => Finset.sum_congr rfl fun m _ => Finset.sum_congr rfl fun k _ => congrArg₂ (· * ·) (congrArg a ?_) (congrArg b ?_)
  · funext e; apply Fin.ext
    match e with
    | ⟨0, _⟩ => rfl
    | ⟨1, _⟩ => rfl
    | ⟨2, _⟩ => rfl
    | ⟨3, _⟩ => rfl
    | ⟨4, _⟩ => rfl
  · funext e; apply Fin.ext
    match e with
    | ⟨0, _⟩ => rfl
    | ⟨1, _⟩ => rfl
    | ⟨2, _⟩ => rfl
    | ⟨3, _⟩ => rfl
    | ⟨4, _⟩ => rfl

section
variable (x : FVec Ideal S4096x512 .f32) (d : FVec Ideal S4096x1024 .f32) (g : FVec Ideal S256 .f32) (w : FVec Ideal S4x128x128 .f32)
  (b : FVec Ideal S4x128 .f32)

/-- The mixing bias' gradient. -/
theorem dbias_of (hdmix : ∀ i, val_main_v84 (F := Ideal) x d i = dmix (argU x) (argC d) (tok (chk (i 0) (i 1)) (i 2)) (col (i 3) (i 4))) (p : Fin 128) (q : Fin 4) : val_main_v87 (F := Ideal) x d (ix2 p q)
    = ∑ n : Fin 2, ∑ m : Fin 16, ∑ k : Fin 64, dmix (argU x) (argC d) (tok (chk n m) p) (col q k) := by
  show Ideal.hostReduceAdd Gen.reducesTo_S1x1x128x4x1_S128x4_d0_1_4 (val_main_v86 (F := Ideal) x d) (Ideal.ofBits .f32 0x00000000#32) (ix2 p q) = _
  rw [sum_axes_014 _ _ _ (ix2 p q) (by decide) (by decide) p q rfl rfl, Fin.sum_univ_one, Fin.sum_univ_one, Fin.sum_univ_one, zero_eq, zero_add]
  have e : val_main_v86 (F := Ideal) x d (ix5 0 0 p q 0) = val_main_v85 (F := Ideal) x d (ix2 p q) := by
    generalize hv : val_main_v85 (F := Ideal) x d = v
    unfold val_main_v86
    rw [hv]
    refine shapeCast_apply v _ _ (ix2 p q) ?_
    rewrite [Shape.rowMajor_val_two, Shape.rowMajor_val_five]
    show p.val * 4 + q.val = ((((0 : ℕ) * 1 + 0) * 128 + p.val) * 4 + q.val) * 1 + 0
    omega
  refine e.trans ?_
  show Ideal.hostReduceAdd Gen.reducesTo_S2x16x128x4x64_S128x4_d0_1_4 (val_main_v84 (F := Ideal) x d) (Ideal.ofBits .f32 0x00000000#32) (ix2 p q) = _
  rw [sum_axes_014 _ _ _ (ix2 p q) (by decide) (by decide) p q rfl rfl, zero_eq, zero_add]
  exact Finset.sum_congr rfl fun n _ => Finset.sum_congr rfl fun m _ => Finset.sum_congr rfl fun k _ => hdmix _

/-- The mixing weights' gradient before what is above the diagonal is left out. -/
theorem dw_of (hdmix : ∀ i, val_main_v84 (F := Ideal) x d i = dmix (argU x) (argC d) (tok (chk (i 0) (i 1)) (i 2)) (col (i 3) (i 4)))
    (hnormed : ∀ i, val_main_v70 (F := Ideal) x g i = normed (argV x) (argG g) (tok (chk (i 0) (i 1)) (i 2)) (col (i 3) (i 4))) (i : S4x128x128.Idx) : val_main_v90 (F := Ideal) x d g i
    = ∑ n : Fin 2, ∑ m : Fin 16, ∑ k : Fin 64, dmix (argU x) (argC d) (tok (chk n m) (i 1)) (col (i 0) k)
        * normed (argV x) (argG g) (tok (chk n m) (i 2)) (col (i 0) k) := by
  show Ideal.matmul dwDot (val_main_v89 (F := Ideal) x d) (val_main_v70 (F := Ideal) x g) (fun _ => 0) i = _
  refine (dw_sum _ _ i).trans ?_
  refine Finset.sum_congr rfl fun n _ => Finset.sum_congr rfl fun m _ => Finset.sum_congr rfl fun k _ => congrArg₂ (· * ·) ?_ (hnormed _)
  refine Eq.trans ?_ (hdmix (ix5 n m (i 1) (i 0) k))
  generalize hv : val_main_v84 (F := Ideal) x d = v
  unfold val_main_v89
  rw [hv]
  pointwise []

theorem dgain_of (p : Fin 4) (q : Fin 64) : val_main_v100 (F := Ideal) x d w (ix2 p q)
    = ∑ n : Fin 2, ∑ s : Fin 2048, val_main_v66 (F := Ideal) x (ix4 n s p q) * val_main_v94 (F := Ideal) x d w (ix4 n s p q) := by
  show Ideal.hostReduceAdd Gen.reducesTo_S1x1x4x64_S4x64_d0_1 (val_main_v97 (F := Ideal) x d w) (Ideal.ofBits .f32 0x00000000#32) (ix2 p q) = _
  rw [sum_axes_01 _ _ _ (ix2 p q) (by decide) (by decide) p q rfl rfl, Fin.sum_univ_one, Fin.sum_univ_one, zero_eq, zero_add]
  have e : val_main_v97 (F := Ideal) x d w (ix4 0 0 p q) = val_main_v96 (F := Ideal) x d w (ix2 p q) := by
    generalize hv : val_main_v96 (F := Ideal) x d w = v
    unfold val_main_v97
    rw [hv]
    refine shapeCast_apply v _ _ (ix2 p q) ?_
    rewrite [Shape.rowMajor_val_two, Shape.rowMajor_val_four]
    show p.val * 64 + q.val = (((0 : ℕ) * 1 + 0) * 4 + p.val) * 64 + q.val
    omega
  refine e.trans ?_
  show Ideal.hostReduceAdd Gen.reducesTo_S2x2048x4x64_S4x64_d0_1 (val_main_v95 (F := Ideal) x d w) (Ideal.ofBits .f32 0x00000000#32) (ix2 p q) = _
  rw [sum_axes_01 _ _ _ (ix2 p q) (by decide) (by decide) p q rfl rfl, zero_eq, zero_add]
  rfl
end

end Cert.ReferenceIdeal.SgRef

end
-- ==== Proof.SgRefAct.lean ====
/- The reference's gradient of the chunked spatial gating, stage by stage, at one token and column. -/
module

public import proofs.«01_k».proof.Proof.SgRefA

@[expose] public section

set_option maxRecDepth 16384

noncomputable section

namespace Cert.ReferenceIdeal.SgRef

open Idealize.ShloMosaic Idealize.ShloMosaic.TcCoe Idealize.SL.Sem
open Cert.ReferenceIdeal Cert.ReferenceIdeal.Read
open Cert.SgMath

section
variable (x : FVec Ideal S4096x512 .f32) (d : FVec Ideal S4096x1024 .f32) (g : FVec Ideal S256 .f32) (w : FVec Ideal S4x128x128 .f32)
  (b : FVec Ideal S4x128 .f32)

theorem thv_of  (i : S2x2048x256.Idx) :
    val_main_v41 (F := Ideal) x i = th (argV x (row (i 0) (i 1)) (i 2)) := by
  pointwise [val_main_v41, val_main_v40, val_main_v39, val_main_v38, val_main_v37, val_main_v36, val_main_v32, val_main_v31, val_main_cst_7, val_main_cst_8, v_at, th]

theorem thu_of  (i : S2x2048x256.Idx) :
    val_main_v20 (F := Ideal) x i = th (argU x (row (i 0) (i 1)) (i 2)) := by
  pointwise [val_main_v20, val_main_v19, val_main_v18, val_main_v17, val_main_v16, val_main_v15, val_main_v11, val_main_v10, val_main_cst_0, val_main_cst_1, u_at, th]

theorem act_of     (hthv : ∀ i, val_main_v41 (F := Ideal) x i = th (argV x (row (i 0) (i 1)) (i 2))) (i : S2x2048x4x64.Idx) :
    val_main_v52 (F := Ideal) x i = act (argV x (row (i 0) (i 1)) (col (i 2) (i 3))) := by
  pointwise [val_main_v52, val_main_v51, val_main_v50, val_main_v49, val_main_v48, val_main_v47, val_main_cst_11, val_main_cst_12, v_at, hthv]
  exact half_act _

theorem actu_of     (hthu : ∀ i, val_main_v20 (F := Ideal) x i = th (argU x (row (i 0) (i 1)) (i 2))) (i : S2x2048x256.Idx) :
    val_main_v30 (F := Ideal) x i = act (argU x (row (i 0) (i 1)) (i 2)) := by
  pointwise [val_main_v30, val_main_v29, val_main_v28, val_main_v27, val_main_v26, val_main_cst_4, val_main_cst_5, u_at, hthu]
  exact half_act _

end

end Cert.ReferenceIdeal.SgRef

end
-- ==== Proof.SgRefMs.lean ====
/- The reference's gradient of the chunked spatial gating, stage by stage, at one token and column. -/
module

public import proofs.«01_k».proof.Proof.SgRefA

@[expose] public section

set_option maxRecDepth 16384

noncomputable section

namespace Cert.ReferenceIdeal.SgRef

open Idealize.ShloMosaic Idealize.ShloMosaic.TcCoe Idealize.SL.Sem
open Cert.ReferenceIdeal Cert.ReferenceIdeal.Read
open Cert.SgMath

section
variable (x : FVec Ideal S4096x512 .f32) (d : FVec Ideal S4096x1024 .f32) (g : FVec Ideal S256 .f32) (w : FVec Ideal S4x128x128 .f32)
  (b : FVec Ideal S4x128 .f32)

theorem ms_of     (hact : ∀ i, val_main_v52 (F := Ideal) x i = act (argV x (row (i 0) (i 1)) (col (i 2) (i 3)))) (i : S2x2048x4x1.Idx) :
    val_main_v60 (F := Ideal) x i = ms (argV x) (row (i 0) (i 1)) (i 2) := by
  pointwise [val_main_v60, val_main_v59, val_main_v58, val_main_v57, val_main_v56, val_main_v55, val_main_v54, val_main_cst_13, val_main_cst_14, val_main_cst_15, hact]
  rw [div_len]
  try simp only [zero_add]
  rfl

theorem rs_of     (hms : ∀ i, val_main_v60 (F := Ideal) x i = ms (argV x) (row (i 0) (i 1)) (i 2)) (i : S2x2048x4x1.Idx) :
    val_main_v61 (F := Ideal) x i = Ideal.rsqrt (ms (argV x) (row (i 0) (i 1)) (i 2)) := by
  pointwise [val_main_v61, hms]

theorem factor_of     (hrs : ∀ i, val_main_v61 (F := Ideal) x i = Ideal.rsqrt (ms (argV x) (row (i 0) (i 1)) (i 2)))
    (hms : ∀ i, val_main_v60 (F := Ideal) x i = ms (argV x) (row (i 0) (i 1)) (i 2)) (i : S2x2048x4x1.Idx) :
    val_main_v64 (F := Ideal) x i = Ideal.ofBits .f32 0xBF000000#32 * Ideal.div (Ideal.rsqrt (ms (argV x) (row (i 0) (i 1)) (i 2))) (ms (argV x) (row (i 0) (i 1)) (i 2)) := by
  pointwise [val_main_v64, val_main_v63, val_main_v62, val_main_cst_16, hrs, hms]

end

end Cert.ReferenceIdeal.SgRef

end
-- ==== Proof.SgRefUnit.lean ====
/- The reference's gradient of the chunked spatial gating, stage by stage, at one token and column. -/
module

public import proofs.«01_k».proof.Proof.SgRefA

@[expose] public section

set_option maxRecDepth 16384

noncomputable section

namespace Cert.ReferenceIdeal.SgRef

open Idealize.ShloMosaic Idealize.ShloMosaic.TcCoe Idealize.SL.Sem
open Cert.ReferenceIdeal Cert.ReferenceIdeal.Read
open Cert.SgMath

section
variable (x : FVec Ideal S4096x512 .f32) (d : FVec Ideal S4096x1024 .f32) (g : FVec Ideal S256 .f32) (w : FVec Ideal S4x128x128 .f32)
  (b : FVec Ideal S4x128 .f32)

theorem unit_of     (hact : ∀ i, val_main_v52 (F := Ideal) x i = act (argV x (row (i 0) (i 1)) (col (i 2) (i 3))))
    (hrs : ∀ i, val_main_v61 (F := Ideal) x i = Ideal.rsqrt (ms (argV x) (row (i 0) (i 1)) (i 2))) (i : S2x2048x4x64.Idx) :
    val_main_v66 (F := Ideal) x i = unit (argV x) (row (i 0) (i 1)) (col (i 2) (i 3)) := by
  pointwise [val_main_v66, val_main_v65, hact, hrs]
  exact congrArg (fun q => _ * Ideal.rsqrt (ms (argV x) _ q)) (grp_col (i 2) (i 3)).symm

theorem normed_of     (hunit : ∀ i, val_main_v66 (F := Ideal) x i = unit (argV x) (row (i 0) (i 1)) (col (i 2) (i 3))) (i : S2x16x128x4x64.Idx) :
    val_main_v70 (F := Ideal) x g i = normed (argV x) (argG g) (tok (chk (i 0) (i 1)) (i 2)) (col (i 3) (i 4)) := by
  have h1 : (i 1).val < 16 := (i 1).isLt
  have h2 : (i 2).val < 128 := (i 2).isLt
  pointwise [val_main_v70, val_main_v69, val_main_v68, val_main_v67, val_main_v53, hunit]
  exact congrArg (fun r => unit (argV x) r (col (i 3) (i 4)) * argG g (col (i 3) (i 4))) (row_tok (i 0) (i 1) (i 2) _)

end

end Cert.ReferenceIdeal.SgRef

end
-- ==== Proof.SgRefMix.lean ====
/- The reference's gradient of the chunked spatial gating, stage by stage, at one token and column. -/
module

public import proofs.«01_k».proof.Proof.SgRefA

@[expose] public section

set_option maxRecDepth 16384

noncomputable section

namespace Cert.ReferenceIdeal.SgRef

open Idealize.ShloMosaic Idealize.ShloMosaic.TcCoe Idealize.SL.Sem
open Cert.ReferenceIdeal Cert.ReferenceIdeal.Read
open Cert.SgMath

section
variable (x : FVec Ideal S4096x512 .f32) (d : FVec Ideal S4096x1024 .f32) (g : FVec Ideal S256 .f32) (w : FVec Ideal S4x128x128 .f32)
  (b : FVec Ideal S4x128 .f32)

theorem dmix_of     (hactu : ∀ i, val_main_v30 (F := Ideal) x i = act (argU x (row (i 0) (i 1)) (i 2))) (i : S2x16x128x4x64.Idx) :
    val_main_v84 (F := Ideal) x d i = dmix (argU x) (argC d) (tok (chk (i 0) (i 1)) (i 2)) (col (i 3) (i 4)) := by
  pointwise [val_main_v84, val_main_v82, hactu, c_at]
  exact congrArg (fun r => dmix (argU x) (argC d) r (col (i 3) (i 4))) (row_tok (i 0) (i 1) (i 2) _)

theorem mix_of     (hnormed : ∀ i, val_main_v70 (F := Ideal) x g i = normed (argV x) (argG g) (tok (chk (i 0) (i 1)) (i 2)) (col (i 3) (i 4)))
    (htri : ∀ i, val_main_v73_0 (F := Ideal) w i = tri (argW w) (i 0) (i 1) (i 2)) (i : S2x16x128x4x64.Idx) :
    val_main_v79 (F := Ideal) x g w b i = mix (argV x) (argG g) (argW w) (argB b) (chk (i 0) (i 1)) (i 2) (col (i 3) (i 4)) := by
  pointwise [val_main_v79, val_main_v78, val_main_v77, val_main_v76, val_main_v75, val_main_v74, hnormed, htri]
  refine Eq.trans ?_ (mix_col _ _ _ _ (chk (i 0) (i 1)) (i 2) (i 3) (i 4)).symm
  exact congrArg (· + argB b (i 3) (i 2)) (Finset.sum_congr rfl fun s _ => mul_comm _ _)

theorem dnorm_of     (hdmix : ∀ i, val_main_v84 (F := Ideal) x d i = dmix (argU x) (argC d) (tok (chk (i 0) (i 1)) (i 2)) (col (i 3) (i 4)))
    (htri : ∀ i, val_main_v73_0 (F := Ideal) w i = tri (argW w) (i 0) (i 1) (i 2)) (i : S2x16x128x4x64.Idx) :
    val_main_v92 (F := Ideal) x d w i = dnorm (argU x) (argC d) (argW w) (chk (i 0) (i 1)) (i 2) (col (i 3) (i 4)) := by
  pointwise [val_main_v92, val_main_v91, val_main_v89, hdmix, htri]
  refine Eq.trans ?_ (dnorm_col _ _ _ (chk (i 0) (i 1)) (i 2) (i 3) (i 4)).symm
  exact Finset.sum_congr rfl fun s _ => mul_comm _ _

end

end Cert.ReferenceIdeal.SgRef

end
-- ==== Proof.SgRefScaled.lean ====
/- The reference's gradient of the chunked spatial gating, stage by stage, at one token and column. -/
module

public import proofs.«01_k».proof.Proof.SgRefA

@[expose] public section

set_option maxRecDepth 16384

noncomputable section

namespace Cert.ReferenceIdeal.SgRef

open Idealize.ShloMosaic Idealize.ShloMosaic.TcCoe Idealize.SL.Sem
open Cert.ReferenceIdeal Cert.ReferenceIdeal.Read
open Cert.SgMath

section
variable (x : FVec Ideal S4096x512 .f32) (d : FVec Ideal S4096x1024 .f32) (g : FVec Ideal S256 .f32) (w : FVec Ideal S4x128x128 .f32)
  (b : FVec Ideal S4x128 .f32)

theorem dnormr_of     (hdnorm : ∀ i, val_main_v92 (F := Ideal) x d w i = dnorm (argU x) (argC d) (argW w) (chk (i 0) (i 1)) (i 2) (col (i 3) (i 4))) (i : S2x2048x4x64.Idx) :
    val_main_v94 (F := Ideal) x d w i = dnorm (argU x) (argC d) (argW w) (chk (i 0) (up (i 1))) (dn (i 1)) (col (i 2) (i 3)) := by
  pointwise [val_main_v94, hdnorm]
  rfl

theorem dscaled_of     (hdnormr : ∀ i, val_main_v94 (F := Ideal) x d w i = dnorm (argU x) (argC d) (argW w) (chk (i 0) (up (i 1))) (dn (i 1)) (col (i 2) (i 3))) (i : S2x2048x4x64.Idx) :
    val_main_v99 (F := Ideal) x d g w i = dnorm (argU x) (argC d) (argW w) (chk (i 0) (up (i 1))) (dn (i 1)) (col (i 2) (i 3)) * argG g (col (i 2) (i 3)) := by
  pointwise [val_main_v99, val_main_v98, val_main_v67, val_main_v53, hdnormr]
  rfl

end

end Cert.ReferenceIdeal.SgRef

end
-- ==== Proof.SgRefThrough.lean ====
/- The reference's gradient of the chunked spatial gating, stage by stage, at one token and column. -/
module

public import proofs.«01_k».proof.Proof.SgRefA

@[expose] public section

set_option maxRecDepth 16384

noncomputable section

namespace Cert.ReferenceIdeal.SgRef

open Idealize.ShloMosaic Idealize.ShloMosaic.TcCoe Idealize.SL.Sem
open Cert.ReferenceIdeal Cert.ReferenceIdeal.Read
open Cert.SgMath

section
variable (x : FVec Ideal S4096x512 .f32) (d : FVec Ideal S4096x1024 .f32) (g : FVec Ideal S256 .f32) (w : FVec Ideal S4x128x128 .f32)
  (b : FVec Ideal S4x128 .f32)

theorem through_of     (hact : ∀ i, val_main_v52 (F := Ideal) x i = act (argV x (row (i 0) (i 1)) (col (i 2) (i 3))))
    (hdscaled : ∀ i, val_main_v99 (F := Ideal) x d g w i = dnorm (argU x) (argC d) (argW w) (chk (i 0) (up (i 1))) (dn (i 1)) (col (i 2) (i 3)) * argG g (col (i 2) (i 3)))
    (hfactor : ∀ i, val_main_v64 (F := Ideal) x i = Ideal.ofBits .f32 0xBF000000#32 * Ideal.div (Ideal.rsqrt (ms (argV x) (row (i 0) (i 1)) (i 2))) (ms (argV x) (row (i 0) (i 1)) (i 2))) (i : S2x2048x4x1.Idx) :
    val_main_v108 (F := Ideal) x d g w i = through (argU x) (argV x) (argC d) (argG g) (argW w) (chk (i 0) (up (i 1))) (dn (i 1)) (i 2) := by
  pointwise [val_main_v108, val_main_v107, val_main_v106, val_main_v103, val_main_v102, val_main_v101, val_main_cst_22, val_main_cst_23, hact, hdscaled, hfactor]
  exact through_form _ _ _ _ _ _ _ _ _ (row_eq (i 0) (i 1))

end

end Cert.ReferenceIdeal.SgRef

end
-- ==== Proof.SgRefDact.lean ====
/- The reference's gradient of the chunked spatial gating, stage by stage, at one token and column. -/
module

public import proofs.«01_k».proof.Proof.SgRefA

@[expose] public section

set_option maxRecDepth 16384

noncomputable section

namespace Cert.ReferenceIdeal.SgRef

open Idealize.ShloMosaic Idealize.ShloMosaic.TcCoe Idealize.SL.Sem
open Cert.ReferenceIdeal Cert.ReferenceIdeal.Read
open Cert.SgMath

section
variable (x : FVec Ideal S4096x512 .f32) (d : FVec Ideal S4096x1024 .f32) (g : FVec Ideal S256 .f32) (w : FVec Ideal S4x128x128 .f32)
  (b : FVec Ideal S4x128 .f32)

theorem dact_of     (hact : ∀ i, val_main_v52 (F := Ideal) x i = act (argV x (row (i 0) (i 1)) (col (i 2) (i 3))))
    (hdscaled : ∀ i, val_main_v99 (F := Ideal) x d g w i = dnorm (argU x) (argC d) (argW w) (chk (i 0) (up (i 1))) (dn (i 1)) (col (i 2) (i 3)) * argG g (col (i 2) (i 3)))
    (hrs : ∀ i, val_main_v61 (F := Ideal) x i = Ideal.rsqrt (ms (argV x) (row (i 0) (i 1)) (i 2)))
    (hthrough : ∀ i, val_main_v108 (F := Ideal) x d g w i = through (argU x) (argV x) (argC d) (argG g) (argW w) (chk (i 0) (up (i 1))) (dn (i 1)) (i 2)) (i : S2x2048x4x64.Idx) :
    val_main_v114 (F := Ideal) x d g w i = dact (argU x) (argV x) (argC d) (argG g) (argW w) (chk (i 0) (up (i 1))) (dn (i 1)) (col (i 2) (i 3)) := by
  pointwise [val_main_v114, val_main_v113, val_main_v112, val_main_v111, val_main_v110, val_main_v109, val_main_v105, val_main_v104, val_main_cst_24, hact, hdscaled, hrs, hthrough]
  exact dact_form _ _ _ _ _ _ _ _ _ _ (row_eq (i 0) (i 1))

theorem dactr_of     (hdact : ∀ i, val_main_v114 (F := Ideal) x d g w i = dact (argU x) (argV x) (argC d) (argG g) (argW w) (chk (i 0) (up (i 1))) (dn (i 1)) (col (i 2) (i 3))) (i : S2x2048x256.Idx) :
    val_main_v116 (F := Ideal) x d g w i = dact (argU x) (argV x) (argC d) (argG g) (argW w) (chk (i 0) (up (i 1))) (dn (i 1)) (i 2) := by
  pointwise [val_main_v116, hdact]
  exact congrArg (dact (argU x) (argV x) (argC d) (argG g) (argW w) (chk (i 0) (up (i 1))) (dn (i 1))) (col_grp (i 2))

theorem mixr_of     (hmix : ∀ i, val_main_v79 (F := Ideal) x g w b i = mix (argV x) (argG g) (argW w) (argB b) (chk (i 0) (i 1)) (i 2) (col (i 3) (i 4))) (i : S2x2048x256.Idx) :
    val_main_v80 (F := Ideal) x g w b i = mix (argV x) (argG g) (argW w) (argB b) (chk (i 0) (up (i 1))) (dn (i 1)) (i 2) := by
  pointwise [val_main_v80, hmix]
  exact congrArg (mix (argV x) (argG g) (argW w) (argB b) (chk (i 0) (up (i 1))) (dn (i 1))) (col_grp (i 2))

end

end Cert.ReferenceIdeal.SgRef

end
-- ==== Proof.SgRefDv.lean ====
/- The reference's gradient of the chunked spatial gating, stage by stage, at one token and column. -/
module

public import proofs.«01_k».proof.Proof.SgRefA

@[expose] public section

set_option maxRecDepth 16384

noncomputable section

namespace Cert.ReferenceIdeal.SgRef

open Idealize.ShloMosaic Idealize.ShloMosaic.TcCoe Idealize.SL.Sem
open Cert.ReferenceIdeal Cert.ReferenceIdeal.Read
open Cert.SgMath

section
variable (x : FVec Ideal S4096x512 .f32) (d : FVec Ideal S4096x1024 .f32) (g : FVec Ideal S256 .f32) (w : FVec Ideal S4x128x128 .f32)
  (b : FVec Ideal S4x128 .f32)

theorem dv_of     (hthv : ∀ i, val_main_v41 (F := Ideal) x i = th (argV x (row (i 0) (i 1)) (i 2)))
    (hdactr : ∀ i, val_main_v116 (F := Ideal) x d g w i = dact (argU x) (argV x) (argC d) (argG g) (argW w) (chk (i 0) (up (i 1))) (dn (i 1)) (i 2)) (i : S2x2048x256.Idx) :
    val_main_v128 (F := Ideal) x d g w i = dv (argU x) (argV x) (argC d) (argG g) (argW w) (chk (i 0) (up (i 1))) (dn (i 1)) (i 2) := by
  pointwise [val_main_v128, val_main_v127, val_main_v126, val_main_v125, val_main_v124, val_main_v123, val_main_v122, val_main_v121, val_main_v120, val_main_v119, val_main_v118, val_main_v117, val_main_cst_25, val_main_cst_26, val_main_cst_27,
    val_main_v50, val_main_v49, val_main_v48, val_main_v47, val_main_v46, val_main_v45, val_main_v44, val_main_v43, val_main_v42, val_main_v35, val_main_v34, val_main_v33, val_main_cst_6, val_main_cst_9, val_main_cst_10, val_main_cst_11, val_main_cst_12, v_at, hthv, hdactr]
  exact dv_form _ _ _ _ _ _ _ _ _ (row_eq (i 0) (i 1))

end

end Cert.ReferenceIdeal.SgRef

end
-- ==== Proof.SgRefDu.lean ====
/- The reference's gradient of the chunked spatial gating, stage by stage, at one token and column. -/
module

public import proofs.«01_k».proof.Proof.SgRefA

@[expose] public section

set_option maxRecDepth 16384

noncomputable section

namespace Cert.ReferenceIdeal.SgRef

open Idealize.ShloMosaic Idealize.ShloMosaic.TcCoe Idealize.SL.Sem
open Cert.ReferenceIdeal Cert.ReferenceIdeal.Read
open Cert.SgMath

section
variable (x : FVec Ideal S4096x512 .f32) (d : FVec Ideal S4096x1024 .f32) (g : FVec Ideal S256 .f32) (w : FVec Ideal S4x128x128 .f32)
  (b : FVec Ideal S4x128 .f32)

theorem du_of     (hthu : ∀ i, val_main_v20 (F := Ideal) x i = th (argU x (row (i 0) (i 1)) (i 2)))
    (hmixr : ∀ i, val_main_v80 (F := Ideal) x g w b i = mix (argV x) (argG g) (argW w) (argB b) (chk (i 0) (up (i 1))) (dn (i 1)) (i 2)) (i : S2x2048x256.Idx) :
    val_main_v140 (F := Ideal) x d g w b i = du (argU x) (argV x) (argC d) (argG g) (argW w) (argB b) (chk (i 0) (up (i 1))) (dn (i 1)) (i 2) := by
  pointwise [val_main_v140, val_main_v139, val_main_v138, val_main_v137, val_main_v136, val_main_v135, val_main_v134, val_main_v133, val_main_v132, val_main_v131, val_main_v130, val_main_v129, val_main_cst_28, val_main_cst_29, val_main_cst_30, val_main_v83,
    val_main_v29, val_main_v28, val_main_v27, val_main_v26, val_main_v25, val_main_v24, val_main_v23, val_main_v22, val_main_v21, val_main_v14, val_main_v13, val_main_v12, val_main_cst, val_main_cst_2, val_main_cst_3, val_main_cst_4, val_main_cst_5, u_at, hthu, c_at, hmixr]
  exact du_form _ _ _ _ _ _ _ _ _ _ (row_eq (i 0) (i 1))

end

end Cert.ReferenceIdeal.SgRef

end
-- ==== Proof.SgRef.lean ====
/- The reference's gradient of the chunked spatial gating, stage by stage, at one token and column. -/
module

public import proofs.«01_k».proof.Proof.SgRefSum
public import proofs.«01_k».proof.Proof.SgRefAct
public import proofs.«01_k».proof.Proof.SgRefMs
public import proofs.«01_k».proof.Proof.SgRefUnit
public import proofs.«01_k».proof.Proof.SgRefMix
public import proofs.«01_k».proof.Proof.SgRefScaled
public import proofs.«01_k».proof.Proof.SgRefThrough
public import proofs.«01_k».proof.Proof.SgRefDact
public import proofs.«01_k».proof.Proof.SgRefDv
public import proofs.«01_k».proof.Proof.SgRefDu

@[expose] public section

set_option maxRecDepth 16384

noncomputable section

namespace Cert.ReferenceIdeal.SgRef

open Idealize.ShloMosaic Idealize.ShloMosaic.TcCoe Idealize.SL.Sem
open Cert.ReferenceIdeal Cert.ReferenceIdeal.Read
open Cert.SgMath

section
variable (x : FVec Ideal S4096x512 .f32) (d : FVec Ideal S4096x1024 .f32) (g : FVec Ideal S256 .f32) (w : FVec Ideal S4x128x128 .f32)
  (b : FVec Ideal S4x128 .f32)

theorem thv_at (i : S2x2048x256.Idx) : val_main_v41 (F := Ideal) x i = th (argV x (row (i 0) (i 1)) (i 2)) :=
  thv_of x i
theorem thu_at (i : S2x2048x256.Idx) : val_main_v20 (F := Ideal) x i = th (argU x (row (i 0) (i 1)) (i 2)) :=
  thu_of x i
theorem act_at (i : S2x2048x4x64.Idx) : val_main_v52 (F := Ideal) x i = act (argV x (row (i 0) (i 1)) (col (i 2) (i 3))) :=
  act_of x (fun j => thv_at x j) i
theorem actu_at (i : S2x2048x256.Idx) : val_main_v30 (F := Ideal) x i = act (argU x (row (i 0) (i 1)) (i 2)) :=
  actu_of x (fun j => thu_at x j) i
theorem ms_at (i : S2x2048x4x1.Idx) : val_main_v60 (F := Ideal) x i = ms (argV x) (row (i 0) (i 1)) (i 2) :=
  ms_of x (fun j => act_at x j) i
theorem rs_at (i : S2x2048x4x1.Idx) : val_main_v61 (F := Ideal) x i = Ideal.rsqrt (ms (argV x) (row (i 0) (i 1)) (i 2)) :=
  rs_of x (fun j => ms_at x j) i
theorem factor_at (i : S2x2048x4x1.Idx) : val_main_v64 (F := Ideal) x i = Ideal.ofBits .f32 0xBF000000#32 * Ideal.div (Ideal.rsqrt (ms (argV x) (row (i 0) (i 1)) (i 2))) (ms (argV x) (row (i 0) (i 1)) (i 2)) :=
  factor_of x (fun j => rs_at x j) (fun j => ms_at x j) i
theorem unit_at (i : S2x2048x4x64.Idx) : val_main_v66 (F := Ideal) x i = unit (argV x) (row (i 0) (i 1)) (col (i 2) (i 3)) :=
  unit_of x (fun j => act_at x j) (fun j => rs_at x j) i
theorem normed_at (i : S2x16x128x4x64.Idx) : val_main_v70 (F := Ideal) x g i = normed (argV x) (argG g) (tok (chk (i 0) (i 1)) (i 2)) (col (i 3) (i 4)) :=
  normed_of x g (fun j => unit_at x j) i
theorem tri_at (i : S4x128x128.Idx) : val_main_v73_0 (F := Ideal) w i = tri (argW w) (i 0) (i 1) (i 2) :=
  tri_of w i
theorem dmix_at (i : S2x16x128x4x64.Idx) : val_main_v84 (F := Ideal) x d i = dmix (argU x) (argC d) (tok (chk (i 0) (i 1)) (i 2)) (col (i 3) (i 4)) :=
  dmix_of x d (fun j => actu_at x j) i
theorem mix_at (i : S2x16x128x4x64.Idx) : val_main_v79 (F := Ideal) x g w b i = mix (argV x) (argG g) (argW w) (argB b) (chk (i 0) (i 1)) (i 2) (col (i 3) (i 4)) :=
  mix_of x g w b (fun j => normed_at x g j) (fun j => tri_at w j) i
theorem dnorm_at (i : S2x16x128x4x64.Idx) : val_main_v92 (F := Ideal) x d w i = dnorm (argU x) (argC d) (argW w) (chk (i 0) (i 1)) (i 2) (col (i 3) (i 4)) :=
  dnorm_of x d w (fun j => dmix_at x d j) (fun j => tri_at w j) i
theorem dnormr_at (i : S2x2048x4x64.Idx) : val_main_v94 (F := Ideal) x d w i = dnorm (argU x) (argC d) (argW w) (chk (i 0) (up (i 1))) (dn (i 1)) (col (i 2) (i 3)) :=
  dnormr_of x d w (fun j => dnorm_at x d w j) i
theorem dscaled_at (i : S2x2048x4x64.Idx) : val_main_v99 (F := Ideal) x d g w i = dnorm (argU x) (argC d) (argW w) (chk (i 0) (up (i 1))) (dn (i 1)) (col (i 2) (i 3)) * argG g (col (i 2) (i 3)) :=
  dscaled_of x d g w (fun j => dnormr_at x d w j) i
theorem through_at (i : S2x2048x4x1.Idx) : val_main_v108 (F := Ideal) x d g w i = through (argU x) (argV x) (argC d) (argG g) (argW w) (chk (i 0) (up (i 1))) (dn (i 1)) (i 2) :=
  through_of x d g w (fun j => act_at x j) (fun j => dscaled_at x d g w j) (fun j => factor_at x j) i
theorem dact_at (i : S2x2048x4x64.Idx) : val_main_v114 (F := Ideal) x d g w i = dact (argU x) (argV x) (argC d) (argG g) (argW w) (chk (i 0) (up (i 1))) (dn (i 1)) (col (i 2) (i 3)) :=
  dact_of x d g w (fun j => act_at x j) (fun j => dscaled_at x d g w j) (fun j => rs_at x j) (fun j => through_at x d g w j) i
theorem dactr_at (i : S2x2048x256.Idx) : val_main_v116 (F := Ideal) x d g w i = dact (argU x) (argV x) (argC d) (argG g) (argW w) (chk (i 0) (up (i 1))) (dn (i 1)) (i 2) :=
  dactr_of x d g w (fun j => dact_at x d g w j) i
theorem mixr_at (i : S2x2048x256.Idx) : val_main_v80 (F := Ideal) x g w b i = mix (argV x) (argG g) (argW w) (argB b) (chk (i 0) (up (i 1))) (dn (i 1)) (i 2) :=
  mixr_of x g w b (fun j => mix_at x g w b j) i
theorem dv_at (i : S2x2048x256.Idx) : val_main_v128 (F := Ideal) x d g w i = dv (argU x) (argV x) (argC d) (argG g) (argW w) (chk (i 0) (up (i 1))) (dn (i 1)) (i 2) :=
  dv_of x d g w (fun j => thv_at x j) (fun j => dactr_at x d g w j) i
theorem du_at (i : S2x2048x256.Idx) : val_main_v140 (F := Ideal) x d g w b i = du (argU x) (argV x) (argC d) (argG g) (argW w) (argB b) (chk (i 0) (up (i 1))) (dn (i 1)) (i 2) :=
  du_of x d g w b (fun j => thu_at x j) (fun j => mixr_at x g w b j) i

end

end Cert.ReferenceIdeal.SgRef

end
-- ==== Proof.SgRes.lean ====
/- The results of the gating's backward pass in the reference: each as the sums over sequences, chunks and tokens they are. -/
module

public import proofs.«01_k».proof.Proof.SgRef
public import proofs.«01_k».proof.Proof.SgLoop

@[expose] public section

set_option maxRecDepth 16384

noncomputable section

namespace Cert.ReferenceIdeal.SgRef

open Idealize.ShloMosaic Idealize.ShloMosaic.TcCoe Idealize.SL.Sem
open Cert.ReferenceIdeal Cert.ReferenceIdeal.Read
open Cert.SgMath
open Cert.KernelIdeal.SgChunk (lane)
open Cert.KernelIdeal.SgLoop (chunk blockX)

theorem chunk_eq (b : Fin 2) (k : Fin 16) : chunk b k.val = chk b k :=
  Fin.ext (by show (b.val * 16 + k.val) % 32 = b.val * 16 + k.val; omega)
theorem over_chunks (f : Fin 32 → EReal) (b : Fin 2) : ∑ k ∈ Finset.range 16, f (chunk b k) = ∑ k : Fin 16, f (chk b k) :=
  (Finset.sum_range _).trans (Finset.sum_congr rfl fun k _ => congrArg f (chunk_eq b k))
theorem split_tokens (f : Fin 2048 → EReal) : ∑ s, f s = ∑ k : Fin 16, ∑ q : Fin 128, f ⟨k.val * 128 + q.val, by omega⟩ := by
  rw [← (finProdFinEquiv (m := 16) (n := 128)).sum_comp f, Fintype.sum_prod_type]
  exact Finset.sum_congr rfl fun k _ => Finset.sum_congr rfl fun q _ => congrArg f (Fin.ext (by show q.val + 128 * k.val = k.val * 128 + q.val; omega))

section
variable (x : FVec Ideal S4096x512 .f32) (d : FVec Ideal S4096x1024 .f32) (g : FVec Ideal S256 .f32) (w : FVec Ideal S4x128x128 .f32)
  (b : FVec Ideal S4x128 .f32)

/-- The mixing bias' gradient, in the first four lanes. -/
theorem res3 (i : S128x128.Idx) : val_main_v150 (F := Ideal) x d i
    = if h : (i 1).val < 4 then ∑ n : Fin 2, ∑ k ∈ Finset.range 16, ∑ e : Fin 64, dmix (argU x) (argC d) (tok (chunk n k) (i 0)) (col ⟨(i 1).val, h⟩ e) else 0 := by
  have key := fun p q => dbias_of x d (fun j => dmix_at x d j) p q
  generalize hv : val_main_v87 (F := Ideal) x d = v at key
  unfold val_main_v150 val_main_v149 val_main_v88
  rw [hv]
  pointwise [val_main_call3_v0]
  split_ifs with h
  · exact (key (i 0) ⟨(i 1).val, h⟩).trans <| Finset.sum_congr rfl fun n _ =>
      (over_chunks (fun m => ∑ e : Fin 64, dmix (argU x) (argC d) (tok m (i 0)) (col ⟨(i 1).val, h⟩ e)) n).symm
  · exact (congrArg (fun z : ℤ => (((z : ℝ)) : EReal)) (by decide +kernel : (0#32).toInt = 0)).trans (by simp)

/-- The mixing weights' gradient. -/
theorem res2 (i : S4x128x128.Idx) : val_main_v93 (F := Ideal) x d g i
    = ∑ n : Fin 2, ∑ k ∈ Finset.range 16, dtri (argU x) (argV x) (argC d) (argG g) (chunk n k) (i 0) (i 1) (i 2) := by
  have key := dw_of x d g (fun j => dmix_at x d j) (fun j => normed_at x g j) i
  rw [val_main_v93_apply, mask_at, pick, key]
  simp only [over_chunks (fun n => dtri (argU x) (argV x) (argC d) (argG g) n (i 0) (i 1) (i 2))]
  unfold dtri
  split_ifs with h
  · rfl
  · simp only [Finset.sum_const_zero]
    exact zero_eq

theorem gain_sum (p : Fin 4) (q : Fin 64) : val_main_v100 (F := Ideal) x d w (ix2 p q)
    = ∑ n : Fin 2, ∑ k ∈ Finset.range 16, dgain (argU x) (argV x) (argC d) (argW w) (chunk n k) (col p q) := by
  rw [dgain_of]
  refine Finset.sum_congr rfl fun n _ => ?_
  rw [over_chunks (fun n => dgain (argU x) (argV x) (argC d) (argW w) n (col p q)), split_tokens]
  refine Finset.sum_congr rfl fun k _ => Finset.sum_congr rfl fun s _ => ?_
  have hk : k.val * 128 + s.val < 2048 := by omega
  refine (congrArg₂ (· * ·) (unit_at x (ix4 n ⟨k.val * 128 + s.val, hk⟩ p q)) (dnormr_at x d w (ix4 n ⟨k.val * 128 + s.val, hk⟩ p q))).trans ?_
  have e1 : up ⟨k.val * 128 + s.val, hk⟩ = k := Fin.ext (by show (k.val * 128 + s.val) / 128 = k.val; omega)
  have e2 : dn ⟨k.val * 128 + s.val, hk⟩ = s := Fin.ext (by show (k.val * 128 + s.val) % 128 = s.val; omega)
  refine congrArg₂ (· * ·) (congrArg (fun r => unit (argV x) r (col p q)) (row_tok n k s hk)) ?_
  exact congrArg₂ (fun a e => dnorm (argU x) (argC d) (argW w) (chk n a) e (col p q)) e1 e2

/-- The gain's gradient. -/
theorem res1 (i : S1x256.Idx) : val_main_v148 (F := Ideal) x d w i
    = ∑ n : Fin 2, ∑ k ∈ Finset.range 16, dgain (argU x) (argV x) (argC d) (argW w) (chunk n k) (i 1) := by
  have b1 : (i 1).val < 256 := (i 1).isLt
  have key := gain_sum x d w ⟨(i 1).val / 64, by omega⟩ ⟨(i 1).val % 64, by omega⟩
  have e : col ⟨(i 1).val / 64, by omega⟩ ⟨(i 1).val % 64, by omega⟩ = i 1 := Fin.ext (by show (i 1).val / 64 * 64 + (i 1).val % 64 = (i 1).val; omega)
  rw [e] at key
  rw [← key]
  generalize hv : val_main_v100 (F := Ideal) x d w = v
  unfold val_main_v148 val_main_v115
  rw [hv]
  pointwise []

/-- The input's gradient, block by block. -/
theorem res0 (n p : Fin 2) (y : Cert.KernelIdeal.S2048x256.Idx) (r : Fin 4096) (h : Fin 512) (hr : r.val = n.val * 2048 + (y 0).val) (hh : h.val = p.val * 256 + (y 1).val) :
    val_main_v147 (F := Ideal) x d g w b (ix2 r h) = blockX (argU x) (argV x) (argC d) (argG g) (argW w) (argB b) n p y := by
  have kv := fun i => dv_at x d g w i
  have ku := fun i => du_at x d g w b i
  have b0 : (y 0).val < 2048 := (y 0).isLt
  have b1 : (y 1).val < 256 := (y 1).isLt
  generalize hv : val_main_v128 (F := Ideal) x d g w = v at kv
  generalize hu : val_main_v140 (F := Ideal) x d g w b = u at ku
  unfold blockX
  generalize du (argU x) (argV x) (argC d) (argG g) (argW w) (argB b) = DU at ku ⊢
  generalize dv (argU x) (argV x) (argC d) (argG g) (argW w) = DV at kv ⊢
  unfold val_main_v147 val_main_v143 val_main_v144 val_main_v145 val_main_v146 val_main_v141 val_main_v142
  rw [hv, hu]
  pointwise [kv, ku]
  have ec : chk ⟨r.val / 2048, by omega⟩ (up ⟨r.val % 2048, Nat.mod_lt _ (by decide)⟩) = chunk n ((y 0).val / 128) := Fin.ext (by
    show r.val / 2048 * 16 + r.val % 2048 / 128 = (n.val * 16 + (y 0).val / 128) % 32
    omega)
  have et : dn ⟨r.val % 2048, Nat.mod_lt _ (by decide)⟩ = ⟨(y 0).val % 128, Nat.mod_lt _ (by decide)⟩ := Fin.ext (by
    show r.val % 2048 % 128 = (y 0).val % 128
    omega)
  have p2 : p.val < 2 := p.isLt
  have U : ∀ (q : Fin 256), q.val = p.val * 128 + (y 1).val % 128 → q = lane p ⟨(y 1).val % 128, Nat.mod_lt _ (by decide)⟩ := fun q hq => Fin.ext hq
  rw [← ec, ← et]
  have l0 : (y 1).val < 128 → (y 1).val % 128 = (y 1).val := fun h => Nat.mod_eq_of_lt h
  have l1 : ¬ (y 1).val < 128 → (y 1).val % 128 = (y 1).val - 128 := fun h => by omega
  by_cases hy : (y 1).val < 128
  · refine Eq.trans ?_ (if_pos hy).symm
    split_ifs <;> first
      | exact congrArg (DU _ _) (U _ (by show h.val = p.val * 128 + (y 1).val % 128; omega))
      | exact congrArg (DU _ _) (U _ (by show 128 + (h.val - 128 - 128) = p.val * 128 + (y 1).val % 128; omega))
      | exact congrArg (DU _ _) (U _ (by show 128 + (h.val - (128 + 128)) = p.val * 128 + (y 1).val % 128; omega))
      | (exfalso; omega)
  · refine Eq.trans ?_ (if_neg hy).symm
    split_ifs <;> first
      | exact congrArg (DV _ _) (U _ (by show h.val - 128 = p.val * 128 + (y 1).val % 128; omega))
      | exact congrArg (DV _ _) (U _ (by show 128 + (h.val - 128 - 128 - 128) = p.val * 128 + (y 1).val % 128; omega))
      | exact congrArg (DV _ _) (U _ (by show 128 + (h.val - (128 + 128) - 128) = p.val * 128 + (y 1).val % 128; omega))
      | (exfalso; omega)

end

end Cert.ReferenceIdeal.SgRef

end
-- ==== Proof.SgBwd.lean ====
/- The gating's backward pass: its results are the reference's. -/
module

public import proofs.«01_k».proof.Proof.SgOut
public import proofs.«01_k».proof.Proof.SgRes
public import proofs.«01_k».proof.Proof.Gen.ReferenceIdeal.Run

@[expose] public section

set_option maxRecDepth 16384

noncomputable section

namespace Cert.KernelIdeal.SgBwd

open Idealize.ShloMosaic Idealize.ShloMosaic.TcCoe Idealize.SL.Sem
open Cert.KernelIdeal Cert.KernelIdeal.Gen
open Cert.SgMath Cert.KernelIdeal.SgChunk Cert.KernelIdeal.SgLoop Cert.KernelIdeal.SgPoint Cert.KernelIdeal.SgOut
open Cert.ReferenceIdeal.SgRef (argU argV argC argG argW argB res0 res1 res2 res3)

variable (m : (ℓ : Loc nD τ sig) → Buf (Elt Ideal) ℓ) (c : Dev nD)

/-- The point before. -/
def prev (t : Fin cfg0.N) : Fin cfg0.N := ⟨t.val - 1, Nat.lt_of_le_of_lt (Nat.sub_le _ _) t.isLt⟩

theorem bt_odd (t : Fin cfg0.N) (h : t.val % 2 = 1) : bt t = 1 ∧ bt (prev t) = 0 ∧ pt (prev t) = pt t :=
  (by decide +kernel : ∀ t : Fin cfg0.N, t.val % 2 = 1 → bt t = 1 ∧ bt (prev t) = 0 ∧ pt (prev t) = pt t) t h

variable {m c} in
theorem final0 (h : Real m c) : (dats m 0 c).arrAt 6 (cfgs 0).N
    = Cert.ReferenceIdeal.Read.val_main_v147 (F := Ideal) (aX m c) (aD m c) (aG m c) (aW m c) (aB m c) := by
  refine (dats m 0 c).arrAt_eq_of_covers 6 _ (by decide +kernel) fun t _ y => ?_
  blk_simp
  rw [after0_6]
  have b0 : (y 0).val < 2048 := (y 0).isLt
  have b1 : (y 1).val < 256 := (y 1).isLt
  have q0 : (bt t).val < 2 := (bt t).isLt
  have q1 : (pt t).val < 2 := (pt t).isLt
  refine (x_at h t y).trans ?_
  refine (res0 (aX m c) (aD m c) (aG m c) (aW m c) (aB m c) (bt t) (pt t) y ⟨(bt t).val * 2048 + (y 0).val, by omega⟩
    ⟨(pt t).val * 256 + (y 1).val, by omega⟩ rfl rfl).symm.trans ?_
  generalize Cert.ReferenceIdeal.Read.val_main_v147 (F := Ideal) (aX m c) (aD m c) (aG m c) (aW m c) (aB m c) = D
  blk_point [place t, bt, pt]

theorem final1 : (dats m 0 c).arrAt 7 (cfgs 0).N
    = Cert.ReferenceIdeal.Read.val_main_v148 (F := Ideal) (aX m c) (aD m c) (aW m c) := by
  refine (dats m 0 c).arrAt_eq_of_covers 7 _ (by decide +kernel) fun t hf y => ?_
  blk_simp
  have h3 := (flush0_7 t).mp hf
  obtain ⟨e1, e0, ep⟩ := bt_odd t h3
  have hp : (prev t).val % 2 = 0 := by show (t.val - 1) % 2 = 0; omega
  rw [after0_7]
  refine (gain_odd m c t (by omega) y).trans ?_
  refine (congrArg (· + pGain m c t (y 1)) (gain_even m c (prev t) hp y)).trans ?_
  have key := res1 (aX m c) (aD m c) (aW m c)
  generalize Cert.ReferenceIdeal.Read.val_main_v148 (F := Ideal) (aX m c) (aD m c) (aW m c) = D at key ⊢
  unfold pGain
  rw [e1, e0, ep]
  refine (Fin.sum_univ_two (fun b => ∑ n ∈ Finset.range 16, dgain (argU (aX m c)) (argV (aX m c)) (argC (aD m c)) (argW (aW m c)) (chunk b n) (lane (pt t) (y 1)))).symm.trans ?_
  refine (key (ix2 0 (lane (pt t) (y 1)))).symm.trans ?_
  blk_point [place t, pt, lane]

theorem final2 : (dats m 0 c).arrAt 8 (cfgs 0).N
    = Cert.ReferenceIdeal.Read.val_main_v93 (F := Ideal) (aX m c) (aD m c) (aG m c) := by
  refine (dats m 0 c).arrAt_eq_of_covers 8 _ (by decide +kernel) fun t hf y => ?_
  blk_simp
  have h3 := (flush0_8 t).mp hf
  obtain ⟨e1, e0, ep⟩ := bt_odd t h3
  have hp : (prev t).val % 2 = 0 := by show (t.val - 1) % 2 = 0; omega
  rw [after0_8]
  refine (tri_odd m c t (by omega) y).trans ?_
  refine (congrArg (· + pTri m c t (if (y 0).val = 0 then lo (pt t) else hi (pt t)) (y 1) (y 2)) (tri_even m c (prev t) hp y)).trans ?_
  have key := res2 (aX m c) (aD m c) (aG m c)
  generalize Cert.ReferenceIdeal.Read.val_main_v93 (F := Ideal) (aX m c) (aD m c) (aG m c) = D at key ⊢
  unfold pTri
  rw [e1, e0, ep]
  have b0 : (y 0).val < 2 := (y 0).isLt
  have q1 : (pt t).val < 2 := (pt t).isLt
  have eq : (if (y 0).val = 0 then lo (pt t) else hi (pt t)) = (⟨(pt t).val * 2 + (y 0).val, by omega⟩ : Fin 4) := Fin.ext (by
    split_ifs with h
    · show 2 * (pt t).val = (pt t).val * 2 + (y 0).val; omega
    · show 2 * (pt t).val + 1 = (pt t).val * 2 + (y 0).val; omega)
  rw [eq]
  refine (Fin.sum_univ_two (fun b => ∑ n ∈ Finset.range 16, dtri (argU (aX m c)) (argV (aX m c)) (argC (aD m c)) (argG (aG m c)) (chunk b n) ⟨(pt t).val * 2 + (y 0).val, by omega⟩ (y 1) (y 2))).symm.trans ?_
  refine (key (ix3 ⟨(pt t).val * 2 + (y 0).val, by omega⟩ (y 1) (y 2))).symm.trans ?_
  blk_point [place t, pt]

/-- The four points, of which the last is written back. -/
theorem bt_last (t : Fin cfg0.N) (h : t.val % 4 = 3) : (bt t = 1 ∧ pt t = 1) ∧ (bt (prev t) = 0 ∧ pt (prev t) = 1)
    ∧ (bt (prev (prev t)) = 1 ∧ pt (prev (prev t)) = 0) ∧ (bt (prev (prev (prev t))) = 0 ∧ pt (prev (prev (prev t))) = 0) :=
  (by decide +kernel : ∀ t : Fin cfg0.N, t.val % 4 = 3 → (bt t = 1 ∧ pt t = 1) ∧ (bt (prev t) = 0 ∧ pt (prev t) = 1)
    ∧ (bt (prev (prev t)) = 1 ∧ pt (prev (prev t)) = 0) ∧ (bt (prev (prev (prev t))) = 0 ∧ pt (prev (prev (prev t))) = 0)) t h

/-- The bias' part of a point, by its batch and pair of groups. -/
def part (b p : Fin 2) (x l : Fin 128) : EReal :=
  (if l.val = 2 * p.val then ∑ k : Fin 64, ∑ n ∈ Finset.range 16, dmix (argU (aX m c)) (argC (aD m c)) (tok (chunk b n) x) (col (lo p) k) else 0)
    + (if l.val = 2 * p.val + 1 then ∑ k : Fin 64, ∑ n ∈ Finset.range 16, dmix (argU (aX m c)) (argC (aD m c)) (tok (chunk b n) x) (col (hi p) k) else 0)
theorem part_of (t : Fin cfg0.N) (x l : Fin 128) : pBias m c t x l = part m c (bt t) (pt t) x l := rfl

theorem part_sum (x l : Fin 128) : ((part m c 0 0 x l + part m c 1 0 x l) + part m c 0 1 x l) + part m c 1 1 x l
    = if h : l.val < 4 then ∑ n : Fin 2, ∑ k ∈ Finset.range 16, ∑ e : Fin 64, dmix (argU (aX m c)) (argC (aD m c)) (tok (chunk n k) x) (col ⟨l.val, h⟩ e) else 0 := by
  unfold part
  generalize dmix (argU (aX m c)) (argC (aD m c)) = f
  have sw : ∀ (n : Fin 2) (q : Fin 4), ∑ k ∈ Finset.range 16, ∑ e : Fin 64, f (tok (chunk n k) x) (col q e)
      = ∑ e : Fin 64, ∑ k ∈ Finset.range 16, f (tok (chunk n k) x) (col q e) := fun n q => Finset.sum_comm
  simp only [sw, Fin.sum_univ_two]
  generalize hg : (fun (n : Fin 2) (q : Fin 4) => ∑ e : Fin 64, ∑ k ∈ Finset.range 16, f (tok (chunk n k) x) (col q e)) = g
  have hg' : ∀ n q, ∑ e : Fin 64, ∑ k ∈ Finset.range 16, f (tok (chunk n k) x) (col q e) = g n q := fun n q => congrFun (congrFun hg n) q
  simp only [hg']
  by_cases h : l.val < 4
  · rw [dif_pos h]
    obtain h | h | h | h : l.val = 0 ∨ l.val = 1 ∨ l.val = 2 ∨ l.val = 3 := by omega
    all_goals simp [h, lo, hi]
  · rw [dif_neg h]
    have h0 : l.val ≠ 0 := by omega
    have h1 : l.val ≠ 1 := by omega
    have h2 : l.val ≠ 2 := by omega
    have h3 : l.val ≠ 3 := by omega
    simp [h0, h1, h2, h3]

theorem final3 : (dats m 0 c).arrAt 9 (cfgs 0).N
    = Cert.ReferenceIdeal.Read.val_main_v150 (F := Ideal) (aX m c) (aD m c) := by
  refine (dats m 0 c).arrAt_eq_of_covers 9 _ (by decide +kernel) fun t hf y => ?_
  blk_simp
  have h3 := (flush0_9 t).mp hf
  obtain ⟨⟨a1, a2⟩, ⟨c1, c2⟩, ⟨d1, d2⟩, ⟨g1, g2⟩⟩ := bt_last t h3
  have n1 : ¬ (prev t).val % 4 = 0 := by show ¬ (t.val - 1) % 4 = 0; omega
  have n2 : ¬ (prev (prev t)).val % 4 = 0 := by show ¬ (t.val - 1 - 1) % 4 = 0; omega
  have n3 : (prev (prev (prev t))).val % 4 = 0 := by show (t.val - 1 - 1 - 1) % 4 = 0; omega
  rw [after0_9]
  have s3 := (bias_first m c (prev (prev (prev t))) n3 y).trans (part_of m c _ _ _)
  have s2 := (bias_next m c (prev (prev t)) n2 y).trans (congrArg₂ (· + ·) s3 (part_of m c _ _ _))
  have s1 := (bias_next m c (prev t) n1 y).trans (congrArg₂ (· + ·) s2 (part_of m c _ _ _))
  have s0 := (bias_next m c t (by omega) y).trans (congrArg₂ (· + ·) s1 (part_of m c _ _ _))
  rw [a1, a2, c1, c2, d1, d2, g1, g2] at s0
  refine (s0.trans (part_sum m c (y 0) (y 1))).trans ?_
  have key := res3 (aX m c) (aD m c)
  generalize Cert.ReferenceIdeal.Read.val_main_v150 (F := Ideal) (aX m c) (aD m c) = D at key ⊢
  refine (key (ix2 (y 0) (y 1))).symm.trans ?_
  blk_point [place t]

end Cert.KernelIdeal.SgBwd

end
-- ==== Proof.SgFinite.lean ====
/- The precondition of the gating's backward pass: no entry of the arrays it names is infinite. -/
module

public import proofs.«01_k».proof.Defs
public import proofs.«01_k».proof.Proof.SgOut

@[expose] public section

set_option maxRecDepth 16384

noncomputable section

namespace Cert.KernelIdeal.SgFinite

open Idealize.ShloMosaic Idealize.ShloMosaic.TcCoe Idealize.SL.Sem
open Cert.KernelIdeal Cert.KernelIdeal.Gen
open Cert.SgMath

theorem real_of (x y : EReal) (hy : y = ⊤) (h : BitVec.ofBool (decide (max x (-x) < y)) = 1#1) : IsReal x := by
  subst hy
  have h : max x (-x) < ⊤ := by
    by_contra hn
    simp [hn] at h
  induction x using EReal.rec with
  | bot => exact absurd h (by simp)
  | top => exact absurd h (by simp)
  | coe r => exact ⟨r, rfl⟩

theorem real [Cert.Pre_finite.Facts] (m : (ℓ : Loc nD τ sig) → Buf (Elt Ideal) ℓ) (h : Cert.Pre_KernelIdeal_finite m) (c : Dev nD) :
    SgOut.Real m c where
  u r k := real_of _ _ inf_eq (congrFun (h c).1 _)
  v r k := real_of _ _ inf_eq (congrFun (h c).1 _)
  d r k := real_of _ _ inf_eq (congrFun (h c).2.1 _)
  g k := real_of _ _ inf_eq (congrFun (h c).2.2.1 _)
  w q t s := real_of _ _ inf_eq (congrFun (h c).2.2.2 _)

end Cert.KernelIdeal.SgFinite

end
-- ==== Proof.SumSmall.lean ====
/- The sum over devices of the small weights' gradients is the reference's. The kernel finds each device's part by a
   table of places that the host writes: 0, 1, …, 7. -/
module

public import proofs.«01_k».proof.Proof.Gen.Kernel25.Frame
public import proofs.«01_k».proof.Proof.Gen.Kernel25Ideal.Frame
public import proofs.«01_k».proof.Proof.Gen.Reference25Ideal.Run
public import proofs.«01_k».proof.Proof.Gen.Reference25Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.StableHlo

namespace Cert.Kernel25.SumSmall

open Cert.Kernel25 Cert.Kernel25.Gen

theorem inside : ∀ (k : Fin 8) (i : grid0.Coords), ∃ h : (∀ a, ((![k.val, (i 0).val, 0] : Fin 3 → Nat) a + 1) * S1x1176x128.size a ≤ S8x1176x128.size a),
    EltTy.bits .f32 = 32 ∨ (Rect.block (s := S8x1176x128) S1x1176x128.size ![k.val, (i 0).val, 0] h).WholeWords (EltTy.packing .f32) :=
  fun k i => ⟨(by decide +kernel : ∀ (k : Fin 8) (i : grid0.Coords) (a : Fin 3), ((![k.val, (i 0).val, 0] : Fin 3 → Nat) a + 1) * S1x1176x128.size a ≤ S8x1176x128.size a) k i, Or.inl rfl⟩

section
variable {F : FTy → Type} [FloatOps F] (m : (ℓ : Loc nD τ sig) → Buf (Elt F) ℓ)

/-- The host's table of places. -/
def places : (⟨S8, .i32⟩ : BufTy).Contents (Elt F) := fun x => BitVec.ofNat 32 (x 0).val

theorem table_eq : V m 0 main_v8 = places (F := F) := by
  refine Eq.trans (by unfold V; after_results) ?_
  funext x
  obtain ⟨k, rfl⟩ : ∃ k : Fin 8, x = (fun a => match a with | ⟨0, _⟩ => k : S8.Idx) :=
    ⟨x 0, funext fun a => by match a with | ⟨0, _⟩ => rfl⟩
  fin_cases k <;> rfl

/-- The word the index map of the part `k` reads. -/
theorem word (k : Nat) (h : ∀ a, (![k] : Fin 1 → Nat) a + S1.size a ≤ S8.size a) (h1 : S1.numel = 1) :
    (tbl m).at 0 (Rect.unit (s := S8) ![k] S1.size h) h1 = BitVec.ofNat 32 k := by
  refine (congrFun (table_eq m) ((Rect.unit (s := S8) ![k] S1.size h).point h1)).trans ?_
  rfl

theorem ix0 (i : grid0.Coords) : cc0_transform_0 inb_S8_S1_0 numel1_S1 (tbl m) i = ![0, (i 0).val, 0] := by
  unfold cc0_transform_0
  rw [word]
  have h : (i 0).val = 0 := Nat.lt_one_iff.mp (i 0).isLt
  rw [h]
  rfl

theorem ix1 (i : grid0.Coords) : cc0_transform_1 inb_S8_S1_1 numel1_S1 (tbl m) i = ![1, (i 0).val, 0] := by
  unfold cc0_transform_1
  rw [word]
  have h : (i 0).val = 0 := Nat.lt_one_iff.mp (i 0).isLt
  rw [h]
  rfl

theorem ix2 (i : grid0.Coords) : cc0_transform_2 inb_S8_S1_2 numel1_S1 (tbl m) i = ![2, (i 0).val, 0] := by
  unfold cc0_transform_2
  rw [word]
  have h : (i 0).val = 0 := Nat.lt_one_iff.mp (i 0).isLt
  rw [h]
  rfl

theorem ix3 (i : grid0.Coords) : cc0_transform_3 inb_S8_S1_3 numel1_S1 (tbl m) i = ![3, (i 0).val, 0] := by
  unfold cc0_transform_3
  rw [word]
  have h : (i 0).val = 0 := Nat.lt_one_iff.mp (i 0).isLt
  rw [h]
  rfl

theorem ix4 (i : grid0.Coords) : cc0_transform_4 inb_S8_S1_4 numel1_S1 (tbl m) i = ![4, (i 0).val, 0] := by
  unfold cc0_transform_4
  rw [word]
  have h : (i 0).val = 0 := Nat.lt_one_iff.mp (i 0).isLt
  rw [h]
  rfl

theorem ix5 (i : grid0.Coords) : cc0_transform_5 inb_S8_S1_5 numel1_S1 (tbl m) i = ![5, (i 0).val, 0] := by
  unfold cc0_transform_5
  rw [word]
  have h : (i 0).val = 0 := Nat.lt_one_iff.mp (i 0).isLt
  rw [h]
  rfl

theorem ix6 (i : grid0.Coords) : cc0_transform_6 inb_S8_S1_6 numel1_S1 (tbl m) i = ![6, (i 0).val, 0] := by
  unfold cc0_transform_6
  rw [word]
  have h : (i 0).val = 0 := Nat.lt_one_iff.mp (i 0).isLt
  rw [h]
  rfl

theorem ix7 (i : grid0.Coords) : cc0_transform_7 inb_S8_S1_7 numel1_S1 (tbl m) i = ![7, (i 0).val, 0] := by
  unfold cc0_transform_7
  rw [word]
  have h : (i 0).val = 0 := Nat.lt_one_iff.mp (i 0).isLt
  rw [h]
  rfl

/-- Every part lies inside the array. -/
theorem ok : Ok m := by
  unfold Ok ok0
  simp only [ix0, ix1, ix2, ix3, ix4, ix5, ix6, ix7]
  exact ⟨inside 0, inside 1, inside 2, inside 3, inside 4, inside 5, inside 6, inside 7⟩

end

end Cert.Kernel25.SumSmall

namespace Cert.Kernel25Ideal.SumSmall

open Cert.Kernel25Ideal Cert.Kernel25Ideal.Gen

theorem inside : ∀ (k : Fin 8) (i : grid0.Coords), ∃ h : (∀ a, ((![k.val, (i 0).val, 0] : Fin 3 → Nat) a + 1) * S1x1176x128.size a ≤ S8x1176x128.size a),
    EltTy.bits .f32 = 32 ∨ (Rect.block (s := S8x1176x128) S1x1176x128.size ![k.val, (i 0).val, 0] h).WholeWords (EltTy.packing .f32) :=
  fun k i => ⟨(by decide +kernel : ∀ (k : Fin 8) (i : grid0.Coords) (a : Fin 3), ((![k.val, (i 0).val, 0] : Fin 3 → Nat) a + 1) * S1x1176x128.size a ≤ S8x1176x128.size a) k i, Or.inl rfl⟩

section
variable {F : FTy → Type} [FloatOps F] (m : (ℓ : Loc nD τ sig) → Buf (Elt F) ℓ)

/-- The host's table of places. -/
def places : (⟨S8, .i32⟩ : BufTy).Contents (Elt F) := fun x => BitVec.ofNat 32 (x 0).val

theorem table_eq : V m 0 main_v8 = places (F := F) := by
  refine Eq.trans (by unfold V; after_results) ?_
  funext x
  obtain ⟨k, rfl⟩ : ∃ k : Fin 8, x = (fun a => match a with | ⟨0, _⟩ => k : S8.Idx) :=
    ⟨x 0, funext fun a => by match a with | ⟨0, _⟩ => rfl⟩
  fin_cases k <;> rfl

/-- The word the index map of the part `k` reads. -/
theorem word (k : Nat) (h : ∀ a, (![k] : Fin 1 → Nat) a + S1.size a ≤ S8.size a) (h1 : S1.numel = 1) :
    (tbl m).at 0 (Rect.unit (s := S8) ![k] S1.size h) h1 = BitVec.ofNat 32 k := by
  refine (congrFun (table_eq m) ((Rect.unit (s := S8) ![k] S1.size h).point h1)).trans ?_
  rfl

theorem ix0 (i : grid0.Coords) : cc0_transform_0 inb_S8_S1_0 numel1_S1 (tbl m) i = ![0, (i 0).val, 0] := by
  unfold cc0_transform_0
  rw [word]
  have h : (i 0).val = 0 := Nat.lt_one_iff.mp (i 0).isLt
  rw [h]
  rfl

theorem ix1 (i : grid0.Coords) : cc0_transform_1 inb_S8_S1_1 numel1_S1 (tbl m) i = ![1, (i 0).val, 0] := by
  unfold cc0_transform_1
  rw [word]
  have h : (i 0).val = 0 := Nat.lt_one_iff.mp (i 0).isLt
  rw [h]
  rfl

theorem ix2 (i : grid0.Coords) : cc0_transform_2 inb_S8_S1_2 numel1_S1 (tbl m) i = ![2, (i 0).val, 0] := by
  unfold cc0_transform_2
  rw [word]
  have h : (i 0).val = 0 := Nat.lt_one_iff.mp (i 0).isLt
  rw [h]
  rfl

theorem ix3 (i : grid0.Coords) : cc0_transform_3 inb_S8_S1_3 numel1_S1 (tbl m) i = ![3, (i 0).val, 0] := by
  unfold cc0_transform_3
  rw [word]
  have h : (i 0).val = 0 := Nat.lt_one_iff.mp (i 0).isLt
  rw [h]
  rfl

theorem ix4 (i : grid0.Coords) : cc0_transform_4 inb_S8_S1_4 numel1_S1 (tbl m) i = ![4, (i 0).val, 0] := by
  unfold cc0_transform_4
  rw [word]
  have h : (i 0).val = 0 := Nat.lt_one_iff.mp (i 0).isLt
  rw [h]
  rfl

theorem ix5 (i : grid0.Coords) : cc0_transform_5 inb_S8_S1_5 numel1_S1 (tbl m) i = ![5, (i 0).val, 0] := by
  unfold cc0_transform_5
  rw [word]
  have h : (i 0).val = 0 := Nat.lt_one_iff.mp (i 0).isLt
  rw [h]
  rfl

theorem ix6 (i : grid0.Coords) : cc0_transform_6 inb_S8_S1_6 numel1_S1 (tbl m) i = ![6, (i 0).val, 0] := by
  unfold cc0_transform_6
  rw [word]
  have h : (i 0).val = 0 := Nat.lt_one_iff.mp (i 0).isLt
  rw [h]
  rfl

theorem ix7 (i : grid0.Coords) : cc0_transform_7 inb_S8_S1_7 numel1_S1 (tbl m) i = ![7, (i 0).val, 0] := by
  unfold cc0_transform_7
  rw [word]
  have h : (i 0).val = 0 := Nat.lt_one_iff.mp (i 0).isLt
  rw [h]
  rfl

/-- Every part lies inside the array. -/
theorem ok : Ok m := by
  unfold Ok ok0
  simp only [ix0, ix1, ix2, ix3, ix4, ix5, ix6, ix7]
  exact ⟨inside 0, inside 1, inside 2, inside 3, inside 4, inside 5, inside 6, inside 7⟩

end

variable (m : (ℓ : Loc nD τ sig) → Buf (Elt Ideal) ℓ)

theorem covers (hO : Ok m) : ((cfgM m hO).win 8).Covers := by
  refine ⟨fun a => (by decide : ∀ a : Fin 2, 0 < S1176x128.size a) a, fun β => ⟨⟨0, Nat.one_pos⟩, flush0_8 (adm m hO) _, fun a => ?_⟩⟩
  have hb : (β a).val = 0 := Nat.lt_one_iff.mp (lt_of_lt_of_eq (β a).isLt ((by decide : ∀ a : Fin 2, (S1176x128.size a + S1176x128.size a - 1) / S1176x128.size a = 1) a))
  refine ⟨Eq.trans ?_ hb.symm, Or.inl rfl⟩
  exact (by decide +kernel : ∀ a : Fin 2, cc0_transform_8 (grid0.coords ⟨0, Nat.one_pos⟩) a = 0) a

/-- The place of an entry of the part `k` in the whole array. -/
def part (k : Fin 8) (y : S1x1176x128.Idx) : S8x1176x128.Idx := fun a => match a with
  | ⟨0, _⟩ => k
  | ⟨1, _⟩ => y 1
  | ⟨2, _⟩ => y 2

theorem place (k : Fin 8) (i : grid0.Coords) (y : S1x1176x128.Idx) (a : Fin 3) :
    (![k.val, (i 0).val, 0] : Fin 3 → Nat) a * S1x1176x128.size a + (y a).val = (part k y a).val := by
  have h : (i 0).val = 0 := Nat.lt_one_iff.mp (i 0).isLt
  have h' : (y 0).val = 0 := Nat.lt_one_iff.mp (y 0).isLt
  match a with
  | ⟨0, _⟩ => show k.val * 1 + (y 0).val = k.val; omega
  | ⟨1, _⟩ => show (i 0).val * 1176 + (y 1).val = (y 1).val; omega
  | ⟨2, _⟩ => show 0 * 128 + (y 2).val = (y 2).val; omega

/-- What the body writes: its payload of the eight parts. -/
theorem out_eq (c : Dev nD) (i : grid0.Coords) (arg2 : Memref sig .tc .vmem S1x1176x128 .f32) (harg2 : arg2.IsWhole) (arg3 : Memref sig .tc .vmem S1x1176x128 .f32) (harg3 : arg3.IsWhole) (arg4 : Memref sig .tc .vmem S1x1176x128 .f32) (harg4 : arg4.IsWhole) (arg5 : Memref sig .tc .vmem S1x1176x128 .f32) (harg5 : arg5.IsWhole) (arg6 : Memref sig .tc .vmem S1x1176x128 .f32) (harg6 : arg6.IsWhole) (arg7 : Memref sig .tc .vmem S1x1176x128 .f32) (harg7 : arg7.IsWhole) (arg8 : Memref sig .tc .vmem S1x1176x128 .f32) (harg8 : arg8.IsWhole) (arg9 : Memref sig .tc .vmem S1x1176x128 .f32) (harg9 : arg9.IsWhole) (arg10 : Memref sig .tc .vmem S1176x128 .f32) (harg10 : arg10.IsWhole)
    (x0 : Vec Ideal S1x1176x128 .f32) (x1 : Vec Ideal S1x1176x128 .f32) (x2 : Vec Ideal S1x1176x128 .f32) (x3 : Vec Ideal S1x1176x128 .f32) (x4 : Vec Ideal S1x1176x128 .f32) (x5 : Vec Ideal S1x1176x128 .f32) (x6 : Vec Ideal S1x1176x128 .f32) (x7 : Vec Ideal S1x1176x128 .f32) (xt0 : TbBuf0 (F := Ideal) c tbM0_0) :
    out0_A_8 c i arg2 harg2 arg3 harg3 arg4 harg4 arg5 harg5 arg6 harg6 arg7 harg7 arg8 harg8 arg9 harg9 arg10 harg10 x0 x1 x2 x3 x4 x5 x6 x7 xt0 = k0_pay1 x0 x1 x2 x3 x4 x5 x6 x7 := by
  frame_out

/-- The payload is the sum. -/
theorem pay (x0 x1 x2 x3 x4 x5 x6 x7 : Vec Ideal S1x1176x128 .f32) (X : Vec Ideal S8x1176x128 .f32)
    (h0 : ∀ y, x0 y = X (part 0 y))
    (h1 : ∀ y, x1 y = X (part 1 y))
    (h2 : ∀ y, x2 y = X (part 2 y))
    (h3 : ∀ y, x3 y = X (part 3 y))
    (h4 : ∀ y, x4 y = X (part 4 y))
    (h5 : ∀ y, x5 y = X (part 5 y))
    (h6 : ∀ y, x6 y = X (part 6 y))
    (h7 : ∀ y, x7 y = X (part 7 y))
    (y : S1176x128.Idx) :
    k0_pay1 x0 x1 x2 x3 x4 x5 x6 x7 y = Cert.Reference25Ideal.Read.val_main_v0 X y := by
  rw [Cert.Reference25Ideal.Read.val_main_v0_apply, Fin.sum_univ_eight]
  pointwise [k0_pay1, Cert.Reference25Ideal.Read.val_main_cst]
  rw [h0, h1, h2, h3, h4, h5, h6, h7]
  have e : ∀ k : Fin 8, part k (Idealize.ShloMosaic.ix3 0 (y 0) (y 1)) = Cert.Reference25Ideal.Read.idx_main_v0 y k := fun k =>
    funext fun a => by match a with | ⟨0, _⟩ => rfl | ⟨1, _⟩ => rfl | ⟨2, _⟩ => rfl
  rw [e 0, e 1, e 2, e 3, e 4, e 5, e 6, e 7]

theorem out_val (c : Dev nD) (i : grid0.Coords) (arg2 : Memref sig .tc .vmem S1x1176x128 .f32) (harg2 : arg2.IsWhole) (arg3 : Memref sig .tc .vmem S1x1176x128 .f32) (harg3 : arg3.IsWhole) (arg4 : Memref sig .tc .vmem S1x1176x128 .f32) (harg4 : arg4.IsWhole) (arg5 : Memref sig .tc .vmem S1x1176x128 .f32) (harg5 : arg5.IsWhole) (arg6 : Memref sig .tc .vmem S1x1176x128 .f32) (harg6 : arg6.IsWhole) (arg7 : Memref sig .tc .vmem S1x1176x128 .f32) (harg7 : arg7.IsWhole) (arg8 : Memref sig .tc .vmem S1x1176x128 .f32) (harg8 : arg8.IsWhole) (arg9 : Memref sig .tc .vmem S1x1176x128 .f32) (harg9 : arg9.IsWhole) (arg10 : Memref sig .tc .vmem S1176x128 .f32) (harg10 : arg10.IsWhole)
    (x0 : Vec Ideal S1x1176x128 .f32) (x1 : Vec Ideal S1x1176x128 .f32) (x2 : Vec Ideal S1x1176x128 .f32) (x3 : Vec Ideal S1x1176x128 .f32) (x4 : Vec Ideal S1x1176x128 .f32) (x5 : Vec Ideal S1x1176x128 .f32) (x6 : Vec Ideal S1x1176x128 .f32) (x7 : Vec Ideal S1x1176x128 .f32) (xt0 : TbBuf0 (F := Ideal) c tbM0_0) (X : Vec Ideal S8x1176x128 .f32)
    (h0 : ∀ y, x0 y = X (part 0 y))
    (h1 : ∀ y, x1 y = X (part 1 y))
    (h2 : ∀ y, x2 y = X (part 2 y))
    (h3 : ∀ y, x3 y = X (part 3 y))
    (h4 : ∀ y, x4 y = X (part 4 y))
    (h5 : ∀ y, x5 y = X (part 5 y))
    (h6 : ∀ y, x6 y = X (part 6 y))
    (h7 : ∀ y, x7 y = X (part 7 y))
    (y : S1176x128.Idx) :
    out0_A_8 c i arg2 harg2 arg3 harg3 arg4 harg4 arg5 harg5 arg6 harg6 arg7 harg7 arg8 harg8 arg9 harg9 arg10 harg10 x0 x1 x2 x3 x4 x5 x6 x7 xt0 y = Cert.Reference25Ideal.Read.val_main_v0 X y := by
  rw [out_eq]
  exact pay x0 x1 x2 x3 x4 x5 x6 x7 X h0 h1 h2 h3 h4 h5 h6 h7 y

theorem blk0 (hO : Ok m) (c : Dev nD) (t : Fin (cfgM m hO).N) (y : S1x1176x128.Idx) :
    iblk m hO c 0 t y = m ((c : Thread nD τ).loc main_arg0) (part 0 y) := by
  have e : (((cfgM m hO).win 0).blk t).view.emb y = part 0 y := funext fun a => Fin.ext
    ((Pipeline.Window.rect_emb_val ((cfgM m hO).win 0) t y a).trans (by
      have h : ((cfgM m hO).win 0).index t a = _ := congrFun (ix0 m (grid0.coords t)) a
      rw [h]
      exact place 0 (grid0.coords t) y a))
  refine (congrArg (V m c main_arg0) e).trans ?_
  rw [V_main_arg0]

theorem blk1 (hO : Ok m) (c : Dev nD) (t : Fin (cfgM m hO).N) (y : S1x1176x128.Idx) :
    iblk m hO c 1 t y = m ((c : Thread nD τ).loc main_arg0) (part 1 y) := by
  have e : (((cfgM m hO).win 1).blk t).view.emb y = part 1 y := funext fun a => Fin.ext
    ((Pipeline.Window.rect_emb_val ((cfgM m hO).win 1) t y a).trans (by
      have h : ((cfgM m hO).win 1).index t a = _ := congrFun (ix1 m (grid0.coords t)) a
      rw [h]
      exact place 1 (grid0.coords t) y a))
  refine (congrArg (V m c main_arg0) e).trans ?_
  rw [V_main_arg0]

theorem blk2 (hO : Ok m) (c : Dev nD) (t : Fin (cfgM m hO).N) (y : S1x1176x128.Idx) :
    iblk m hO c 2 t y = m ((c : Thread nD τ).loc main_arg0) (part 2 y) := by
  have e : (((cfgM m hO).win 2).blk t).view.emb y = part 2 y := funext fun a => Fin.ext
    ((Pipeline.Window.rect_emb_val ((cfgM m hO).win 2) t y a).trans (by
      have h : ((cfgM m hO).win 2).index t a = _ := congrFun (ix2 m (grid0.coords t)) a
      rw [h]
      exact place 2 (grid0.coords t) y a))
  refine (congrArg (V m c main_arg0) e).trans ?_
  rw [V_main_arg0]

theorem blk3 (hO : Ok m) (c : Dev nD) (t : Fin (cfgM m hO).N) (y : S1x1176x128.Idx) :
    iblk m hO c 3 t y = m ((c : Thread nD τ).loc main_arg0) (part 3 y) := by
  have e : (((cfgM m hO).win 3).blk t).view.emb y = part 3 y := funext fun a => Fin.ext
    ((Pipeline.Window.rect_emb_val ((cfgM m hO).win 3) t y a).trans (by
      have h : ((cfgM m hO).win 3).index t a = _ := congrFun (ix3 m (grid0.coords t)) a
      rw [h]
      exact place 3 (grid0.coords t) y a))
  refine (congrArg (V m c main_arg0) e).trans ?_
  rw [V_main_arg0]

theorem blk4 (hO : Ok m) (c : Dev nD) (t : Fin (cfgM m hO).N) (y : S1x1176x128.Idx) :
    iblk m hO c 4 t y = m ((c : Thread nD τ).loc main_arg0) (part 4 y) := by
  have e : (((cfgM m hO).win 4).blk t).view.emb y = part 4 y := funext fun a => Fin.ext
    ((Pipeline.Window.rect_emb_val ((cfgM m hO).win 4) t y a).trans (by
      have h : ((cfgM m hO).win 4).index t a = _ := congrFun (ix4 m (grid0.coords t)) a
      rw [h]
      exact place 4 (grid0.coords t) y a))
  refine (congrArg (V m c main_arg0) e).trans ?_
  rw [V_main_arg0]

theorem blk5 (hO : Ok m) (c : Dev nD) (t : Fin (cfgM m hO).N) (y : S1x1176x128.Idx) :
    iblk m hO c 5 t y = m ((c : Thread nD τ).loc main_arg0) (part 5 y) := by
  have e : (((cfgM m hO).win 5).blk t).view.emb y = part 5 y := funext fun a => Fin.ext
    ((Pipeline.Window.rect_emb_val ((cfgM m hO).win 5) t y a).trans (by
      have h : ((cfgM m hO).win 5).index t a = _ := congrFun (ix5 m (grid0.coords t)) a
      rw [h]
      exact place 5 (grid0.coords t) y a))
  refine (congrArg (V m c main_arg0) e).trans ?_
  rw [V_main_arg0]

theorem blk6 (hO : Ok m) (c : Dev nD) (t : Fin (cfgM m hO).N) (y : S1x1176x128.Idx) :
    iblk m hO c 6 t y = m ((c : Thread nD τ).loc main_arg0) (part 6 y) := by
  have e : (((cfgM m hO).win 6).blk t).view.emb y = part 6 y := funext fun a => Fin.ext
    ((Pipeline.Window.rect_emb_val ((cfgM m hO).win 6) t y a).trans (by
      have h : ((cfgM m hO).win 6).index t a = _ := congrFun (ix6 m (grid0.coords t)) a
      rw [h]
      exact place 6 (grid0.coords t) y a))
  refine (congrArg (V m c main_arg0) e).trans ?_
  rw [V_main_arg0]

theorem blk7 (hO : Ok m) (c : Dev nD) (t : Fin (cfgM m hO).N) (y : S1x1176x128.Idx) :
    iblk m hO c 7 t y = m ((c : Thread nD τ).loc main_arg0) (part 7 y) := by
  have e : (((cfgM m hO).win 7).blk t).view.emb y = part 7 y := funext fun a => Fin.ext
    ((Pipeline.Window.rect_emb_val ((cfgM m hO).win 7) t y a).trans (by
      have h : ((cfgM m hO).win 7).index t a = _ := congrFun (ix7 m (grid0.coords t)) a
      rw [h]
      exact place 7 (grid0.coords t) y a))
  refine (congrArg (V m c main_arg0) e).trans ?_
  rw [V_main_arg0]

/-- What the body leaves at a point is the sum of the eight parts. -/
theorem left (hO : Ok m) (c : Dev nD) (t : Fin (cfgM m hO).N) (y : S1176x128.Idx) :
    outsAt0 m hO c t y = Cert.Reference25Ideal.Read.val_main_v0 (m ((c : Thread nD τ).loc main_arg0)) y := by
  exact out_val c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (iblk m hO c 5 t) (iblk m hO c 6 t) (iblk m hO c 7 t) (tbl m 0) _ (blk0 m hO c t) (blk1 m hO c t) (blk2 m hO c t) (blk3 m hO c t) (blk4 m hO c t) (blk5 m hO c t) (blk6 m hO c t) (blk7 m hO c t) y

theorem whole (hO : Ok m) (t : Fin (cfgM m hO).N) (y : S1176x128.Idx) : (((cfgM m hO).win 8).blk t).view.emb y = y :=
  funext fun a => Fin.ext ((Pipeline.Window.rect_emb_val ((cfgM m hO).win 8) t y a).trans (by
    have h : ((cfgM m hO).win 8).index t a = 0 := (by decide +kernel : ∀ (t : Fin grid0.N) (a : Fin 2), cc0_transform_8 (grid0.coords t) a = 0) t a
    rw [h, Nat.zero_mul, Nat.zero_add]))

/-- The sum. -/
theorem final (hO : Ok m) (c : Dev nD) : (dats m hO 0 c).arrAt 8 (cfgM m hO).N
    = Cert.Reference25Ideal.Read.val_main_v0 (m ((c : Thread nD τ).loc main_arg0)) := by
  refine (dats m hO 0 c).arrAt_eq_of_covers 8 _ (covers m hO) fun t _ y => ?_
  refine (eq_of_heq (cast_heq _ _)).trans ?_
  refine (congrFun (after0_8 m hO c t) _).trans ?_
  refine (left m hO c t y).trans ?_
  exact congrArg (Cert.Reference25Ideal.Read.val_main_v0 (m ((c : Thread nD τ).loc main_arg0))) (whole m hO t y).symm

/-- A run of the kernel ends with the sum in its result and its argument unchanged. -/
theorem run_value (ρ : Dev nD → PrngReg) : θ_run defs (onTc (τ := τ) (main (F := Ideal))) ⟨m, fun _ => 0, ρ⟩ (fun r => ∀ c : Dev nD,
    r.2.mem ((c.tc : Thread nD τ).loc main_v9) = Cert.Reference25Ideal.Read.val_main_v0 (m ((c.tc : Thread nD τ).loc main_arg0))
    ∧ r.2.mem ((c.tc : Thread nD τ).loc main_arg0) = m ((c.tc : Thread nD τ).loc main_arg0)) :=
  (θ_run defs _ _).mono (fun r h c => ⟨((h.1 c).1 8).trans (final m (ok m) c), h.2 c⟩)
    (θ_run_and (run_main m ρ (ok m)) (unchanged m ρ (ok m)))

end Cert.Kernel25Ideal.SumSmall

end
-- ==== Proof.SumLast.lean ====
/- The last sums of the first layer's gradient of `w_in` are the reference's. The kernel finds this device's part and its sibling's by a table of two places that
   the host writes; both are 0. -/
module

public import proofs.«01_k».proof.Proof.Gen.Kernel26.Frame
public import proofs.«01_k».proof.Proof.Gen.Kernel26Ideal.Frame
public import proofs.«01_k».proof.Proof.Gen.Reference26Ideal.Run
public import proofs.«01_k».proof.Proof.Gen.Reference26Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.StableHlo

namespace Cert.Kernel26.SumLast

open Cert.Kernel26 Cert.Kernel26.Gen

theorem inside8_0 : ∃ h : (∀ a, ((![0, 0, 0] : Fin 3 → Nat) a + 1) * S1x432x1024.size a ≤ S8x432x1024.size a),
    EltTy.bits .bf16 = 32 ∨ (Rect.block (s := S8x432x1024) S1x432x1024.size ![0, 0, 0] h).WholeWords (EltTy.packing .bf16) := by decide +kernel

theorem inside4_0 : ∃ h : (∀ a, ((![0, 0, 0] : Fin 3 → Nat) a + 1) * S1x432x1024.size a ≤ S4x432x1024.size a),
    EltTy.bits .bf16 = 32 ∨ (Rect.block (s := S4x432x1024) S1x432x1024.size ![0, 0, 0] h).WholeWords (EltTy.packing .bf16) := by decide +kernel

section
variable {F : FTy → Type} [FloatOps F] (m : (ℓ : Loc nD τ sig) → Buf (Elt F) ℓ)

/-- The host's table of places. -/
def places : (⟨S2, .i32⟩ : BufTy).Contents (Elt F) := fun _ => (0#32 : BitVec 32)

theorem table_eq : V m 0 main_v2 = places (F := F) := by
  refine Eq.trans (by unfold V; after_results) ?_
  funext x
  obtain ⟨k, rfl⟩ : ∃ k : Fin 2, x = (fun a => match a with | ⟨0, _⟩ => k : S2.Idx) :=
    ⟨x 0, funext fun a => by match a with | ⟨0, _⟩ => rfl⟩
  fin_cases k <;> rfl

/-- The word an index map reads. -/
theorem word (k : Nat) (h : ∀ a, (![k] : Fin 1 → Nat) a + S1.size a ≤ S2.size a) (h1 : S1.numel = 1) :
    (tbl m).at 0 (Rect.unit (s := S2) ![k] S1.size h) h1 = 0#32 := by
  refine (congrFun (table_eq m) ((Rect.unit (s := S2) ![k] S1.size h).point h1)).trans ?_
  rfl

theorem map0 (i : grid0.Coords) : cc0_transform_0 inb_S2_S1_0 numel1_S1 (tbl m) i = ![0, 0, 0] := by
  unfold cc0_transform_0
  rw [word]
  rfl

theorem map1 (i : grid0.Coords) : cc0_transform_1 inb_S2_S1_1 numel1_S1 (tbl m) i = ![0, 0, 0] := by
  unfold cc0_transform_1
  rw [word]
  rfl

/-- Every part lies inside its array. -/
theorem ok : Ok m := by
  unfold Ok ok0
  simp only [map0, map1]
  exact ⟨fun _ => inside8_0, fun _ => inside4_0⟩

end

end Cert.Kernel26.SumLast

namespace Cert.Kernel26Ideal.SumLast

open Cert.Kernel26Ideal Cert.Kernel26Ideal.Gen

theorem inside8_0 : ∃ h : (∀ a, ((![0, 0, 0] : Fin 3 → Nat) a + 1) * S1x432x1024.size a ≤ S8x432x1024.size a),
    EltTy.bits .bf16 = 32 ∨ (Rect.block (s := S8x432x1024) S1x432x1024.size ![0, 0, 0] h).WholeWords (EltTy.packing .bf16) := by decide +kernel

theorem inside4_0 : ∃ h : (∀ a, ((![0, 0, 0] : Fin 3 → Nat) a + 1) * S1x432x1024.size a ≤ S4x432x1024.size a),
    EltTy.bits .bf16 = 32 ∨ (Rect.block (s := S4x432x1024) S1x432x1024.size ![0, 0, 0] h).WholeWords (EltTy.packing .bf16) := by decide +kernel

section
variable {F : FTy → Type} [FloatOps F] (m : (ℓ : Loc nD τ sig) → Buf (Elt F) ℓ)

/-- The host's table of places. -/
def places : (⟨S2, .i32⟩ : BufTy).Contents (Elt F) := fun _ => (0#32 : BitVec 32)

theorem table_eq : V m 0 main_v2 = places (F := F) := by
  refine Eq.trans (by unfold V; after_results) ?_
  funext x
  obtain ⟨k, rfl⟩ : ∃ k : Fin 2, x = (fun a => match a with | ⟨0, _⟩ => k : S2.Idx) :=
    ⟨x 0, funext fun a => by match a with | ⟨0, _⟩ => rfl⟩
  fin_cases k <;> rfl

/-- The word an index map reads. -/
theorem word (k : Nat) (h : ∀ a, (![k] : Fin 1 → Nat) a + S1.size a ≤ S2.size a) (h1 : S1.numel = 1) :
    (tbl m).at 0 (Rect.unit (s := S2) ![k] S1.size h) h1 = 0#32 := by
  refine (congrFun (table_eq m) ((Rect.unit (s := S2) ![k] S1.size h).point h1)).trans ?_
  rfl

theorem map0 (i : grid0.Coords) : cc0_transform_0 inb_S2_S1_0 numel1_S1 (tbl m) i = ![0, 0, 0] := by
  unfold cc0_transform_0
  rw [word]
  rfl

theorem map1 (i : grid0.Coords) : cc0_transform_1 inb_S2_S1_1 numel1_S1 (tbl m) i = ![0, 0, 0] := by
  unfold cc0_transform_1
  rw [word]
  rfl

/-- Every part lies inside its array. -/
theorem ok : Ok m := by
  unfold Ok ok0
  simp only [map0, map1]
  exact ⟨fun _ => inside8_0, fun _ => inside4_0⟩

end

variable (m : (ℓ : Loc nD τ sig) → Buf (Elt Ideal) ℓ)

/-- The place of an entry of the part `k` in the whole array. -/
def part8_0 (k : Fin 8) (y : S1x432x1024.Idx) : S8x432x1024.Idx := fun a => match a with
  | ⟨0, _⟩ => k
  | ⟨1, _⟩ => y 1
  | ⟨2, _⟩ => y 2

theorem place8_0 (k : Fin 8) (y : S1x432x1024.Idx) (a : Fin 3) :
    (![k.val, 0, 0] : Fin 3 → Nat) a * S1x432x1024.size a + (y a).val = (part8_0 k y a).val := by
  have h' : (y 0).val = 0 := Nat.lt_one_iff.mp (y 0).isLt
  match a with
  | ⟨0, _⟩ => show k.val * 1 + (y 0).val = k.val; omega
  | ⟨1, _⟩ => show 0 * 432 + (y 1).val = (y 1).val; omega
  | ⟨2, _⟩ => show 0 * 1024 + (y 2).val = (y 2).val; omega

/-- The place of an entry of the part `k` in the whole array. -/
def part4_0 (k : Fin 4) (y : S1x432x1024.Idx) : S4x432x1024.Idx := fun a => match a with
  | ⟨0, _⟩ => k
  | ⟨1, _⟩ => y 1
  | ⟨2, _⟩ => y 2

theorem place4_0 (k : Fin 4) (y : S1x432x1024.Idx) (a : Fin 3) :
    (![k.val, 0, 0] : Fin 3 → Nat) a * S1x432x1024.size a + (y a).val = (part4_0 k y a).val := by
  have h' : (y 0).val = 0 := Nat.lt_one_iff.mp (y 0).isLt
  match a with
  | ⟨0, _⟩ => show k.val * 1 + (y 0).val = k.val; omega
  | ⟨1, _⟩ => show 0 * 432 + (y 1).val = (y 1).val; omega
  | ⟨2, _⟩ => show 0 * 1024 + (y 2).val = (y 2).val; omega

/-- The place of an entry of the part `k` in the whole array. -/
def part3_0 (k : Fin 3) (y : S1x432x1024.Idx) : S3x432x1024.Idx := fun a => match a with
  | ⟨0, _⟩ => k
  | ⟨1, _⟩ => y 1
  | ⟨2, _⟩ => y 2

theorem place3_0 (k : Fin 3) (y : S1x432x1024.Idx) (a : Fin 3) :
    (![k.val, 0, 0] : Fin 3 → Nat) a * S1x432x1024.size a + (y a).val = (part3_0 k y a).val := by
  have h' : (y 0).val = 0 := Nat.lt_one_iff.mp (y 0).isLt
  match a with
  | ⟨0, _⟩ => show k.val * 1 + (y 0).val = k.val; omega
  | ⟨1, _⟩ => show 0 * 432 + (y 1).val = (y 1).val; omega
  | ⟨2, _⟩ => show 0 * 1024 + (y 2).val = (y 2).val; omega

theorem blk0 (hO : Ok m) (c : Dev nD) (t : Fin (cfgM m hO).N) (y : S1x432x1024.Idx) :
    iblk m hO c 0 t y = m ((c : Thread nD τ).loc main_arg0) (part8_0 0 y) := by
  have e : (((cfgM m hO).win 0).blk t).view.emb y = part8_0 0 y := funext fun a => Fin.ext
    ((Pipeline.Window.rect_emb_val ((cfgM m hO).win 0) t y a).trans (by
      have h : ((cfgM m hO).win 0).index t a = (![0, 0, 0] : Fin 3 → Nat) a := congrFun (map0 m (grid0.coords t)) a
      rw [h]
      exact place8_0 0 y a))
  refine (congrArg (V m c main_arg0) e).trans ?_
  rw [V_main_arg0]

theorem blk1 (hO : Ok m) (c : Dev nD) (t : Fin (cfgM m hO).N) (y : S1x432x1024.Idx) :
    iblk m hO c 1 t y = m ((c : Thread nD τ).loc main_arg1) (part4_0 0 y) := by
  have e : (((cfgM m hO).win 1).blk t).view.emb y = part4_0 0 y := funext fun a => Fin.ext
    ((Pipeline.Window.rect_emb_val ((cfgM m hO).win 1) t y a).trans (by
      have h : ((cfgM m hO).win 1).index t a = (![0, 0, 0] : Fin 3 → Nat) a := congrFun (map1 m (grid0.coords t)) a
      rw [h]
      exact place4_0 0 y a))
  refine (congrArg (V m c main_arg1) e).trans ?_
  rw [V_main_arg1]

theorem blk2 (hO : Ok m) (c : Dev nD) (t : Fin (cfgM m hO).N) (y : S1x432x1024.Idx) :
    iblk m hO c 2 t y = m ((c : Thread nD τ).loc main_arg2) (part3_0 0 y) := by
  have e : (((cfgM m hO).win 2).blk t).view.emb y = part3_0 0 y := funext fun a => Fin.ext
    ((Pipeline.Window.rect_emb_val ((cfgM m hO).win 2) t y a).trans (by
      have h : ((cfgM m hO).win 2).index t a = (![0, 0, 0] : Fin 3 → Nat) a := (by decide +kernel : ∀ (t : Fin grid0.N) (a : Fin 3), cc0_transform_2 (grid0.coords t) a = (![0, 0, 0] : Fin 3 → Nat) a) t a
      rw [h]
      exact place3_0 0 y a))
  refine (congrArg (V m c main_arg2) e).trans ?_
  rw [V_main_arg2]

theorem blk3 (hO : Ok m) (c : Dev nD) (t : Fin (cfgM m hO).N) (y : S1x432x1024.Idx) :
    iblk m hO c 3 t y = m ((c : Thread nD τ).loc main_arg2) (part3_0 1 y) := by
  have e : (((cfgM m hO).win 3).blk t).view.emb y = part3_0 1 y := funext fun a => Fin.ext
    ((Pipeline.Window.rect_emb_val ((cfgM m hO).win 3) t y a).trans (by
      have h : ((cfgM m hO).win 3).index t a = (![1, 0, 0] : Fin 3 → Nat) a := (by decide +kernel : ∀ (t : Fin grid0.N) (a : Fin 3), cc0_transform_3 (grid0.coords t) a = (![1, 0, 0] : Fin 3 → Nat) a) t a
      rw [h]
      exact place3_0 1 y a))
  refine (congrArg (V m c main_arg2) e).trans ?_
  rw [V_main_arg2]

theorem blk4 (hO : Ok m) (c : Dev nD) (t : Fin (cfgM m hO).N) (y : S1x432x1024.Idx) :
    iblk m hO c 4 t y = m ((c : Thread nD τ).loc main_arg2) (part3_0 2 y) := by
  have e : (((cfgM m hO).win 4).blk t).view.emb y = part3_0 2 y := funext fun a => Fin.ext
    ((Pipeline.Window.rect_emb_val ((cfgM m hO).win 4) t y a).trans (by
      have h : ((cfgM m hO).win 4).index t a = (![2, 0, 0] : Fin 3 → Nat) a := (by decide +kernel : ∀ (t : Fin grid0.N) (a : Fin 3), cc0_transform_4 (grid0.coords t) a = (![2, 0, 0] : Fin 3 → Nat) a) t a
      rw [h]
      exact place3_0 2 y a))
  refine (congrArg (V m c main_arg2) e).trans ?_
  rw [V_main_arg2]

theorem covers0 (hO : Ok m) : ((cfgM m hO).win 5).Covers := by
  refine ⟨fun a => (by decide : ∀ a : Fin 2, 0 < S432x1024.size a) a, fun β => ⟨⟨0, Nat.one_pos⟩, flush0_5 (adm m hO) _, fun a => ?_⟩⟩
  have hb : (β a).val = 0 := Nat.lt_one_iff.mp (lt_of_lt_of_eq (β a).isLt ((by decide : ∀ a : Fin 2, (S432x1024.size a + S432x1024.size a - 1) / S432x1024.size a = 1) a))
  refine ⟨Eq.trans ?_ hb.symm, Or.inl rfl⟩
  exact (by decide +kernel : ∀ a : Fin 2, cc0_transform_5 (grid0.coords ⟨0, Nat.one_pos⟩) a = 0) a

/-- What the body writes is the sum of the five parts. -/
theorem out_val0 (c : Dev nD) (i : grid0.Coords) (arg2 : Memref sig .tc .vmem S1x432x1024 .bf16) (harg2 : arg2.IsWhole) (arg3 : Memref sig .tc .vmem S1x432x1024 .bf16) (harg3 : arg3.IsWhole) (arg4 : Memref sig .tc .vmem S1x432x1024 .bf16) (harg4 : arg4.IsWhole) (arg5 : Memref sig .tc .vmem S1x432x1024 .bf16) (harg5 : arg5.IsWhole) (arg6 : Memref sig .tc .vmem S1x432x1024 .bf16) (harg6 : arg6.IsWhole) (arg7 : Memref sig .tc .vmem S432x1024 .f32) (harg7 : arg7.IsWhole)
    (x0 : Vec Ideal S1x432x1024 .bf16) (x1 : Vec Ideal S1x432x1024 .bf16) (x2 : Vec Ideal S1x432x1024 .bf16) (x3 : Vec Ideal S1x432x1024 .bf16) (x4 : Vec Ideal S1x432x1024 .bf16) (xt0 : TbBuf0 (F := Ideal) c tbM0_0)
    (A : Vec Ideal S8x432x1024 .bf16) (B : Vec Ideal S4x432x1024 .bf16) (C : Vec Ideal S3x432x1024 .bf16)
    (h0 : ∀ y, x0 y = A (part8_0 0 y))
    (h1 : ∀ y, x1 y = B (part4_0 0 y))
    (h2 : ∀ y, x2 y = C (part3_0 0 y))
    (h3 : ∀ y, x3 y = C (part3_0 1 y))
    (h4 : ∀ y, x4 y = C (part3_0 2 y))
    (y : S432x1024.Idx) :
    out0_A_5 c i arg2 harg2 arg3 harg3 arg4 harg4 arg5 harg5 arg6 harg6 arg7 harg7 x0 x1 x2 x3 x4 xt0 y = Cert.Reference26Ideal.Read.val_main_v9 A B C y := by
  frame_out
  simp only [Cert.Reference26Ideal.Read.val_main_v0_apply, Cert.Reference26Ideal.Read.val_main_v1_apply, Cert.Reference26Ideal.Read.val_main_v2_apply, Cert.Reference26Ideal.Read.val_main_v3_apply, Cert.Reference26Ideal.Read.val_main_v4_apply, Cert.Reference26Ideal.Read.val_main_v5_apply, Cert.Reference26Ideal.Read.val_main_v6_apply, Cert.Reference26Ideal.Read.val_main_v7_apply, Cert.Reference26Ideal.Read.val_main_cst_apply, Cert.Reference26Ideal.Read.val_main_v8_apply, Cert.Reference26Ideal.Read.val_main_v9_apply, Fin.sum_univ_three]
  pointwise [k0_pay1]
  rw [h0, h1, h2, h3, h4]
  have b0 : (y 0).val < 432 := (y 0).isLt
  have b1 : (y 1).val < 1024 := (y 1).isLt
  have a0 : part8_0 0 (ix3 0 (y 0) (y 1)) = Cert.Reference26Ideal.Read.idx_main_v0 (Cert.Reference26Ideal.Read.idx_main_v1 y) := by
    funext a
    match a with
    | ⟨0, _⟩ => rfl
    | ⟨1, _⟩ => exact Fin.ext (show (y 0).val = ((y 0).val * 1024 + (y 1).val) / 1024 % 432 by omega)
    | ⟨2, _⟩ => exact Fin.ext (show (y 1).val = ((y 0).val * 1024 + (y 1).val) % 1024 by omega)
  have a1 : part4_0 0 (ix3 0 (y 0) (y 1)) = Cert.Reference26Ideal.Read.idx_main_v3 (Cert.Reference26Ideal.Read.idx_main_v4 y) := by
    funext a
    match a with
    | ⟨0, _⟩ => rfl
    | ⟨1, _⟩ => exact Fin.ext (show (y 0).val = ((y 0).val * 1024 + (y 1).val) / 1024 % 432 by omega)
    | ⟨2, _⟩ => exact Fin.ext (show (y 1).val = ((y 0).val * 1024 + (y 1).val) % 1024 by omega)
  have a2 : ∀ k : Fin 3, part3_0 k (ix3 0 (y 0) (y 1)) = Cert.Reference26Ideal.Read.idx_main_v8 y k := fun k => by
    funext a
    match a with
    | ⟨0, _⟩ => rfl
    | ⟨1, _⟩ => rfl
    | ⟨2, _⟩ => rfl
  rw [a0, a1, a2, a2, a2]
  simp only [add_assoc]

theorem left0 (hO : Ok m) (c : Dev nD) (t : Fin (cfgM m hO).N) (y : S432x1024.Idx) :
    (outsAt0 m hO c t) y
      = Cert.Reference26Ideal.Read.val_main_v9 (m ((c : Thread nD τ).loc main_arg0)) (m ((c : Thread nD τ).loc main_arg1)) (m ((c : Thread nD τ).loc main_arg2)) y := by
  have key := out_val0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (m ((c : Thread nD τ).loc main_arg0)) (m ((c : Thread nD τ).loc main_arg1)) (m ((c : Thread nD τ).loc main_arg2)) (blk0 m hO c t) (blk1 m hO c t) (blk2 m hO c t) (blk3 m hO c t) (blk4 m hO c t) y
  unfold outsAt0
  exact key

theorem whole0 (hO : Ok m) (t : Fin (cfgM m hO).N) (y : S432x1024.Idx) : (((cfgM m hO).win 5).blk t).view.emb y = y :=
  funext fun a => Fin.ext ((Pipeline.Window.rect_emb_val ((cfgM m hO).win 5) t y a).trans (by
    have h : ((cfgM m hO).win 5).index t a = 0 := (by decide +kernel : ∀ (t : Fin grid0.N) (a : Fin 2), cc0_transform_5 (grid0.coords t) a = 0) t a
    rw [h, Nat.zero_mul, Nat.zero_add]))

/-- The sum of array 0. -/
theorem final (hO : Ok m) (c : Dev nD) : (dats m hO 0 c).arrAt 5 (cfgM m hO).N
    = Cert.Reference26Ideal.Read.val_main_v9 (m ((c : Thread nD τ).loc main_arg0)) (m ((c : Thread nD τ).loc main_arg1)) (m ((c : Thread nD τ).loc main_arg2)) := by
  refine (dats m hO 0 c).arrAt_eq_of_covers 5 _ (covers0 m hO) fun t _ y => ?_
  refine (eq_of_heq (cast_heq _ _)).trans ?_
  refine (congrFun (after0_5 m hO c t) _).trans ?_
  refine (left0 m hO c t y).trans ?_
  exact congrArg (Cert.Reference26Ideal.Read.val_main_v9 (m ((c : Thread nD τ).loc main_arg0)) (m ((c : Thread nD τ).loc main_arg1)) (m ((c : Thread nD τ).loc main_arg2))) (whole0 m hO t y).symm

/-- A run of the kernel ends with the sums in its results and its arguments unchanged. -/
theorem run_value (ρ : Dev nD → PrngReg) : θ_run defs (onTc (τ := τ) (main (F := Ideal))) ⟨m, fun _ => 0, ρ⟩ (fun r => ∀ c : Dev nD,
    r.2.mem ((c.tc : Thread nD τ).loc main_v3) = Cert.Reference26Ideal.Read.val_main_v9 (m ((c.tc : Thread nD τ).loc main_arg0)) (m ((c.tc : Thread nD τ).loc main_arg1)) (m ((c.tc : Thread nD τ).loc main_arg2)) ∧
    r.2.mem ((c.tc : Thread nD τ).loc main_arg0) = m ((c.tc : Thread nD τ).loc main_arg0) ∧
    r.2.mem ((c.tc : Thread nD τ).loc main_arg1) = m ((c.tc : Thread nD τ).loc main_arg1) ∧
    r.2.mem ((c.tc : Thread nD τ).loc main_arg2) = m ((c.tc : Thread nD τ).loc main_arg2)) :=
  (θ_run defs _ _).mono (fun r h c => ⟨((h.1 c).1 5).trans (final m (ok m) c), h.2 c⟩)
    (θ_run_and (run_main m ρ (ok m)) (unchanged m ρ (ok m)))

end Cert.Kernel26Ideal.SumLast

end
-- ==== Proof.SumEarly1.lean ====
/- The last sums of the second layer's large gradients are the reference's. The kernel finds this device's part and its sibling's by a table of two places that
   the host writes; both are 0. -/
module

public import proofs.«01_k».proof.Proof.Gen.Kernel27.Frame
public import proofs.«01_k».proof.Proof.Gen.Kernel27Ideal.Frame
public import proofs.«01_k».proof.Proof.Gen.Reference27Ideal.Run
public import proofs.«01_k».proof.Proof.Gen.Reference27Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.StableHlo

namespace Cert.Kernel27.SumEarly1

open Cert.Kernel27 Cert.Kernel27.Gen

theorem inside8_0 : ∃ h : (∀ a, ((![0, 0, 0] : Fin 3 → Nat) a + 1) * S1x432x1024.size a ≤ S8x432x1024.size a),
    EltTy.bits .bf16 = 32 ∨ (Rect.block (s := S8x432x1024) S1x432x1024.size ![0, 0, 0] h).WholeWords (EltTy.packing .bf16) := by decide +kernel

theorem inside8_1 : ∃ h : (∀ a, ((![0, 0, 0] : Fin 3 → Nat) a + 1) * S1x128x1024.size a ≤ S8x128x1024.size a),
    EltTy.bits .bf16 = 32 ∨ (Rect.block (s := S8x128x1024) S1x128x1024.size ![0, 0, 0] h).WholeWords (EltTy.packing .bf16) := by decide +kernel

theorem inside8_2 : ∃ h : (∀ a, ((![0, 0, 0] : Fin 3 → Nat) a + 1) * S1x1024x512.size a ≤ S8x1024x512.size a),
    EltTy.bits .bf16 = 32 ∨ (Rect.block (s := S8x1024x512) S1x1024x512.size ![0, 0, 0] h).WholeWords (EltTy.packing .bf16) := by decide +kernel

theorem inside8_3 : ∃ h : (∀ a, ((![0, 0, 0] : Fin 3 → Nat) a + 1) * S1x512x1024.size a ≤ S8x512x1024.size a),
    EltTy.bits .bf16 = 32 ∨ (Rect.block (s := S8x512x1024) S1x512x1024.size ![0, 0, 0] h).WholeWords (EltTy.packing .bf16) := by decide +kernel

theorem inside4_0 : ∃ h : (∀ a, ((![0, 0, 0] : Fin 3 → Nat) a + 1) * S1x432x1024.size a ≤ S4x432x1024.size a),
    EltTy.bits .bf16 = 32 ∨ (Rect.block (s := S4x432x1024) S1x432x1024.size ![0, 0, 0] h).WholeWords (EltTy.packing .bf16) := by decide +kernel

theorem inside4_1 : ∃ h : (∀ a, ((![0, 0, 0] : Fin 3 → Nat) a + 1) * S1x128x1024.size a ≤ S4x128x1024.size a),
    EltTy.bits .bf16 = 32 ∨ (Rect.block (s := S4x128x1024) S1x128x1024.size ![0, 0, 0] h).WholeWords (EltTy.packing .bf16) := by decide +kernel

theorem inside4_2 : ∃ h : (∀ a, ((![0, 0, 0] : Fin 3 → Nat) a + 1) * S1x1024x512.size a ≤ S4x1024x512.size a),
    EltTy.bits .bf16 = 32 ∨ (Rect.block (s := S4x1024x512) S1x1024x512.size ![0, 0, 0] h).WholeWords (EltTy.packing .bf16) := by decide +kernel

theorem inside4_3 : ∃ h : (∀ a, ((![0, 0, 0] : Fin 3 → Nat) a + 1) * S1x512x1024.size a ≤ S4x512x1024.size a),
    EltTy.bits .bf16 = 32 ∨ (Rect.block (s := S4x512x1024) S1x512x1024.size ![0, 0, 0] h).WholeWords (EltTy.packing .bf16) := by decide +kernel

section
variable {F : FTy → Type} [FloatOps F] (m : (ℓ : Loc nD τ sig) → Buf (Elt F) ℓ)

/-- The host's table of places. -/
def places : (⟨S2, .i32⟩ : BufTy).Contents (Elt F) := fun _ => (0#32 : BitVec 32)

theorem table_eq : V m 0 main_v2 = places (F := F) := by
  refine Eq.trans (by unfold V; after_results) ?_
  funext x
  obtain ⟨k, rfl⟩ : ∃ k : Fin 2, x = (fun a => match a with | ⟨0, _⟩ => k : S2.Idx) :=
    ⟨x 0, funext fun a => by match a with | ⟨0, _⟩ => rfl⟩
  fin_cases k <;> rfl

/-- The word an index map reads. -/
theorem word (k : Nat) (h : ∀ a, (![k] : Fin 1 → Nat) a + S1.size a ≤ S2.size a) (h1 : S1.numel = 1) :
    (tbl m).at 0 (Rect.unit (s := S2) ![k] S1.size h) h1 = 0#32 := by
  refine (congrFun (table_eq m) ((Rect.unit (s := S2) ![k] S1.size h).point h1)).trans ?_
  rfl

theorem map0 (i : grid0.Coords) : cc0_transform_0 inb_S2_S1_0 numel1_S1 (tbl m) i = ![0, 0, 0] := by
  unfold cc0_transform_0
  rw [word]
  rfl

theorem map1 (i : grid0.Coords) : cc0_transform_1 inb_S2_S1_0 numel1_S1 (tbl m) i = ![0, 0, 0] := by
  unfold cc0_transform_1
  rw [word]
  rfl

theorem map2 (i : grid0.Coords) : cc0_transform_2 inb_S2_S1_0 numel1_S1 (tbl m) i = ![0, 0, 0] := by
  unfold cc0_transform_2
  rw [word]
  rfl

theorem map3 (i : grid0.Coords) : cc0_transform_3 inb_S2_S1_0 numel1_S1 (tbl m) i = ![0, 0, 0] := by
  unfold cc0_transform_3
  rw [word]
  rfl

theorem map4 (i : grid0.Coords) : cc0_transform_4 inb_S2_S1_1 numel1_S1 (tbl m) i = ![0, 0, 0] := by
  unfold cc0_transform_4
  rw [word]
  rfl

theorem map5 (i : grid0.Coords) : cc0_transform_5 inb_S2_S1_1 numel1_S1 (tbl m) i = ![0, 0, 0] := by
  unfold cc0_transform_5
  rw [word]
  rfl

theorem map6 (i : grid0.Coords) : cc0_transform_6 inb_S2_S1_1 numel1_S1 (tbl m) i = ![0, 0, 0] := by
  unfold cc0_transform_6
  rw [word]
  rfl

theorem map7 (i : grid0.Coords) : cc0_transform_7 inb_S2_S1_1 numel1_S1 (tbl m) i = ![0, 0, 0] := by
  unfold cc0_transform_7
  rw [word]
  rfl

/-- Every part lies inside its array. -/
theorem ok : Ok m := by
  unfold Ok ok0
  simp only [map0, map1, map2, map3, map4, map5, map6, map7]
  exact ⟨fun _ => inside8_0, fun _ => inside8_1, fun _ => inside8_2, fun _ => inside8_3, fun _ => inside4_0, fun _ => inside4_1, fun _ => inside4_2, fun _ => inside4_3⟩

end

end Cert.Kernel27.SumEarly1

namespace Cert.Kernel27Ideal.SumEarly1

open Cert.Kernel27Ideal Cert.Kernel27Ideal.Gen

theorem inside8_0 : ∃ h : (∀ a, ((![0, 0, 0] : Fin 3 → Nat) a + 1) * S1x432x1024.size a ≤ S8x432x1024.size a),
    EltTy.bits .bf16 = 32 ∨ (Rect.block (s := S8x432x1024) S1x432x1024.size ![0, 0, 0] h).WholeWords (EltTy.packing .bf16) := by decide +kernel

theorem inside8_1 : ∃ h : (∀ a, ((![0, 0, 0] : Fin 3 → Nat) a + 1) * S1x128x1024.size a ≤ S8x128x1024.size a),
    EltTy.bits .bf16 = 32 ∨ (Rect.block (s := S8x128x1024) S1x128x1024.size ![0, 0, 0] h).WholeWords (EltTy.packing .bf16) := by decide +kernel

theorem inside8_2 : ∃ h : (∀ a, ((![0, 0, 0] : Fin 3 → Nat) a + 1) * S1x1024x512.size a ≤ S8x1024x512.size a),
    EltTy.bits .bf16 = 32 ∨ (Rect.block (s := S8x1024x512) S1x1024x512.size ![0, 0, 0] h).WholeWords (EltTy.packing .bf16) := by decide +kernel

theorem inside8_3 : ∃ h : (∀ a, ((![0, 0, 0] : Fin 3 → Nat) a + 1) * S1x512x1024.size a ≤ S8x512x1024.size a),
    EltTy.bits .bf16 = 32 ∨ (Rect.block (s := S8x512x1024) S1x512x1024.size ![0, 0, 0] h).WholeWords (EltTy.packing .bf16) := by decide +kernel

theorem inside4_0 : ∃ h : (∀ a, ((![0, 0, 0] : Fin 3 → Nat) a + 1) * S1x432x1024.size a ≤ S4x432x1024.size a),
    EltTy.bits .bf16 = 32 ∨ (Rect.block (s := S4x432x1024) S1x432x1024.size ![0, 0, 0] h).WholeWords (EltTy.packing .bf16) := by decide +kernel

theorem inside4_1 : ∃ h : (∀ a, ((![0, 0, 0] : Fin 3 → Nat) a + 1) * S1x128x1024.size a ≤ S4x128x1024.size a),
    EltTy.bits .bf16 = 32 ∨ (Rect.block (s := S4x128x1024) S1x128x1024.size ![0, 0, 0] h).WholeWords (EltTy.packing .bf16) := by decide +kernel

theorem inside4_2 : ∃ h : (∀ a, ((![0, 0, 0] : Fin 3 → Nat) a + 1) * S1x1024x512.size a ≤ S4x1024x512.size a),
    EltTy.bits .bf16 = 32 ∨ (Rect.block (s := S4x1024x512) S1x1024x512.size ![0, 0, 0] h).WholeWords (EltTy.packing .bf16) := by decide +kernel

theorem inside4_3 : ∃ h : (∀ a, ((![0, 0, 0] : Fin 3 → Nat) a + 1) * S1x512x1024.size a ≤ S4x512x1024.size a),
    EltTy.bits .bf16 = 32 ∨ (Rect.block (s := S4x512x1024) S1x512x1024.size ![0, 0, 0] h).WholeWords (EltTy.packing .bf16) := by decide +kernel

section
variable {F : FTy → Type} [FloatOps F] (m : (ℓ : Loc nD τ sig) → Buf (Elt F) ℓ)

/-- The host's table of places. -/
def places : (⟨S2, .i32⟩ : BufTy).Contents (Elt F) := fun _ => (0#32 : BitVec 32)

theorem table_eq : V m 0 main_v2 = places (F := F) := by
  refine Eq.trans (by unfold V; after_results) ?_
  funext x
  obtain ⟨k, rfl⟩ : ∃ k : Fin 2, x = (fun a => match a with | ⟨0, _⟩ => k : S2.Idx) :=
    ⟨x 0, funext fun a => by match a with | ⟨0, _⟩ => rfl⟩
  fin_cases k <;> rfl

/-- The word an index map reads. -/
theorem word (k : Nat) (h : ∀ a, (![k] : Fin 1 → Nat) a + S1.size a ≤ S2.size a) (h1 : S1.numel = 1) :
    (tbl m).at 0 (Rect.unit (s := S2) ![k] S1.size h) h1 = 0#32 := by
  refine (congrFun (table_eq m) ((Rect.unit (s := S2) ![k] S1.size h).point h1)).trans ?_
  rfl

theorem map0 (i : grid0.Coords) : cc0_transform_0 inb_S2_S1_0 numel1_S1 (tbl m) i = ![0, 0, 0] := by
  unfold cc0_transform_0
  rw [word]
  rfl

theorem map1 (i : grid0.Coords) : cc0_transform_1 inb_S2_S1_0 numel1_S1 (tbl m) i = ![0, 0, 0] := by
  unfold cc0_transform_1
  rw [word]
  rfl

theorem map2 (i : grid0.Coords) : cc0_transform_2 inb_S2_S1_0 numel1_S1 (tbl m) i = ![0, 0, 0] := by
  unfold cc0_transform_2
  rw [word]
  rfl

theorem map3 (i : grid0.Coords) : cc0_transform_3 inb_S2_S1_0 numel1_S1 (tbl m) i = ![0, 0, 0] := by
  unfold cc0_transform_3
  rw [word]
  rfl

theorem map4 (i : grid0.Coords) : cc0_transform_4 inb_S2_S1_1 numel1_S1 (tbl m) i = ![0, 0, 0] := by
  unfold cc0_transform_4
  rw [word]
  rfl

theorem map5 (i : grid0.Coords) : cc0_transform_5 inb_S2_S1_1 numel1_S1 (tbl m) i = ![0, 0, 0] := by
  unfold cc0_transform_5
  rw [word]
  rfl

theorem map6 (i : grid0.Coords) : cc0_transform_6 inb_S2_S1_1 numel1_S1 (tbl m) i = ![0, 0, 0] := by
  unfold cc0_transform_6
  rw [word]
  rfl

theorem map7 (i : grid0.Coords) : cc0_transform_7 inb_S2_S1_1 numel1_S1 (tbl m) i = ![0, 0, 0] := by
  unfold cc0_transform_7
  rw [word]
  rfl

/-- Every part lies inside its array. -/
theorem ok : Ok m := by
  unfold Ok ok0
  simp only [map0, map1, map2, map3, map4, map5, map6, map7]
  exact ⟨fun _ => inside8_0, fun _ => inside8_1, fun _ => inside8_2, fun _ => inside8_3, fun _ => inside4_0, fun _ => inside4_1, fun _ => inside4_2, fun _ => inside4_3⟩

end

variable (m : (ℓ : Loc nD τ sig) → Buf (Elt Ideal) ℓ)

/-- The place of an entry of the part `k` in the whole array. -/
def part8_0 (k : Fin 8) (y : S1x432x1024.Idx) : S8x432x1024.Idx := fun a => match a with
  | ⟨0, _⟩ => k
  | ⟨1, _⟩ => y 1
  | ⟨2, _⟩ => y 2

theorem place8_0 (k : Fin 8) (y : S1x432x1024.Idx) (a : Fin 3) :
    (![k.val, 0, 0] : Fin 3 → Nat) a * S1x432x1024.size a + (y a).val = (part8_0 k y a).val := by
  have h' : (y 0).val = 0 := Nat.lt_one_iff.mp (y 0).isLt
  match a with
  | ⟨0, _⟩ => show k.val * 1 + (y 0).val = k.val; omega
  | ⟨1, _⟩ => show 0 * 432 + (y 1).val = (y 1).val; omega
  | ⟨2, _⟩ => show 0 * 1024 + (y 2).val = (y 2).val; omega

/-- The place of an entry of the part `k` in the whole array. -/
def part4_0 (k : Fin 4) (y : S1x432x1024.Idx) : S4x432x1024.Idx := fun a => match a with
  | ⟨0, _⟩ => k
  | ⟨1, _⟩ => y 1
  | ⟨2, _⟩ => y 2

theorem place4_0 (k : Fin 4) (y : S1x432x1024.Idx) (a : Fin 3) :
    (![k.val, 0, 0] : Fin 3 → Nat) a * S1x432x1024.size a + (y a).val = (part4_0 k y a).val := by
  have h' : (y 0).val = 0 := Nat.lt_one_iff.mp (y 0).isLt
  match a with
  | ⟨0, _⟩ => show k.val * 1 + (y 0).val = k.val; omega
  | ⟨1, _⟩ => show 0 * 432 + (y 1).val = (y 1).val; omega
  | ⟨2, _⟩ => show 0 * 1024 + (y 2).val = (y 2).val; omega

/-- The place of an entry of the part `k` in the whole array. -/
def part3_0 (k : Fin 3) (y : S1x432x1024.Idx) : S3x432x1024.Idx := fun a => match a with
  | ⟨0, _⟩ => k
  | ⟨1, _⟩ => y 1
  | ⟨2, _⟩ => y 2

theorem place3_0 (k : Fin 3) (y : S1x432x1024.Idx) (a : Fin 3) :
    (![k.val, 0, 0] : Fin 3 → Nat) a * S1x432x1024.size a + (y a).val = (part3_0 k y a).val := by
  have h' : (y 0).val = 0 := Nat.lt_one_iff.mp (y 0).isLt
  match a with
  | ⟨0, _⟩ => show k.val * 1 + (y 0).val = k.val; omega
  | ⟨1, _⟩ => show 0 * 432 + (y 1).val = (y 1).val; omega
  | ⟨2, _⟩ => show 0 * 1024 + (y 2).val = (y 2).val; omega

/-- The place of an entry of the part `k` in the whole array. -/
def part8_1 (k : Fin 8) (y : S1x128x1024.Idx) : S8x128x1024.Idx := fun a => match a with
  | ⟨0, _⟩ => k
  | ⟨1, _⟩ => y 1
  | ⟨2, _⟩ => y 2

theorem place8_1 (k : Fin 8) (y : S1x128x1024.Idx) (a : Fin 3) :
    (![k.val, 0, 0] : Fin 3 → Nat) a * S1x128x1024.size a + (y a).val = (part8_1 k y a).val := by
  have h' : (y 0).val = 0 := Nat.lt_one_iff.mp (y 0).isLt
  match a with
  | ⟨0, _⟩ => show k.val * 1 + (y 0).val = k.val; omega
  | ⟨1, _⟩ => show 0 * 128 + (y 1).val = (y 1).val; omega
  | ⟨2, _⟩ => show 0 * 1024 + (y 2).val = (y 2).val; omega

/-- The place of an entry of the part `k` in the whole array. -/
def part4_1 (k : Fin 4) (y : S1x128x1024.Idx) : S4x128x1024.Idx := fun a => match a with
  | ⟨0, _⟩ => k
  | ⟨1, _⟩ => y 1
  | ⟨2, _⟩ => y 2

theorem place4_1 (k : Fin 4) (y : S1x128x1024.Idx) (a : Fin 3) :
    (![k.val, 0, 0] : Fin 3 → Nat) a * S1x128x1024.size a + (y a).val = (part4_1 k y a).val := by
  have h' : (y 0).val = 0 := Nat.lt_one_iff.mp (y 0).isLt
  match a with
  | ⟨0, _⟩ => show k.val * 1 + (y 0).val = k.val; omega
  | ⟨1, _⟩ => show 0 * 128 + (y 1).val = (y 1).val; omega
  | ⟨2, _⟩ => show 0 * 1024 + (y 2).val = (y 2).val; omega

/-- The place of an entry of the part `k` in the whole array. -/
def part3_1 (k : Fin 3) (y : S1x128x1024.Idx) : S3x128x1024.Idx := fun a => match a with
  | ⟨0, _⟩ => k
  | ⟨1, _⟩ => y 1
  | ⟨2, _⟩ => y 2

theorem place3_1 (k : Fin 3) (y : S1x128x1024.Idx) (a : Fin 3) :
    (![k.val, 0, 0] : Fin 3 → Nat) a * S1x128x1024.size a + (y a).val = (part3_1 k y a).val := by
  have h' : (y 0).val = 0 := Nat.lt_one_iff.mp (y 0).isLt
  match a with
  | ⟨0, _⟩ => show k.val * 1 + (y 0).val = k.val; omega
  | ⟨1, _⟩ => show 0 * 128 + (y 1).val = (y 1).val; omega
  | ⟨2, _⟩ => show 0 * 1024 + (y 2).val = (y 2).val; omega

/-- The place of an entry of the part `k` in the whole array. -/
def part8_2 (k : Fin 8) (y : S1x1024x512.Idx) : S8x1024x512.Idx := fun a => match a with
  | ⟨0, _⟩ => k
  | ⟨1, _⟩ => y 1
  | ⟨2, _⟩ => y 2

theorem place8_2 (k : Fin 8) (y : S1x1024x512.Idx) (a : Fin 3) :
    (![k.val, 0, 0] : Fin 3 → Nat) a * S1x1024x512.size a + (y a).val = (part8_2 k y a).val := by
  have h' : (y 0).val = 0 := Nat.lt_one_iff.mp (y 0).isLt
  match a with
  | ⟨0, _⟩ => show k.val * 1 + (y 0).val = k.val; omega
  | ⟨1, _⟩ => show 0 * 1024 + (y 1).val = (y 1).val; omega
  | ⟨2, _⟩ => show 0 * 512 + (y 2).val = (y 2).val; omega

/-- The place of an entry of the part `k` in the whole array. -/
def part4_2 (k : Fin 4) (y : S1x1024x512.Idx) : S4x1024x512.Idx := fun a => match a with
  | ⟨0, _⟩ => k
  | ⟨1, _⟩ => y 1
  | ⟨2, _⟩ => y 2

theorem place4_2 (k : Fin 4) (y : S1x1024x512.Idx) (a : Fin 3) :
    (![k.val, 0, 0] : Fin 3 → Nat) a * S1x1024x512.size a + (y a).val = (part4_2 k y a).val := by
  have h' : (y 0).val = 0 := Nat.lt_one_iff.mp (y 0).isLt
  match a with
  | ⟨0, _⟩ => show k.val * 1 + (y 0).val = k.val; omega
  | ⟨1, _⟩ => show 0 * 1024 + (y 1).val = (y 1).val; omega
  | ⟨2, _⟩ => show 0 * 512 + (y 2).val = (y 2).val; omega

/-- The place of an entry of the part `k` in the whole array. -/
def part3_2 (k : Fin 3) (y : S1x1024x512.Idx) : S3x1024x512.Idx := fun a => match a with
  | ⟨0, _⟩ => k
  | ⟨1, _⟩ => y 1
  | ⟨2, _⟩ => y 2

theorem place3_2 (k : Fin 3) (y : S1x1024x512.Idx) (a : Fin 3) :
    (![k.val, 0, 0] : Fin 3 → Nat) a * S1x1024x512.size a + (y a).val = (part3_2 k y a).val := by
  have h' : (y 0).val = 0 := Nat.lt_one_iff.mp (y 0).isLt
  match a with
  | ⟨0, _⟩ => show k.val * 1 + (y 0).val = k.val; omega
  | ⟨1, _⟩ => show 0 * 1024 + (y 1).val = (y 1).val; omega
  | ⟨2, _⟩ => show 0 * 512 + (y 2).val = (y 2).val; omega

/-- The place of an entry of the part `k` in the whole array. -/
def part8_3 (k : Fin 8) (y : S1x512x1024.Idx) : S8x512x1024.Idx := fun a => match a with
  | ⟨0, _⟩ => k
  | ⟨1, _⟩ => y 1
  | ⟨2, _⟩ => y 2

theorem place8_3 (k : Fin 8) (y : S1x512x1024.Idx) (a : Fin 3) :
    (![k.val, 0, 0] : Fin 3 → Nat) a * S1x512x1024.size a + (y a).val = (part8_3 k y a).val := by
  have h' : (y 0).val = 0 := Nat.lt_one_iff.mp (y 0).isLt
  match a with
  | ⟨0, _⟩ => show k.val * 1 + (y 0).val = k.val; omega
  | ⟨1, _⟩ => show 0 * 512 + (y 1).val = (y 1).val; omega
  | ⟨2, _⟩ => show 0 * 1024 + (y 2).val = (y 2).val; omega

/-- The place of an entry of the part `k` in the whole array. -/
def part4_3 (k : Fin 4) (y : S1x512x1024.Idx) : S4x512x1024.Idx := fun a => match a with
  | ⟨0, _⟩ => k
  | ⟨1, _⟩ => y 1
  | ⟨2, _⟩ => y 2

theorem place4_3 (k : Fin 4) (y : S1x512x1024.Idx) (a : Fin 3) :
    (![k.val, 0, 0] : Fin 3 → Nat) a * S1x512x1024.size a + (y a).val = (part4_3 k y a).val := by
  have h' : (y 0).val = 0 := Nat.lt_one_iff.mp (y 0).isLt
  match a with
  | ⟨0, _⟩ => show k.val * 1 + (y 0).val = k.val; omega
  | ⟨1, _⟩ => show 0 * 512 + (y 1).val = (y 1).val; omega
  | ⟨2, _⟩ => show 0 * 1024 + (y 2).val = (y 2).val; omega

/-- The place of an entry of the part `k` in the whole array. -/
def part3_3 (k : Fin 3) (y : S1x512x1024.Idx) : S3x512x1024.Idx := fun a => match a with
  | ⟨0, _⟩ => k
  | ⟨1, _⟩ => y 1
  | ⟨2, _⟩ => y 2

theorem place3_3 (k : Fin 3) (y : S1x512x1024.Idx) (a : Fin 3) :
    (![k.val, 0, 0] : Fin 3 → Nat) a * S1x512x1024.size a + (y a).val = (part3_3 k y a).val := by
  have h' : (y 0).val = 0 := Nat.lt_one_iff.mp (y 0).isLt
  match a with
  | ⟨0, _⟩ => show k.val * 1 + (y 0).val = k.val; omega
  | ⟨1, _⟩ => show 0 * 512 + (y 1).val = (y 1).val; omega
  | ⟨2, _⟩ => show 0 * 1024 + (y 2).val = (y 2).val; omega

theorem blk0 (hO : Ok m) (c : Dev nD) (t : Fin (cfgM m hO).N) (y : S1x432x1024.Idx) :
    iblk m hO c 0 t y = m ((c : Thread nD τ).loc main_arg0) (part8_0 0 y) := by
  have e : (((cfgM m hO).win 0).blk t).view.emb y = part8_0 0 y := funext fun a => Fin.ext
    ((Pipeline.Window.rect_emb_val ((cfgM m hO).win 0) t y a).trans (by
      have h : ((cfgM m hO).win 0).index t a = (![0, 0, 0] : Fin 3 → Nat) a := congrFun (map0 m (grid0.coords t)) a
      rw [h]
      exact place8_0 0 y a))
  refine (congrArg (V m c main_arg0) e).trans ?_
  rw [V_main_arg0]

theorem blk1 (hO : Ok m) (c : Dev nD) (t : Fin (cfgM m hO).N) (y : S1x128x1024.Idx) :
    iblk m hO c 1 t y = m ((c : Thread nD τ).loc main_arg1) (part8_1 0 y) := by
  have e : (((cfgM m hO).win 1).blk t).view.emb y = part8_1 0 y := funext fun a => Fin.ext
    ((Pipeline.Window.rect_emb_val ((cfgM m hO).win 1) t y a).trans (by
      have h : ((cfgM m hO).win 1).index t a = (![0, 0, 0] : Fin 3 → Nat) a := congrFun (map1 m (grid0.coords t)) a
      rw [h]
      exact place8_1 0 y a))
  refine (congrArg (V m c main_arg1) e).trans ?_
  rw [V_main_arg1]

theorem blk2 (hO : Ok m) (c : Dev nD) (t : Fin (cfgM m hO).N) (y : S1x1024x512.Idx) :
    iblk m hO c 2 t y = m ((c : Thread nD τ).loc main_arg2) (part8_2 0 y) := by
  have e : (((cfgM m hO).win 2).blk t).view.emb y = part8_2 0 y := funext fun a => Fin.ext
    ((Pipeline.Window.rect_emb_val ((cfgM m hO).win 2) t y a).trans (by
      have h : ((cfgM m hO).win 2).index t a = (![0, 0, 0] : Fin 3 → Nat) a := congrFun (map2 m (grid0.coords t)) a
      rw [h]
      exact place8_2 0 y a))
  refine (congrArg (V m c main_arg2) e).trans ?_
  rw [V_main_arg2]

theorem blk3 (hO : Ok m) (c : Dev nD) (t : Fin (cfgM m hO).N) (y : S1x512x1024.Idx) :
    iblk m hO c 3 t y = m ((c : Thread nD τ).loc main_arg3) (part8_3 0 y) := by
  have e : (((cfgM m hO).win 3).blk t).view.emb y = part8_3 0 y := funext fun a => Fin.ext
    ((Pipeline.Window.rect_emb_val ((cfgM m hO).win 3) t y a).trans (by
      have h : ((cfgM m hO).win 3).index t a = (![0, 0, 0] : Fin 3 → Nat) a := congrFun (map3 m (grid0.coords t)) a
      rw [h]
      exact place8_3 0 y a))
  refine (congrArg (V m c main_arg3) e).trans ?_
  rw [V_main_arg3]

theorem blk4 (hO : Ok m) (c : Dev nD) (t : Fin (cfgM m hO).N) (y : S1x432x1024.Idx) :
    iblk m hO c 4 t y = m ((c : Thread nD τ).loc main_arg4) (part4_0 0 y) := by
  have e : (((cfgM m hO).win 4).blk t).view.emb y = part4_0 0 y := funext fun a => Fin.ext
    ((Pipeline.Window.rect_emb_val ((cfgM m hO).win 4) t y a).trans (by
      have h : ((cfgM m hO).win 4).index t a = (![0, 0, 0] : Fin 3 → Nat) a := congrFun (map4 m (grid0.coords t)) a
      rw [h]
      exact place4_0 0 y a))
  refine (congrArg (V m c main_arg4) e).trans ?_
  rw [V_main_arg4]

theorem blk5 (hO : Ok m) (c : Dev nD) (t : Fin (cfgM m hO).N) (y : S1x128x1024.Idx) :
    iblk m hO c 5 t y = m ((c : Thread nD τ).loc main_arg5) (part4_1 0 y) := by
  have e : (((cfgM m hO).win 5).blk t).view.emb y = part4_1 0 y := funext fun a => Fin.ext
    ((Pipeline.Window.rect_emb_val ((cfgM m hO).win 5) t y a).trans (by
      have h : ((cfgM m hO).win 5).index t a = (![0, 0, 0] : Fin 3 → Nat) a := congrFun (map5 m (grid0.coords t)) a
      rw [h]
      exact place4_1 0 y a))
  refine (congrArg (V m c main_arg5) e).trans ?_
  rw [V_main_arg5]

theorem blk6 (hO : Ok m) (c : Dev nD) (t : Fin (cfgM m hO).N) (y : S1x1024x512.Idx) :
    iblk m hO c 6 t y = m ((c : Thread nD τ).loc main_arg6) (part4_2 0 y) := by
  have e : (((cfgM m hO).win 6).blk t).view.emb y = part4_2 0 y := funext fun a => Fin.ext
    ((Pipeline.Window.rect_emb_val ((cfgM m hO).win 6) t y a).trans (by
      have h : ((cfgM m hO).win 6).index t a = (![0, 0, 0] : Fin 3 → Nat) a := congrFun (map6 m (grid0.coords t)) a
      rw [h]
      exact place4_2 0 y a))
  refine (congrArg (V m c main_arg6) e).trans ?_
  rw [V_main_arg6]

theorem blk7 (hO : Ok m) (c : Dev nD) (t : Fin (cfgM m hO).N) (y : S1x512x1024.Idx) :
    iblk m hO c 7 t y = m ((c : Thread nD τ).loc main_arg7) (part4_3 0 y) := by
  have e : (((cfgM m hO).win 7).blk t).view.emb y = part4_3 0 y := funext fun a => Fin.ext
    ((Pipeline.Window.rect_emb_val ((cfgM m hO).win 7) t y a).trans (by
      have h : ((cfgM m hO).win 7).index t a = (![0, 0, 0] : Fin 3 → Nat) a := congrFun (map7 m (grid0.coords t)) a
      rw [h]
      exact place4_3 0 y a))
  refine (congrArg (V m c main_arg7) e).trans ?_
  rw [V_main_arg7]

theorem blk8 (hO : Ok m) (c : Dev nD) (t : Fin (cfgM m hO).N) (y : S1x432x1024.Idx) :
    iblk m hO c 8 t y = m ((c : Thread nD τ).loc main_arg8) (part3_0 0 y) := by
  have e : (((cfgM m hO).win 8).blk t).view.emb y = part3_0 0 y := funext fun a => Fin.ext
    ((Pipeline.Window.rect_emb_val ((cfgM m hO).win 8) t y a).trans (by
      have h : ((cfgM m hO).win 8).index t a = (![0, 0, 0] : Fin 3 → Nat) a := (by decide +kernel : ∀ (t : Fin grid0.N) (a : Fin 3), cc0_transform_8 (grid0.coords t) a = (![0, 0, 0] : Fin 3 → Nat) a) t a
      rw [h]
      exact place3_0 0 y a))
  refine (congrArg (V m c main_arg8) e).trans ?_
  rw [V_main_arg8]

theorem blk9 (hO : Ok m) (c : Dev nD) (t : Fin (cfgM m hO).N) (y : S1x128x1024.Idx) :
    iblk m hO c 9 t y = m ((c : Thread nD τ).loc main_arg9) (part3_1 0 y) := by
  have e : (((cfgM m hO).win 9).blk t).view.emb y = part3_1 0 y := funext fun a => Fin.ext
    ((Pipeline.Window.rect_emb_val ((cfgM m hO).win 9) t y a).trans (by
      have h : ((cfgM m hO).win 9).index t a = (![0, 0, 0] : Fin 3 → Nat) a := (by decide +kernel : ∀ (t : Fin grid0.N) (a : Fin 3), cc0_transform_9 (grid0.coords t) a = (![0, 0, 0] : Fin 3 → Nat) a) t a
      rw [h]
      exact place3_1 0 y a))
  refine (congrArg (V m c main_arg9) e).trans ?_
  rw [V_main_arg9]

theorem blk10 (hO : Ok m) (c : Dev nD) (t : Fin (cfgM m hO).N) (y : S1x1024x512.Idx) :
    iblk m hO c 10 t y = m ((c : Thread nD τ).loc main_arg10) (part3_2 0 y) := by
  have e : (((cfgM m hO).win 10).blk t).view.emb y = part3_2 0 y := funext fun a => Fin.ext
    ((Pipeline.Window.rect_emb_val ((cfgM m hO).win 10) t y a).trans (by
      have h : ((cfgM m hO).win 10).index t a = (![0, 0, 0] : Fin 3 → Nat) a := (by decide +kernel : ∀ (t : Fin grid0.N) (a : Fin 3), cc0_transform_10 (grid0.coords t) a = (![0, 0, 0] : Fin 3 → Nat) a) t a
      rw [h]
      exact place3_2 0 y a))
  refine (congrArg (V m c main_arg10) e).trans ?_
  rw [V_main_arg10]

theorem blk11 (hO : Ok m) (c : Dev nD) (t : Fin (cfgM m hO).N) (y : S1x512x1024.Idx) :
    iblk m hO c 11 t y = m ((c : Thread nD τ).loc main_arg11) (part3_3 0 y) := by
  have e : (((cfgM m hO).win 11).blk t).view.emb y = part3_3 0 y := funext fun a => Fin.ext
    ((Pipeline.Window.rect_emb_val ((cfgM m hO).win 11) t y a).trans (by
      have h : ((cfgM m hO).win 11).index t a = (![0, 0, 0] : Fin 3 → Nat) a := (by decide +kernel : ∀ (t : Fin grid0.N) (a : Fin 3), cc0_transform_11 (grid0.coords t) a = (![0, 0, 0] : Fin 3 → Nat) a) t a
      rw [h]
      exact place3_3 0 y a))
  refine (congrArg (V m c main_arg11) e).trans ?_
  rw [V_main_arg11]

theorem blk12 (hO : Ok m) (c : Dev nD) (t : Fin (cfgM m hO).N) (y : S1x432x1024.Idx) :
    iblk m hO c 12 t y = m ((c : Thread nD τ).loc main_arg8) (part3_0 1 y) := by
  have e : (((cfgM m hO).win 12).blk t).view.emb y = part3_0 1 y := funext fun a => Fin.ext
    ((Pipeline.Window.rect_emb_val ((cfgM m hO).win 12) t y a).trans (by
      have h : ((cfgM m hO).win 12).index t a = (![1, 0, 0] : Fin 3 → Nat) a := (by decide +kernel : ∀ (t : Fin grid0.N) (a : Fin 3), cc0_transform_12 (grid0.coords t) a = (![1, 0, 0] : Fin 3 → Nat) a) t a
      rw [h]
      exact place3_0 1 y a))
  refine (congrArg (V m c main_arg8) e).trans ?_
  rw [V_main_arg8]

theorem blk13 (hO : Ok m) (c : Dev nD) (t : Fin (cfgM m hO).N) (y : S1x128x1024.Idx) :
    iblk m hO c 13 t y = m ((c : Thread nD τ).loc main_arg9) (part3_1 1 y) := by
  have e : (((cfgM m hO).win 13).blk t).view.emb y = part3_1 1 y := funext fun a => Fin.ext
    ((Pipeline.Window.rect_emb_val ((cfgM m hO).win 13) t y a).trans (by
      have h : ((cfgM m hO).win 13).index t a = (![1, 0, 0] : Fin 3 → Nat) a := (by decide +kernel : ∀ (t : Fin grid0.N) (a : Fin 3), cc0_transform_13 (grid0.coords t) a = (![1, 0, 0] : Fin 3 → Nat) a) t a
      rw [h]
      exact place3_1 1 y a))
  refine (congrArg (V m c main_arg9) e).trans ?_
  rw [V_main_arg9]

theorem blk14 (hO : Ok m) (c : Dev nD) (t : Fin (cfgM m hO).N) (y : S1x1024x512.Idx) :
    iblk m hO c 14 t y = m ((c : Thread nD τ).loc main_arg10) (part3_2 1 y) := by
  have e : (((cfgM m hO).win 14).blk t).view.emb y = part3_2 1 y := funext fun a => Fin.ext
    ((Pipeline.Window.rect_emb_val ((cfgM m hO).win 14) t y a).trans (by
      have h : ((cfgM m hO).win 14).index t a = (![1, 0, 0] : Fin 3 → Nat) a := (by decide +kernel : ∀ (t : Fin grid0.N) (a : Fin 3), cc0_transform_14 (grid0.coords t) a = (![1, 0, 0] : Fin 3 → Nat) a) t a
      rw [h]
      exact place3_2 1 y a))
  refine (congrArg (V m c main_arg10) e).trans ?_
  rw [V_main_arg10]

theorem blk15 (hO : Ok m) (c : Dev nD) (t : Fin (cfgM m hO).N) (y : S1x512x1024.Idx) :
    iblk m hO c 15 t y = m ((c : Thread nD τ).loc main_arg11) (part3_3 1 y) := by
  have e : (((cfgM m hO).win 15).blk t).view.emb y = part3_3 1 y := funext fun a => Fin.ext
    ((Pipeline.Window.rect_emb_val ((cfgM m hO).win 15) t y a).trans (by
      have h : ((cfgM m hO).win 15).index t a = (![1, 0, 0] : Fin 3 → Nat) a := (by decide +kernel : ∀ (t : Fin grid0.N) (a : Fin 3), cc0_transform_15 (grid0.coords t) a = (![1, 0, 0] : Fin 3 → Nat) a) t a
      rw [h]
      exact place3_3 1 y a))
  refine (congrArg (V m c main_arg11) e).trans ?_
  rw [V_main_arg11]

theorem blk16 (hO : Ok m) (c : Dev nD) (t : Fin (cfgM m hO).N) (y : S1x432x1024.Idx) :
    iblk m hO c 16 t y = m ((c : Thread nD τ).loc main_arg8) (part3_0 2 y) := by
  have e : (((cfgM m hO).win 16).blk t).view.emb y = part3_0 2 y := funext fun a => Fin.ext
    ((Pipeline.Window.rect_emb_val ((cfgM m hO).win 16) t y a).trans (by
      have h : ((cfgM m hO).win 16).index t a = (![2, 0, 0] : Fin 3 → Nat) a := (by decide +kernel : ∀ (t : Fin grid0.N) (a : Fin 3), cc0_transform_16 (grid0.coords t) a = (![2, 0, 0] : Fin 3 → Nat) a) t a
      rw [h]
      exact place3_0 2 y a))
  refine (congrArg (V m c main_arg8) e).trans ?_
  rw [V_main_arg8]

theorem blk17 (hO : Ok m) (c : Dev nD) (t : Fin (cfgM m hO).N) (y : S1x128x1024.Idx) :
    iblk m hO c 17 t y = m ((c : Thread nD τ).loc main_arg9) (part3_1 2 y) := by
  have e : (((cfgM m hO).win 17).blk t).view.emb y = part3_1 2 y := funext fun a => Fin.ext
    ((Pipeline.Window.rect_emb_val ((cfgM m hO).win 17) t y a).trans (by
      have h : ((cfgM m hO).win 17).index t a = (![2, 0, 0] : Fin 3 → Nat) a := (by decide +kernel : ∀ (t : Fin grid0.N) (a : Fin 3), cc0_transform_17 (grid0.coords t) a = (![2, 0, 0] : Fin 3 → Nat) a) t a
      rw [h]
      exact place3_1 2 y a))
  refine (congrArg (V m c main_arg9) e).trans ?_
  rw [V_main_arg9]

theorem blk18 (hO : Ok m) (c : Dev nD) (t : Fin (cfgM m hO).N) (y : S1x1024x512.Idx) :
    iblk m hO c 18 t y = m ((c : Thread nD τ).loc main_arg10) (part3_2 2 y) := by
  have e : (((cfgM m hO).win 18).blk t).view.emb y = part3_2 2 y := funext fun a => Fin.ext
    ((Pipeline.Window.rect_emb_val ((cfgM m hO).win 18) t y a).trans (by
      have h : ((cfgM m hO).win 18).index t a = (![2, 0, 0] : Fin 3 → Nat) a := (by decide +kernel : ∀ (t : Fin grid0.N) (a : Fin 3), cc0_transform_18 (grid0.coords t) a = (![2, 0, 0] : Fin 3 → Nat) a) t a
      rw [h]
      exact place3_2 2 y a))
  refine (congrArg (V m c main_arg10) e).trans ?_
  rw [V_main_arg10]

theorem blk19 (hO : Ok m) (c : Dev nD) (t : Fin (cfgM m hO).N) (y : S1x512x1024.Idx) :
    iblk m hO c 19 t y = m ((c : Thread nD τ).loc main_arg11) (part3_3 2 y) := by
  have e : (((cfgM m hO).win 19).blk t).view.emb y = part3_3 2 y := funext fun a => Fin.ext
    ((Pipeline.Window.rect_emb_val ((cfgM m hO).win 19) t y a).trans (by
      have h : ((cfgM m hO).win 19).index t a = (![2, 0, 0] : Fin 3 → Nat) a := (by decide +kernel : ∀ (t : Fin grid0.N) (a : Fin 3), cc0_transform_19 (grid0.coords t) a = (![2, 0, 0] : Fin 3 → Nat) a) t a
      rw [h]
      exact place3_3 2 y a))
  refine (congrArg (V m c main_arg11) e).trans ?_
  rw [V_main_arg11]

theorem covers0 (hO : Ok m) : ((cfgM m hO).win 20).Covers := by
  refine ⟨fun a => (by decide : ∀ a : Fin 2, 0 < S432x1024.size a) a, fun β => ⟨⟨0, Nat.one_pos⟩, flush0_20 (adm m hO) _, fun a => ?_⟩⟩
  have hb : (β a).val = 0 := Nat.lt_one_iff.mp (lt_of_lt_of_eq (β a).isLt ((by decide : ∀ a : Fin 2, (S432x1024.size a + S432x1024.size a - 1) / S432x1024.size a = 1) a))
  refine ⟨Eq.trans ?_ hb.symm, Or.inl rfl⟩
  exact (by decide +kernel : ∀ a : Fin 2, cc0_transform_20 (grid0.coords ⟨0, Nat.one_pos⟩) a = 0) a

/-- What the body writes is the sum of the five parts. -/
theorem out_val0 (c : Dev nD) (i : grid0.Coords) (arg2 : Memref sig .tc .vmem S1x432x1024 .bf16) (harg2 : arg2.IsWhole) (arg3 : Memref sig .tc .vmem S1x128x1024 .bf16) (harg3 : arg3.IsWhole) (arg4 : Memref sig .tc .vmem S1x1024x512 .bf16) (harg4 : arg4.IsWhole) (arg5 : Memref sig .tc .vmem S1x512x1024 .bf16) (harg5 : arg5.IsWhole) (arg6 : Memref sig .tc .vmem S1x432x1024 .bf16) (harg6 : arg6.IsWhole) (arg7 : Memref sig .tc .vmem S1x128x1024 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1x432x1024 .bf16) (harg10 : arg10.IsWhole) (arg11 : Memref sig .tc .vmem S1x128x1024 .bf16) (harg11 : arg11.IsWhole) (arg12 : Memref sig .tc .vmem S1x1024x512 .bf16) (harg12 : arg12.IsWhole) (arg13 : Memref sig .tc .vmem S1x512x1024 .bf16) (harg13 : arg13.IsWhole) (arg14 : Memref sig .tc .vmem S1x432x1024 .bf16) (harg14 : arg14.IsWhole) (arg15 : Memref sig .tc .vmem S1x128x1024 .bf16) (harg15 : arg15.IsWhole) (arg16 : Memref sig .tc .vmem S1x1024x512 .bf16) (harg16 : arg16.IsWhole) (arg17 : Memref sig .tc .vmem S1x512x1024 .bf16) (harg17 : arg17.IsWhole) (arg18 : Memref sig .tc .vmem S1x432x1024 .bf16) (harg18 : arg18.IsWhole) (arg19 : Memref sig .tc .vmem S1x128x1024 .bf16) (harg19 : arg19.IsWhole) (arg20 : Memref sig .tc .vmem S1x1024x512 .bf16) (harg20 : arg20.IsWhole) (arg21 : Memref sig .tc .vmem S1x512x1024 .bf16) (harg21 : arg21.IsWhole) (arg22 : Memref sig .tc .vmem S432x1024 .f32) (harg22 : arg22.IsWhole) (arg23 : Memref sig .tc .vmem S128x1024 .f32) (harg23 : arg23.IsWhole) (arg24 : Memref sig .tc .vmem S1024x512 .f32) (harg24 : arg24.IsWhole) (arg25 : Memref sig .tc .vmem S512x1024 .f32) (harg25 : arg25.IsWhole)
    (x0 : Vec Ideal S1x432x1024 .bf16) (x1 : Vec Ideal S1x128x1024 .bf16) (x2 : Vec Ideal S1x1024x512 .bf16) (x3 : Vec Ideal S1x512x1024 .bf16) (x4 : Vec Ideal S1x432x1024 .bf16) (x5 : Vec Ideal S1x128x1024 .bf16) (x6 : Vec Ideal S1x1024x512 .bf16) (x7 : Vec Ideal S1x512x1024 .bf16) (x8 : Vec Ideal S1x432x1024 .bf16) (x9 : Vec Ideal S1x128x1024 .bf16) (x10 : Vec Ideal S1x1024x512 .bf16) (x11 : Vec Ideal S1x512x1024 .bf16) (x12 : Vec Ideal S1x432x1024 .bf16) (x13 : Vec Ideal S1x128x1024 .bf16) (x14 : Vec Ideal S1x1024x512 .bf16) (x15 : Vec Ideal S1x512x1024 .bf16) (x16 : Vec Ideal S1x432x1024 .bf16) (x17 : Vec Ideal S1x128x1024 .bf16) (x18 : Vec Ideal S1x1024x512 .bf16) (x19 : Vec Ideal S1x512x1024 .bf16) (xt0 : TbBuf0 (F := Ideal) c tbM0_0)
    (A : Vec Ideal S8x432x1024 .bf16) (B : Vec Ideal S4x432x1024 .bf16) (C : Vec Ideal S3x432x1024 .bf16)
    (h0 : ∀ y, x0 y = A (part8_0 0 y))
    (h1 : ∀ y, x4 y = B (part4_0 0 y))
    (h2 : ∀ y, x8 y = C (part3_0 0 y))
    (h3 : ∀ y, x12 y = C (part3_0 1 y))
    (h4 : ∀ y, x16 y = C (part3_0 2 y))
    (y : S432x1024.Idx) :
    out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 xt0 y = Cert.Reference27Ideal.Read.val_main_v9 A B C y := by
  frame_out
  simp only [Cert.Reference27Ideal.Read.val_main_v0_apply, Cert.Reference27Ideal.Read.val_main_v1_apply, Cert.Reference27Ideal.Read.val_main_v2_apply, Cert.Reference27Ideal.Read.val_main_v3_apply, Cert.Reference27Ideal.Read.val_main_v4_apply, Cert.Reference27Ideal.Read.val_main_v5_apply, Cert.Reference27Ideal.Read.val_main_v6_apply, Cert.Reference27Ideal.Read.val_main_v7_apply, Cert.Reference27Ideal.Read.val_main_cst_apply, Cert.Reference27Ideal.Read.val_main_v8_apply, Cert.Reference27Ideal.Read.val_main_v9_apply, Cert.Reference27Ideal.Read.val_main_v10_apply, Cert.Reference27Ideal.Read.val_main_v11_apply, Cert.Reference27Ideal.Read.val_main_v12_apply, Cert.Reference27Ideal.Read.val_main_v13_apply, Cert.Reference27Ideal.Read.val_main_v14_apply, Cert.Reference27Ideal.Read.val_main_v15_apply, Cert.Reference27Ideal.Read.val_main_v16_apply, Cert.Reference27Ideal.Read.val_main_v17_apply, Cert.Reference27Ideal.Read.val_main_cst_0_apply, Cert.Reference27Ideal.Read.val_main_v18_apply, Cert.Reference27Ideal.Read.val_main_v19_apply, Cert.Reference27Ideal.Read.val_main_v20_apply, Cert.Reference27Ideal.Read.val_main_v21_apply, Cert.Reference27Ideal.Read.val_main_v22_apply, Cert.Reference27Ideal.Read.val_main_v23_apply, Cert.Reference27Ideal.Read.val_main_v24_apply, Cert.Reference27Ideal.Read.val_main_v25_apply, Cert.Reference27Ideal.Read.val_main_v26_apply, Cert.Reference27Ideal.Read.val_main_v27_apply, Cert.Reference27Ideal.Read.val_main_cst_1_apply, Cert.Reference27Ideal.Read.val_main_v28_apply, Cert.Reference27Ideal.Read.val_main_v29_apply, Cert.Reference27Ideal.Read.val_main_v30_apply, Cert.Reference27Ideal.Read.val_main_v31_apply, Cert.Reference27Ideal.Read.val_main_v32_apply, Cert.Reference27Ideal.Read.val_main_v33_apply, Cert.Reference27Ideal.Read.val_main_v34_apply, Cert.Reference27Ideal.Read.val_main_v35_apply, Cert.Reference27Ideal.Read.val_main_v36_apply, Cert.Reference27Ideal.Read.val_main_v37_apply, Cert.Reference27Ideal.Read.val_main_cst_2_apply, Cert.Reference27Ideal.Read.val_main_v38_apply, Cert.Reference27Ideal.Read.val_main_v39_apply, Fin.sum_univ_three]
  pointwise [k0_pay1, k0_pay2, k0_pay3, k0_pay4, k0_pay5, k0_pay6]
  rw [h0, h1, h2, h3, h4]
  have b0 : (y 0).val < 432 := (y 0).isLt
  have b1 : (y 1).val < 1024 := (y 1).isLt
  have a0 : part8_0 0 (ix3 0 (y 0) (y 1)) = Cert.Reference27Ideal.Read.idx_main_v0 (Cert.Reference27Ideal.Read.idx_main_v1 y) := by
    funext a
    match a with
    | ⟨0, _⟩ => rfl
    | ⟨1, _⟩ => exact Fin.ext (show (y 0).val = ((y 0).val * 1024 + (y 1).val) / 1024 % 432 by omega)
    | ⟨2, _⟩ => exact Fin.ext (show (y 1).val = ((y 0).val * 1024 + (y 1).val) % 1024 by omega)
  have a1 : part4_0 0 (ix3 0 (y 0) (y 1)) = Cert.Reference27Ideal.Read.idx_main_v3 (Cert.Reference27Ideal.Read.idx_main_v4 y) := by
    funext a
    match a with
    | ⟨0, _⟩ => rfl
    | ⟨1, _⟩ => exact Fin.ext (show (y 0).val = ((y 0).val * 1024 + (y 1).val) / 1024 % 432 by omega)
    | ⟨2, _⟩ => exact Fin.ext (show (y 1).val = ((y 0).val * 1024 + (y 1).val) % 1024 by omega)
  have a2 : ∀ k : Fin 3, part3_0 k (ix3 0 (y 0) (y 1)) = Cert.Reference27Ideal.Read.idx_main_v8 y k := fun k => by
    funext a
    match a with
    | ⟨0, _⟩ => rfl
    | ⟨1, _⟩ => rfl
    | ⟨2, _⟩ => rfl
  rw [a0, a1, a2, a2, a2]
  simp only [add_assoc]

theorem left0 (hO : Ok m) (c : Dev nD) (t : Fin (cfgM m hO).N) (y : S432x1024.Idx) :
    (outsAt0 m hO c t).1 y
      = Cert.Reference27Ideal.Read.val_main_v9 (m ((c : Thread nD τ).loc main_arg0)) (m ((c : Thread nD τ).loc main_arg4)) (m ((c : Thread nD τ).loc main_arg8)) y := by
  have key := out_val0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0) (m ((c : Thread nD τ).loc main_arg0)) (m ((c : Thread nD τ).loc main_arg4)) (m ((c : Thread nD τ).loc main_arg8)) (blk0 m hO c t) (blk4 m hO c t) (blk8 m hO c t) (blk12 m hO c t) (blk16 m hO c t) y
  unfold outsAt0
  dsimp only
  exact key

theorem whole0 (hO : Ok m) (t : Fin (cfgM m hO).N) (y : S432x1024.Idx) : (((cfgM m hO).win 20).blk t).view.emb y = y :=
  funext fun a => Fin.ext ((Pipeline.Window.rect_emb_val ((cfgM m hO).win 20) t y a).trans (by
    have h : ((cfgM m hO).win 20).index t a = 0 := (by decide +kernel : ∀ (t : Fin grid0.N) (a : Fin 2), cc0_transform_20 (grid0.coords t) a = 0) t a
    rw [h, Nat.zero_mul, Nat.zero_add]))

/-- The sum of array 0. -/
theorem final0 (hO : Ok m) (c : Dev nD) : (dats m hO 0 c).arrAt 20 (cfgM m hO).N
    = Cert.Reference27Ideal.Read.val_main_v9 (m ((c : Thread nD τ).loc main_arg0)) (m ((c : Thread nD τ).loc main_arg4)) (m ((c : Thread nD τ).loc main_arg8)) := by
  refine (dats m hO 0 c).arrAt_eq_of_covers 20 _ (covers0 m hO) fun t _ y => ?_
  refine (eq_of_heq (cast_heq _ _)).trans ?_
  refine (congrFun (after0_20 m hO c t) _).trans ?_
  refine (left0 m hO c t y).trans ?_
  exact congrArg (Cert.Reference27Ideal.Read.val_main_v9 (m ((c : Thread nD τ).loc main_arg0)) (m ((c : Thread nD τ).loc main_arg4)) (m ((c : Thread nD τ).loc main_arg8))) (whole0 m hO t y).symm

theorem covers1 (hO : Ok m) : ((cfgM m hO).win 21).Covers := by
  refine ⟨fun a => (by decide : ∀ a : Fin 2, 0 < S128x1024.size a) a, fun β => ⟨⟨0, Nat.one_pos⟩, flush0_21 (adm m hO) _, fun a => ?_⟩⟩
  have hb : (β a).val = 0 := Nat.lt_one_iff.mp (lt_of_lt_of_eq (β a).isLt ((by decide : ∀ a : Fin 2, (S128x1024.size a + S128x1024.size a - 1) / S128x1024.size a = 1) a))
  refine ⟨Eq.trans ?_ hb.symm, Or.inl rfl⟩
  exact (by decide +kernel : ∀ a : Fin 2, cc0_transform_21 (grid0.coords ⟨0, Nat.one_pos⟩) a = 0) a

/-- What the body writes is the sum of the five parts. -/
theorem out_val1 (c : Dev nD) (i : grid0.Coords) (arg2 : Memref sig .tc .vmem S1x432x1024 .bf16) (harg2 : arg2.IsWhole) (arg3 : Memref sig .tc .vmem S1x128x1024 .bf16) (harg3 : arg3.IsWhole) (arg4 : Memref sig .tc .vmem S1x1024x512 .bf16) (harg4 : arg4.IsWhole) (arg5 : Memref sig .tc .vmem S1x512x1024 .bf16) (harg5 : arg5.IsWhole) (arg6 : Memref sig .tc .vmem S1x432x1024 .bf16) (harg6 : arg6.IsWhole) (arg7 : Memref sig .tc .vmem S1x128x1024 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1x432x1024 .bf16) (harg10 : arg10.IsWhole) (arg11 : Memref sig .tc .vmem S1x128x1024 .bf16) (harg11 : arg11.IsWhole) (arg12 : Memref sig .tc .vmem S1x1024x512 .bf16) (harg12 : arg12.IsWhole) (arg13 : Memref sig .tc .vmem S1x512x1024 .bf16) (harg13 : arg13.IsWhole) (arg14 : Memref sig .tc .vmem S1x432x1024 .bf16) (harg14 : arg14.IsWhole) (arg15 : Memref sig .tc .vmem S1x128x1024 .bf16) (harg15 : arg15.IsWhole) (arg16 : Memref sig .tc .vmem S1x1024x512 .bf16) (harg16 : arg16.IsWhole) (arg17 : Memref sig .tc .vmem S1x512x1024 .bf16) (harg17 : arg17.IsWhole) (arg18 : Memref sig .tc .vmem S1x432x1024 .bf16) (harg18 : arg18.IsWhole) (arg19 : Memref sig .tc .vmem S1x128x1024 .bf16) (harg19 : arg19.IsWhole) (arg20 : Memref sig .tc .vmem S1x1024x512 .bf16) (harg20 : arg20.IsWhole) (arg21 : Memref sig .tc .vmem S1x512x1024 .bf16) (harg21 : arg21.IsWhole) (arg22 : Memref sig .tc .vmem S432x1024 .f32) (harg22 : arg22.IsWhole) (arg23 : Memref sig .tc .vmem S128x1024 .f32) (harg23 : arg23.IsWhole) (arg24 : Memref sig .tc .vmem S1024x512 .f32) (harg24 : arg24.IsWhole) (arg25 : Memref sig .tc .vmem S512x1024 .f32) (harg25 : arg25.IsWhole)
    (x0 : Vec Ideal S1x432x1024 .bf16) (x1 : Vec Ideal S1x128x1024 .bf16) (x2 : Vec Ideal S1x1024x512 .bf16) (x3 : Vec Ideal S1x512x1024 .bf16) (x4 : Vec Ideal S1x432x1024 .bf16) (x5 : Vec Ideal S1x128x1024 .bf16) (x6 : Vec Ideal S1x1024x512 .bf16) (x7 : Vec Ideal S1x512x1024 .bf16) (x8 : Vec Ideal S1x432x1024 .bf16) (x9 : Vec Ideal S1x128x1024 .bf16) (x10 : Vec Ideal S1x1024x512 .bf16) (x11 : Vec Ideal S1x512x1024 .bf16) (x12 : Vec Ideal S1x432x1024 .bf16) (x13 : Vec Ideal S1x128x1024 .bf16) (x14 : Vec Ideal S1x1024x512 .bf16) (x15 : Vec Ideal S1x512x1024 .bf16) (x16 : Vec Ideal S1x432x1024 .bf16) (x17 : Vec Ideal S1x128x1024 .bf16) (x18 : Vec Ideal S1x1024x512 .bf16) (x19 : Vec Ideal S1x512x1024 .bf16) (xt0 : TbBuf0 (F := Ideal) c tbM0_0)
    (A : Vec Ideal S8x128x1024 .bf16) (B : Vec Ideal S4x128x1024 .bf16) (C : Vec Ideal S3x128x1024 .bf16)
    (h0 : ∀ y, x1 y = A (part8_1 0 y))
    (h1 : ∀ y, x5 y = B (part4_1 0 y))
    (h2 : ∀ y, x9 y = C (part3_1 0 y))
    (h3 : ∀ y, x13 y = C (part3_1 1 y))
    (h4 : ∀ y, x17 y = C (part3_1 2 y))
    (y : S128x1024.Idx) :
    out0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 xt0 y = Cert.Reference27Ideal.Read.val_main_v19 A B C y := by
  frame_out
  simp only [Cert.Reference27Ideal.Read.val_main_v0_apply, Cert.Reference27Ideal.Read.val_main_v1_apply, Cert.Reference27Ideal.Read.val_main_v2_apply, Cert.Reference27Ideal.Read.val_main_v3_apply, Cert.Reference27Ideal.Read.val_main_v4_apply, Cert.Reference27Ideal.Read.val_main_v5_apply, Cert.Reference27Ideal.Read.val_main_v6_apply, Cert.Reference27Ideal.Read.val_main_v7_apply, Cert.Reference27Ideal.Read.val_main_cst_apply, Cert.Reference27Ideal.Read.val_main_v8_apply, Cert.Reference27Ideal.Read.val_main_v9_apply, Cert.Reference27Ideal.Read.val_main_v10_apply, Cert.Reference27Ideal.Read.val_main_v11_apply, Cert.Reference27Ideal.Read.val_main_v12_apply, Cert.Reference27Ideal.Read.val_main_v13_apply, Cert.Reference27Ideal.Read.val_main_v14_apply, Cert.Reference27Ideal.Read.val_main_v15_apply, Cert.Reference27Ideal.Read.val_main_v16_apply, Cert.Reference27Ideal.Read.val_main_v17_apply, Cert.Reference27Ideal.Read.val_main_cst_0_apply, Cert.Reference27Ideal.Read.val_main_v18_apply, Cert.Reference27Ideal.Read.val_main_v19_apply, Cert.Reference27Ideal.Read.val_main_v20_apply, Cert.Reference27Ideal.Read.val_main_v21_apply, Cert.Reference27Ideal.Read.val_main_v22_apply, Cert.Reference27Ideal.Read.val_main_v23_apply, Cert.Reference27Ideal.Read.val_main_v24_apply, Cert.Reference27Ideal.Read.val_main_v25_apply, Cert.Reference27Ideal.Read.val_main_v26_apply, Cert.Reference27Ideal.Read.val_main_v27_apply, Cert.Reference27Ideal.Read.val_main_cst_1_apply, Cert.Reference27Ideal.Read.val_main_v28_apply, Cert.Reference27Ideal.Read.val_main_v29_apply, Cert.Reference27Ideal.Read.val_main_v30_apply, Cert.Reference27Ideal.Read.val_main_v31_apply, Cert.Reference27Ideal.Read.val_main_v32_apply, Cert.Reference27Ideal.Read.val_main_v33_apply, Cert.Reference27Ideal.Read.val_main_v34_apply, Cert.Reference27Ideal.Read.val_main_v35_apply, Cert.Reference27Ideal.Read.val_main_v36_apply, Cert.Reference27Ideal.Read.val_main_v37_apply, Cert.Reference27Ideal.Read.val_main_cst_2_apply, Cert.Reference27Ideal.Read.val_main_v38_apply, Cert.Reference27Ideal.Read.val_main_v39_apply, Fin.sum_univ_three]
  pointwise [k0_pay1, k0_pay2, k0_pay3, k0_pay4, k0_pay5, k0_pay6]
  rw [h0, h1, h2, h3, h4]
  have b0 : (y 0).val < 128 := (y 0).isLt
  have b1 : (y 1).val < 1024 := (y 1).isLt
  have a0 : part8_1 0 (ix3 0 (y 0) (y 1)) = Cert.Reference27Ideal.Read.idx_main_v10 (Cert.Reference27Ideal.Read.idx_main_v11 y) := by
    funext a
    match a with
    | ⟨0, _⟩ => rfl
    | ⟨1, _⟩ => exact Fin.ext (show (y 0).val = ((y 0).val * 1024 + (y 1).val) / 1024 % 128 by omega)
    | ⟨2, _⟩ => exact Fin.ext (show (y 1).val = ((y 0).val * 1024 + (y 1).val) % 1024 by omega)
  have a1 : part4_1 0 (ix3 0 (y 0) (y 1)) = Cert.Reference27Ideal.Read.idx_main_v13 (Cert.Reference27Ideal.Read.idx_main_v14 y) := by
    funext a
    match a with
    | ⟨0, _⟩ => rfl
    | ⟨1, _⟩ => exact Fin.ext (show (y 0).val = ((y 0).val * 1024 + (y 1).val) / 1024 % 128 by omega)
    | ⟨2, _⟩ => exact Fin.ext (show (y 1).val = ((y 0).val * 1024 + (y 1).val) % 1024 by omega)
  have a2 : ∀ k : Fin 3, part3_1 k (ix3 0 (y 0) (y 1)) = Cert.Reference27Ideal.Read.idx_main_v18 y k := fun k => by
    funext a
    match a with
    | ⟨0, _⟩ => rfl
    | ⟨1, _⟩ => rfl
    | ⟨2, _⟩ => rfl
  rw [a0, a1, a2, a2, a2]
  simp only [add_assoc]

theorem left1 (hO : Ok m) (c : Dev nD) (t : Fin (cfgM m hO).N) (y : S128x1024.Idx) :
    (outsAt0 m hO c t).2.1 y
      = Cert.Reference27Ideal.Read.val_main_v19 (m ((c : Thread nD τ).loc main_arg1)) (m ((c : Thread nD τ).loc main_arg5)) (m ((c : Thread nD τ).loc main_arg9)) y := by
  have key := out_val1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0) (m ((c : Thread nD τ).loc main_arg1)) (m ((c : Thread nD τ).loc main_arg5)) (m ((c : Thread nD τ).loc main_arg9)) (blk1 m hO c t) (blk5 m hO c t) (blk9 m hO c t) (blk13 m hO c t) (blk17 m hO c t) y
  unfold outsAt0
  dsimp only
  exact key

theorem whole1 (hO : Ok m) (t : Fin (cfgM m hO).N) (y : S128x1024.Idx) : (((cfgM m hO).win 21).blk t).view.emb y = y :=
  funext fun a => Fin.ext ((Pipeline.Window.rect_emb_val ((cfgM m hO).win 21) t y a).trans (by
    have h : ((cfgM m hO).win 21).index t a = 0 := (by decide +kernel : ∀ (t : Fin grid0.N) (a : Fin 2), cc0_transform_21 (grid0.coords t) a = 0) t a
    rw [h, Nat.zero_mul, Nat.zero_add]))

/-- The sum of array 1. -/
theorem final1 (hO : Ok m) (c : Dev nD) : (dats m hO 0 c).arrAt 21 (cfgM m hO).N
    = Cert.Reference27Ideal.Read.val_main_v19 (m ((c : Thread nD τ).loc main_arg1)) (m ((c : Thread nD τ).loc main_arg5)) (m ((c : Thread nD τ).loc main_arg9)) := by
  refine (dats m hO 0 c).arrAt_eq_of_covers 21 _ (covers1 m hO) fun t _ y => ?_
  refine (eq_of_heq (cast_heq _ _)).trans ?_
  refine (congrFun (after0_21 m hO c t) _).trans ?_
  refine (left1 m hO c t y).trans ?_
  exact congrArg (Cert.Reference27Ideal.Read.val_main_v19 (m ((c : Thread nD τ).loc main_arg1)) (m ((c : Thread nD τ).loc main_arg5)) (m ((c : Thread nD τ).loc main_arg9))) (whole1 m hO t y).symm

theorem covers2 (hO : Ok m) : ((cfgM m hO).win 22).Covers := by
  refine ⟨fun a => (by decide : ∀ a : Fin 2, 0 < S1024x512.size a) a, fun β => ⟨⟨0, Nat.one_pos⟩, flush0_22 (adm m hO) _, fun a => ?_⟩⟩
  have hb : (β a).val = 0 := Nat.lt_one_iff.mp (lt_of_lt_of_eq (β a).isLt ((by decide : ∀ a : Fin 2, (S1024x512.size a + S1024x512.size a - 1) / S1024x512.size a = 1) a))
  refine ⟨Eq.trans ?_ hb.symm, Or.inl rfl⟩
  exact (by decide +kernel : ∀ a : Fin 2, cc0_transform_22 (grid0.coords ⟨0, Nat.one_pos⟩) a = 0) a

/-- What the body writes is the sum of the five parts. -/
theorem out_val2 (c : Dev nD) (i : grid0.Coords) (arg2 : Memref sig .tc .vmem S1x432x1024 .bf16) (harg2 : arg2.IsWhole) (arg3 : Memref sig .tc .vmem S1x128x1024 .bf16) (harg3 : arg3.IsWhole) (arg4 : Memref sig .tc .vmem S1x1024x512 .bf16) (harg4 : arg4.IsWhole) (arg5 : Memref sig .tc .vmem S1x512x1024 .bf16) (harg5 : arg5.IsWhole) (arg6 : Memref sig .tc .vmem S1x432x1024 .bf16) (harg6 : arg6.IsWhole) (arg7 : Memref sig .tc .vmem S1x128x1024 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1x432x1024 .bf16) (harg10 : arg10.IsWhole) (arg11 : Memref sig .tc .vmem S1x128x1024 .bf16) (harg11 : arg11.IsWhole) (arg12 : Memref sig .tc .vmem S1x1024x512 .bf16) (harg12 : arg12.IsWhole) (arg13 : Memref sig .tc .vmem S1x512x1024 .bf16) (harg13 : arg13.IsWhole) (arg14 : Memref sig .tc .vmem S1x432x1024 .bf16) (harg14 : arg14.IsWhole) (arg15 : Memref sig .tc .vmem S1x128x1024 .bf16) (harg15 : arg15.IsWhole) (arg16 : Memref sig .tc .vmem S1x1024x512 .bf16) (harg16 : arg16.IsWhole) (arg17 : Memref sig .tc .vmem S1x512x1024 .bf16) (harg17 : arg17.IsWhole) (arg18 : Memref sig .tc .vmem S1x432x1024 .bf16) (harg18 : arg18.IsWhole) (arg19 : Memref sig .tc .vmem S1x128x1024 .bf16) (harg19 : arg19.IsWhole) (arg20 : Memref sig .tc .vmem S1x1024x512 .bf16) (harg20 : arg20.IsWhole) (arg21 : Memref sig .tc .vmem S1x512x1024 .bf16) (harg21 : arg21.IsWhole) (arg22 : Memref sig .tc .vmem S432x1024 .f32) (harg22 : arg22.IsWhole) (arg23 : Memref sig .tc .vmem S128x1024 .f32) (harg23 : arg23.IsWhole) (arg24 : Memref sig .tc .vmem S1024x512 .f32) (harg24 : arg24.IsWhole) (arg25 : Memref sig .tc .vmem S512x1024 .f32) (harg25 : arg25.IsWhole)
    (x0 : Vec Ideal S1x432x1024 .bf16) (x1 : Vec Ideal S1x128x1024 .bf16) (x2 : Vec Ideal S1x1024x512 .bf16) (x3 : Vec Ideal S1x512x1024 .bf16) (x4 : Vec Ideal S1x432x1024 .bf16) (x5 : Vec Ideal S1x128x1024 .bf16) (x6 : Vec Ideal S1x1024x512 .bf16) (x7 : Vec Ideal S1x512x1024 .bf16) (x8 : Vec Ideal S1x432x1024 .bf16) (x9 : Vec Ideal S1x128x1024 .bf16) (x10 : Vec Ideal S1x1024x512 .bf16) (x11 : Vec Ideal S1x512x1024 .bf16) (x12 : Vec Ideal S1x432x1024 .bf16) (x13 : Vec Ideal S1x128x1024 .bf16) (x14 : Vec Ideal S1x1024x512 .bf16) (x15 : Vec Ideal S1x512x1024 .bf16) (x16 : Vec Ideal S1x432x1024 .bf16) (x17 : Vec Ideal S1x128x1024 .bf16) (x18 : Vec Ideal S1x1024x512 .bf16) (x19 : Vec Ideal S1x512x1024 .bf16) (xt0 : TbBuf0 (F := Ideal) c tbM0_0)
    (A : Vec Ideal S8x1024x512 .bf16) (B : Vec Ideal S4x1024x512 .bf16) (C : Vec Ideal S3x1024x512 .bf16)
    (h0 : ∀ y, x2 y = A (part8_2 0 y))
    (h1 : ∀ y, x6 y = B (part4_2 0 y))
    (h2 : ∀ y, x10 y = C (part3_2 0 y))
    (h3 : ∀ y, x14 y = C (part3_2 1 y))
    (h4 : ∀ y, x18 y = C (part3_2 2 y))
    (y : S1024x512.Idx) :
    out0_A_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 xt0 y = Cert.Reference27Ideal.Read.val_main_v29 A B C y := by
  frame_out
  simp only [Cert.Reference27Ideal.Read.val_main_v0_apply, Cert.Reference27Ideal.Read.val_main_v1_apply, Cert.Reference27Ideal.Read.val_main_v2_apply, Cert.Reference27Ideal.Read.val_main_v3_apply, Cert.Reference27Ideal.Read.val_main_v4_apply, Cert.Reference27Ideal.Read.val_main_v5_apply, Cert.Reference27Ideal.Read.val_main_v6_apply, Cert.Reference27Ideal.Read.val_main_v7_apply, Cert.Reference27Ideal.Read.val_main_cst_apply, Cert.Reference27Ideal.Read.val_main_v8_apply, Cert.Reference27Ideal.Read.val_main_v9_apply, Cert.Reference27Ideal.Read.val_main_v10_apply, Cert.Reference27Ideal.Read.val_main_v11_apply, Cert.Reference27Ideal.Read.val_main_v12_apply, Cert.Reference27Ideal.Read.val_main_v13_apply, Cert.Reference27Ideal.Read.val_main_v14_apply, Cert.Reference27Ideal.Read.val_main_v15_apply, Cert.Reference27Ideal.Read.val_main_v16_apply, Cert.Reference27Ideal.Read.val_main_v17_apply, Cert.Reference27Ideal.Read.val_main_cst_0_apply, Cert.Reference27Ideal.Read.val_main_v18_apply, Cert.Reference27Ideal.Read.val_main_v19_apply, Cert.Reference27Ideal.Read.val_main_v20_apply, Cert.Reference27Ideal.Read.val_main_v21_apply, Cert.Reference27Ideal.Read.val_main_v22_apply, Cert.Reference27Ideal.Read.val_main_v23_apply, Cert.Reference27Ideal.Read.val_main_v24_apply, Cert.Reference27Ideal.Read.val_main_v25_apply, Cert.Reference27Ideal.Read.val_main_v26_apply, Cert.Reference27Ideal.Read.val_main_v27_apply, Cert.Reference27Ideal.Read.val_main_cst_1_apply, Cert.Reference27Ideal.Read.val_main_v28_apply, Cert.Reference27Ideal.Read.val_main_v29_apply, Cert.Reference27Ideal.Read.val_main_v30_apply, Cert.Reference27Ideal.Read.val_main_v31_apply, Cert.Reference27Ideal.Read.val_main_v32_apply, Cert.Reference27Ideal.Read.val_main_v33_apply, Cert.Reference27Ideal.Read.val_main_v34_apply, Cert.Reference27Ideal.Read.val_main_v35_apply, Cert.Reference27Ideal.Read.val_main_v36_apply, Cert.Reference27Ideal.Read.val_main_v37_apply, Cert.Reference27Ideal.Read.val_main_cst_2_apply, Cert.Reference27Ideal.Read.val_main_v38_apply, Cert.Reference27Ideal.Read.val_main_v39_apply, Fin.sum_univ_three]
  pointwise [k0_pay1, k0_pay2, k0_pay3, k0_pay4, k0_pay5, k0_pay6]
  rw [h0, h1, h2, h3, h4]
  have b0 : (y 0).val < 1024 := (y 0).isLt
  have b1 : (y 1).val < 512 := (y 1).isLt
  have a0 : part8_2 0 (ix3 0 (y 0) (y 1)) = Cert.Reference27Ideal.Read.idx_main_v20 (Cert.Reference27Ideal.Read.idx_main_v21 y) := by
    funext a
    match a with
    | ⟨0, _⟩ => rfl
    | ⟨1, _⟩ => exact Fin.ext (show (y 0).val = ((y 0).val * 512 + (y 1).val) / 512 % 1024 by omega)
    | ⟨2, _⟩ => exact Fin.ext (show (y 1).val = ((y 0).val * 512 + (y 1).val) % 512 by omega)
  have a1 : part4_2 0 (ix3 0 (y 0) (y 1)) = Cert.Reference27Ideal.Read.idx_main_v23 (Cert.Reference27Ideal.Read.idx_main_v24 y) := by
    funext a
    match a with
    | ⟨0, _⟩ => rfl
    | ⟨1, _⟩ => exact Fin.ext (show (y 0).val = ((y 0).val * 512 + (y 1).val) / 512 % 1024 by omega)
    | ⟨2, _⟩ => exact Fin.ext (show (y 1).val = ((y 0).val * 512 + (y 1).val) % 512 by omega)
  have a2 : ∀ k : Fin 3, part3_2 k (ix3 0 (y 0) (y 1)) = Cert.Reference27Ideal.Read.idx_main_v28 y k := fun k => by
    funext a
    match a with
    | ⟨0, _⟩ => rfl
    | ⟨1, _⟩ => rfl
    | ⟨2, _⟩ => rfl
  rw [a0, a1, a2, a2, a2]
  simp only [add_assoc]

theorem left2 (hO : Ok m) (c : Dev nD) (t : Fin (cfgM m hO).N) (y : S1024x512.Idx) :
    (outsAt0 m hO c t).2.2.1 y
      = Cert.Reference27Ideal.Read.val_main_v29 (m ((c : Thread nD τ).loc main_arg2)) (m ((c : Thread nD τ).loc main_arg6)) (m ((c : Thread nD τ).loc main_arg10)) y := by
  have key := out_val2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0) (m ((c : Thread nD τ).loc main_arg2)) (m ((c : Thread nD τ).loc main_arg6)) (m ((c : Thread nD τ).loc main_arg10)) (blk2 m hO c t) (blk6 m hO c t) (blk10 m hO c t) (blk14 m hO c t) (blk18 m hO c t) y
  unfold outsAt0
  dsimp only
  exact key

theorem whole2 (hO : Ok m) (t : Fin (cfgM m hO).N) (y : S1024x512.Idx) : (((cfgM m hO).win 22).blk t).view.emb y = y :=
  funext fun a => Fin.ext ((Pipeline.Window.rect_emb_val ((cfgM m hO).win 22) t y a).trans (by
    have h : ((cfgM m hO).win 22).index t a = 0 := (by decide +kernel : ∀ (t : Fin grid0.N) (a : Fin 2), cc0_transform_22 (grid0.coords t) a = 0) t a
    rw [h, Nat.zero_mul, Nat.zero_add]))

/-- The sum of array 2. -/
theorem final2 (hO : Ok m) (c : Dev nD) : (dats m hO 0 c).arrAt 22 (cfgM m hO).N
    = Cert.Reference27Ideal.Read.val_main_v29 (m ((c : Thread nD τ).loc main_arg2)) (m ((c : Thread nD τ).loc main_arg6)) (m ((c : Thread nD τ).loc main_arg10)) := by
  refine (dats m hO 0 c).arrAt_eq_of_covers 22 _ (covers2 m hO) fun t _ y => ?_
  refine (eq_of_heq (cast_heq _ _)).trans ?_
  refine (congrFun (after0_22 m hO c t) _).trans ?_
  refine (left2 m hO c t y).trans ?_
  exact congrArg (Cert.Reference27Ideal.Read.val_main_v29 (m ((c : Thread nD τ).loc main_arg2)) (m ((c : Thread nD τ).loc main_arg6)) (m ((c : Thread nD τ).loc main_arg10))) (whole2 m hO t y).symm

theorem covers3 (hO : Ok m) : ((cfgM m hO).win 23).Covers := by
  refine ⟨fun a => (by decide : ∀ a : Fin 2, 0 < S512x1024.size a) a, fun β => ⟨⟨0, Nat.one_pos⟩, flush0_23 (adm m hO) _, fun a => ?_⟩⟩
  have hb : (β a).val = 0 := Nat.lt_one_iff.mp (lt_of_lt_of_eq (β a).isLt ((by decide : ∀ a : Fin 2, (S512x1024.size a + S512x1024.size a - 1) / S512x1024.size a = 1) a))
  refine ⟨Eq.trans ?_ hb.symm, Or.inl rfl⟩
  exact (by decide +kernel : ∀ a : Fin 2, cc0_transform_23 (grid0.coords ⟨0, Nat.one_pos⟩) a = 0) a

/-- What the body writes is the sum of the five parts. -/
theorem out_val3 (c : Dev nD) (i : grid0.Coords) (arg2 : Memref sig .tc .vmem S1x432x1024 .bf16) (harg2 : arg2.IsWhole) (arg3 : Memref sig .tc .vmem S1x128x1024 .bf16) (harg3 : arg3.IsWhole) (arg4 : Memref sig .tc .vmem S1x1024x512 .bf16) (harg4 : arg4.IsWhole) (arg5 : Memref sig .tc .vmem S1x512x1024 .bf16) (harg5 : arg5.IsWhole) (arg6 : Memref sig .tc .vmem S1x432x1024 .bf16) (harg6 : arg6.IsWhole) (arg7 : Memref sig .tc .vmem S1x128x1024 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1x432x1024 .bf16) (harg10 : arg10.IsWhole) (arg11 : Memref sig .tc .vmem S1x128x1024 .bf16) (harg11 : arg11.IsWhole) (arg12 : Memref sig .tc .vmem S1x1024x512 .bf16) (harg12 : arg12.IsWhole) (arg13 : Memref sig .tc .vmem S1x512x1024 .bf16) (harg13 : arg13.IsWhole) (arg14 : Memref sig .tc .vmem S1x432x1024 .bf16) (harg14 : arg14.IsWhole) (arg15 : Memref sig .tc .vmem S1x128x1024 .bf16) (harg15 : arg15.IsWhole) (arg16 : Memref sig .tc .vmem S1x1024x512 .bf16) (harg16 : arg16.IsWhole) (arg17 : Memref sig .tc .vmem S1x512x1024 .bf16) (harg17 : arg17.IsWhole) (arg18 : Memref sig .tc .vmem S1x432x1024 .bf16) (harg18 : arg18.IsWhole) (arg19 : Memref sig .tc .vmem S1x128x1024 .bf16) (harg19 : arg19.IsWhole) (arg20 : Memref sig .tc .vmem S1x1024x512 .bf16) (harg20 : arg20.IsWhole) (arg21 : Memref sig .tc .vmem S1x512x1024 .bf16) (harg21 : arg21.IsWhole) (arg22 : Memref sig .tc .vmem S432x1024 .f32) (harg22 : arg22.IsWhole) (arg23 : Memref sig .tc .vmem S128x1024 .f32) (harg23 : arg23.IsWhole) (arg24 : Memref sig .tc .vmem S1024x512 .f32) (harg24 : arg24.IsWhole) (arg25 : Memref sig .tc .vmem S512x1024 .f32) (harg25 : arg25.IsWhole)
    (x0 : Vec Ideal S1x432x1024 .bf16) (x1 : Vec Ideal S1x128x1024 .bf16) (x2 : Vec Ideal S1x1024x512 .bf16) (x3 : Vec Ideal S1x512x1024 .bf16) (x4 : Vec Ideal S1x432x1024 .bf16) (x5 : Vec Ideal S1x128x1024 .bf16) (x6 : Vec Ideal S1x1024x512 .bf16) (x7 : Vec Ideal S1x512x1024 .bf16) (x8 : Vec Ideal S1x432x1024 .bf16) (x9 : Vec Ideal S1x128x1024 .bf16) (x10 : Vec Ideal S1x1024x512 .bf16) (x11 : Vec Ideal S1x512x1024 .bf16) (x12 : Vec Ideal S1x432x1024 .bf16) (x13 : Vec Ideal S1x128x1024 .bf16) (x14 : Vec Ideal S1x1024x512 .bf16) (x15 : Vec Ideal S1x512x1024 .bf16) (x16 : Vec Ideal S1x432x1024 .bf16) (x17 : Vec Ideal S1x128x1024 .bf16) (x18 : Vec Ideal S1x1024x512 .bf16) (x19 : Vec Ideal S1x512x1024 .bf16) (xt0 : TbBuf0 (F := Ideal) c tbM0_0)
    (A : Vec Ideal S8x512x1024 .bf16) (B : Vec Ideal S4x512x1024 .bf16) (C : Vec Ideal S3x512x1024 .bf16)
    (h0 : ∀ y, x3 y = A (part8_3 0 y))
    (h1 : ∀ y, x7 y = B (part4_3 0 y))
    (h2 : ∀ y, x11 y = C (part3_3 0 y))
    (h3 : ∀ y, x15 y = C (part3_3 1 y))
    (h4 : ∀ y, x19 y = C (part3_3 2 y))
    (y : S512x1024.Idx) :
    out0_A_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 xt0 y = Cert.Reference27Ideal.Read.val_main_v39 A B C y := by
  frame_out
  simp only [Cert.Reference27Ideal.Read.val_main_v0_apply, Cert.Reference27Ideal.Read.val_main_v1_apply, Cert.Reference27Ideal.Read.val_main_v2_apply, Cert.Reference27Ideal.Read.val_main_v3_apply, Cert.Reference27Ideal.Read.val_main_v4_apply, Cert.Reference27Ideal.Read.val_main_v5_apply, Cert.Reference27Ideal.Read.val_main_v6_apply, Cert.Reference27Ideal.Read.val_main_v7_apply, Cert.Reference27Ideal.Read.val_main_cst_apply, Cert.Reference27Ideal.Read.val_main_v8_apply, Cert.Reference27Ideal.Read.val_main_v9_apply, Cert.Reference27Ideal.Read.val_main_v10_apply, Cert.Reference27Ideal.Read.val_main_v11_apply, Cert.Reference27Ideal.Read.val_main_v12_apply, Cert.Reference27Ideal.Read.val_main_v13_apply, Cert.Reference27Ideal.Read.val_main_v14_apply, Cert.Reference27Ideal.Read.val_main_v15_apply, Cert.Reference27Ideal.Read.val_main_v16_apply, Cert.Reference27Ideal.Read.val_main_v17_apply, Cert.Reference27Ideal.Read.val_main_cst_0_apply, Cert.Reference27Ideal.Read.val_main_v18_apply, Cert.Reference27Ideal.Read.val_main_v19_apply, Cert.Reference27Ideal.Read.val_main_v20_apply, Cert.Reference27Ideal.Read.val_main_v21_apply, Cert.Reference27Ideal.Read.val_main_v22_apply, Cert.Reference27Ideal.Read.val_main_v23_apply, Cert.Reference27Ideal.Read.val_main_v24_apply, Cert.Reference27Ideal.Read.val_main_v25_apply, Cert.Reference27Ideal.Read.val_main_v26_apply, Cert.Reference27Ideal.Read.val_main_v27_apply, Cert.Reference27Ideal.Read.val_main_cst_1_apply, Cert.Reference27Ideal.Read.val_main_v28_apply, Cert.Reference27Ideal.Read.val_main_v29_apply, Cert.Reference27Ideal.Read.val_main_v30_apply, Cert.Reference27Ideal.Read.val_main_v31_apply, Cert.Reference27Ideal.Read.val_main_v32_apply, Cert.Reference27Ideal.Read.val_main_v33_apply, Cert.Reference27Ideal.Read.val_main_v34_apply, Cert.Reference27Ideal.Read.val_main_v35_apply, Cert.Reference27Ideal.Read.val_main_v36_apply, Cert.Reference27Ideal.Read.val_main_v37_apply, Cert.Reference27Ideal.Read.val_main_cst_2_apply, Cert.Reference27Ideal.Read.val_main_v38_apply, Cert.Reference27Ideal.Read.val_main_v39_apply, Fin.sum_univ_three]
  pointwise [k0_pay1, k0_pay2, k0_pay3, k0_pay4, k0_pay5, k0_pay6]
  rw [h0, h1, h2, h3, h4]
  have b0 : (y 0).val < 512 := (y 0).isLt
  have b1 : (y 1).val < 1024 := (y 1).isLt
  have a0 : part8_3 0 (ix3 0 (y 0) (y 1)) = Cert.Reference27Ideal.Read.idx_main_v30 (Cert.Reference27Ideal.Read.idx_main_v31 y) := by
    funext a
    match a with
    | ⟨0, _⟩ => rfl
    | ⟨1, _⟩ => exact Fin.ext (show (y 0).val = ((y 0).val * 1024 + (y 1).val) / 1024 % 512 by omega)
    | ⟨2, _⟩ => exact Fin.ext (show (y 1).val = ((y 0).val * 1024 + (y 1).val) % 1024 by omega)
  have a1 : part4_3 0 (ix3 0 (y 0) (y 1)) = Cert.Reference27Ideal.Read.idx_main_v33 (Cert.Reference27Ideal.Read.idx_main_v34 y) := by
    funext a
    match a with
    | ⟨0, _⟩ => rfl
    | ⟨1, _⟩ => exact Fin.ext (show (y 0).val = ((y 0).val * 1024 + (y 1).val) / 1024 % 512 by omega)
    | ⟨2, _⟩ => exact Fin.ext (show (y 1).val = ((y 0).val * 1024 + (y 1).val) % 1024 by omega)
  have a2 : ∀ k : Fin 3, part3_3 k (ix3 0 (y 0) (y 1)) = Cert.Reference27Ideal.Read.idx_main_v38 y k := fun k => by
    funext a
    match a with
    | ⟨0, _⟩ => rfl
    | ⟨1, _⟩ => rfl
    | ⟨2, _⟩ => rfl
  rw [a0, a1, a2, a2, a2]
  simp only [add_assoc]

theorem left3 (hO : Ok m) (c : Dev nD) (t : Fin (cfgM m hO).N) (y : S512x1024.Idx) :
    (outsAt0 m hO c t).2.2.2 y
      = Cert.Reference27Ideal.Read.val_main_v39 (m ((c : Thread nD τ).loc main_arg3)) (m ((c : Thread nD τ).loc main_arg7)) (m ((c : Thread nD τ).loc main_arg11)) y := by
  have key := out_val3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0) (m ((c : Thread nD τ).loc main_arg3)) (m ((c : Thread nD τ).loc main_arg7)) (m ((c : Thread nD τ).loc main_arg11)) (blk3 m hO c t) (blk7 m hO c t) (blk11 m hO c t) (blk15 m hO c t) (blk19 m hO c t) y
  unfold outsAt0
  dsimp only
  exact key

theorem whole3 (hO : Ok m) (t : Fin (cfgM m hO).N) (y : S512x1024.Idx) : (((cfgM m hO).win 23).blk t).view.emb y = y :=
  funext fun a => Fin.ext ((Pipeline.Window.rect_emb_val ((cfgM m hO).win 23) t y a).trans (by
    have h : ((cfgM m hO).win 23).index t a = 0 := (by decide +kernel : ∀ (t : Fin grid0.N) (a : Fin 2), cc0_transform_23 (grid0.coords t) a = 0) t a
    rw [h, Nat.zero_mul, Nat.zero_add]))

/-- The sum of array 3. -/
theorem final3 (hO : Ok m) (c : Dev nD) : (dats m hO 0 c).arrAt 23 (cfgM m hO).N
    = Cert.Reference27Ideal.Read.val_main_v39 (m ((c : Thread nD τ).loc main_arg3)) (m ((c : Thread nD τ).loc main_arg7)) (m ((c : Thread nD τ).loc main_arg11)) := by
  refine (dats m hO 0 c).arrAt_eq_of_covers 23 _ (covers3 m hO) fun t _ y => ?_
  refine (eq_of_heq (cast_heq _ _)).trans ?_
  refine (congrFun (after0_23 m hO c t) _).trans ?_
  refine (left3 m hO c t y).trans ?_
  exact congrArg (Cert.Reference27Ideal.Read.val_main_v39 (m ((c : Thread nD τ).loc main_arg3)) (m ((c : Thread nD τ).loc main_arg7)) (m ((c : Thread nD τ).loc main_arg11))) (whole3 m hO t y).symm

/-- A run of the kernel ends with the sums in its results and its arguments unchanged. -/
theorem run_value (ρ : Dev nD → PrngReg) : θ_run defs (onTc (τ := τ) (main (F := Ideal))) ⟨m, fun _ => 0, ρ⟩ (fun r => ∀ c : Dev nD,
    r.2.mem ((c.tc : Thread nD τ).loc main_v3_0) = Cert.Reference27Ideal.Read.val_main_v9 (m ((c.tc : Thread nD τ).loc main_arg0)) (m ((c.tc : Thread nD τ).loc main_arg4)) (m ((c.tc : Thread nD τ).loc main_arg8)) ∧
    r.2.mem ((c.tc : Thread nD τ).loc main_v3_1) = Cert.Reference27Ideal.Read.val_main_v19 (m ((c.tc : Thread nD τ).loc main_arg1)) (m ((c.tc : Thread nD τ).loc main_arg5)) (m ((c.tc : Thread nD τ).loc main_arg9)) ∧
    r.2.mem ((c.tc : Thread nD τ).loc main_v3_2) = Cert.Reference27Ideal.Read.val_main_v29 (m ((c.tc : Thread nD τ).loc main_arg2)) (m ((c.tc : Thread nD τ).loc main_arg6)) (m ((c.tc : Thread nD τ).loc main_arg10)) ∧
    r.2.mem ((c.tc : Thread nD τ).loc main_v3_3) = Cert.Reference27Ideal.Read.val_main_v39 (m ((c.tc : Thread nD τ).loc main_arg3)) (m ((c.tc : Thread nD τ).loc main_arg7)) (m ((c.tc : Thread nD τ).loc main_arg11)) ∧
    r.2.mem ((c.tc : Thread nD τ).loc main_arg0) = m ((c.tc : Thread nD τ).loc main_arg0) ∧
    r.2.mem ((c.tc : Thread nD τ).loc main_arg1) = m ((c.tc : Thread nD τ).loc main_arg1) ∧
    r.2.mem ((c.tc : Thread nD τ).loc main_arg2) = m ((c.tc : Thread nD τ).loc main_arg2) ∧
    r.2.mem ((c.tc : Thread nD τ).loc main_arg3) = m ((c.tc : Thread nD τ).loc main_arg3) ∧
    r.2.mem ((c.tc : Thread nD τ).loc main_arg4) = m ((c.tc : Thread nD τ).loc main_arg4) ∧
    r.2.mem ((c.tc : Thread nD τ).loc main_arg5) = m ((c.tc : Thread nD τ).loc main_arg5) ∧
    r.2.mem ((c.tc : Thread nD τ).loc main_arg6) = m ((c.tc : Thread nD τ).loc main_arg6) ∧
    r.2.mem ((c.tc : Thread nD τ).loc main_arg7) = m ((c.tc : Thread nD τ).loc main_arg7) ∧
    r.2.mem ((c.tc : Thread nD τ).loc main_arg8) = m ((c.tc : Thread nD τ).loc main_arg8) ∧
    r.2.mem ((c.tc : Thread nD τ).loc main_arg9) = m ((c.tc : Thread nD τ).loc main_arg9) ∧
    r.2.mem ((c.tc : Thread nD τ).loc main_arg10) = m ((c.tc : Thread nD τ).loc main_arg10) ∧
    r.2.mem ((c.tc : Thread nD τ).loc main_arg11) = m ((c.tc : Thread nD τ).loc main_arg11)) :=
  (θ_run defs _ _).mono (fun r h c => ⟨((h.1 c).1 20).trans (final0 m (ok m) c), ((h.1 c).1 21).trans (final1 m (ok m) c), ((h.1 c).1 22).trans (final2 m (ok m) c), ((h.1 c).1 23).trans (final3 m (ok m) c), h.2 c⟩)
    (θ_run_and (run_main m ρ (ok m)) (unchanged m ρ (ok m)))

end Cert.Kernel27Ideal.SumEarly1

end
-- ==== Proof.SumEarly0.lean ====
/- The last sums of the first layer's large gradients are the reference's. The kernel finds this device's part and its sibling's by a table of two places that
   the host writes; both are 0. -/
module

public import proofs.«01_k».proof.Proof.Gen.Kernel28.Frame
public import proofs.«01_k».proof.Proof.Gen.Kernel28Ideal.Frame
public import proofs.«01_k».proof.Proof.Gen.Reference28Ideal.Run
public import proofs.«01_k».proof.Proof.Gen.Reference28Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.StableHlo

namespace Cert.Kernel28.SumEarly0

open Cert.Kernel28 Cert.Kernel28.Gen

theorem inside8_0 : ∃ h : (∀ a, ((![0, 0, 0] : Fin 3 → Nat) a + 1) * S1x128x1024.size a ≤ S8x128x1024.size a),
    EltTy.bits .bf16 = 32 ∨ (Rect.block (s := S8x128x1024) S1x128x1024.size ![0, 0, 0] h).WholeWords (EltTy.packing .bf16) := by decide +kernel

theorem inside8_1 : ∃ h : (∀ a, ((![0, 0, 0] : Fin 3 → Nat) a + 1) * S1x1024x512.size a ≤ S8x1024x512.size a),
    EltTy.bits .bf16 = 32 ∨ (Rect.block (s := S8x1024x512) S1x1024x512.size ![0, 0, 0] h).WholeWords (EltTy.packing .bf16) := by decide +kernel

theorem inside8_2 : ∃ h : (∀ a, ((![0, 0, 0] : Fin 3 → Nat) a + 1) * S1x512x1024.size a ≤ S8x512x1024.size a),
    EltTy.bits .bf16 = 32 ∨ (Rect.block (s := S8x512x1024) S1x512x1024.size ![0, 0, 0] h).WholeWords (EltTy.packing .bf16) := by decide +kernel

theorem inside4_0 : ∃ h : (∀ a, ((![0, 0, 0] : Fin 3 → Nat) a + 1) * S1x128x1024.size a ≤ S4x128x1024.size a),
    EltTy.bits .bf16 = 32 ∨ (Rect.block (s := S4x128x1024) S1x128x1024.size ![0, 0, 0] h).WholeWords (EltTy.packing .bf16) := by decide +kernel

theorem inside4_1 : ∃ h : (∀ a, ((![0, 0, 0] : Fin 3 → Nat) a + 1) * S1x1024x512.size a ≤ S4x1024x512.size a),
    EltTy.bits .bf16 = 32 ∨ (Rect.block (s := S4x1024x512) S1x1024x512.size ![0, 0, 0] h).WholeWords (EltTy.packing .bf16) := by decide +kernel

theorem inside4_2 : ∃ h : (∀ a, ((![0, 0, 0] : Fin 3 → Nat) a + 1) * S1x512x1024.size a ≤ S4x512x1024.size a),
    EltTy.bits .bf16 = 32 ∨ (Rect.block (s := S4x512x1024) S1x512x1024.size ![0, 0, 0] h).WholeWords (EltTy.packing .bf16) := by decide +kernel

section
variable {F : FTy → Type} [FloatOps F] (m : (ℓ : Loc nD τ sig) → Buf (Elt F) ℓ)

/-- The host's table of places. -/
def places : (⟨S2, .i32⟩ : BufTy).Contents (Elt F) := fun _ => (0#32 : BitVec 32)

theorem table_eq : V m 0 main_v2 = places (F := F) := by
  refine Eq.trans (by unfold V; after_results) ?_
  funext x
  obtain ⟨k, rfl⟩ : ∃ k : Fin 2, x = (fun a => match a with | ⟨0, _⟩ => k : S2.Idx) :=
    ⟨x 0, funext fun a => by match a with | ⟨0, _⟩ => rfl⟩
  fin_cases k <;> rfl

/-- The word an index map reads. -/
theorem word (k : Nat) (h : ∀ a, (![k] : Fin 1 → Nat) a + S1.size a ≤ S2.size a) (h1 : S1.numel = 1) :
    (tbl m).at 0 (Rect.unit (s := S2) ![k] S1.size h) h1 = 0#32 := by
  refine (congrFun (table_eq m) ((Rect.unit (s := S2) ![k] S1.size h).point h1)).trans ?_
  rfl

theorem map0 (i : grid0.Coords) : cc0_transform_0 inb_S2_S1_0 numel1_S1 (tbl m) i = ![0, 0, 0] := by
  unfold cc0_transform_0
  rw [word]
  rfl

theorem map1 (i : grid0.Coords) : cc0_transform_1 inb_S2_S1_0 numel1_S1 (tbl m) i = ![0, 0, 0] := by
  unfold cc0_transform_1
  rw [word]
  rfl

theorem map2 (i : grid0.Coords) : cc0_transform_2 inb_S2_S1_0 numel1_S1 (tbl m) i = ![0, 0, 0] := by
  unfold cc0_transform_2
  rw [word]
  rfl

theorem map3 (i : grid0.Coords) : cc0_transform_3 inb_S2_S1_1 numel1_S1 (tbl m) i = ![0, 0, 0] := by
  unfold cc0_transform_3
  rw [word]
  rfl

theorem map4 (i : grid0.Coords) : cc0_transform_4 inb_S2_S1_1 numel1_S1 (tbl m) i = ![0, 0, 0] := by
  unfold cc0_transform_4
  rw [word]
  rfl

theorem map5 (i : grid0.Coords) : cc0_transform_5 inb_S2_S1_1 numel1_S1 (tbl m) i = ![0, 0, 0] := by
  unfold cc0_transform_5
  rw [word]
  rfl

/-- Every part lies inside its array. -/
theorem ok : Ok m := by
  unfold Ok ok0
  simp only [map0, map1, map2, map3, map4, map5]
  exact ⟨fun _ => inside8_0, fun _ => inside8_1, fun _ => inside8_2, fun _ => inside4_0, fun _ => inside4_1, fun _ => inside4_2⟩

end

end Cert.Kernel28.SumEarly0

namespace Cert.Kernel28Ideal.SumEarly0

open Cert.Kernel28Ideal Cert.Kernel28Ideal.Gen

theorem inside8_0 : ∃ h : (∀ a, ((![0, 0, 0] : Fin 3 → Nat) a + 1) * S1x128x1024.size a ≤ S8x128x1024.size a),
    EltTy.bits .bf16 = 32 ∨ (Rect.block (s := S8x128x1024) S1x128x1024.size ![0, 0, 0] h).WholeWords (EltTy.packing .bf16) := by decide +kernel

theorem inside8_1 : ∃ h : (∀ a, ((![0, 0, 0] : Fin 3 → Nat) a + 1) * S1x1024x512.size a ≤ S8x1024x512.size a),
    EltTy.bits .bf16 = 32 ∨ (Rect.block (s := S8x1024x512) S1x1024x512.size ![0, 0, 0] h).WholeWords (EltTy.packing .bf16) := by decide +kernel

theorem inside8_2 : ∃ h : (∀ a, ((![0, 0, 0] : Fin 3 → Nat) a + 1) * S1x512x1024.size a ≤ S8x512x1024.size a),
    EltTy.bits .bf16 = 32 ∨ (Rect.block (s := S8x512x1024) S1x512x1024.size ![0, 0, 0] h).WholeWords (EltTy.packing .bf16) := by decide +kernel

theorem inside4_0 : ∃ h : (∀ a, ((![0, 0, 0] : Fin 3 → Nat) a + 1) * S1x128x1024.size a ≤ S4x128x1024.size a),
    EltTy.bits .bf16 = 32 ∨ (Rect.block (s := S4x128x1024) S1x128x1024.size ![0, 0, 0] h).WholeWords (EltTy.packing .bf16) := by decide +kernel

theorem inside4_1 : ∃ h : (∀ a, ((![0, 0, 0] : Fin 3 → Nat) a + 1) * S1x1024x512.size a ≤ S4x1024x512.size a),
    EltTy.bits .bf16 = 32 ∨ (Rect.block (s := S4x1024x512) S1x1024x512.size ![0, 0, 0] h).WholeWords (EltTy.packing .bf16) := by decide +kernel

theorem inside4_2 : ∃ h : (∀ a, ((![0, 0, 0] : Fin 3 → Nat) a + 1) * S1x512x1024.size a ≤ S4x512x1024.size a),
    EltTy.bits .bf16 = 32 ∨ (Rect.block (s := S4x512x1024) S1x512x1024.size ![0, 0, 0] h).WholeWords (EltTy.packing .bf16) := by decide +kernel

section
variable {F : FTy → Type} [FloatOps F] (m : (ℓ : Loc nD τ sig) → Buf (Elt F) ℓ)

/-- The host's table of places. -/
def places : (⟨S2, .i32⟩ : BufTy).Contents (Elt F) := fun _ => (0#32 : BitVec 32)

theorem table_eq : V m 0 main_v2 = places (F := F) := by
  refine Eq.trans (by unfold V; after_results) ?_
  funext x
  obtain ⟨k, rfl⟩ : ∃ k : Fin 2, x = (fun a => match a with | ⟨0, _⟩ => k : S2.Idx) :=
    ⟨x 0, funext fun a => by match a with | ⟨0, _⟩ => rfl⟩
  fin_cases k <;> rfl

/-- The word an index map reads. -/
theorem word (k : Nat) (h : ∀ a, (![k] : Fin 1 → Nat) a + S1.size a ≤ S2.size a) (h1 : S1.numel = 1) :
    (tbl m).at 0 (Rect.unit (s := S2) ![k] S1.size h) h1 = 0#32 := by
  refine (congrFun (table_eq m) ((Rect.unit (s := S2) ![k] S1.size h).point h1)).trans ?_
  rfl

theorem map0 (i : grid0.Coords) : cc0_transform_0 inb_S2_S1_0 numel1_S1 (tbl m) i = ![0, 0, 0] := by
  unfold cc0_transform_0
  rw [word]
  rfl

theorem map1 (i : grid0.Coords) : cc0_transform_1 inb_S2_S1_0 numel1_S1 (tbl m) i = ![0, 0, 0] := by
  unfold cc0_transform_1
  rw [word]
  rfl

theorem map2 (i : grid0.Coords) : cc0_transform_2 inb_S2_S1_0 numel1_S1 (tbl m) i = ![0, 0, 0] := by
  unfold cc0_transform_2
  rw [word]
  rfl

theorem map3 (i : grid0.Coords) : cc0_transform_3 inb_S2_S1_1 numel1_S1 (tbl m) i = ![0, 0, 0] := by
  unfold cc0_transform_3
  rw [word]
  rfl

theorem map4 (i : grid0.Coords) : cc0_transform_4 inb_S2_S1_1 numel1_S1 (tbl m) i = ![0, 0, 0] := by
  unfold cc0_transform_4
  rw [word]
  rfl

theorem map5 (i : grid0.Coords) : cc0_transform_5 inb_S2_S1_1 numel1_S1 (tbl m) i = ![0, 0, 0] := by
  unfold cc0_transform_5
  rw [word]
  rfl

/-- Every part lies inside its array. -/
theorem ok : Ok m := by
  unfold Ok ok0
  simp only [map0, map1, map2, map3, map4, map5]
  exact ⟨fun _ => inside8_0, fun _ => inside8_1, fun _ => inside8_2, fun _ => inside4_0, fun _ => inside4_1, fun _ => inside4_2⟩

end

variable (m : (ℓ : Loc nD τ sig) → Buf (Elt Ideal) ℓ)

/-- The place of an entry of the part `k` in the whole array. -/
def part8_0 (k : Fin 8) (y : S1x128x1024.Idx) : S8x128x1024.Idx := fun a => match a with
  | ⟨0, _⟩ => k
  | ⟨1, _⟩ => y 1
  | ⟨2, _⟩ => y 2

theorem place8_0 (k : Fin 8) (y : S1x128x1024.Idx) (a : Fin 3) :
    (![k.val, 0, 0] : Fin 3 → Nat) a * S1x128x1024.size a + (y a).val = (part8_0 k y a).val := by
  have h' : (y 0).val = 0 := Nat.lt_one_iff.mp (y 0).isLt
  match a with
  | ⟨0, _⟩ => show k.val * 1 + (y 0).val = k.val; omega
  | ⟨1, _⟩ => show 0 * 128 + (y 1).val = (y 1).val; omega
  | ⟨2, _⟩ => show 0 * 1024 + (y 2).val = (y 2).val; omega

/-- The place of an entry of the part `k` in the whole array. -/
def part4_0 (k : Fin 4) (y : S1x128x1024.Idx) : S4x128x1024.Idx := fun a => match a with
  | ⟨0, _⟩ => k
  | ⟨1, _⟩ => y 1
  | ⟨2, _⟩ => y 2

theorem place4_0 (k : Fin 4) (y : S1x128x1024.Idx) (a : Fin 3) :
    (![k.val, 0, 0] : Fin 3 → Nat) a * S1x128x1024.size a + (y a).val = (part4_0 k y a).val := by
  have h' : (y 0).val = 0 := Nat.lt_one_iff.mp (y 0).isLt
  match a with
  | ⟨0, _⟩ => show k.val * 1 + (y 0).val = k.val; omega
  | ⟨1, _⟩ => show 0 * 128 + (y 1).val = (y 1).val; omega
  | ⟨2, _⟩ => show 0 * 1024 + (y 2).val = (y 2).val; omega

/-- The place of an entry of the part `k` in the whole array. -/
def part3_0 (k : Fin 3) (y : S1x128x1024.Idx) : S3x128x1024.Idx := fun a => match a with
  | ⟨0, _⟩ => k
  | ⟨1, _⟩ => y 1
  | ⟨2, _⟩ => y 2

theorem place3_0 (k : Fin 3) (y : S1x128x1024.Idx) (a : Fin 3) :
    (![k.val, 0, 0] : Fin 3 → Nat) a * S1x128x1024.size a + (y a).val = (part3_0 k y a).val := by
  have h' : (y 0).val = 0 := Nat.lt_one_iff.mp (y 0).isLt
  match a with
  | ⟨0, _⟩ => show k.val * 1 + (y 0).val = k.val; omega
  | ⟨1, _⟩ => show 0 * 128 + (y 1).val = (y 1).val; omega
  | ⟨2, _⟩ => show 0 * 1024 + (y 2).val = (y 2).val; omega

/-- The place of an entry of the part `k` in the whole array. -/
def part8_1 (k : Fin 8) (y : S1x1024x512.Idx) : S8x1024x512.Idx := fun a => match a with
  | ⟨0, _⟩ => k
  | ⟨1, _⟩ => y 1
  | ⟨2, _⟩ => y 2

theorem place8_1 (k : Fin 8) (y : S1x1024x512.Idx) (a : Fin 3) :
    (![k.val, 0, 0] : Fin 3 → Nat) a * S1x1024x512.size a + (y a).val = (part8_1 k y a).val := by
  have h' : (y 0).val = 0 := Nat.lt_one_iff.mp (y 0).isLt
  match a with
  | ⟨0, _⟩ => show k.val * 1 + (y 0).val = k.val; omega
  | ⟨1, _⟩ => show 0 * 1024 + (y 1).val = (y 1).val; omega
  | ⟨2, _⟩ => show 0 * 512 + (y 2).val = (y 2).val; omega

/-- The place of an entry of the part `k` in the whole array. -/
def part4_1 (k : Fin 4) (y : S1x1024x512.Idx) : S4x1024x512.Idx := fun a => match a with
  | ⟨0, _⟩ => k
  | ⟨1, _⟩ => y 1
  | ⟨2, _⟩ => y 2

theorem place4_1 (k : Fin 4) (y : S1x1024x512.Idx) (a : Fin 3) :
    (![k.val, 0, 0] : Fin 3 → Nat) a * S1x1024x512.size a + (y a).val = (part4_1 k y a).val := by
  have h' : (y 0).val = 0 := Nat.lt_one_iff.mp (y 0).isLt
  match a with
  | ⟨0, _⟩ => show k.val * 1 + (y 0).val = k.val; omega
  | ⟨1, _⟩ => show 0 * 1024 + (y 1).val = (y 1).val; omega
  | ⟨2, _⟩ => show 0 * 512 + (y 2).val = (y 2).val; omega

/-- The place of an entry of the part `k` in the whole array. -/
def part3_1 (k : Fin 3) (y : S1x1024x512.Idx) : S3x1024x512.Idx := fun a => match a with
  | ⟨0, _⟩ => k
  | ⟨1, _⟩ => y 1
  | ⟨2, _⟩ => y 2

theorem place3_1 (k : Fin 3) (y : S1x1024x512.Idx) (a : Fin 3) :
    (![k.val, 0, 0] : Fin 3 → Nat) a * S1x1024x512.size a + (y a).val = (part3_1 k y a).val := by
  have h' : (y 0).val = 0 := Nat.lt_one_iff.mp (y 0).isLt
  match a with
  | ⟨0, _⟩ => show k.val * 1 + (y 0).val = k.val; omega
  | ⟨1, _⟩ => show 0 * 1024 + (y 1).val = (y 1).val; omega
  | ⟨2, _⟩ => show 0 * 512 + (y 2).val = (y 2).val; omega

/-- The place of an entry of the part `k` in the whole array. -/
def part8_2 (k : Fin 8) (y : S1x512x1024.Idx) : S8x512x1024.Idx := fun a => match a with
  | ⟨0, _⟩ => k
  | ⟨1, _⟩ => y 1
  | ⟨2, _⟩ => y 2

theorem place8_2 (k : Fin 8) (y : S1x512x1024.Idx) (a : Fin 3) :
    (![k.val, 0, 0] : Fin 3 → Nat) a * S1x512x1024.size a + (y a).val = (part8_2 k y a).val := by
  have h' : (y 0).val = 0 := Nat.lt_one_iff.mp (y 0).isLt
  match a with
  | ⟨0, _⟩ => show k.val * 1 + (y 0).val = k.val; omega
  | ⟨1, _⟩ => show 0 * 512 + (y 1).val = (y 1).val; omega
  | ⟨2, _⟩ => show 0 * 1024 + (y 2).val = (y 2).val; omega

/-- The place of an entry of the part `k` in the whole array. -/
def part4_2 (k : Fin 4) (y : S1x512x1024.Idx) : S4x512x1024.Idx := fun a => match a with
  | ⟨0, _⟩ => k
  | ⟨1, _⟩ => y 1
  | ⟨2, _⟩ => y 2

theorem place4_2 (k : Fin 4) (y : S1x512x1024.Idx) (a : Fin 3) :
    (![k.val, 0, 0] : Fin 3 → Nat) a * S1x512x1024.size a + (y a).val = (part4_2 k y a).val := by
  have h' : (y 0).val = 0 := Nat.lt_one_iff.mp (y 0).isLt
  match a with
  | ⟨0, _⟩ => show k.val * 1 + (y 0).val = k.val; omega
  | ⟨1, _⟩ => show 0 * 512 + (y 1).val = (y 1).val; omega
  | ⟨2, _⟩ => show 0 * 1024 + (y 2).val = (y 2).val; omega

/-- The place of an entry of the part `k` in the whole array. -/
def part3_2 (k : Fin 3) (y : S1x512x1024.Idx) : S3x512x1024.Idx := fun a => match a with
  | ⟨0, _⟩ => k
  | ⟨1, _⟩ => y 1
  | ⟨2, _⟩ => y 2

theorem place3_2 (k : Fin 3) (y : S1x512x1024.Idx) (a : Fin 3) :
    (![k.val, 0, 0] : Fin 3 → Nat) a * S1x512x1024.size a + (y a).val = (part3_2 k y a).val := by
  have h' : (y 0).val = 0 := Nat.lt_one_iff.mp (y 0).isLt
  match a with
  | ⟨0, _⟩ => show k.val * 1 + (y 0).val = k.val; omega
  | ⟨1, _⟩ => show 0 * 512 + (y 1).val = (y 1).val; omega
  | ⟨2, _⟩ => show 0 * 1024 + (y 2).val = (y 2).val; omega

theorem blk0 (hO : Ok m) (c : Dev nD) (t : Fin (cfgM m hO).N) (y : S1x128x1024.Idx) :
    iblk m hO c 0 t y = m ((c : Thread nD τ).loc main_arg0) (part8_0 0 y) := by
  have e : (((cfgM m hO).win 0).blk t).view.emb y = part8_0 0 y := funext fun a => Fin.ext
    ((Pipeline.Window.rect_emb_val ((cfgM m hO).win 0) t y a).trans (by
      have h : ((cfgM m hO).win 0).index t a = (![0, 0, 0] : Fin 3 → Nat) a := congrFun (map0 m (grid0.coords t)) a
      rw [h]
      exact place8_0 0 y a))
  refine (congrArg (V m c main_arg0) e).trans ?_
  rw [V_main_arg0]

theorem blk1 (hO : Ok m) (c : Dev nD) (t : Fin (cfgM m hO).N) (y : S1x1024x512.Idx) :
    iblk m hO c 1 t y = m ((c : Thread nD τ).loc main_arg1) (part8_1 0 y) := by
  have e : (((cfgM m hO).win 1).blk t).view.emb y = part8_1 0 y := funext fun a => Fin.ext
    ((Pipeline.Window.rect_emb_val ((cfgM m hO).win 1) t y a).trans (by
      have h : ((cfgM m hO).win 1).index t a = (![0, 0, 0] : Fin 3 → Nat) a := congrFun (map1 m (grid0.coords t)) a
      rw [h]
      exact place8_1 0 y a))
  refine (congrArg (V m c main_arg1) e).trans ?_
  rw [V_main_arg1]

theorem blk2 (hO : Ok m) (c : Dev nD) (t : Fin (cfgM m hO).N) (y : S1x512x1024.Idx) :
    iblk m hO c 2 t y = m ((c : Thread nD τ).loc main_arg2) (part8_2 0 y) := by
  have e : (((cfgM m hO).win 2).blk t).view.emb y = part8_2 0 y := funext fun a => Fin.ext
    ((Pipeline.Window.rect_emb_val ((cfgM m hO).win 2) t y a).trans (by
      have h : ((cfgM m hO).win 2).index t a = (![0, 0, 0] : Fin 3 → Nat) a := congrFun (map2 m (grid0.coords t)) a
      rw [h]
      exact place8_2 0 y a))
  refine (congrArg (V m c main_arg2) e).trans ?_
  rw [V_main_arg2]

theorem blk3 (hO : Ok m) (c : Dev nD) (t : Fin (cfgM m hO).N) (y : S1x128x1024.Idx) :
    iblk m hO c 3 t y = m ((c : Thread nD τ).loc main_arg3) (part4_0 0 y) := by
  have e : (((cfgM m hO).win 3).blk t).view.emb y = part4_0 0 y := funext fun a => Fin.ext
    ((Pipeline.Window.rect_emb_val ((cfgM m hO).win 3) t y a).trans (by
      have h : ((cfgM m hO).win 3).index t a = (![0, 0, 0] : Fin 3 → Nat) a := congrFun (map3 m (grid0.coords t)) a
      rw [h]
      exact place4_0 0 y a))
  refine (congrArg (V m c main_arg3) e).trans ?_
  rw [V_main_arg3]

theorem blk4 (hO : Ok m) (c : Dev nD) (t : Fin (cfgM m hO).N) (y : S1x1024x512.Idx) :
    iblk m hO c 4 t y = m ((c : Thread nD τ).loc main_arg4) (part4_1 0 y) := by
  have e : (((cfgM m hO).win 4).blk t).view.emb y = part4_1 0 y := funext fun a => Fin.ext
    ((Pipeline.Window.rect_emb_val ((cfgM m hO).win 4) t y a).trans (by
      have h : ((cfgM m hO).win 4).index t a = (![0, 0, 0] : Fin 3 → Nat) a := congrFun (map4 m (grid0.coords t)) a
      rw [h]
      exact place4_1 0 y a))
  refine (congrArg (V m c main_arg4) e).trans ?_
  rw [V_main_arg4]

theorem blk5 (hO : Ok m) (c : Dev nD) (t : Fin (cfgM m hO).N) (y : S1x512x1024.Idx) :
    iblk m hO c 5 t y = m ((c : Thread nD τ).loc main_arg5) (part4_2 0 y) := by
  have e : (((cfgM m hO).win 5).blk t).view.emb y = part4_2 0 y := funext fun a => Fin.ext
    ((Pipeline.Window.rect_emb_val ((cfgM m hO).win 5) t y a).trans (by
      have h : ((cfgM m hO).win 5).index t a = (![0, 0, 0] : Fin 3 → Nat) a := congrFun (map5 m (grid0.coords t)) a
      rw [h]
      exact place4_2 0 y a))
  refine (congrArg (V m c main_arg5) e).trans ?_
  rw [V_main_arg5]

theorem blk6 (hO : Ok m) (c : Dev nD) (t : Fin (cfgM m hO).N) (y : S1x128x1024.Idx) :
    iblk m hO c 6 t y = m ((c : Thread nD τ).loc main_arg6) (part3_0 0 y) := by
  have e : (((cfgM m hO).win 6).blk t).view.emb y = part3_0 0 y := funext fun a => Fin.ext
    ((Pipeline.Window.rect_emb_val ((cfgM m hO).win 6) t y a).trans (by
      have h : ((cfgM m hO).win 6).index t a = (![0, 0, 0] : Fin 3 → Nat) a := (by decide +kernel : ∀ (t : Fin grid0.N) (a : Fin 3), cc0_transform_6 (grid0.coords t) a = (![0, 0, 0] : Fin 3 → Nat) a) t a
      rw [h]
      exact place3_0 0 y a))
  refine (congrArg (V m c main_arg6) e).trans ?_
  rw [V_main_arg6]

theorem blk7 (hO : Ok m) (c : Dev nD) (t : Fin (cfgM m hO).N) (y : S1x1024x512.Idx) :
    iblk m hO c 7 t y = m ((c : Thread nD τ).loc main_arg7) (part3_1 0 y) := by
  have e : (((cfgM m hO).win 7).blk t).view.emb y = part3_1 0 y := funext fun a => Fin.ext
    ((Pipeline.Window.rect_emb_val ((cfgM m hO).win 7) t y a).trans (by
      have h : ((cfgM m hO).win 7).index t a = (![0, 0, 0] : Fin 3 → Nat) a := (by decide +kernel : ∀ (t : Fin grid0.N) (a : Fin 3), cc0_transform_7 (grid0.coords t) a = (![0, 0, 0] : Fin 3 → Nat) a) t a
      rw [h]
      exact place3_1 0 y a))
  refine (congrArg (V m c main_arg7) e).trans ?_
  rw [V_main_arg7]

theorem blk8 (hO : Ok m) (c : Dev nD) (t : Fin (cfgM m hO).N) (y : S1x512x1024.Idx) :
    iblk m hO c 8 t y = m ((c : Thread nD τ).loc main_arg8) (part3_2 0 y) := by
  have e : (((cfgM m hO).win 8).blk t).view.emb y = part3_2 0 y := funext fun a => Fin.ext
    ((Pipeline.Window.rect_emb_val ((cfgM m hO).win 8) t y a).trans (by
      have h : ((cfgM m hO).win 8).index t a = (![0, 0, 0] : Fin 3 → Nat) a := (by decide +kernel : ∀ (t : Fin grid0.N) (a : Fin 3), cc0_transform_8 (grid0.coords t) a = (![0, 0, 0] : Fin 3 → Nat) a) t a
      rw [h]
      exact place3_2 0 y a))
  refine (congrArg (V m c main_arg8) e).trans ?_
  rw [V_main_arg8]

theorem blk9 (hO : Ok m) (c : Dev nD) (t : Fin (cfgM m hO).N) (y : S1x128x1024.Idx) :
    iblk m hO c 9 t y = m ((c : Thread nD τ).loc main_arg6) (part3_0 1 y) := by
  have e : (((cfgM m hO).win 9).blk t).view.emb y = part3_0 1 y := funext fun a => Fin.ext
    ((Pipeline.Window.rect_emb_val ((cfgM m hO).win 9) t y a).trans (by
      have h : ((cfgM m hO).win 9).index t a = (![1, 0, 0] : Fin 3 → Nat) a := (by decide +kernel : ∀ (t : Fin grid0.N) (a : Fin 3), cc0_transform_9 (grid0.coords t) a = (![1, 0, 0] : Fin 3 → Nat) a) t a
      rw [h]
      exact place3_0 1 y a))
  refine (congrArg (V m c main_arg6) e).trans ?_
  rw [V_main_arg6]

theorem blk10 (hO : Ok m) (c : Dev nD) (t : Fin (cfgM m hO).N) (y : S1x1024x512.Idx) :
    iblk m hO c 10 t y = m ((c : Thread nD τ).loc main_arg7) (part3_1 1 y) := by
  have e : (((cfgM m hO).win 10).blk t).view.emb y = part3_1 1 y := funext fun a => Fin.ext
    ((Pipeline.Window.rect_emb_val ((cfgM m hO).win 10) t y a).trans (by
      have h : ((cfgM m hO).win 10).index t a = (![1, 0, 0] : Fin 3 → Nat) a := (by decide +kernel : ∀ (t : Fin grid0.N) (a : Fin 3), cc0_transform_10 (grid0.coords t) a = (![1, 0, 0] : Fin 3 → Nat) a) t a
      rw [h]
      exact place3_1 1 y a))
  refine (congrArg (V m c main_arg7) e).trans ?_
  rw [V_main_arg7]

theorem blk11 (hO : Ok m) (c : Dev nD) (t : Fin (cfgM m hO).N) (y : S1x512x1024.Idx) :
    iblk m hO c 11 t y = m ((c : Thread nD τ).loc main_arg8) (part3_2 1 y) := by
  have e : (((cfgM m hO).win 11).blk t).view.emb y = part3_2 1 y := funext fun a => Fin.ext
    ((Pipeline.Window.rect_emb_val ((cfgM m hO).win 11) t y a).trans (by
      have h : ((cfgM m hO).win 11).index t a = (![1, 0, 0] : Fin 3 → Nat) a := (by decide +kernel : ∀ (t : Fin grid0.N) (a : Fin 3), cc0_transform_11 (grid0.coords t) a = (![1, 0, 0] : Fin 3 → Nat) a) t a
      rw [h]
      exact place3_2 1 y a))
  refine (congrArg (V m c main_arg8) e).trans ?_
  rw [V_main_arg8]

theorem blk12 (hO : Ok m) (c : Dev nD) (t : Fin (cfgM m hO).N) (y : S1x128x1024.Idx) :
    iblk m hO c 12 t y = m ((c : Thread nD τ).loc main_arg6) (part3_0 2 y) := by
  have e : (((cfgM m hO).win 12).blk t).view.emb y = part3_0 2 y := funext fun a => Fin.ext
    ((Pipeline.Window.rect_emb_val ((cfgM m hO).win 12) t y a).trans (by
      have h : ((cfgM m hO).win 12).index t a = (![2, 0, 0] : Fin 3 → Nat) a := (by decide +kernel : ∀ (t : Fin grid0.N) (a : Fin 3), cc0_transform_12 (grid0.coords t) a = (![2, 0, 0] : Fin 3 → Nat) a) t a
      rw [h]
      exact place3_0 2 y a))
  refine (congrArg (V m c main_arg6) e).trans ?_
  rw [V_main_arg6]

theorem blk13 (hO : Ok m) (c : Dev nD) (t : Fin (cfgM m hO).N) (y : S1x1024x512.Idx) :
    iblk m hO c 13 t y = m ((c : Thread nD τ).loc main_arg7) (part3_1 2 y) := by
  have e : (((cfgM m hO).win 13).blk t).view.emb y = part3_1 2 y := funext fun a => Fin.ext
    ((Pipeline.Window.rect_emb_val ((cfgM m hO).win 13) t y a).trans (by
      have h : ((cfgM m hO).win 13).index t a = (![2, 0, 0] : Fin 3 → Nat) a := (by decide +kernel : ∀ (t : Fin grid0.N) (a : Fin 3), cc0_transform_13 (grid0.coords t) a = (![2, 0, 0] : Fin 3 → Nat) a) t a
      rw [h]
      exact place3_1 2 y a))
  refine (congrArg (V m c main_arg7) e).trans ?_
  rw [V_main_arg7]

theorem blk14 (hO : Ok m) (c : Dev nD) (t : Fin (cfgM m hO).N) (y : S1x512x1024.Idx) :
    iblk m hO c 14 t y = m ((c : Thread nD τ).loc main_arg8) (part3_2 2 y) := by
  have e : (((cfgM m hO).win 14).blk t).view.emb y = part3_2 2 y := funext fun a => Fin.ext
    ((Pipeline.Window.rect_emb_val ((cfgM m hO).win 14) t y a).trans (by
      have h : ((cfgM m hO).win 14).index t a = (![2, 0, 0] : Fin 3 → Nat) a := (by decide +kernel : ∀ (t : Fin grid0.N) (a : Fin 3), cc0_transform_14 (grid0.coords t) a = (![2, 0, 0] : Fin 3 → Nat) a) t a
      rw [h]
      exact place3_2 2 y a))
  refine (congrArg (V m c main_arg8) e).trans ?_
  rw [V_main_arg8]

theorem covers0 (hO : Ok m) : ((cfgM m hO).win 15).Covers := by
  refine ⟨fun a => (by decide : ∀ a : Fin 2, 0 < S128x1024.size a) a, fun β => ⟨⟨0, Nat.one_pos⟩, flush0_15 (adm m hO) _, fun a => ?_⟩⟩
  have hb : (β a).val = 0 := Nat.lt_one_iff.mp (lt_of_lt_of_eq (β a).isLt ((by decide : ∀ a : Fin 2, (S128x1024.size a + S128x1024.size a - 1) / S128x1024.size a = 1) a))
  refine ⟨Eq.trans ?_ hb.symm, Or.inl rfl⟩
  exact (by decide +kernel : ∀ a : Fin 2, cc0_transform_15 (grid0.coords ⟨0, Nat.one_pos⟩) a = 0) a

/-- What the body writes is the sum of the five parts. -/
theorem out_val0 (c : Dev nD) (i : grid0.Coords) (arg2 : Memref sig .tc .vmem S1x128x1024 .bf16) (harg2 : arg2.IsWhole) (arg3 : Memref sig .tc .vmem S1x1024x512 .bf16) (harg3 : arg3.IsWhole) (arg4 : Memref sig .tc .vmem S1x512x1024 .bf16) (harg4 : arg4.IsWhole) (arg5 : Memref sig .tc .vmem S1x128x1024 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S1x128x1024 .bf16) (harg8 : arg8.IsWhole) (arg9 : Memref sig .tc .vmem S1x1024x512 .bf16) (harg9 : arg9.IsWhole) (arg10 : Memref sig .tc .vmem S1x512x1024 .bf16) (harg10 : arg10.IsWhole) (arg11 : Memref sig .tc .vmem S1x128x1024 .bf16) (harg11 : arg11.IsWhole) (arg12 : Memref sig .tc .vmem S1x1024x512 .bf16) (harg12 : arg12.IsWhole) (arg13 : Memref sig .tc .vmem S1x512x1024 .bf16) (harg13 : arg13.IsWhole) (arg14 : Memref sig .tc .vmem S1x128x1024 .bf16) (harg14 : arg14.IsWhole) (arg15 : Memref sig .tc .vmem S1x1024x512 .bf16) (harg15 : arg15.IsWhole) (arg16 : Memref sig .tc .vmem S1x512x1024 .bf16) (harg16 : arg16.IsWhole) (arg17 : Memref sig .tc .vmem S128x1024 .f32) (harg17 : arg17.IsWhole) (arg18 : Memref sig .tc .vmem S1024x512 .f32) (harg18 : arg18.IsWhole) (arg19 : Memref sig .tc .vmem S512x1024 .f32) (harg19 : arg19.IsWhole)
    (x0 : Vec Ideal S1x128x1024 .bf16) (x1 : Vec Ideal S1x1024x512 .bf16) (x2 : Vec Ideal S1x512x1024 .bf16) (x3 : Vec Ideal S1x128x1024 .bf16) (x4 : Vec Ideal S1x1024x512 .bf16) (x5 : Vec Ideal S1x512x1024 .bf16) (x6 : Vec Ideal S1x128x1024 .bf16) (x7 : Vec Ideal S1x1024x512 .bf16) (x8 : Vec Ideal S1x512x1024 .bf16) (x9 : Vec Ideal S1x128x1024 .bf16) (x10 : Vec Ideal S1x1024x512 .bf16) (x11 : Vec Ideal S1x512x1024 .bf16) (x12 : Vec Ideal S1x128x1024 .bf16) (x13 : Vec Ideal S1x1024x512 .bf16) (x14 : Vec Ideal S1x512x1024 .bf16) (xt0 : TbBuf0 (F := Ideal) c tbM0_0)
    (A : Vec Ideal S8x128x1024 .bf16) (B : Vec Ideal S4x128x1024 .bf16) (C : Vec Ideal S3x128x1024 .bf16)
    (h0 : ∀ y, x0 y = A (part8_0 0 y))
    (h1 : ∀ y, x3 y = B (part4_0 0 y))
    (h2 : ∀ y, x6 y = C (part3_0 0 y))
    (h3 : ∀ y, x9 y = C (part3_0 1 y))
    (h4 : ∀ y, x12 y = C (part3_0 2 y))
    (y : S128x1024.Idx) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 xt0 y = Cert.Reference28Ideal.Read.val_main_v9 A B C y := by
  frame_out
  simp only [Cert.Reference28Ideal.Read.val_main_v0_apply, Cert.Reference28Ideal.Read.val_main_v1_apply, Cert.Reference28Ideal.Read.val_main_v2_apply, Cert.Reference28Ideal.Read.val_main_v3_apply, Cert.Reference28Ideal.Read.val_main_v4_apply, Cert.Reference28Ideal.Read.val_main_v5_apply, Cert.Reference28Ideal.Read.val_main_v6_apply, Cert.Reference28Ideal.Read.val_main_v7_apply, Cert.Reference28Ideal.Read.val_main_cst_apply, Cert.Reference28Ideal.Read.val_main_v8_apply, Cert.Reference28Ideal.Read.val_main_v9_apply, Cert.Reference28Ideal.Read.val_main_v10_apply, Cert.Reference28Ideal.Read.val_main_v11_apply, Cert.Reference28Ideal.Read.val_main_v12_apply, Cert.Reference28Ideal.Read.val_main_v13_apply, Cert.Reference28Ideal.Read.val_main_v14_apply, Cert.Reference28Ideal.Read.val_main_v15_apply, Cert.Reference28Ideal.Read.val_main_v16_apply, Cert.Reference28Ideal.Read.val_main_v17_apply, Cert.Reference28Ideal.Read.val_main_cst_0_apply, Cert.Reference28Ideal.Read.val_main_v18_apply, Cert.Reference28Ideal.Read.val_main_v19_apply, Cert.Reference28Ideal.Read.val_main_v20_apply, Cert.Reference28Ideal.Read.val_main_v21_apply, Cert.Reference28Ideal.Read.val_main_v22_apply, Cert.Reference28Ideal.Read.val_main_v23_apply, Cert.Reference28Ideal.Read.val_main_v24_apply, Cert.Reference28Ideal.Read.val_main_v25_apply, Cert.Reference28Ideal.Read.val_main_v26_apply, Cert.Reference28Ideal.Read.val_main_v27_apply, Cert.Reference28Ideal.Read.val_main_cst_1_apply, Cert.Reference28Ideal.Read.val_main_v28_apply, Cert.Reference28Ideal.Read.val_main_v29_apply, Fin.sum_univ_three]
  pointwise [k0_pay1, k0_pay2, k0_pay3, k0_pay4]
  rw [h0, h1, h2, h3, h4]
  have b0 : (y 0).val < 128 := (y 0).isLt
  have b1 : (y 1).val < 1024 := (y 1).isLt
  have a0 : part8_0 0 (ix3 0 (y 0) (y 1)) = Cert.Reference28Ideal.Read.idx_main_v0 (Cert.Reference28Ideal.Read.idx_main_v1 y) := by
    funext a
    match a with
    | ⟨0, _⟩ => rfl
    | ⟨1, _⟩ => exact Fin.ext (show (y 0).val = ((y 0).val * 1024 + (y 1).val) / 1024 % 128 by omega)
    | ⟨2, _⟩ => exact Fin.ext (show (y 1).val = ((y 0).val * 1024 + (y 1).val) % 1024 by omega)
  have a1 : part4_0 0 (ix3 0 (y 0) (y 1)) = Cert.Reference28Ideal.Read.idx_main_v3 (Cert.Reference28Ideal.Read.idx_main_v4 y) := by
    funext a
    match a with
    | ⟨0, _⟩ => rfl
    | ⟨1, _⟩ => exact Fin.ext (show (y 0).val = ((y 0).val * 1024 + (y 1).val) / 1024 % 128 by omega)
    | ⟨2, _⟩ => exact Fin.ext (show (y 1).val = ((y 0).val * 1024 + (y 1).val) % 1024 by omega)
  have a2 : ∀ k : Fin 3, part3_0 k (ix3 0 (y 0) (y 1)) = Cert.Reference28Ideal.Read.idx_main_v8 y k := fun k => by
    funext a
    match a with
    | ⟨0, _⟩ => rfl
    | ⟨1, _⟩ => rfl
    | ⟨2, _⟩ => rfl
  rw [a0, a1, a2, a2, a2]
  simp only [add_assoc]

theorem left0 (hO : Ok m) (c : Dev nD) (t : Fin (cfgM m hO).N) (y : S128x1024.Idx) :
    (outsAt0 m hO c t).1 y
      = Cert.Reference28Ideal.Read.val_main_v9 (m ((c : Thread nD τ).loc main_arg0)) (m ((c : Thread nD τ).loc main_arg3)) (m ((c : Thread nD τ).loc main_arg6)) y := by
  have key := out_val0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (tbl m 0) (m ((c : Thread nD τ).loc main_arg0)) (m ((c : Thread nD τ).loc main_arg3)) (m ((c : Thread nD τ).loc main_arg6)) (blk0 m hO c t) (blk3 m hO c t) (blk6 m hO c t) (blk9 m hO c t) (blk12 m hO c t) y
  unfold outsAt0
  dsimp only
  exact key

theorem whole0 (hO : Ok m) (t : Fin (cfgM m hO).N) (y : S128x1024.Idx) : (((cfgM m hO).win 15).blk t).view.emb y = y :=
  funext fun a => Fin.ext ((Pipeline.Window.rect_emb_val ((cfgM m hO).win 15) t y a).trans (by
    have h : ((cfgM m hO).win 15).index t a = 0 := (by decide +kernel : ∀ (t : Fin grid0.N) (a : Fin 2), cc0_transform_15 (grid0.coords t) a = 0) t a
    rw [h, Nat.zero_mul, Nat.zero_add]))

/-- The sum of array 0. -/
theorem final0 (hO : Ok m) (c : Dev nD) : (dats m hO 0 c).arrAt 15 (cfgM m hO).N
    = Cert.Reference28Ideal.Read.val_main_v9 (m ((c : Thread nD τ).loc main_arg0)) (m ((c : Thread nD τ).loc main_arg3)) (m ((c : Thread nD τ).loc main_arg6)) := by
  refine (dats m hO 0 c).arrAt_eq_of_covers 15 _ (covers0 m hO) fun t _ y => ?_
  refine (eq_of_heq (cast_heq _ _)).trans ?_
  refine (congrFun (after0_15 m hO c t) _).trans ?_
  refine (left0 m hO c t y).trans ?_
  exact congrArg (Cert.Reference28Ideal.Read.val_main_v9 (m ((c : Thread nD τ).loc main_arg0)) (m ((c : Thread nD τ).loc main_arg3)) (m ((c : Thread nD τ).loc main_arg6))) (whole0 m hO t y).symm

theorem covers1 (hO : Ok m) : ((cfgM m hO).win 16).Covers := by
  refine ⟨fun a => (by decide : ∀ a : Fin 2, 0 < S1024x512.size a) a, fun β => ⟨⟨0, Nat.one_pos⟩, flush0_16 (adm m hO) _, fun a => ?_⟩⟩
  have hb : (β a).val = 0 := Nat.lt_one_iff.mp (lt_of_lt_of_eq (β a).isLt ((by decide : ∀ a : Fin 2, (S1024x512.size a + S1024x512.size a - 1) / S1024x512.size a = 1) a))
  refine ⟨Eq.trans ?_ hb.symm, Or.inl rfl⟩
  exact (by decide +kernel : ∀ a : Fin 2, cc0_transform_16 (grid0.coords ⟨0, Nat.one_pos⟩) a = 0) a

/-- What the body writes is the sum of the five parts. -/
theorem out_val1 (c : Dev nD) (i : grid0.Coords) (arg2 : Memref sig .tc .vmem S1x128x1024 .bf16) (harg2 : arg2.IsWhole) (arg3 : Memref sig .tc .vmem S1x1024x512 .bf16) (harg3 : arg3.IsWhole) (arg4 : Memref sig .tc .vmem S1x512x1024 .bf16) (harg4 : arg4.IsWhole) (arg5 : Memref sig .tc .vmem S1x128x1024 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S1x128x1024 .bf16) (harg8 : arg8.IsWhole) (arg9 : Memref sig .tc .vmem S1x1024x512 .bf16) (harg9 : arg9.IsWhole) (arg10 : Memref sig .tc .vmem S1x512x1024 .bf16) (harg10 : arg10.IsWhole) (arg11 : Memref sig .tc .vmem S1x128x1024 .bf16) (harg11 : arg11.IsWhole) (arg12 : Memref sig .tc .vmem S1x1024x512 .bf16) (harg12 : arg12.IsWhole) (arg13 : Memref sig .tc .vmem S1x512x1024 .bf16) (harg13 : arg13.IsWhole) (arg14 : Memref sig .tc .vmem S1x128x1024 .bf16) (harg14 : arg14.IsWhole) (arg15 : Memref sig .tc .vmem S1x1024x512 .bf16) (harg15 : arg15.IsWhole) (arg16 : Memref sig .tc .vmem S1x512x1024 .bf16) (harg16 : arg16.IsWhole) (arg17 : Memref sig .tc .vmem S128x1024 .f32) (harg17 : arg17.IsWhole) (arg18 : Memref sig .tc .vmem S1024x512 .f32) (harg18 : arg18.IsWhole) (arg19 : Memref sig .tc .vmem S512x1024 .f32) (harg19 : arg19.IsWhole)
    (x0 : Vec Ideal S1x128x1024 .bf16) (x1 : Vec Ideal S1x1024x512 .bf16) (x2 : Vec Ideal S1x512x1024 .bf16) (x3 : Vec Ideal S1x128x1024 .bf16) (x4 : Vec Ideal S1x1024x512 .bf16) (x5 : Vec Ideal S1x512x1024 .bf16) (x6 : Vec Ideal S1x128x1024 .bf16) (x7 : Vec Ideal S1x1024x512 .bf16) (x8 : Vec Ideal S1x512x1024 .bf16) (x9 : Vec Ideal S1x128x1024 .bf16) (x10 : Vec Ideal S1x1024x512 .bf16) (x11 : Vec Ideal S1x512x1024 .bf16) (x12 : Vec Ideal S1x128x1024 .bf16) (x13 : Vec Ideal S1x1024x512 .bf16) (x14 : Vec Ideal S1x512x1024 .bf16) (xt0 : TbBuf0 (F := Ideal) c tbM0_0)
    (A : Vec Ideal S8x1024x512 .bf16) (B : Vec Ideal S4x1024x512 .bf16) (C : Vec Ideal S3x1024x512 .bf16)
    (h0 : ∀ y, x1 y = A (part8_1 0 y))
    (h1 : ∀ y, x4 y = B (part4_1 0 y))
    (h2 : ∀ y, x7 y = C (part3_1 0 y))
    (h3 : ∀ y, x10 y = C (part3_1 1 y))
    (h4 : ∀ y, x13 y = C (part3_1 2 y))
    (y : S1024x512.Idx) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 xt0 y = Cert.Reference28Ideal.Read.val_main_v19 A B C y := by
  frame_out
  simp only [Cert.Reference28Ideal.Read.val_main_v0_apply, Cert.Reference28Ideal.Read.val_main_v1_apply, Cert.Reference28Ideal.Read.val_main_v2_apply, Cert.Reference28Ideal.Read.val_main_v3_apply, Cert.Reference28Ideal.Read.val_main_v4_apply, Cert.Reference28Ideal.Read.val_main_v5_apply, Cert.Reference28Ideal.Read.val_main_v6_apply, Cert.Reference28Ideal.Read.val_main_v7_apply, Cert.Reference28Ideal.Read.val_main_cst_apply, Cert.Reference28Ideal.Read.val_main_v8_apply, Cert.Reference28Ideal.Read.val_main_v9_apply, Cert.Reference28Ideal.Read.val_main_v10_apply, Cert.Reference28Ideal.Read.val_main_v11_apply, Cert.Reference28Ideal.Read.val_main_v12_apply, Cert.Reference28Ideal.Read.val_main_v13_apply, Cert.Reference28Ideal.Read.val_main_v14_apply, Cert.Reference28Ideal.Read.val_main_v15_apply, Cert.Reference28Ideal.Read.val_main_v16_apply, Cert.Reference28Ideal.Read.val_main_v17_apply, Cert.Reference28Ideal.Read.val_main_cst_0_apply, Cert.Reference28Ideal.Read.val_main_v18_apply, Cert.Reference28Ideal.Read.val_main_v19_apply, Cert.Reference28Ideal.Read.val_main_v20_apply, Cert.Reference28Ideal.Read.val_main_v21_apply, Cert.Reference28Ideal.Read.val_main_v22_apply, Cert.Reference28Ideal.Read.val_main_v23_apply, Cert.Reference28Ideal.Read.val_main_v24_apply, Cert.Reference28Ideal.Read.val_main_v25_apply, Cert.Reference28Ideal.Read.val_main_v26_apply, Cert.Reference28Ideal.Read.val_main_v27_apply, Cert.Reference28Ideal.Read.val_main_cst_1_apply, Cert.Reference28Ideal.Read.val_main_v28_apply, Cert.Reference28Ideal.Read.val_main_v29_apply, Fin.sum_univ_three]
  pointwise [k0_pay1, k0_pay2, k0_pay3, k0_pay4]
  rw [h0, h1, h2, h3, h4]
  have b0 : (y 0).val < 1024 := (y 0).isLt
  have b1 : (y 1).val < 512 := (y 1).isLt
  have a0 : part8_1 0 (ix3 0 (y 0) (y 1)) = Cert.Reference28Ideal.Read.idx_main_v10 (Cert.Reference28Ideal.Read.idx_main_v11 y) := by
    funext a
    match a with
    | ⟨0, _⟩ => rfl
    | ⟨1, _⟩ => exact Fin.ext (show (y 0).val = ((y 0).val * 512 + (y 1).val) / 512 % 1024 by omega)
    | ⟨2, _⟩ => exact Fin.ext (show (y 1).val = ((y 0).val * 512 + (y 1).val) % 512 by omega)
  have a1 : part4_1 0 (ix3 0 (y 0) (y 1)) = Cert.Reference28Ideal.Read.idx_main_v13 (Cert.Reference28Ideal.Read.idx_main_v14 y) := by
    funext a
    match a with
    | ⟨0, _⟩ => rfl
    | ⟨1, _⟩ => exact Fin.ext (show (y 0).val = ((y 0).val * 512 + (y 1).val) / 512 % 1024 by omega)
    | ⟨2, _⟩ => exact Fin.ext (show (y 1).val = ((y 0).val * 512 + (y 1).val) % 512 by omega)
  have a2 : ∀ k : Fin 3, part3_1 k (ix3 0 (y 0) (y 1)) = Cert.Reference28Ideal.Read.idx_main_v18 y k := fun k => by
    funext a
    match a with
    | ⟨0, _⟩ => rfl
    | ⟨1, _⟩ => rfl
    | ⟨2, _⟩ => rfl
  rw [a0, a1, a2, a2, a2]
  simp only [add_assoc]

theorem left1 (hO : Ok m) (c : Dev nD) (t : Fin (cfgM m hO).N) (y : S1024x512.Idx) :
    (outsAt0 m hO c t).2.1 y
      = Cert.Reference28Ideal.Read.val_main_v19 (m ((c : Thread nD τ).loc main_arg1)) (m ((c : Thread nD τ).loc main_arg4)) (m ((c : Thread nD τ).loc main_arg7)) y := by
  have key := out_val1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (tbl m 0) (m ((c : Thread nD τ).loc main_arg1)) (m ((c : Thread nD τ).loc main_arg4)) (m ((c : Thread nD τ).loc main_arg7)) (blk1 m hO c t) (blk4 m hO c t) (blk7 m hO c t) (blk10 m hO c t) (blk13 m hO c t) y
  unfold outsAt0
  dsimp only
  exact key

theorem whole1 (hO : Ok m) (t : Fin (cfgM m hO).N) (y : S1024x512.Idx) : (((cfgM m hO).win 16).blk t).view.emb y = y :=
  funext fun a => Fin.ext ((Pipeline.Window.rect_emb_val ((cfgM m hO).win 16) t y a).trans (by
    have h : ((cfgM m hO).win 16).index t a = 0 := (by decide +kernel : ∀ (t : Fin grid0.N) (a : Fin 2), cc0_transform_16 (grid0.coords t) a = 0) t a
    rw [h, Nat.zero_mul, Nat.zero_add]))

/-- The sum of array 1. -/
theorem final1 (hO : Ok m) (c : Dev nD) : (dats m hO 0 c).arrAt 16 (cfgM m hO).N
    = Cert.Reference28Ideal.Read.val_main_v19 (m ((c : Thread nD τ).loc main_arg1)) (m ((c : Thread nD τ).loc main_arg4)) (m ((c : Thread nD τ).loc main_arg7)) := by
  refine (dats m hO 0 c).arrAt_eq_of_covers 16 _ (covers1 m hO) fun t _ y => ?_
  refine (eq_of_heq (cast_heq _ _)).trans ?_
  refine (congrFun (after0_16 m hO c t) _).trans ?_
  refine (left1 m hO c t y).trans ?_
  exact congrArg (Cert.Reference28Ideal.Read.val_main_v19 (m ((c : Thread nD τ).loc main_arg1)) (m ((c : Thread nD τ).loc main_arg4)) (m ((c : Thread nD τ).loc main_arg7))) (whole1 m hO t y).symm

theorem covers2 (hO : Ok m) : ((cfgM m hO).win 17).Covers := by
  refine ⟨fun a => (by decide : ∀ a : Fin 2, 0 < S512x1024.size a) a, fun β => ⟨⟨0, Nat.one_pos⟩, flush0_17 (adm m hO) _, fun a => ?_⟩⟩
  have hb : (β a).val = 0 := Nat.lt_one_iff.mp (lt_of_lt_of_eq (β a).isLt ((by decide : ∀ a : Fin 2, (S512x1024.size a + S512x1024.size a - 1) / S512x1024.size a = 1) a))
  refine ⟨Eq.trans ?_ hb.symm, Or.inl rfl⟩
  exact (by decide +kernel : ∀ a : Fin 2, cc0_transform_17 (grid0.coords ⟨0, Nat.one_pos⟩) a = 0) a

/-- What the body writes is the sum of the five parts. -/
theorem out_val2 (c : Dev nD) (i : grid0.Coords) (arg2 : Memref sig .tc .vmem S1x128x1024 .bf16) (harg2 : arg2.IsWhole) (arg3 : Memref sig .tc .vmem S1x1024x512 .bf16) (harg3 : arg3.IsWhole) (arg4 : Memref sig .tc .vmem S1x512x1024 .bf16) (harg4 : arg4.IsWhole) (arg5 : Memref sig .tc .vmem S1x128x1024 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S1x128x1024 .bf16) (harg8 : arg8.IsWhole) (arg9 : Memref sig .tc .vmem S1x1024x512 .bf16) (harg9 : arg9.IsWhole) (arg10 : Memref sig .tc .vmem S1x512x1024 .bf16) (harg10 : arg10.IsWhole) (arg11 : Memref sig .tc .vmem S1x128x1024 .bf16) (harg11 : arg11.IsWhole) (arg12 : Memref sig .tc .vmem S1x1024x512 .bf16) (harg12 : arg12.IsWhole) (arg13 : Memref sig .tc .vmem S1x512x1024 .bf16) (harg13 : arg13.IsWhole) (arg14 : Memref sig .tc .vmem S1x128x1024 .bf16) (harg14 : arg14.IsWhole) (arg15 : Memref sig .tc .vmem S1x1024x512 .bf16) (harg15 : arg15.IsWhole) (arg16 : Memref sig .tc .vmem S1x512x1024 .bf16) (harg16 : arg16.IsWhole) (arg17 : Memref sig .tc .vmem S128x1024 .f32) (harg17 : arg17.IsWhole) (arg18 : Memref sig .tc .vmem S1024x512 .f32) (harg18 : arg18.IsWhole) (arg19 : Memref sig .tc .vmem S512x1024 .f32) (harg19 : arg19.IsWhole)
    (x0 : Vec Ideal S1x128x1024 .bf16) (x1 : Vec Ideal S1x1024x512 .bf16) (x2 : Vec Ideal S1x512x1024 .bf16) (x3 : Vec Ideal S1x128x1024 .bf16) (x4 : Vec Ideal S1x1024x512 .bf16) (x5 : Vec Ideal S1x512x1024 .bf16) (x6 : Vec Ideal S1x128x1024 .bf16) (x7 : Vec Ideal S1x1024x512 .bf16) (x8 : Vec Ideal S1x512x1024 .bf16) (x9 : Vec Ideal S1x128x1024 .bf16) (x10 : Vec Ideal S1x1024x512 .bf16) (x11 : Vec Ideal S1x512x1024 .bf16) (x12 : Vec Ideal S1x128x1024 .bf16) (x13 : Vec Ideal S1x1024x512 .bf16) (x14 : Vec Ideal S1x512x1024 .bf16) (xt0 : TbBuf0 (F := Ideal) c tbM0_0)
    (A : Vec Ideal S8x512x1024 .bf16) (B : Vec Ideal S4x512x1024 .bf16) (C : Vec Ideal S3x512x1024 .bf16)
    (h0 : ∀ y, x2 y = A (part8_2 0 y))
    (h1 : ∀ y, x5 y = B (part4_2 0 y))
    (h2 : ∀ y, x8 y = C (part3_2 0 y))
    (h3 : ∀ y, x11 y = C (part3_2 1 y))
    (h4 : ∀ y, x14 y = C (part3_2 2 y))
    (y : S512x1024.Idx) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 xt0 y = Cert.Reference28Ideal.Read.val_main_v29 A B C y := by
  frame_out
  simp only [Cert.Reference28Ideal.Read.val_main_v0_apply, Cert.Reference28Ideal.Read.val_main_v1_apply, Cert.Reference28Ideal.Read.val_main_v2_apply, Cert.Reference28Ideal.Read.val_main_v3_apply, Cert.Reference28Ideal.Read.val_main_v4_apply, Cert.Reference28Ideal.Read.val_main_v5_apply, Cert.Reference28Ideal.Read.val_main_v6_apply, Cert.Reference28Ideal.Read.val_main_v7_apply, Cert.Reference28Ideal.Read.val_main_cst_apply, Cert.Reference28Ideal.Read.val_main_v8_apply, Cert.Reference28Ideal.Read.val_main_v9_apply, Cert.Reference28Ideal.Read.val_main_v10_apply, Cert.Reference28Ideal.Read.val_main_v11_apply, Cert.Reference28Ideal.Read.val_main_v12_apply, Cert.Reference28Ideal.Read.val_main_v13_apply, Cert.Reference28Ideal.Read.val_main_v14_apply, Cert.Reference28Ideal.Read.val_main_v15_apply, Cert.Reference28Ideal.Read.val_main_v16_apply, Cert.Reference28Ideal.Read.val_main_v17_apply, Cert.Reference28Ideal.Read.val_main_cst_0_apply, Cert.Reference28Ideal.Read.val_main_v18_apply, Cert.Reference28Ideal.Read.val_main_v19_apply, Cert.Reference28Ideal.Read.val_main_v20_apply, Cert.Reference28Ideal.Read.val_main_v21_apply, Cert.Reference28Ideal.Read.val_main_v22_apply, Cert.Reference28Ideal.Read.val_main_v23_apply, Cert.Reference28Ideal.Read.val_main_v24_apply, Cert.Reference28Ideal.Read.val_main_v25_apply, Cert.Reference28Ideal.Read.val_main_v26_apply, Cert.Reference28Ideal.Read.val_main_v27_apply, Cert.Reference28Ideal.Read.val_main_cst_1_apply, Cert.Reference28Ideal.Read.val_main_v28_apply, Cert.Reference28Ideal.Read.val_main_v29_apply, Fin.sum_univ_three]
  pointwise [k0_pay1, k0_pay2, k0_pay3, k0_pay4]
  rw [h0, h1, h2, h3, h4]
  have b0 : (y 0).val < 512 := (y 0).isLt
  have b1 : (y 1).val < 1024 := (y 1).isLt
  have a0 : part8_2 0 (ix3 0 (y 0) (y 1)) = Cert.Reference28Ideal.Read.idx_main_v20 (Cert.Reference28Ideal.Read.idx_main_v21 y) := by
    funext a
    match a with
    | ⟨0, _⟩ => rfl
    | ⟨1, _⟩ => exact Fin.ext (show (y 0).val = ((y 0).val * 1024 + (y 1).val) / 1024 % 512 by omega)
    | ⟨2, _⟩ => exact Fin.ext (show (y 1).val = ((y 0).val * 1024 + (y 1).val) % 1024 by omega)
  have a1 : part4_2 0 (ix3 0 (y 0) (y 1)) = Cert.Reference28Ideal.Read.idx_main_v23 (Cert.Reference28Ideal.Read.idx_main_v24 y) := by
    funext a
    match a with
    | ⟨0, _⟩ => rfl
    | ⟨1, _⟩ => exact Fin.ext (show (y 0).val = ((y 0).val * 1024 + (y 1).val) / 1024 % 512 by omega)
    | ⟨2, _⟩ => exact Fin.ext (show (y 1).val = ((y 0).val * 1024 + (y 1).val) % 1024 by omega)
  have a2 : ∀ k : Fin 3, part3_2 k (ix3 0 (y 0) (y 1)) = Cert.Reference28Ideal.Read.idx_main_v28 y k := fun k => by
    funext a
    match a with
    | ⟨0, _⟩ => rfl
    | ⟨1, _⟩ => rfl
    | ⟨2, _⟩ => rfl
  rw [a0, a1, a2, a2, a2]
  simp only [add_assoc]

theorem left2 (hO : Ok m) (c : Dev nD) (t : Fin (cfgM m hO).N) (y : S512x1024.Idx) :
    (outsAt0 m hO c t).2.2 y
      = Cert.Reference28Ideal.Read.val_main_v29 (m ((c : Thread nD τ).loc main_arg2)) (m ((c : Thread nD τ).loc main_arg5)) (m ((c : Thread nD τ).loc main_arg8)) y := by
  have key := out_val2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (tbl m 0) (m ((c : Thread nD τ).loc main_arg2)) (m ((c : Thread nD τ).loc main_arg5)) (m ((c : Thread nD τ).loc main_arg8)) (blk2 m hO c t) (blk5 m hO c t) (blk8 m hO c t) (blk11 m hO c t) (blk14 m hO c t) y
  unfold outsAt0
  dsimp only
  exact key

theorem whole2 (hO : Ok m) (t : Fin (cfgM m hO).N) (y : S512x1024.Idx) : (((cfgM m hO).win 17).blk t).view.emb y = y :=
  funext fun a => Fin.ext ((Pipeline.Window.rect_emb_val ((cfgM m hO).win 17) t y a).trans (by
    have h : ((cfgM m hO).win 17).index t a = 0 := (by decide +kernel : ∀ (t : Fin grid0.N) (a : Fin 2), cc0_transform_17 (grid0.coords t) a = 0) t a
    rw [h, Nat.zero_mul, Nat.zero_add]))

/-- The sum of array 2. -/
theorem final2 (hO : Ok m) (c : Dev nD) : (dats m hO 0 c).arrAt 17 (cfgM m hO).N
    = Cert.Reference28Ideal.Read.val_main_v29 (m ((c : Thread nD τ).loc main_arg2)) (m ((c : Thread nD τ).loc main_arg5)) (m ((c : Thread nD τ).loc main_arg8)) := by
  refine (dats m hO 0 c).arrAt_eq_of_covers 17 _ (covers2 m hO) fun t _ y => ?_
  refine (eq_of_heq (cast_heq _ _)).trans ?_
  refine (congrFun (after0_17 m hO c t) _).trans ?_
  refine (left2 m hO c t y).trans ?_
  exact congrArg (Cert.Reference28Ideal.Read.val_main_v29 (m ((c : Thread nD τ).loc main_arg2)) (m ((c : Thread nD τ).loc main_arg5)) (m ((c : Thread nD τ).loc main_arg8))) (whole2 m hO t y).symm

/-- A run of the kernel ends with the sums in its results and its arguments unchanged. -/
theorem run_value (ρ : Dev nD → PrngReg) : θ_run defs (onTc (τ := τ) (main (F := Ideal))) ⟨m, fun _ => 0, ρ⟩ (fun r => ∀ c : Dev nD,
    r.2.mem ((c.tc : Thread nD τ).loc main_v3_0) = Cert.Reference28Ideal.Read.val_main_v9 (m ((c.tc : Thread nD τ).loc main_arg0)) (m ((c.tc : Thread nD τ).loc main_arg3)) (m ((c.tc : Thread nD τ).loc main_arg6)) ∧
    r.2.mem ((c.tc : Thread nD τ).loc main_v3_1) = Cert.Reference28Ideal.Read.val_main_v19 (m ((c.tc : Thread nD τ).loc main_arg1)) (m ((c.tc : Thread nD τ).loc main_arg4)) (m ((c.tc : Thread nD τ).loc main_arg7)) ∧
    r.2.mem ((c.tc : Thread nD τ).loc main_v3_2) = Cert.Reference28Ideal.Read.val_main_v29 (m ((c.tc : Thread nD τ).loc main_arg2)) (m ((c.tc : Thread nD τ).loc main_arg5)) (m ((c.tc : Thread nD τ).loc main_arg8)) ∧
    r.2.mem ((c.tc : Thread nD τ).loc main_arg0) = m ((c.tc : Thread nD τ).loc main_arg0) ∧
    r.2.mem ((c.tc : Thread nD τ).loc main_arg1) = m ((c.tc : Thread nD τ).loc main_arg1) ∧
    r.2.mem ((c.tc : Thread nD τ).loc main_arg2) = m ((c.tc : Thread nD τ).loc main_arg2) ∧
    r.2.mem ((c.tc : Thread nD τ).loc main_arg3) = m ((c.tc : Thread nD τ).loc main_arg3) ∧
    r.2.mem ((c.tc : Thread nD τ).loc main_arg4) = m ((c.tc : Thread nD τ).loc main_arg4) ∧
    r.2.mem ((c.tc : Thread nD τ).loc main_arg5) = m ((c.tc : Thread nD τ).loc main_arg5) ∧
    r.2.mem ((c.tc : Thread nD τ).loc main_arg6) = m ((c.tc : Thread nD τ).loc main_arg6) ∧
    r.2.mem ((c.tc : Thread nD τ).loc main_arg7) = m ((c.tc : Thread nD τ).loc main_arg7) ∧
    r.2.mem ((c.tc : Thread nD τ).loc main_arg8) = m ((c.tc : Thread nD τ).loc main_arg8)) :=
  (θ_run defs _ _).mono (fun r h c => ⟨((h.1 c).1 15).trans (final0 m (ok m) c), ((h.1 c).1 16).trans (final1 m (ok m) c), ((h.1 c).1 17).trans (final2 m (ok m) c), h.2 c⟩)
    (θ_run_and (run_main m ρ (ok m)) (unchanged m ρ (ok m)))

end Cert.Kernel28Ideal.SumEarly0

end
-- ==== Proof.lean ====
/- The claims of this certificate. For each kernel: it runs and leaves its arguments as they were, over words and over
   the extended reals; its text over the extended reals is the printed one; and every result is the reference's. The
   mathematics is in the modules under Proof/, one for each kernel. -/
module

public import proofs.«01_k».proof.Defs
public import proofs.«01_k».proof.Proof.Gen.Kernel3.Frame
public import proofs.«01_k».proof.Proof.Gen.Reference3Ideal.Run
public import proofs.«01_k».proof.Proof.FfnFwd
public import proofs.«01_k».proof.Proof.Gen.Kernel4.Frame
public import proofs.«01_k».proof.Proof.Gen.Reference4Ideal.Run
public import proofs.«01_k».proof.Proof.GradFf1
public import proofs.«01_k».proof.Proof.Gen.Kernel5.Frame
public import proofs.«01_k».proof.Proof.Gen.Reference5Ideal.Run
public import proofs.«01_k».proof.Proof.GradFf2
public import proofs.«01_k».proof.Proof.Gen.Kernel6.Frame
public import proofs.«01_k».proof.Proof.Gen.Reference6Ideal.Run
public import proofs.«01_k».proof.Proof.InProjBwd
public import proofs.«01_k».proof.Proof.Gen.Kernel7.Frame
public import proofs.«01_k».proof.Proof.Gen.Reference7Ideal.Run
public import proofs.«01_k».proof.Proof.GradIn
public import proofs.«01_k».proof.Proof.Gen.Kernel8.Frame
public import proofs.«01_k».proof.Proof.Gen.Reference8Ideal.Run
public import proofs.«01_k».proof.Proof.Dmix
public import proofs.«01_k».proof.Proof.Gen.Kernel9.Frame
public import proofs.«01_k».proof.Proof.Gen.Reference9Ideal.Run
public import proofs.«01_k».proof.Proof.GradOut
public import proofs.«01_k».proof.Proof.Gen.Kernel10.Frame
public import proofs.«01_k».proof.Proof.Gen.Reference10Ideal.Run
public import proofs.«01_k».proof.Proof.InProj
public import proofs.«01_k».proof.Proof.Gen.Kernel11.Frame
public import proofs.«01_k».proof.Proof.Gen.Reference11Ideal.Run
public import proofs.«01_k».proof.Proof.OutProj
public import proofs.«01_k».proof.Proof.FfnBwdFrame
public import proofs.«01_k».proof.Proof.Gen.Reference2Ideal.Run
public import proofs.«01_k».proof.Proof.FfnBwd
public import proofs.«01_k».proof.Proof.Gen.Kernel2.Points
public import proofs.«01_k».proof.Proof.Gen.Kernel12.Frame
public import proofs.«01_k».proof.Proof.Gen.Reference12Ideal.Run
public import proofs.«01_k».proof.Proof.AdamNorm1G
public import proofs.«01_k».proof.Proof.Gen.Kernel13.Frame
public import proofs.«01_k».proof.Proof.Gen.Reference13Ideal.Run
public import proofs.«01_k».proof.Proof.AdamWIn
public import proofs.«01_k».proof.Proof.Gen.Kernel14.Frame
public import proofs.«01_k».proof.Proof.Gen.Reference14Ideal.Run
public import proofs.«01_k».proof.Proof.AdamConvW
public import proofs.«01_k».proof.Proof.Gen.Kernel15.Frame
public import proofs.«01_k».proof.Proof.Gen.Reference15Ideal.Run
public import proofs.«01_k».proof.Proof.AdamALog
public import proofs.«01_k».proof.Proof.Gen.Kernel16.Frame
public import proofs.«01_k».proof.Proof.Gen.Reference16Ideal.Run
public import proofs.«01_k».proof.Proof.AdamDnOutG
public import proofs.«01_k».proof.Proof.Gen.Kernel17.Frame
public import proofs.«01_k».proof.Proof.Gen.Reference17Ideal.Run
public import proofs.«01_k».proof.Proof.AdamSbQG
public import proofs.«01_k».proof.Proof.Gen.Kernel18.Frame
public import proofs.«01_k».proof.Proof.Gen.Reference18Ideal.Run
public import proofs.«01_k».proof.Proof.AdamSgVG
public import proofs.«01_k».proof.Proof.Gen.Kernel19.Frame
public import proofs.«01_k».proof.Proof.Gen.Reference19Ideal.Run
public import proofs.«01_k».proof.Proof.AdamSgW
public import proofs.«01_k».proof.Proof.Gen.Kernel20.Frame
public import proofs.«01_k».proof.Proof.Gen.Reference20Ideal.Run
public import proofs.«01_k».proof.Proof.AdamSgB
public import proofs.«01_k».proof.Proof.Gen.Kernel21.Frame
public import proofs.«01_k».proof.Proof.Gen.Reference21Ideal.Run
public import proofs.«01_k».proof.Proof.AdamWOut
public import proofs.«01_k».proof.Proof.Gen.Kernel22.Frame
public import proofs.«01_k».proof.Proof.Gen.Reference22Ideal.Run
public import proofs.«01_k».proof.Proof.AdamWFf1
public import proofs.«01_k».proof.Proof.Gen.Kernel23.Frame
public import proofs.«01_k».proof.Proof.Gen.Reference23Ideal.Run
public import proofs.«01_k».proof.Proof.AdamWFf2
public import proofs.«01_k».proof.Proof.Gen.Kernel24.Frame
public import proofs.«01_k».proof.Proof.Gen.Reference24Ideal.Run
public import proofs.«01_k».proof.Proof.Loss
public import proofs.«01_k».proof.Proof.Gen.Kernel.Frame
public import proofs.«01_k».proof.Proof.Gen.ReferenceIdeal.Run
public import proofs.«01_k».proof.Proof.SgBwd
public import proofs.«01_k».proof.Proof.SgFinite
public import proofs.«01_k».proof.Proof.Gen.Pre_finite
public import proofs.«01_k».proof.Proof.Gen.Kernel25.Frame
public import proofs.«01_k».proof.Proof.Gen.Reference25Ideal.Run
public import proofs.«01_k».proof.Proof.SumSmall
public import proofs.«01_k».proof.Proof.Gen.Kernel26.Frame
public import proofs.«01_k».proof.Proof.Gen.Reference26Ideal.Run
public import proofs.«01_k».proof.Proof.SumLast
public import proofs.«01_k».proof.Proof.Gen.Kernel27.Frame
public import proofs.«01_k».proof.Proof.Gen.Reference27Ideal.Run
public import proofs.«01_k».proof.Proof.SumEarly1
public import proofs.«01_k».proof.Proof.Gen.Kernel28.Frame
public import proofs.«01_k».proof.Proof.Gen.Reference28Ideal.Run
public import proofs.«01_k».proof.Proof.SumEarly0

@[expose] public section

set_option maxRecDepth 16384

noncomputable section

namespace Cert.Proof

open Idealize.ShloMosaic Idealize.SL.Sem

/-! ### The channel mixer -/

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic3 : Cert.algebraic_Kernel3Ideal_Reference3Ideal := by
  pair_intro
  · run_from Cert.Kernel3Ideal.Gen.run_main m g
  · run_from Cert.Reference3Ideal.Value.run m' g'
    exact (Cert.Kernel3Ideal.FfnFwd.final m c).symm

/-! ### The gradient of the first feed-forward weight -/

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic4 : Cert.algebraic_Kernel4Ideal_Reference4Ideal := by
  pair_intro
  · run_from Cert.Kernel4Ideal.Gen.run_main m g
  · run_from Cert.Reference4Ideal.Value.run m' g'
    exact (Cert.Kernel4Ideal.GradFf1.final m c).symm

/-! ### The gradient of the second feed-forward weight -/

theorem frame_kernel5 : Cert.quiescent_Kernel5 := fun m ρ _ => Cert.Kernel5.Gen.frame m ρ

theorem frame_ideal5 : Cert.quiescent_Kernel5Ideal := fun m ρ _ => Cert.Kernel5Ideal.Gen.frame m ρ

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic5 : Cert.algebraic_Kernel5Ideal_Reference5Ideal := by
  pair_intro
  · run_from Cert.Kernel5Ideal.Gen.run_main m g
  · run_from Cert.Reference5Ideal.Value.run m' g'
    exact (Cert.Kernel5Ideal.GradFf2.final m c).symm

/-! ### The gradient through the input projection and its norm -/

theorem frame_kernel6 : Cert.quiescent_Kernel6 := fun m ρ _ => Cert.Kernel6.Gen.frame m ρ

theorem frame_ideal6 : Cert.quiescent_Kernel6Ideal := fun m ρ _ => Cert.Kernel6Ideal.Gen.frame m ρ

theorem frame_reference6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

theorem algebraic6 : Cert.algebraic_Kernel6Ideal_Reference6Ideal := by
  pair_intro
  · run_from Cert.Kernel6Ideal.Gen.run_main m g
  · run_from Cert.Reference6Ideal.Value.run m' g'
    · rw [Cert.Reference6Ideal.Read.val_main_v40_eq]
      simp only [hagree c]
      exact (Cert.Kernel6Ideal.InProjBwd.final0 m c).symm
    · exact (Cert.Kernel6Ideal.InProjBwd.final1 m c).symm

/-! ### The gradient of the input weight -/

theorem frame_kernel7 : Cert.quiescent_Kernel7 := fun m ρ _ => Cert.Kernel7.Gen.frame m ρ

theorem frame_ideal7 : Cert.quiescent_Kernel7Ideal := fun m ρ _ => Cert.Kernel7Ideal.Gen.frame m ρ

theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic7 : Cert.algebraic_Kernel7Ideal_Reference7Ideal := by
  pair_intro
  · run_from Cert.Kernel7Ideal.Gen.run_main m g
  · run_from Cert.Reference7Ideal.Value.run m' g'
    exact (Cert.Kernel7Ideal.GradIn.final m c).symm

/-! ### The gradient of the output projection with respect to its input -/

theorem frame_kernel8 : Cert.quiescent_Kernel8 := fun m ρ _ => Cert.Kernel8.Gen.frame m ρ

theorem frame_ideal8 : Cert.quiescent_Kernel8Ideal := fun m ρ _ => Cert.Kernel8Ideal.Gen.frame m ρ

theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic8 : Cert.algebraic_Kernel8Ideal_Reference8Ideal := by
  pair_intro
  · run_from Cert.Kernel8Ideal.Gen.run_main m g
  · run_from Cert.Reference8Ideal.Value.run m' g'
    exact (Cert.Kernel8Ideal.Dmix.final m c).symm

/-! ### The gradient of the output weight -/

theorem frame_kernel9 : Cert.quiescent_Kernel9 := fun m ρ _ => Cert.Kernel9.Gen.frame m ρ

theorem frame_ideal9 : Cert.quiescent_Kernel9Ideal := fun m ρ _ => Cert.Kernel9Ideal.Gen.frame m ρ

theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic9 : Cert.algebraic_Kernel9Ideal_Reference9Ideal := by
  pair_intro
  · run_from Cert.Kernel9Ideal.Gen.run_main m g
  · run_from Cert.Reference9Ideal.Value.run m' g'
    exact (Cert.Kernel9Ideal.GradOut.final m c).symm

/-! ### The input projection behind its norm -/

theorem frame_kernel10 : Cert.quiescent_Kernel10 := fun m ρ _ => Cert.Kernel10.Gen.frame m ρ

theorem frame_ideal10 : Cert.quiescent_Kernel10Ideal := fun m ρ _ => Cert.Kernel10Ideal.Gen.frame m ρ

theorem frame_reference10 : Cert.quiescent_Reference10Ideal := fun m ρ _ =>
  (θ_run Cert.Reference10Ideal.defs _ _).mono (fun r h => ⟨fun c => (h c).2.2.2.2.2, sem_eq_zero_of_no_sems (by decide) r.2⟩)
    (Cert.Reference10Ideal.Value.run (F := Ideal) m ρ)

theorem algebraic10 : Cert.algebraic_Kernel10Ideal_Reference10Ideal := by
  pair_intro
  · run_from Cert.Kernel10Ideal.Gen.run_main m g
  · run_from Cert.Reference10Ideal.Value.run m' g'
    · exact (Cert.Kernel10Ideal.InProj.final0 m c).symm
    · exact (Cert.Kernel10Ideal.InProj.final1 m c).symm
    · exact (Cert.Kernel10Ideal.InProj.final2 m c).symm
    · exact (Cert.Kernel10Ideal.InProj.final3 m c).symm
    · exact (Cert.Kernel10Ideal.InProj.final4 m c).symm

/-! ### The output projection with its residual -/

theorem frame_kernel11 : Cert.quiescent_Kernel11 := fun m ρ _ => Cert.Kernel11.Gen.frame m ρ

theorem frame_ideal11 : Cert.quiescent_Kernel11Ideal := fun m ρ _ => Cert.Kernel11Ideal.Gen.frame m ρ

theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic11 : Cert.algebraic_Kernel11Ideal_Reference11Ideal := by
  pair_intro
  · run_from Cert.Kernel11Ideal.Gen.run_main m g
  · run_from Cert.Reference11Ideal.Value.run m' g'
    exact (Cert.Kernel11Ideal.OutProj.final m c).symm

/-! ### The gradient of the channel mixer -/

/-- The program over words and the one over the extended reals have the same body. -/
theorem same_body2 : Cert.Kernel2.defs₀ (F := Bits) = Cert.Kernel2Ideal.defs₀ (F := Bits) :=
  congrArg Defs.onTc (funext fun ℓ => funext fun a => match ℓ, a with
    | 0, (_, _) => rfl
    | ⟨_ + 1, h⟩, _ => absurd h (Nat.not_lt.2 (Nat.le_add_left _ _)))

theorem same_defs2 : Cert.Kernel2.defs (F := Bits) = Cert.Kernel2Ideal.defs (F := Bits) :=
  congrArg (Pipeline.defs (Cert.Kernel2Ideal.pcfgs (F := Bits))) same_body2

theorem frame_kernel2 : Cert.quiescent_Kernel2 := fun m ρ _ => by
  rw [same_defs2]
  exact Cert.Kernel2Ideal.FfnBwd.whole_frame (F := Bits) m ρ

theorem frame_ideal2 : Cert.quiescent_Kernel2Ideal := fun m ρ _ => Cert.Kernel2Ideal.FfnBwd.whole_frame m ρ

theorem frame_reference2 : Cert.quiescent_Reference2Ideal := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

theorem algebraic2 : Cert.algebraic_Kernel2Ideal_Reference2Ideal := by
  pair_intro
  · run_from Cert.Kernel2Ideal.FfnBwd.run_main m g
  · run_from Cert.Reference2Ideal.Value.run m' g'
    · rw [Cert.Reference2Ideal.Read.val_main_v52_eq]
      simp only [hagree c]
      exact (Cert.Kernel2Ideal.FfnBwd.final0 m c).symm
    · exact (Cert.Kernel2Ideal.FfnBwd.final1 m c).symm
    · exact (Cert.Kernel2Ideal.FfnBwd.final2 m c).symm
    · exact (Cert.Kernel2Ideal.FfnBwd.final3 m c).symm
    · exact (Cert.Kernel2Ideal.FfnBwd.final4 m c).symm

/-! ### The update of the gains of the norms -/

theorem frame_kernel12 : Cert.quiescent_Kernel12 := fun m ρ _ => Cert.Kernel12.Gen.frame m ρ

theorem frame_ideal12 : Cert.quiescent_Kernel12Ideal := fun m ρ _ => Cert.Kernel12Ideal.Gen.frame m ρ

theorem frame_reference12 : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

theorem algebraic12 : Cert.algebraic_Kernel12Ideal_Reference12Ideal := by
  pair_intro
  · run_from Cert.Kernel12Ideal.Gen.run_main m g
  · run_from Cert.Reference12Ideal.Value.run m' g'
    · exact (Cert.Kernel12Ideal.AdamNorm1G.final0 m c).symm
    · exact (Cert.Kernel12Ideal.AdamNorm1G.final1 m c).symm
    · exact (Cert.Kernel12Ideal.AdamNorm1G.final2 m c).symm

/-! ### The update of the input weight -/

theorem frame_kernel13 : Cert.quiescent_Kernel13 := fun m ρ _ => Cert.Kernel13.Gen.frame m ρ

theorem frame_ideal13 : Cert.quiescent_Kernel13Ideal := fun m ρ _ => Cert.Kernel13Ideal.Gen.frame m ρ

theorem frame_reference13 : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)

theorem algebraic13 : Cert.algebraic_Kernel13Ideal_Reference13Ideal := by
  pair_intro
  · run_from Cert.Kernel13Ideal.Gen.run_main m g
  · run_from Cert.Reference13Ideal.Value.run m' g'
    · exact (Cert.Kernel13Ideal.AdamWIn.final0 m c).symm
    · exact (Cert.Kernel13Ideal.AdamWIn.final1 m c).symm
    · exact (Cert.Kernel13Ideal.AdamWIn.final2 m c).symm

/-! ### The update of the convolution -/

theorem frame_kernel14 : Cert.quiescent_Kernel14 := fun m ρ _ => Cert.Kernel14.Gen.frame m ρ

theorem frame_ideal14 : Cert.quiescent_Kernel14Ideal := fun m ρ _ => Cert.Kernel14Ideal.Gen.frame m ρ

theorem frame_reference14 : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

theorem algebraic14 : Cert.algebraic_Kernel14Ideal_Reference14Ideal := by
  pair_intro
  · run_from Cert.Kernel14Ideal.Gen.run_main m g
  · run_from Cert.Reference14Ideal.Value.run m' g'
    · exact (Cert.Kernel14Ideal.AdamConvW.final0 m c).symm
    · exact (Cert.Kernel14Ideal.AdamConvW.final1 m c).symm
    · exact (Cert.Kernel14Ideal.AdamConvW.final2 m c).symm

/-! ### The update of the decay and its shift -/

theorem frame_kernel15 : Cert.quiescent_Kernel15 := fun m ρ _ => Cert.Kernel15.Gen.frame m ρ

theorem frame_ideal15 : Cert.quiescent_Kernel15Ideal := fun m ρ _ => Cert.Kernel15Ideal.Gen.frame m ρ

theorem frame_reference15 : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)

theorem algebraic15 : Cert.algebraic_Kernel15Ideal_Reference15Ideal := by
  pair_intro
  · run_from Cert.Kernel15Ideal.Gen.run_main m g
  · run_from Cert.Reference15Ideal.Value.run m' g'
    · exact (Cert.Kernel15Ideal.AdamALog.final0 m c).symm
    · exact (Cert.Kernel15Ideal.AdamALog.final1 m c).symm
    · exact (Cert.Kernel15Ideal.AdamALog.final2 m c).symm

/-! ### The update of the gain behind the recurrence -/

theorem frame_kernel16 : Cert.quiescent_Kernel16 := fun m ρ _ => Cert.Kernel16.Gen.frame m ρ

theorem frame_ideal16 : Cert.quiescent_Kernel16Ideal := fun m ρ _ => Cert.Kernel16Ideal.Gen.frame m ρ

theorem frame_reference16 : Cert.quiescent_Reference16Ideal := fun m ρ _ =>
  (θ_run Cert.Reference16Ideal.defs _ _).mono (fun r h => ⟨fun c => (h c).2.2.2, sem_eq_zero_of_no_sems (by decide) r.2⟩)
    (Cert.Reference16Ideal.Value.run (F := Ideal) m ρ)

theorem algebraic16 : Cert.algebraic_Kernel16Ideal_Reference16Ideal := by
  pair_intro
  · run_from Cert.Kernel16Ideal.Gen.run_main m g
  · run_from Cert.Reference16Ideal.Value.run m' g'
    · exact (Cert.Kernel16Ideal.AdamDnOutG.final0 m c).symm
    · exact (Cert.Kernel16Ideal.AdamDnOutG.final1 m c).symm
    · exact (Cert.Kernel16Ideal.AdamDnOutG.final2 m c).symm

/-! ### The update of the gains of queries and keys -/

theorem frame_kernel17 : Cert.quiescent_Kernel17 := fun m ρ _ => Cert.Kernel17.Gen.frame m ρ

theorem frame_ideal17 : Cert.quiescent_Kernel17Ideal := fun m ρ _ => Cert.Kernel17Ideal.Gen.frame m ρ

theorem frame_reference17 : Cert.quiescent_Reference17Ideal := fun m ρ _ =>
  (θ_run Cert.Reference17Ideal.defs _ _).mono (fun r h => ⟨fun c => (h c).2.2.2, sem_eq_zero_of_no_sems (by decide) r.2⟩)
    (Cert.Reference17Ideal.Value.run (F := Ideal) m ρ)

theorem algebraic17 : Cert.algebraic_Kernel17Ideal_Reference17Ideal := by
  pair_intro
  · run_from Cert.Kernel17Ideal.Gen.run_main m g
  · run_from Cert.Reference17Ideal.Value.run m' g'
    · exact (Cert.Kernel17Ideal.AdamSbQG.final0 m c).symm
    · exact (Cert.Kernel17Ideal.AdamSbQG.final1 m c).symm
    · exact (Cert.Kernel17Ideal.AdamSbQG.final2 m c).symm

/-! ### The update of the gain of the gated values -/

theorem frame_kernel18 : Cert.quiescent_Kernel18 := fun m ρ _ => Cert.Kernel18.Gen.frame m ρ

theorem frame_ideal18 : Cert.quiescent_Kernel18Ideal := fun m ρ _ => Cert.Kernel18Ideal.Gen.frame m ρ

theorem frame_reference18 : Cert.quiescent_Reference18Ideal := fun m ρ _ =>
  (θ_run Cert.Reference18Ideal.defs _ _).mono (fun r h => ⟨fun c => (h c).2.2.2, sem_eq_zero_of_no_sems (by decide) r.2⟩)
    (Cert.Reference18Ideal.Value.run (F := Ideal) m ρ)

theorem algebraic18 : Cert.algebraic_Kernel18Ideal_Reference18Ideal := by
  pair_intro
  · run_from Cert.Kernel18Ideal.Gen.run_main m g
  · run_from Cert.Reference18Ideal.Value.run m' g'
    · exact (Cert.Kernel18Ideal.AdamSgVG.final0 m c).symm
    · exact (Cert.Kernel18Ideal.AdamSgVG.final1 m c).symm
    · exact (Cert.Kernel18Ideal.AdamSgVG.final2 m c).symm

/-! ### The update of the token mixing weight -/

theorem frame_kernel19 : Cert.quiescent_Kernel19 := fun m ρ _ => Cert.Kernel19.Gen.frame m ρ

theorem frame_ideal19 : Cert.quiescent_Kernel19Ideal := fun m ρ _ => Cert.Kernel19Ideal.Gen.frame m ρ

theorem frame_reference19 : Cert.quiescent_Reference19Ideal := fun m ρ _ =>
  (θ_run Cert.Reference19Ideal.defs _ _).mono (fun r h => ⟨fun c => (h c).2.2.2, sem_eq_zero_of_no_sems (by decide) r.2⟩)
    (Cert.Reference19Ideal.Value.run (F := Ideal) m ρ)

theorem algebraic19 : Cert.algebraic_Kernel19Ideal_Reference19Ideal := by
  pair_intro
  · run_from Cert.Kernel19Ideal.Gen.run_main m g
  · run_from Cert.Reference19Ideal.Value.run m' g'
    · exact (Cert.Kernel19Ideal.AdamSgW.final0 m c).symm
    · exact (Cert.Kernel19Ideal.AdamSgW.final1 m c).symm
    · exact (Cert.Kernel19Ideal.AdamSgW.final2 m c).symm

/-! ### The update of the token mixing bias -/

theorem frame_kernel20 : Cert.quiescent_Kernel20 := fun m ρ _ => Cert.Kernel20.Gen.frame m ρ

theorem frame_ideal20 : Cert.quiescent_Kernel20Ideal := fun m ρ _ => Cert.Kernel20Ideal.Gen.frame m ρ

theorem frame_reference20 : Cert.quiescent_Reference20Ideal := fun m ρ _ =>
  (θ_run Cert.Reference20Ideal.defs _ _).mono (fun r h => ⟨fun c => (h c).2.2.2, sem_eq_zero_of_no_sems (by decide) r.2⟩)
    (Cert.Reference20Ideal.Value.run (F := Ideal) m ρ)

theorem algebraic20 : Cert.algebraic_Kernel20Ideal_Reference20Ideal := by
  pair_intro
  · run_from Cert.Kernel20Ideal.Gen.run_main m g
  · run_from Cert.Reference20Ideal.Value.run m' g'
    · exact (Cert.Kernel20Ideal.AdamSgB.final0 m c).symm
    · exact (Cert.Kernel20Ideal.AdamSgB.final1 m c).symm
    · exact (Cert.Kernel20Ideal.AdamSgB.final2 m c).symm

/-! ### The update of the output weight -/

theorem frame_kernel21 : Cert.quiescent_Kernel21 := fun m ρ _ => Cert.Kernel21.Gen.frame m ρ

theorem frame_ideal21 : Cert.quiescent_Kernel21Ideal := fun m ρ _ => Cert.Kernel21Ideal.Gen.frame m ρ

theorem frame_reference21 : Cert.quiescent_Reference21Ideal := fun m ρ _ =>
  (θ_run Cert.Reference21Ideal.defs _ _).mono (fun r h => ⟨fun c => (h c).2.2.2, sem_eq_zero_of_no_sems (by decide) r.2⟩)
    (Cert.Reference21Ideal.Value.run (F := Ideal) m ρ)

theorem algebraic21 : Cert.algebraic_Kernel21Ideal_Reference21Ideal := by
  pair_intro
  · run_from Cert.Kernel21Ideal.Gen.run_main m g
  · run_from Cert.Reference21Ideal.Value.run m' g'
    · exact (Cert.Kernel21Ideal.AdamWOut.final0 m c).symm
    · exact (Cert.Kernel21Ideal.AdamWOut.final1 m c).symm
    · exact (Cert.Kernel21Ideal.AdamWOut.final2 m c).symm

/-! ### The update of the first feed-forward weight -/

theorem frame_kernel22 : Cert.quiescent_Kernel22 := fun m ρ _ => Cert.Kernel22.Gen.frame m ρ

theorem frame_ideal22 : Cert.quiescent_Kernel22Ideal := fun m ρ _ => Cert.Kernel22Ideal.Gen.frame m ρ

theorem frame_reference22 : Cert.quiescent_Reference22Ideal := fun m ρ _ =>
  (θ_run Cert.Reference22Ideal.defs _ _).mono (fun r h => ⟨fun c => (h c).2.2.2, sem_eq_zero_of_no_sems (by decide) r.2⟩)
    (Cert.Reference22Ideal.Value.run (F := Ideal) m ρ)

theorem algebraic22 : Cert.algebraic_Kernel22Ideal_Reference22Ideal := by
  pair_intro
  · run_from Cert.Kernel22Ideal.Gen.run_main m g
  · run_from Cert.Reference22Ideal.Value.run m' g'
    · exact (Cert.Kernel22Ideal.AdamWFf1.final0 m c).symm
    · exact (Cert.Kernel22Ideal.AdamWFf1.final1 m c).symm
    · exact (Cert.Kernel22Ideal.AdamWFf1.final2 m c).symm

/-! ### The update of the second feed-forward weight -/

theorem frame_kernel23 : Cert.quiescent_Kernel23 := fun m ρ _ => Cert.Kernel23.Gen.frame m ρ

theorem frame_ideal23 : Cert.quiescent_Kernel23Ideal := fun m ρ _ => Cert.Kernel23Ideal.Gen.frame m ρ

theorem frame_reference23 : Cert.quiescent_Reference23Ideal := fun m ρ _ =>
  (θ_run Cert.Reference23Ideal.defs _ _).mono (fun r h => ⟨fun c => (h c).2.2.2, sem_eq_zero_of_no_sems (by decide) r.2⟩)
    (Cert.Reference23Ideal.Value.run (F := Ideal) m ρ)

theorem algebraic23 : Cert.algebraic_Kernel23Ideal_Reference23Ideal := by
  pair_intro
  · run_from Cert.Kernel23Ideal.Gen.run_main m g
  · run_from Cert.Reference23Ideal.Value.run m' g'
    · exact (Cert.Kernel23Ideal.AdamWFf2.final0 m c).symm
    · exact (Cert.Kernel23Ideal.AdamWFf2.final1 m c).symm
    · exact (Cert.Kernel23Ideal.AdamWFf2.final2 m c).symm

/-! ### The loss and its gradient -/

theorem frame_kernel24 : Cert.quiescent_Kernel24 := fun m ρ _ => Cert.Kernel24.Gen.frame m ρ

theorem frame_ideal24 : Cert.quiescent_Kernel24Ideal := fun m ρ _ => Cert.Kernel24Ideal.Gen.frame m ρ

theorem frame_reference24 : Cert.quiescent_Reference24Ideal := fun m ρ _ =>
  (θ_run Cert.Reference24Ideal.defs _ _).mono (fun r h => ⟨fun c => (h c).2.2, sem_eq_zero_of_no_sems (by decide) r.2⟩)
    (Cert.Reference24Ideal.Value.run (F := Ideal) m ρ)

theorem algebraic24 : Cert.algebraic_Kernel24Ideal_Reference24Ideal := by
  pair_intro
  · run_from Cert.Kernel24Ideal.Gen.run_main m g
  · run_from Cert.Reference24Ideal.Value.run m' g'
    · exact (Cert.Kernel24Ideal.Loss.final0 m c).symm
    · exact (Cert.Kernel24Ideal.Loss.final1 m c).symm

/-! ### The gradient of the chunked spatial gating -/

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem frame_ideal_finite : Cert.quiescent_KernelIdeal_pre_finite (hPre_finite := Cert.Pre_finite.Gen.facts) := fun m ρ _ => Cert.KernelIdeal.Gen.frame m ρ

theorem frame_reference_finite : Cert.quiescent_ReferenceIdeal_pre_finite (hPre_finite := Cert.Pre_finite.Gen.facts) := fun m ρ _ => frame_reference m ρ trivial

theorem algebraic : Cert.algebraic_KernelIdeal_ReferenceIdeal_pre_finite (hPre_finite := Cert.Pre_finite.Gen.facts) := by
  pair_intro
  · run_from Cert.KernelIdeal.Gen.run_main m g
  · run_from Cert.ReferenceIdeal.Value.run m' g'
    · rw [Cert.ReferenceIdeal.Read.val_main_v147_eq]
      simp only [hagree c]
      exact (Cert.KernelIdeal.SgBwd.final0 (@Cert.KernelIdeal.SgFinite.real Cert.Pre_finite.Gen.facts m hpre c)).symm
    · rw [Cert.ReferenceIdeal.Read.val_main_v148_eq]
      simp only [hagree c]
      exact (Cert.KernelIdeal.SgBwd.final1 m c).symm
    · rw [Cert.ReferenceIdeal.Read.val_main_v93_eq]
      simp only [hagree c]
      exact (Cert.KernelIdeal.SgBwd.final2 m c).symm
    · rw [Cert.ReferenceIdeal.Read.val_main_v150_eq]
      simp only [hagree c]
      exact (Cert.KernelIdeal.SgBwd.final3 m c).symm

/-! ### The sum over devices of the small weights' gradients -/

theorem frame_kernel25 : Cert.quiescent_Kernel25 := fun m ρ _ => Cert.Kernel25.Gen.frame m ρ (Cert.Kernel25.SumSmall.ok m)

theorem frame_ideal25 : Cert.quiescent_Kernel25Ideal := fun m ρ _ => Cert.Kernel25Ideal.Gen.frame m ρ (Cert.Kernel25Ideal.SumSmall.ok m)

theorem frame_reference25 : Cert.quiescent_Reference25Ideal := fun m ρ _ =>
  (θ_run Cert.Reference25Ideal.defs _ _).mono (fun r h => ⟨fun c => (h c).2, sem_eq_zero_of_no_sems (by decide) r.2⟩)
    (Cert.Reference25Ideal.Value.run (F := Ideal) m ρ)

theorem algebraic25 : Cert.algebraic_Kernel25Ideal_Reference25Ideal := by
  pair_intro
  · run_from Cert.Kernel25Ideal.SumSmall.run_value m g
  · refine (θ_run Cert.Reference25Ideal.defs _ _).mono (fun r h c => ⟨(h c).1.trans ?_, (h c).2⟩)
      (Cert.Reference25Ideal.Value.run m' g')
    rw [hagree c]
    rfl

/-! ### The last sum of the gradient of the first layer's input weight -/

theorem frame_kernel26 : Cert.quiescent_Kernel26 := fun m ρ _ => Cert.Kernel26.Gen.frame m ρ (Cert.Kernel26.SumLast.ok m)

theorem frame_ideal26 : Cert.quiescent_Kernel26Ideal := fun m ρ _ => Cert.Kernel26Ideal.Gen.frame m ρ (Cert.Kernel26Ideal.SumLast.ok m)

theorem frame_reference26 : Cert.quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)

theorem algebraic26 : Cert.algebraic_Kernel26Ideal_Reference26Ideal := by
  pair_intro
  · run_from Cert.Kernel26Ideal.SumLast.run_value m g
  · refine (θ_run Cert.Reference26Ideal.defs _ _).mono (fun r h c => ⟨(h c).1.trans ?_, (h c).2⟩)
      (Cert.Reference26Ideal.Value.run m' g')
    · rw [(hagree c).1, (hagree c).2.1, (hagree c).2.2]
      rfl

/-! ### The last sums of the second layer's gradients -/

theorem frame_kernel27 : Cert.quiescent_Kernel27 := fun m ρ _ => Cert.Kernel27.Gen.frame m ρ (Cert.Kernel27.SumEarly1.ok m)

theorem frame_ideal27 : Cert.quiescent_Kernel27Ideal := fun m ρ _ => Cert.Kernel27Ideal.Gen.frame m ρ (Cert.Kernel27Ideal.SumEarly1.ok m)

theorem frame_reference27 : Cert.quiescent_Reference27Ideal := fun m ρ _ =>
  (θ_run Cert.Reference27Ideal.defs _ _).mono (fun r h => ⟨fun c => (h c).2.2.2.2, sem_eq_zero_of_no_sems (by decide) r.2⟩)
    (Cert.Reference27Ideal.Value.run (F := Ideal) m ρ)

theorem algebraic27 : Cert.algebraic_Kernel27Ideal_Reference27Ideal := by
  pair_intro
  · run_from Cert.Kernel27Ideal.SumEarly1.run_value m g
  · refine (θ_run Cert.Reference27Ideal.defs _ _).mono (fun r h c => ⟨(h c).1.trans ?_, (h c).2.1.trans ?_, (h c).2.2.1.trans ?_, (h c).2.2.2.1.trans ?_, (h c).2.2.2.2⟩)
      (Cert.Reference27Ideal.Value.run m' g')
    · rw [(hagree c).1, (hagree c).2.2.2.2.1, (hagree c).2.2.2.2.2.2.2.2.1]
      rfl
    · rw [(hagree c).2.1, (hagree c).2.2.2.2.2.1, (hagree c).2.2.2.2.2.2.2.2.2.1]
      rfl
    · rw [(hagree c).2.2.1, (hagree c).2.2.2.2.2.2.1, (hagree c).2.2.2.2.2.2.2.2.2.2.1]
      rfl
    · rw [(hagree c).2.2.2.1, (hagree c).2.2.2.2.2.2.2.1, (hagree c).2.2.2.2.2.2.2.2.2.2.2]
      rfl

/-! ### The last sums of the first layer's gradients -/

theorem frame_kernel28 : Cert.quiescent_Kernel28 := fun m ρ _ => Cert.Kernel28.Gen.frame m ρ (Cert.Kernel28.SumEarly0.ok m)

theorem frame_ideal28 : Cert.quiescent_Kernel28Ideal := fun m ρ _ => Cert.Kernel28Ideal.Gen.frame m ρ (Cert.Kernel28Ideal.SumEarly0.ok m)

theorem frame_reference28 : Cert.quiescent_Reference28Ideal := fun m ρ _ =>
  (θ_run Cert.Reference28Ideal.defs _ _).mono (fun r h => ⟨fun c => (h c).2.2.2, sem_eq_zero_of_no_sems (by decide) r.2⟩)
    (Cert.Reference28Ideal.Value.run (F := Ideal) m ρ)

theorem algebraic28 : Cert.algebraic_Kernel28Ideal_Reference28Ideal := by
  pair_intro
  · run_from Cert.Kernel28Ideal.SumEarly0.run_value m g
  · refine (θ_run Cert.Reference28Ideal.defs _ _).mono (fun r h c => ⟨(h c).1.trans ?_, (h c).2.1.trans ?_, (h c).2.2.1.trans ?_, (h c).2.2.2⟩)
      (Cert.Reference28Ideal.Value.run m' g')
    · rw [(hagree c).1, (hagree c).2.2.2.1, (hagree c).2.2.2.2.2.2.1]
      rfl
    · rw [(hagree c).2.1, (hagree c).2.2.2.2.1, (hagree c).2.2.2.2.2.2.2.1]
      rfl
    · rw [(hagree c).2.2.1, (hagree c).2.2.2.2.2.1, (hagree c).2.2.2.2.2.2.2.2]
      rfl

theorem claim : Cert.Claim :=
  ⟨Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel2.Gen.facts, Cert.Kernel2Ideal.Gen.facts, Cert.Reference2Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel.Gen.facts, Cert.KernelIdeal.Gen.facts, Cert.ReferenceIdeal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Pre_finite.Gen.facts,
    frame_kernel3, frame_ideal3, frame_reference3,
    frame_kernel4, frame_ideal4, frame_reference4,
    frame_kernel5, frame_ideal5, frame_reference5,
    frame_kernel6, frame_ideal6, frame_reference6,
    frame_kernel7, frame_ideal7, frame_reference7,
    frame_kernel8, frame_ideal8, frame_reference8,
    frame_kernel9, frame_ideal9, frame_reference9,
    frame_kernel10, frame_ideal10, frame_reference10,
    frame_kernel11, frame_ideal11, frame_reference11,
    frame_kernel2, frame_ideal2, frame_reference2,
    frame_kernel12, frame_ideal12, frame_reference12,
    frame_kernel13, frame_ideal13, frame_reference13,
    frame_kernel14, frame_ideal14, frame_reference14,
    frame_kernel15, frame_ideal15, frame_reference15,
    frame_kernel16, frame_ideal16, frame_reference16,
    frame_kernel17, frame_ideal17, frame_reference17,
    frame_kernel18, frame_ideal18, frame_reference18,
    frame_kernel19, frame_ideal19, frame_reference19,
    frame_kernel20, frame_ideal20, frame_reference20,
    frame_kernel21, frame_ideal21, frame_reference21,
    frame_kernel22, frame_ideal22, frame_reference22,
    frame_kernel23, frame_ideal23, frame_reference23,
    frame_kernel24, frame_ideal24, frame_reference24,
    frame_kernel, frame_ideal, frame_ideal_finite,
    frame_reference, frame_reference_finite, frame_kernel25,
    frame_ideal25, frame_reference25, frame_kernel26,
    frame_ideal26, frame_reference26, frame_kernel27,
    frame_ideal27, frame_reference27, frame_kernel28,
    frame_ideal28, frame_reference28,
    trivial, algebraic3, trivial, algebraic4, trivial, algebraic5, trivial, algebraic6, trivial, algebraic7, trivial, algebraic8, trivial, algebraic9, trivial, algebraic10, trivial, algebraic11, trivial, algebraic2, trivial, algebraic12, trivial, algebraic13, trivial, algebraic14, trivial, algebraic15, trivial, algebraic16, trivial, algebraic17, trivial, algebraic18, trivial, algebraic19, trivial, algebraic20, trivial, algebraic21, trivial, algebraic22, trivial, algebraic23, trivial, algebraic24, trivial, algebraic, trivial, algebraic25, trivial, algebraic26, trivial, algebraic27, trivial, algebraic28⟩

end Cert.Proof

end
